-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v933)) (v1 : (c : Dev Cert.KernelIdeal.nD) → Buf (Elt Ideal) ((c.tc : Thread Cert.KernelIdeal.nD Cert.KernelIdeal.τ).loc Cert.KernelIdeal.main_v934)) (v2 : (c : Dev Cert.KernelIdeal.nD) → Buf (Elt Ideal) ((c.tc : Thread Cert.KernelIdeal.nD Cert.KernelIdeal.τ).loc Cert.KernelIdeal.main_v935)) (v3 : (c : Dev Cert.KernelIdeal.nD) → Buf (Elt Ideal) ((c.tc : Thread Cert.KernelIdeal.nD Cert.KernelIdeal.τ).loc Cert.KernelIdeal.main_v936)) (v4 : (c : Dev Cert.KernelIdeal.nD) → Buf (Elt Ideal) ((c.tc : Thread Cert.KernelIdeal.nD Cert.KernelIdeal.τ).loc Cert.KernelIdeal.main_v937)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v933) = v0 c
          ∧ r.2.mem ((c.tc : Thread Cert.KernelIdeal.nD Cert.KernelIdeal.τ).loc Cert.KernelIdeal.main_v934) = v1 c
          ∧ r.2.mem ((c.tc : Thread Cert.KernelIdeal.nD Cert.KernelIdeal.τ).loc Cert.KernelIdeal.main_v935) = v2 c
          ∧ r.2.mem ((c.tc : Thread Cert.KernelIdeal.nD Cert.KernelIdeal.τ).loc Cert.KernelIdeal.main_v936) = v3 c
          ∧ r.2.mem ((c.tc : Thread Cert.KernelIdeal.nD Cert.KernelIdeal.τ).loc Cert.KernelIdeal.main_v937) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v940) = v0 c
          ∧ r.2.mem ((c.tc : Thread Cert.ReferenceIdeal.nD Cert.ReferenceIdeal.τ).loc Cert.ReferenceIdeal.main_v941) = v1 c
          ∧ r.2.mem ((c.tc : Thread Cert.ReferenceIdeal.nD Cert.ReferenceIdeal.τ).loc Cert.ReferenceIdeal.main_v942) = v2 c
          ∧ r.2.mem ((c.tc : Thread Cert.ReferenceIdeal.nD Cert.ReferenceIdeal.τ).loc Cert.ReferenceIdeal.main_v943) = v3 c
          ∧ r.2.mem ((c.tc : Thread Cert.ReferenceIdeal.nD Cert.ReferenceIdeal.τ).loc Cert.ReferenceIdeal.main_v944) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v109)) (v1 : (c : Dev Cert.Kernel2Ideal.nD) → Buf (Elt Ideal) ((c.tc : Thread Cert.Kernel2Ideal.nD Cert.Kernel2Ideal.τ).loc Cert.Kernel2Ideal.main_v110)) (v2 : (c : Dev Cert.Kernel2Ideal.nD) → Buf (Elt Ideal) ((c.tc : Thread Cert.Kernel2Ideal.nD Cert.Kernel2Ideal.τ).loc Cert.Kernel2Ideal.main_v111)) (v3 : (c : Dev Cert.Kernel2Ideal.nD) → Buf (Elt Ideal) ((c.tc : Thread Cert.Kernel2Ideal.nD Cert.Kernel2Ideal.τ).loc Cert.Kernel2Ideal.main_v112)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v109) = v0 c
          ∧ r.2.mem ((c.tc : Thread Cert.Kernel2Ideal.nD Cert.Kernel2Ideal.τ).loc Cert.Kernel2Ideal.main_v110) = v1 c
          ∧ r.2.mem ((c.tc : Thread Cert.Kernel2Ideal.nD Cert.Kernel2Ideal.τ).loc Cert.Kernel2Ideal.main_v111) = v2 c
          ∧ r.2.mem ((c.tc : Thread Cert.Kernel2Ideal.nD Cert.Kernel2Ideal.τ).loc Cert.Kernel2Ideal.main_v112) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v111) = v0 c
          ∧ r.2.mem ((c.tc : Thread Cert.Reference2Ideal.nD Cert.Reference2Ideal.τ).loc Cert.Reference2Ideal.main_v112) = v1 c
          ∧ r.2.mem ((c.tc : Thread Cert.Reference2Ideal.nD Cert.Reference2Ideal.τ).loc Cert.Reference2Ideal.main_v113) = v2 c
          ∧ r.2.mem ((c.tc : Thread Cert.Reference2Ideal.nD Cert.Reference2Ideal.τ).loc Cert.Reference2Ideal.main_v114) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== KernelIdeal.lean ====
abbrev S128x4x1024 : Shape := ⟨3, ![128, 4, 1024]⟩
abbrev S128x1024 : Shape := ⟨2, ![128, 1024]⟩
abbrev S1x10240x128x2x2x64 : Shape := ⟨6, ![1, 10240, 128, 2, 2, 64]⟩
abbrev S1x128x512x2x2x64 : Shape := ⟨6, ![1, 128, 512, 2, 2, 64]⟩
abbrev S1x128x30x512 : Shape := ⟨4, ![1, 128, 30, 512]⟩
abbrev S128x64 : Shape := ⟨2, ![128, 64]⟩
abbrev S32x8 : Shape := ⟨2, ![32, 8]⟩
abbrev S1x1024x6144 : Shape := ⟨3, ![1, 1024, 6144]⟩
abbrev S1x6144 : Shape := ⟨2, ![1, 6144]⟩
abbrev S1x1024 : Shape := ⟨2, ![1, 1024]⟩
abbrev S1x1024x2328 : Shape := ⟨3, ![1, 1024, 2328]⟩
abbrev S1x64 : Shape := ⟨2, ![1, 64]⟩
abbrev S1x3x64 : Shape := ⟨3, ![1, 3, 64]⟩
abbrev S1x2x32x64 : Shape := ⟨4, ![1, 2, 32, 64]⟩
abbrev S1x2x2048x256 : Shape := ⟨4, ![1, 2, 2048, 256]⟩
abbrev S1x2x256 : Shape := ⟨3, ![1, 2, 256]⟩
abbrev S1x2x256x64 : Shape := ⟨4, ![1, 2, 256, 64]⟩
abbrev S1x2x64 : Shape := ⟨3, ![1, 2, 64]⟩
abbrev S1x31x512 : Shape := ⟨3, ![1, 31, 512]⟩
abbrev S1x512 : Shape := ⟨2, ![1, 512]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S1x16384x1024 : Shape := ⟨3, ![1, 16384, 1024]⟩
abbrev S1024x6144 : Shape := ⟨2, ![1024, 6144]⟩
abbrev S6144 : Shape := ⟨1, ![6144]⟩
abbrev S1024 : Shape := ⟨1, ![1024]⟩
abbrev S1024x2328 : Shape := ⟨2, ![1024, 2328]⟩
abbrev S64 : Shape := ⟨1, ![64]⟩
abbrev S3x64 : Shape := ⟨2, ![3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x64 : Shape := ⟨2, ![2, 64]⟩
abbrev S31x512 : Shape := ⟨2, ![31, 512]⟩
abbrev S512 : Shape := ⟨1, ![512]⟩
abbrev S1024x1024 : Shape := ⟨2, ![1024, 1024]⟩
abbrev S1024x2048 : Shape := ⟨2, ![1024, 2048]⟩
abbrev S8x2x128x128 : Shape := ⟨4, ![8, 2, 128, 128]⟩
abbrev S16384x1024 : Shape := ⟨2, ![16384, 1024]⟩
abbrev S128x30x512 : Shape := ⟨3, ![128, 30, 512]⟩
abbrev S10240x128x2x2x64 : Shape := ⟨5, ![10240, 128, 2, 2, 64]⟩
abbrev S128x512x2x2x64 : Shape := ⟨5, ![128, 512, 2, 2, 64]⟩
abbrev S_ : Shape := ⟨0, ![]⟩
abbrev S128x6144 : Shape := ⟨2, ![128, 6144]⟩
abbrev S128x1x6144 : Shape := ⟨3, ![128, 1, 6144]⟩
abbrev S128x1x1024 : Shape := ⟨3, ![128, 1, 1024]⟩
abbrev S128x4 : Shape := ⟨2, ![128, 4]⟩
abbrev S128x4x1 : Shape := ⟨3, ![128, 4, 1]⟩
abbrev S1x1x1024 : Shape := ⟨3, ![1, 1, 1024]⟩
abbrev S512x1024 : Shape := ⟨2, ![512, 1024]⟩
abbrev S1024x2432 : Shape := ⟨2, ![1024, 2432]⟩
abbrev S512x2432 : Shape := ⟨2, ![512, 2432]⟩
abbrev S512x2328 : Shape := ⟨2, ![512, 2328]⟩
abbrev S128x4x2328 : Shape := ⟨3, ![128, 4, 2328]⟩
abbrev S128x4x512 : Shape := ⟨3, ![128, 4, 512]⟩
abbrev S128x4x128 : Shape := ⟨3, ![128, 4, 128]⟩
abbrev S128x4x24 : Shape := ⟨3, ![128, 4, 24]⟩
abbrev S128x4x2x4x64 : Shape := ⟨5, ![128, 4, 2, 4, 64]⟩
abbrev S128x4x2x4 : Shape := ⟨4, ![128, 4, 2, 4]⟩
abbrev S128x4x2x4x1 : Shape := ⟨5, ![128, 4, 2, 4, 1]⟩
abbrev S1x1x1x1x64 : Shape := ⟨5, ![1, 1, 1, 1, 64]⟩
abbrev S128x4x2x64 : Shape := ⟨4, ![128, 4, 2, 64]⟩
abbrev S128x4x2 : Shape := ⟨3, ![128, 4, 2]⟩
abbrev S128x4x2x1 : Shape := ⟨4, ![128, 4, 2, 1]⟩
abbrev S1x1x1x64 : Shape := ⟨4, ![1, 1, 1, 64]⟩
abbrev S128x4x2x4x3 : Shape := ⟨5, ![128, 4, 2, 4, 3]⟩
abbrev S4 : Shape := ⟨1, ![4]⟩
abbrev S128x64x1 : Shape := ⟨3, ![128, 64, 1]⟩
abbrev S128x64x128x2x2x64 : Shape := ⟨6, ![128, 64, 128, 2, 2, 64]⟩
abbrev S128x8192x2x2x64 : Shape := ⟨5, ![128, 8192, 2, 2, 64]⟩
abbrev S128x8192x1x2x64 : Shape := ⟨5, ![128, 8192, 1, 2, 64]⟩
abbrev S128x8192x2x64 : Shape := ⟨4, ![128, 8192, 2, 64]⟩
abbrev S128x8196x2x64 : Shape := ⟨4, ![128, 8196, 2, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256 : Shape := ⟨2, ![1, 256]⟩
abbrev S256 : Shape := ⟨1, ![256]⟩
abbrev S1x256x64 : Shape := ⟨3, ![1, 256, 64]⟩
abbrev S256x64 : Shape := ⟨2, ![256, 64]⟩
abbrev S128x512x16x2x64 : Shape := ⟨5, ![128, 512, 16, 2, 64]⟩
abbrev S2x16x64x256 : Shape := ⟨4, ![2, 16, 64, 256]⟩
abbrev S2x256x128x512x2 : Shape := ⟨5, ![2, 256, 128, 512, 2]⟩
abbrev S2x128x512x2x256 : Shape := ⟨5, ![2, 128, 512, 2, 256]⟩
abbrev S2048 : Shape := ⟨1, ![2048]⟩
abbrev S1x128x511x2x256 : Shape := ⟨5, ![1, 128, 511, 2, 256]⟩
abbrev S128x511x2x256 : Shape := ⟨4, ![128, 511, 2, 256]⟩
abbrev S1x1x1x256 : Shape := ⟨4, ![1, 1, 1, 256]⟩
abbrev S128x511x2x64 : Shape := ⟨4, ![128, 511, 2, 64]⟩
abbrev S511 : Shape := ⟨1, ![511]⟩
abbrev S128x511x2 : Shape := ⟨3, ![128, 511, 2]⟩
abbrev S128x511x2x1 : Shape := ⟨4, ![128, 511, 2, 1]⟩
abbrev S128x8256x2x64 : Shape := ⟨4, ![128, 8256, 2, 64]⟩
abbrev S128x129x64x2x64 : Shape := ⟨5, ![128, 129, 64, 2, 64]⟩
abbrev S128x2x129x64x64 : Shape := ⟨5, ![128, 2, 129, 64, 64]⟩
abbrev S128x4x1x2x64 : Shape := ⟨5, ![128, 4, 1, 2, 64]⟩
abbrev S128x4x2x2x64 : Shape := ⟨5, ![128, 4, 2, 2, 64]⟩
abbrev S128x516x2x2x64 : Shape := ⟨5, ![128, 516, 2, 2, 64]⟩
abbrev S516 : Shape := ⟨1, ![516]⟩
abbrev S128x516x1x2x64 : Shape := ⟨5, ![128, 516, 1, 2, 64]⟩
abbrev S128x516x2x64 : Shape := ⟨4, ![128, 516, 2, 64]⟩
abbrev S32x2x4 : Shape := ⟨3, ![32, 2, 4]⟩
abbrev S128x2x511x4x4 : Shape := ⟨5, ![128, 2, 511, 4, 4]⟩
abbrev S128x4x2x4x511 : Shape := ⟨5, ![128, 4, 2, 4, 511]⟩
abbrev S4x1 : Shape := ⟨2, ![4, 1]⟩
abbrev S1x511 : Shape := ⟨2, ![1, 511]⟩
abbrev S4x511 : Shape := ⟨2, ![4, 511]⟩
abbrev S4x511x1 : Shape := ⟨3, ![4, 511, 1]⟩
abbrev S4x511x2x4 : Shape := ⟨4, ![4, 511, 2, 4]⟩
abbrev S4x2x4x511 : Shape := ⟨4, ![4, 2, 4, 511]⟩
abbrev S1x4x2x4x511 : Shape := ⟨5, ![1, 4, 2, 4, 511]⟩
abbrev S1x4x1x1x511 : Shape := ⟨5, ![1, 4, 1, 1, 511]⟩
abbrev S128x2x64x4x4 : Shape := ⟨5, ![128, 2, 64, 4, 4]⟩
abbrev S511x1 : Shape := ⟨2, ![511, 1]⟩
abbrev S129 : Shape := ⟨1, ![129]⟩
abbrev S1x129 : Shape := ⟨2, ![1, 129]⟩
abbrev S511x129 : Shape := ⟨2, ![511, 129]⟩
abbrev S128x4x2x511 : Shape := ⟨4, ![128, 4, 2, 511]⟩
abbrev S128x4x2x129 : Shape := ⟨4, ![128, 4, 2, 129]⟩
abbrev S4x129 : Shape := ⟨2, ![4, 129]⟩
abbrev S1x4x1x129 : Shape := ⟨4, ![1, 4, 1, 129]⟩
abbrev S128x4x2x16 : Shape := ⟨4, ![128, 4, 2, 16]⟩
abbrev S128 : Shape := ⟨1, ![128]⟩
abbrev S128x1x1x1 : Shape := ⟨4, ![128, 1, 1, 1]⟩
abbrev S2 : Shape := ⟨1, ![2]⟩
abbrev S1x1x2x1 : Shape := ⟨4, ![1, 1, 2, 1]⟩
abbrev S128x4x2x16x1 : Shape := ⟨5, ![128, 4, 2, 16, 1]⟩
abbrev S128x4x2x16x3 : Shape := ⟨5, ![128, 4, 2, 16, 3]⟩
abbrev S128x4x2x16x64x64 : Shape := ⟨6, ![128, 4, 2, 16, 64, 64]⟩
abbrev S128x4x2x4x16x64 : Shape := ⟨6, ![128, 4, 2, 4, 16, 64]⟩
abbrev S128x4x2x16x64 : Shape := ⟨5, ![128, 4, 2, 16, 64]⟩
abbrev S1x4x1x1x1 : Shape := ⟨5, ![1, 4, 1, 1, 1]⟩
abbrev S2x32x4 : Shape := ⟨3, ![2, 32, 4]⟩
abbrev S1x1x2x1x1 : Shape := ⟨5, ![1, 1, 2, 1, 1]⟩
abbrev S128x4x2x16x64x1 : Shape := ⟨6, ![128, 4, 2, 16, 64, 1]⟩
abbrev S128x4x2x16x64x2 : Shape := ⟨6, ![128, 4, 2, 16, 64, 2]⟩
abbrev S128x4x2x16x64x4 : Shape := ⟨6, ![128, 4, 2, 16, 64, 4]⟩
abbrev S128x4x2x1x16x64 : Shape := ⟨6, ![128, 4, 2, 1, 16, 64]⟩
abbrev S128x4x2x4x1x1 : Shape := ⟨6, ![128, 4, 2, 4, 1, 1]⟩
abbrev S128x2x516x4x4 : Shape := ⟨5, ![128, 2, 516, 4, 4]⟩
abbrev S128x4x2x4x516 : Shape := ⟨5, ![128, 4, 2, 4, 516]⟩
abbrev S1x516 : Shape := ⟨2, ![1, 516]⟩
abbrev S4x516 : Shape := ⟨2, ![4, 516]⟩
abbrev S4x516x1 : Shape := ⟨3, ![4, 516, 1]⟩
abbrev S4x516x2x4 : Shape := ⟨4, ![4, 516, 2, 4]⟩
abbrev S4x2x4x516 : Shape := ⟨4, ![4, 2, 4, 516]⟩
abbrev S1x4x2x4x516 : Shape := ⟨5, ![1, 4, 2, 4, 516]⟩
abbrev S1x4x1x1x516 : Shape := ⟨5, ![1, 4, 1, 1, 516]⟩
abbrev S128x34x512 : Shape := ⟨3, ![128, 34, 512]⟩
abbrev S1x1x512 : Shape := ⟨3, ![1, 1, 512]⟩
abbrev S512x2048 : Shape := ⟨2, ![512, 2048]⟩
abbrev S2x256x1024 : Shape := ⟨3, ![2, 256, 1024]⟩
abbrev S2x256x2048 : Shape := ⟨3, ![2, 256, 2048]⟩
abbrev S1x256x1024 : Shape := ⟨3, ![1, 256, 1024]⟩
abbrev S256x1024 : Shape := ⟨2, ![256, 1024]⟩
abbrev S1x256x2048 : Shape := ⟨3, ![1, 256, 2048]⟩
abbrev S256x2048 : Shape := ⟨2, ![256, 2048]⟩
abbrev S256x8x2x128 : Shape := ⟨4, ![256, 8, 2, 128]⟩
abbrev S8x2x128x256 : Shape := ⟨4, ![8, 2, 128, 256]⟩
abbrev S256x8x1x128 : Shape := ⟨4, ![256, 8, 1, 128]⟩
abbrev S256x8x128 : Shape := ⟨3, ![256, 8, 128]⟩
abbrev S256x8x16 : Shape := ⟨3, ![256, 8, 16]⟩
abbrev S256x8x16x1 : Shape := ⟨4, ![256, 8, 16, 1]⟩
abbrev S256x8x1x16 : Shape := ⟨4, ![256, 8, 1, 16]⟩
abbrev S256x8x16x16 : Shape := ⟨4, ![256, 8, 16, 16]⟩
abbrev S256x8x256 : Shape := ⟨3, ![256, 8, 256]⟩
abbrev S1 : Shape := ⟨1, ![1]⟩
abbrev S1x1x1x1 : Shape := ⟨4, ![1, 1, 1, 1]⟩
abbrev S256x8 : Shape := ⟨2, ![256, 8]⟩
abbrev S256x8x1 : Shape := ⟨3, ![256, 8, 1]⟩
abbrev S256x8x16x1024 : Shape := ⟨4, ![256, 8, 16, 1024]⟩
abbrev S1x128x4x2x2x64 : Shape := ⟨6, ![1, 128, 4, 2, 2, 64]⟩

abbrev nBuf : Space → Nat
  | .hbm => 1314
  | .vmem => 9
  | .smem => 0
  | _ => 0

abbrev hbmTy0_0 (i : Nat) : BufTy := match i % 128 with
  | 0 => ⟨S128x4x1024, .f32⟩
  | 1 => ⟨S128x1024, .f32⟩
  | 2 => ⟨S1x10240x128x2x2x64, .f32⟩
  | 3 => ⟨S1x10240x128x2x2x64, .f32⟩
  | 4 => ⟨S1x128x512x2x2x64, .f32⟩
  | 5 => ⟨S1x128x30x512, .f32⟩
  | 6 => ⟨S128x64, .i32⟩
  | 7 => ⟨S32x8, .f32⟩
  | 8 => ⟨S1x1024x6144, .f32⟩
  | 9 => ⟨S1x6144, .f32⟩
  | 10 => ⟨S1x1024, .f32⟩
  | 11 => ⟨S1x1024x2328, .f32⟩
  | 12 => ⟨S1x64, .f32⟩
  | 13 => ⟨S1x3x64, .f32⟩
  | 14 => ⟨S1x2x32x64, .f32⟩
  | 15 => ⟨S1x2x2048x256, .f32⟩
  | 16 => ⟨S1x2x256, .f32⟩
  | 17 => ⟨S1x2x256x64, .f32⟩
  | 18 => ⟨S1x2x64, .f32⟩
  | 19 => ⟨S1x31x512, .f32⟩
  | 20 => ⟨S1x512, .f32⟩
  | 21 => ⟨S1x512, .f32⟩
  | 22 => ⟨S1x512, .f32⟩
  | 23 => ⟨S1x512, .f32⟩
  | 24 => ⟨S1x512, .f32⟩
  | 25 => ⟨S1x1024x1024, .f32⟩
  | 26 => ⟨S1x1024, .f32⟩
  | 27 => ⟨S1x1024x2048, .f32⟩
  | 28 => ⟨S1x8x2x128x128, .f32⟩
  | 29 => ⟨S1x16384x1024, .f32⟩
  | 30 => ⟨S1x16384x1024, .f32⟩
  | 31 => ⟨S1024x6144, .f32⟩
  | 32 => ⟨S6144, .f32⟩
  | 33 => ⟨S1024, .f32⟩
  | 34 => ⟨S1024x2328, .f32⟩
  | 35 => ⟨S64, .f32⟩
  | 36 => ⟨S3x64, .f32⟩
  | 37 => ⟨S2x32x64, .f32⟩
  | 38 => ⟨S2x2048x256, .f32⟩
  | 39 => ⟨S2x256, .f32⟩
  | 40 => ⟨S2x256x64, .f32⟩
  | 41 => ⟨S2x64, .f32⟩
  | 42 => ⟨S31x512, .f32⟩
  | 43 => ⟨S512, .f32⟩
  | 44 => ⟨S512, .f32⟩
  | 45 => ⟨S512, .f32⟩
  | 46 => ⟨S512, .f32⟩
  | 47 => ⟨S512, .f32⟩
  | 48 => ⟨S1024x1024, .f32⟩
  | 49 => ⟨S1024, .f32⟩
  | 50 => ⟨S1024x2048, .f32⟩
  | 51 => ⟨S8x2x128x128, .f32⟩
  | 52 => ⟨S16384x1024, .f32⟩
  | 53 => ⟨S16384x1024, .f32⟩
  | 54 => ⟨S128x30x512, .f32⟩
  | 55 => ⟨S10240x128x2x2x64, .f32⟩
  | 56 => ⟨S10240x128x2x2x64, .f32⟩
  | 57 => ⟨S128x512x2x2x64, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S128x1024, .f32⟩
  | 67 => ⟨S128x6144, .f32⟩
  | 68 => ⟨S1x6144, .f32⟩
  | 69 => ⟨S128x6144, .f32⟩
  | 70 => ⟨S128x6144, .f32⟩
  | 71 => ⟨S128x1x6144, .f32⟩
  | 72 => ⟨S128x1x1024, .f32⟩
  | 73 => ⟨S128x1x1024, .f32⟩
  | 74 => ⟨S128x1x1024, .f32⟩
  | 75 => ⟨S128x1x1024, .f32⟩
  | 76 => ⟨S128x1x1024, .f32⟩
  | 77 => ⟨S128x1x1024, .f32⟩
  | 78 => ⟨S128x4x1024, .f32⟩
  | 79 => ⟨S_, .f32⟩
  | 80 => ⟨S128x4, .f32⟩
  | 81 => ⟨S128x4x1, .f32⟩
  | 82 => ⟨S_, .f32⟩
  | 83 => ⟨S128x4x1, .f32⟩
  | 84 => ⟨S128x4x1, .f32⟩
  | 85 => ⟨S_, .f32⟩
  | 86 => ⟨S128x4x1, .f32⟩
  | 87 => ⟨S128x4x1, .f32⟩
  | 88 => ⟨S128x4x1, .f32⟩
  | 89 => ⟨S128x4x1024, .f32⟩
  | 90 => ⟨S128x4x1024, .f32⟩
  | 91 => ⟨S1x1x1024, .f32⟩
  | 92 => ⟨S128x4x1024, .f32⟩
  | 93 => ⟨S128x4x1024, .f32⟩
  | 94 => ⟨S_, .f32⟩
  | 95 => ⟨S128x1x1024, .f32⟩
  | 96 => ⟨S128x1x1024, .f32⟩
  | 97 => ⟨S128x4x1024, .f32⟩
  | 98 => ⟨S128x4x1024, .f32⟩
  | 99 => ⟨S128x4x1024, .f32⟩
  | 100 => ⟨S128x4x1024, .f32⟩
  | 101 => ⟨S512x1024, .f32⟩
  | 102 => ⟨S_, .i32⟩
  | 103 => ⟨S_, .f32⟩
  | 104 => ⟨S1024x2432, .f32⟩
  | 105 => ⟨S1024x2432, .bf16⟩
  | 106 => ⟨S512x2432, .f32⟩
  | 107 => ⟨S512x2328, .f32⟩
  | 108 => ⟨S128x4x2328, .f32⟩
  | 109 => ⟨S128x4x512, .f32⟩
  | 110 => ⟨S128x4x128, .f32⟩
  | 111 => ⟨S128x4x128, .f32⟩
  | 112 => ⟨S128x4x128, .f32⟩
  | 113 => ⟨S128x4x128, .f32⟩
  | 114 => ⟨S128x4x128, .f32⟩
  | 115 => ⟨S128x4x128, .f32⟩
  | 116 => ⟨S128x4x24, .f32⟩
  | 117 => ⟨S128x4x1024, .f32⟩
  | 118 => ⟨S128x4x2x4x64, .f32⟩
  | 119 => ⟨S128x4x2x4x64, .f32⟩
  | 120 => ⟨S_, .f32⟩
  | 121 => ⟨S128x4x2x4, .f32⟩
  | 122 => ⟨S128x4x2x4x1, .f32⟩
  | 123 => ⟨S_, .f32⟩
  | 124 => ⟨S128x4x2x4x1, .f32⟩
  | 125 => ⟨S128x4x2x4x1, .f32⟩
  | 126 => ⟨S_, .f32⟩
  | 127 => ⟨S128x4x2x4x1, .f32⟩
  | _ => ⟨S128x4x1024, .f32⟩

abbrev hbmTy0_1 (i : Nat) : BufTy := match i % 128 with
  | 0 => ⟨S128x4x2x4x1, .f32⟩
  | 1 => ⟨S128x4x2x4x1, .f32⟩
  | 2 => ⟨S128x4x2x4x64, .f32⟩
  | 3 => ⟨S128x4x2x4x64, .f32⟩
  | 4 => ⟨S1x1x1x1x64, .f32⟩
  | 5 => ⟨S128x4x2x4x64, .f32⟩
  | 6 => ⟨S128x4x2x4x64, .f32⟩
  | 7 => ⟨S128x4x2x64, .f32⟩
  | 8 => ⟨S1x64, .f32⟩
  | 9 => ⟨S64, .f32⟩
  | 10 => ⟨S128x4x2x64, .f32⟩
  | 11 => ⟨S_, .f32⟩
  | 12 => ⟨S128x4x2, .f32⟩
  | 13 => ⟨S128x4x2x1, .f32⟩
  | 14 => ⟨S_, .f32⟩
  | 15 => ⟨S128x4x2x1, .f32⟩
  | 16 => ⟨S128x4x2x1, .f32⟩
  | 17 => ⟨S_, .f32⟩
  | 18 => ⟨S128x4x2x1, .f32⟩
  | 19 => ⟨S128x4x2x1, .f32⟩
  | 20 => ⟨S128x4x2x1, .f32⟩
  | 21 => ⟨S128x4x2x64, .f32⟩
  | 22 => ⟨S128x4x2x64, .f32⟩
  | 23 => ⟨S1x1x1x64, .f32⟩
  | 24 => ⟨S128x4x2x64, .f32⟩
  | 25 => ⟨S128x4x2x64, .f32⟩
  | 26 => ⟨S128x4x2x64, .f32⟩
  | 27 => ⟨S1x64, .f32⟩
  | 28 => ⟨S64, .f32⟩
  | 29 => ⟨S128x4x2x64, .f32⟩
  | 30 => ⟨S_, .f32⟩
  | 31 => ⟨S128x4x2, .f32⟩
  | 32 => ⟨S128x4x2x1, .f32⟩
  | 33 => ⟨S_, .f32⟩
  | 34 => ⟨S128x4x2x1, .f32⟩
  | 35 => ⟨S128x4x2x1, .f32⟩
  | 36 => ⟨S_, .f32⟩
  | 37 => ⟨S128x4x2x1, .f32⟩
  | 38 => ⟨S128x4x2x1, .f32⟩
  | 39 => ⟨S128x4x2x1, .f32⟩
  | 40 => ⟨S128x4x2x64, .f32⟩
  | 41 => ⟨S128x4x2x64, .f32⟩
  | 42 => ⟨S1x1x1x64, .f32⟩
  | 43 => ⟨S128x4x2x64, .f32⟩
  | 44 => ⟨S128x4x2x64, .f32⟩
  | 45 => ⟨S128x4x2x4x3, .f32⟩
  | 46 => ⟨S128x4x2x4x3, .f32⟩
  | 47 => ⟨S128x4x2x4x3, .f32⟩
  | 48 => ⟨S_, .f32⟩
  | 49 => ⟨S128x4x2x4x3, .f32⟩
  | 50 => ⟨S128x4x2x4x3, .f32⟩
  | 51 => ⟨S_, .f32⟩
  | 52 => ⟨S128x4x2x4x3, .f32⟩
  | 53 => ⟨S128x4x2x4x3, .f32⟩
  | 54 => ⟨S128x4x2x64, .f32⟩
  | 55 => ⟨S128x4x2x64, .f32⟩
  | 56 => ⟨S128x4x2x64, .f32⟩
  | 57 => ⟨S128x4x2x64, .f32⟩
  | 58 => ⟨S4, .i32⟩
  | 59 => ⟨S_, .i32⟩
  | 60 => ⟨S4, .i32⟩
  | 61 => ⟨S4, .i32⟩
  | 62 => ⟨S_, .i32⟩
  | 63 => ⟨S128x64, .i32⟩
  | 64 => ⟨S128x64, .i1⟩
  | 65 => ⟨S_, .i32⟩
  | 66 => ⟨S128x64, .i32⟩
  | 67 => ⟨S128x64, .i32⟩
  | 68 => ⟨S128x64, .i32⟩
  | 69 => ⟨S128x64x1, .i32⟩
  | 70 => ⟨S128x64x128x2x2x64, .f32⟩
  | 71 => ⟨S128x8192x2x2x64, .f32⟩
  | 72 => ⟨S_, .i32⟩
  | 73 => ⟨S128x64, .i32⟩
  | 74 => ⟨S128x64, .i1⟩
  | 75 => ⟨S_, .i32⟩
  | 76 => ⟨S128x64, .i32⟩
  | 77 => ⟨S128x64, .i32⟩
  | 78 => ⟨S128x64, .i32⟩
  | 79 => ⟨S128x64x1, .i32⟩
  | 80 => ⟨S128x64x128x2x2x64, .f32⟩
  | 81 => ⟨S128x8192x2x2x64, .f32⟩
  | 82 => ⟨S128x8192x1x2x64, .f32⟩
  | 83 => ⟨S128x8192x2x64, .f32⟩
  | 84 => ⟨S128x8196x2x64, .f32⟩
  | 85 => ⟨S1x32x64, .f32⟩
  | 86 => ⟨S32x64, .f32⟩
  | 87 => ⟨S1x2048x256, .f32⟩
  | 88 => ⟨S2048x256, .f32⟩
  | 89 => ⟨S1x256, .f32⟩
  | 90 => ⟨S256, .f32⟩
  | 91 => ⟨S1x256x64, .f32⟩
  | 92 => ⟨S256x64, .f32⟩
  | 93 => ⟨S1x64, .f32⟩
  | 94 => ⟨S64, .f32⟩
  | 95 => ⟨S128x8192x2x64, .f32⟩
  | 96 => ⟨S128x512x16x2x64, .f32⟩
  | 97 => ⟨S2x16x64x256, .f32⟩
  | 98 => ⟨S2x256x128x512x2, .f32⟩
  | 99 => ⟨S2x128x512x2x256, .f32⟩
  | 100 => ⟨S2048, .f32⟩
  | 101 => ⟨S256, .f32⟩
  | 102 => ⟨S256, .f32⟩
  | 103 => ⟨S1x128x511x2x256, .f32⟩
  | 104 => ⟨S128x511x2x256, .f32⟩
  | 105 => ⟨S1x1x1x256, .f32⟩
  | 106 => ⟨S128x511x2x256, .f32⟩
  | 107 => ⟨S128x511x2x256, .f32⟩
  | 108 => ⟨S1x128x511x2x256, .f32⟩
  | 109 => ⟨S128x511x2x256, .f32⟩
  | 110 => ⟨S128x511x2x256, .f32⟩
  | 111 => ⟨S128x511x2x256, .f32⟩
  | 112 => ⟨S128x511x2x256, .f32⟩
  | 113 => ⟨S_, .f32⟩
  | 114 => ⟨S128x511x2x256, .f32⟩
  | 115 => ⟨S128x511x2x256, .f32⟩
  | 116 => ⟨S128x511x2x256, .f32⟩
  | 117 => ⟨S_, .f32⟩
  | 118 => ⟨S128x511x2x256, .f32⟩
  | 119 => ⟨S128x511x2x256, .f32⟩
  | 120 => ⟨S128x511x2x256, .f32⟩
  | 121 => ⟨S_, .f32⟩
  | 122 => ⟨S128x511x2x256, .f32⟩
  | 123 => ⟨S128x511x2x256, .f32⟩
  | 124 => ⟨S_, .f32⟩
  | 125 => ⟨S128x511x2x256, .f32⟩
  | 126 => ⟨S128x511x2x256, .f32⟩
  | 127 => ⟨S128x511x2x256, .f32⟩
  | _ => ⟨S128x4x1024, .f32⟩

abbrev hbmTy0_2 (i : Nat) : BufTy := match i % 128 with
  | 0 => ⟨S128x511x2x64, .f32⟩
  | 1 => ⟨S1x1x1x64, .f32⟩
  | 2 => ⟨S128x511x2x64, .f32⟩
  | 3 => ⟨S128x511x2x64, .f32⟩
  | 4 => ⟨S511, .i32⟩
  | 5 => ⟨S_, .i32⟩
  | 6 => ⟨S511, .i32⟩
  | 7 => ⟨S511, .i32⟩
  | 8 => ⟨S_, .i32⟩
  | 9 => ⟨S511, .i32⟩
  | 10 => ⟨S511, .i32⟩
  | 11 => ⟨S1x64, .f32⟩
  | 12 => ⟨S64, .f32⟩
  | 13 => ⟨S128x511x2x64, .f32⟩
  | 14 => ⟨S_, .f32⟩
  | 15 => ⟨S128x511x2, .f32⟩
  | 16 => ⟨S128x511x2x1, .f32⟩
  | 17 => ⟨S_, .f32⟩
  | 18 => ⟨S128x511x2x1, .f32⟩
  | 19 => ⟨S128x511x2x1, .f32⟩
  | 20 => ⟨S_, .f32⟩
  | 21 => ⟨S128x511x2x1, .f32⟩
  | 22 => ⟨S128x511x2x1, .f32⟩
  | 23 => ⟨S128x511x2x1, .f32⟩
  | 24 => ⟨S128x511x2x64, .f32⟩
  | 25 => ⟨S128x511x2x64, .f32⟩
  | 26 => ⟨S1x1x1x64, .f32⟩
  | 27 => ⟨S128x511x2x64, .f32⟩
  | 28 => ⟨S128x511x2x64, .f32⟩
  | 29 => ⟨S128x8192x1x2x64, .f32⟩
  | 30 => ⟨S128x8192x2x64, .f32⟩
  | 31 => ⟨S128x8196x2x64, .f32⟩
  | 32 => ⟨S1x32x64, .f32⟩
  | 33 => ⟨S32x64, .f32⟩
  | 34 => ⟨S1x2048x256, .f32⟩
  | 35 => ⟨S2048x256, .f32⟩
  | 36 => ⟨S1x256, .f32⟩
  | 37 => ⟨S256, .f32⟩
  | 38 => ⟨S1x256x64, .f32⟩
  | 39 => ⟨S256x64, .f32⟩
  | 40 => ⟨S1x64, .f32⟩
  | 41 => ⟨S64, .f32⟩
  | 42 => ⟨S128x8192x2x64, .f32⟩
  | 43 => ⟨S128x512x16x2x64, .f32⟩
  | 44 => ⟨S2x16x64x256, .f32⟩
  | 45 => ⟨S2x256x128x512x2, .f32⟩
  | 46 => ⟨S2x128x512x2x256, .f32⟩
  | 47 => ⟨S2048, .f32⟩
  | 48 => ⟨S256, .f32⟩
  | 49 => ⟨S256, .f32⟩
  | 50 => ⟨S1x128x511x2x256, .f32⟩
  | 51 => ⟨S128x511x2x256, .f32⟩
  | 52 => ⟨S1x1x1x256, .f32⟩
  | 53 => ⟨S128x511x2x256, .f32⟩
  | 54 => ⟨S128x511x2x256, .f32⟩
  | 55 => ⟨S1x128x511x2x256, .f32⟩
  | 56 => ⟨S128x511x2x256, .f32⟩
  | 57 => ⟨S128x511x2x256, .f32⟩
  | 58 => ⟨S128x511x2x256, .f32⟩
  | 59 => ⟨S128x511x2x256, .f32⟩
  | 60 => ⟨S_, .f32⟩
  | 61 => ⟨S128x511x2x256, .f32⟩
  | 62 => ⟨S128x511x2x256, .f32⟩
  | 63 => ⟨S128x511x2x256, .f32⟩
  | 64 => ⟨S_, .f32⟩
  | 65 => ⟨S128x511x2x256, .f32⟩
  | 66 => ⟨S128x511x2x256, .f32⟩
  | 67 => ⟨S128x511x2x256, .f32⟩
  | 68 => ⟨S_, .f32⟩
  | 69 => ⟨S128x511x2x256, .f32⟩
  | 70 => ⟨S128x511x2x256, .f32⟩
  | 71 => ⟨S_, .f32⟩
  | 72 => ⟨S128x511x2x256, .f32⟩
  | 73 => ⟨S128x511x2x256, .f32⟩
  | 74 => ⟨S128x511x2x256, .f32⟩
  | 75 => ⟨S128x511x2x64, .f32⟩
  | 76 => ⟨S1x1x1x64, .f32⟩
  | 77 => ⟨S128x511x2x64, .f32⟩
  | 78 => ⟨S128x511x2x64, .f32⟩
  | 79 => ⟨S511, .i32⟩
  | 80 => ⟨S_, .i32⟩
  | 81 => ⟨S511, .i32⟩
  | 82 => ⟨S511, .i32⟩
  | 83 => ⟨S_, .i32⟩
  | 84 => ⟨S511, .i32⟩
  | 85 => ⟨S511, .i32⟩
  | 86 => ⟨S128x8192x1x2x64, .f32⟩
  | 87 => ⟨S128x8192x2x64, .f32⟩
  | 88 => ⟨S128x8196x2x64, .f32⟩
  | 89 => ⟨S_, .i32⟩
  | 90 => ⟨S_, .f32⟩
  | 91 => ⟨S128x8256x2x64, .f32⟩
  | 92 => ⟨S128x129x64x2x64, .f32⟩
  | 93 => ⟨S128x2x129x64x64, .f32⟩
  | 94 => ⟨S128x8192x1x2x64, .f32⟩
  | 95 => ⟨S128x8192x2x64, .f32⟩
  | 96 => ⟨S128x8196x2x64, .f32⟩
  | 97 => ⟨S_, .i32⟩
  | 98 => ⟨S_, .f32⟩
  | 99 => ⟨S128x8256x2x64, .f32⟩
  | 100 => ⟨S128x129x64x2x64, .f32⟩
  | 101 => ⟨S128x2x129x64x64, .f32⟩
  | 102 => ⟨S128x4x1x2x64, .f32⟩
  | 103 => ⟨S128x4x1x2x64, .f32⟩
  | 104 => ⟨S128x4x2x2x64, .f32⟩
  | 105 => ⟨S128x516x2x2x64, .f32⟩
  | 106 => ⟨S516, .i32⟩
  | 107 => ⟨S_, .i32⟩
  | 108 => ⟨S516, .i32⟩
  | 109 => ⟨S516, .i32⟩
  | 110 => ⟨S128x516x1x2x64, .f32⟩
  | 111 => ⟨S128x516x2x64, .f32⟩
  | 112 => ⟨S128x516x1x2x64, .f32⟩
  | 113 => ⟨S128x516x2x64, .f32⟩
  | 114 => ⟨S32x2x4, .f32⟩
  | 115 => ⟨S128x2x511x4x4, .f32⟩
  | 116 => ⟨S128x4x2x4x511, .f32⟩
  | 117 => ⟨S_, .f32⟩
  | 118 => ⟨S128x4x2x4x511, .f32⟩
  | 119 => ⟨S128x4x2x4x511, .f32⟩
  | 120 => ⟨S4x1, .i32⟩
  | 121 => ⟨S1x511, .i32⟩
  | 122 => ⟨S4x511, .i32⟩
  | 123 => ⟨S4x511, .i32⟩
  | 124 => ⟨S4x511, .i32⟩
  | 125 => ⟨S_, .i32⟩
  | 126 => ⟨S4x511, .i32⟩
  | 127 => ⟨S4x511, .i32⟩
  | _ => ⟨S128x4x1024, .f32⟩

abbrev hbmTy0_3 (i : Nat) : BufTy := match i % 128 with
  | 0 => ⟨S_, .i32⟩
  | 1 => ⟨S4x511, .i32⟩
  | 2 => ⟨S4x511, .i32⟩
  | 3 => ⟨S4x511, .f32⟩
  | 4 => ⟨S_, .f32⟩
  | 5 => ⟨S4x511, .f32⟩
  | 6 => ⟨S4x511, .f32⟩
  | 7 => ⟨S4x511, .f32⟩
  | 8 => ⟨S_, .f32⟩
  | 9 => ⟨S4x511, .f32⟩
  | 10 => ⟨S4x511, .f32⟩
  | 11 => ⟨S_, .f32⟩
  | 12 => ⟨S4x511, .f32⟩
  | 13 => ⟨S4x511, .f32⟩
  | 14 => ⟨S4x511, .i32⟩
  | 15 => ⟨S_, .i32⟩
  | 16 => ⟨S4x511, .i32⟩
  | 17 => ⟨S4x511, .i32⟩
  | 18 => ⟨S_, .i32⟩
  | 19 => ⟨S4x511, .i32⟩
  | 20 => ⟨S4x511, .i1⟩
  | 21 => ⟨S_, .i32⟩
  | 22 => ⟨S4x511, .i32⟩
  | 23 => ⟨S4x511, .i32⟩
  | 24 => ⟨S4x511, .i32⟩
  | 25 => ⟨S_, .i32⟩
  | 26 => ⟨S4x511, .i32⟩
  | 27 => ⟨S4x511, .i1⟩
  | 28 => ⟨S_, .i32⟩
  | 29 => ⟨S4x511, .i32⟩
  | 30 => ⟨S4x511, .i32⟩
  | 31 => ⟨S4x511, .i32⟩
  | 32 => ⟨S4x511x1, .i32⟩
  | 33 => ⟨S4x511x2x4, .f32⟩
  | 34 => ⟨S4x2x4x511, .f32⟩
  | 35 => ⟨S1x4x2x4x511, .f32⟩
  | 36 => ⟨S128x4x2x4x511, .f32⟩
  | 37 => ⟨S128x4x2x4x511, .f32⟩
  | 38 => ⟨S_, .i32⟩
  | 39 => ⟨S4x511, .i32⟩
  | 40 => ⟨S4x511, .i1⟩
  | 41 => ⟨S1x4x1x1x511, .i1⟩
  | 42 => ⟨S_, .f32⟩
  | 43 => ⟨S_, .f32⟩
  | 44 => ⟨S128x4x2x4x511, .i1⟩
  | 45 => ⟨S128x4x2x4x511, .f32⟩
  | 46 => ⟨S128x4x2x4x511, .f32⟩
  | 47 => ⟨S_, .f32⟩
  | 48 => ⟨S128x4x2x4, .f32⟩
  | 49 => ⟨S128x4x2x4x1, .f32⟩
  | 50 => ⟨S128x4x2x4x1, .f32⟩
  | 51 => ⟨S_, .f32⟩
  | 52 => ⟨S128x4x2x4x1, .f32⟩
  | 53 => ⟨S128x4x2x4x1, .i1⟩
  | 54 => ⟨S_, .f32⟩
  | 55 => ⟨S_, .f32⟩
  | 56 => ⟨S128x4x2x4x1, .f32⟩
  | 57 => ⟨S128x4x2x4x1, .f32⟩
  | 58 => ⟨S128x4x2x4x511, .f32⟩
  | 59 => ⟨S128x4x2x4x511, .f32⟩
  | 60 => ⟨S128x4x2x4x511, .f32⟩
  | 61 => ⟨S_, .f32⟩
  | 62 => ⟨S_, .f32⟩
  | 63 => ⟨S128x4x2x4x511, .i1⟩
  | 64 => ⟨S128x4x2x4x511, .f32⟩
  | 65 => ⟨S128x4x2x4x511, .f32⟩
  | 66 => ⟨S_, .f32⟩
  | 67 => ⟨S128x4x2x4, .f32⟩
  | 68 => ⟨S128x4x2x4x1, .f32⟩
  | 69 => ⟨S_, .f32⟩
  | 70 => ⟨S128x4x2x4x1, .f32⟩
  | 71 => ⟨S128x4x2x4x1, .i1⟩
  | 72 => ⟨S_, .f32⟩
  | 73 => ⟨S_, .f32⟩
  | 74 => ⟨S128x4x2x4x1, .f32⟩
  | 75 => ⟨S128x4x2x4x1, .f32⟩
  | 76 => ⟨S128x4x2x4x511, .f32⟩
  | 77 => ⟨S128x4x2x4x511, .f32⟩
  | 78 => ⟨S128x2x64x4x4, .f32⟩
  | 79 => ⟨S128x4x2x4x64, .f32⟩
  | 80 => ⟨S511, .i32⟩
  | 81 => ⟨S511x1, .i32⟩
  | 82 => ⟨S129, .i32⟩
  | 83 => ⟨S1x129, .i32⟩
  | 84 => ⟨S_, .i32⟩
  | 85 => ⟨S511x1, .i32⟩
  | 86 => ⟨S511x1, .i32⟩
  | 87 => ⟨S_, .i32⟩
  | 88 => ⟨S1x129, .i32⟩
  | 89 => ⟨S1x129, .i32⟩
  | 90 => ⟨S_, .i32⟩
  | 91 => ⟨S1x129, .i32⟩
  | 92 => ⟨S1x129, .i32⟩
  | 93 => ⟨S511x129, .i32⟩
  | 94 => ⟨S511x129, .i32⟩
  | 95 => ⟨S511x129, .i1⟩
  | 96 => ⟨S_, .i32⟩
  | 97 => ⟨S511x1, .i32⟩
  | 98 => ⟨S511x1, .i32⟩
  | 99 => ⟨S_, .i32⟩
  | 100 => ⟨S511x1, .i32⟩
  | 101 => ⟨S511x1, .i32⟩
  | 102 => ⟨S_, .i32⟩
  | 103 => ⟨S1x129, .i32⟩
  | 104 => ⟨S1x129, .i32⟩
  | 105 => ⟨S511x129, .i32⟩
  | 106 => ⟨S511x129, .i32⟩
  | 107 => ⟨S511x129, .i1⟩
  | 108 => ⟨S511x129, .i1⟩
  | 109 => ⟨S511x129, .f32⟩
  | 110 => ⟨S_, .f32⟩
  | 111 => ⟨S128x4x2x511, .f32⟩
  | 112 => ⟨S128x4x2x129, .f32⟩
  | 113 => ⟨S_, .i32⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i1⟩
  | 121 => ⟨S4, .i32⟩
  | 122 => ⟨S4, .i32⟩
  | 123 => ⟨S_, .i32⟩
  | 124 => ⟨S4, .i32⟩
  | 125 => ⟨S4, .i1⟩
  | 126 => ⟨S4, .i1⟩
  | 127 => ⟨S_, .i32⟩
  | _ => ⟨S128x4x1024, .f32⟩

abbrev hbmTy0_4 (i : Nat) : BufTy := match i % 128 with
  | 0 => ⟨S4, .i32⟩
  | 1 => ⟨S4, .i32⟩
  | 2 => ⟨S4, .i32⟩
  | 3 => ⟨S4x1, .i32⟩
  | 4 => ⟨S_, .i32⟩
  | 5 => ⟨S1x129, .i32⟩
  | 6 => ⟨S1x129, .i1⟩
  | 7 => ⟨S4x129, .i32⟩
  | 8 => ⟨S4x129, .i32⟩
  | 9 => ⟨S4x129, .i1⟩
  | 10 => ⟨S4x129, .i1⟩
  | 11 => ⟨S4x129, .i1⟩
  | 12 => ⟨S_, .i32⟩
  | 13 => ⟨S4x1, .i32⟩
  | 14 => ⟨S4x1, .i32⟩
  | 15 => ⟨S4x129, .i32⟩
  | 16 => ⟨S4x129, .i32⟩
  | 17 => ⟨S4x129, .i1⟩
  | 18 => ⟨S4x129, .i1⟩
  | 19 => ⟨S_, .i32⟩
  | 20 => ⟨S1x129, .i32⟩
  | 21 => ⟨S1x129, .i32⟩
  | 22 => ⟨S4x1, .i32⟩
  | 23 => ⟨S4x129, .i32⟩
  | 24 => ⟨S4x129, .i32⟩
  | 25 => ⟨S4x129, .i1⟩
  | 26 => ⟨S1x4x1x129, .i1⟩
  | 27 => ⟨S_, .f32⟩
  | 28 => ⟨S128x4x2x129, .f32⟩
  | 29 => ⟨S128x4x2x129, .f32⟩
  | 30 => ⟨S128x4x2x129, .i1⟩
  | 31 => ⟨S128x4x2x129, .f32⟩
  | 32 => ⟨S1x4x1x129, .i1⟩
  | 33 => ⟨S_, .f32⟩
  | 34 => ⟨S_, .f32⟩
  | 35 => ⟨S128x4x2x129, .i1⟩
  | 36 => ⟨S128x4x2x129, .f32⟩
  | 37 => ⟨S128x4x2x129, .f32⟩
  | 38 => ⟨S128x4x2x16, .f32⟩
  | 39 => ⟨S128x4x2x16, .i32⟩
  | 40 => ⟨S128, .i32⟩
  | 41 => ⟨S128x1x1x1, .i32⟩
  | 42 => ⟨S2, .i32⟩
  | 43 => ⟨S1x1x2x1, .i32⟩
  | 44 => ⟨S_, .i32⟩
  | 45 => ⟨S128x1x1x1, .i32⟩
  | 46 => ⟨S128x1x1x1, .i1⟩
  | 47 => ⟨S_, .i32⟩
  | 48 => ⟨S128x1x1x1, .i32⟩
  | 49 => ⟨S128x1x1x1, .i32⟩
  | 50 => ⟨S128x1x1x1, .i32⟩
  | 51 => ⟨S_, .i32⟩
  | 52 => ⟨S1x1x2x1, .i32⟩
  | 53 => ⟨S1x1x2x1, .i1⟩
  | 54 => ⟨S_, .i32⟩
  | 55 => ⟨S1x1x2x1, .i32⟩
  | 56 => ⟨S1x1x2x1, .i32⟩
  | 57 => ⟨S1x1x2x1, .i32⟩
  | 58 => ⟨S_, .i32⟩
  | 59 => ⟨S128x4x2x16, .i32⟩
  | 60 => ⟨S128x4x2x16, .i1⟩
  | 61 => ⟨S_, .i32⟩
  | 62 => ⟨S128x4x2x16, .i32⟩
  | 63 => ⟨S128x4x2x16, .i32⟩
  | 64 => ⟨S128x4x2x16, .i32⟩
  | 65 => ⟨S128x4x2x16, .i32⟩
  | 66 => ⟨S128x4x2x16, .i32⟩
  | 67 => ⟨S128x4x2x16x1, .i32⟩
  | 68 => ⟨S128x4x2x16x1, .i32⟩
  | 69 => ⟨S128x4x2x16x1, .i32⟩
  | 70 => ⟨S128x4x2x16x3, .i32⟩
  | 71 => ⟨S128x4x2x16x64x64, .f32⟩
  | 72 => ⟨S_, .i32⟩
  | 73 => ⟨S128x1x1x1, .i32⟩
  | 74 => ⟨S128x1x1x1, .i1⟩
  | 75 => ⟨S_, .i32⟩
  | 76 => ⟨S128x1x1x1, .i32⟩
  | 77 => ⟨S128x1x1x1, .i32⟩
  | 78 => ⟨S128x1x1x1, .i32⟩
  | 79 => ⟨S_, .i32⟩
  | 80 => ⟨S1x1x2x1, .i32⟩
  | 81 => ⟨S1x1x2x1, .i1⟩
  | 82 => ⟨S_, .i32⟩
  | 83 => ⟨S1x1x2x1, .i32⟩
  | 84 => ⟨S1x1x2x1, .i32⟩
  | 85 => ⟨S1x1x2x1, .i32⟩
  | 86 => ⟨S_, .i32⟩
  | 87 => ⟨S128x4x2x16, .i32⟩
  | 88 => ⟨S128x4x2x16, .i1⟩
  | 89 => ⟨S_, .i32⟩
  | 90 => ⟨S128x4x2x16, .i32⟩
  | 91 => ⟨S128x4x2x16, .i32⟩
  | 92 => ⟨S128x4x2x16, .i32⟩
  | 93 => ⟨S128x4x2x16, .i32⟩
  | 94 => ⟨S128x4x2x16, .i32⟩
  | 95 => ⟨S128x4x2x16x1, .i32⟩
  | 96 => ⟨S128x4x2x16x1, .i32⟩
  | 97 => ⟨S128x4x2x16x1, .i32⟩
  | 98 => ⟨S128x4x2x16x3, .i32⟩
  | 99 => ⟨S128x4x2x16x64x64, .f32⟩
  | 100 => ⟨S128x4x2x4x16x64, .f32⟩
  | 101 => ⟨S_, .f32⟩
  | 102 => ⟨S128x4x2x4x16x64, .f32⟩
  | 103 => ⟨S128x4x2x4x16x64, .f32⟩
  | 104 => ⟨S128x4x2x16x1, .i32⟩
  | 105 => ⟨S_, .i32⟩
  | 106 => ⟨S128x4x2x16x1, .i32⟩
  | 107 => ⟨S128x4x2x16x1, .i32⟩
  | 108 => ⟨S64, .i32⟩
  | 109 => ⟨S1x1x1x1x64, .i32⟩
  | 110 => ⟨S128x4x2x16x64, .i32⟩
  | 111 => ⟨S128x4x2x16x64, .i32⟩
  | 112 => ⟨S128x4x2x16x64, .i32⟩
  | 113 => ⟨S1x4x1x1x1, .i32⟩
  | 114 => ⟨S128x4x2x16x64, .i32⟩
  | 115 => ⟨S128x4x2x16x64, .i32⟩
  | 116 => ⟨S2x32x4, .f32⟩
  | 117 => ⟨S2, .i32⟩
  | 118 => ⟨S1x1x2x1x1, .i32⟩
  | 119 => ⟨S_, .i32⟩
  | 120 => ⟨S128x4x2x16x64, .i32⟩
  | 121 => ⟨S128x4x2x16x64, .i32⟩
  | 122 => ⟨S_, .i32⟩
  | 123 => ⟨S128x4x2x16x64, .i32⟩
  | 124 => ⟨S128x4x2x16x64, .i32⟩
  | 125 => ⟨S128x4x2x16x64, .f32⟩
  | 126 => ⟨S_, .f32⟩
  | 127 => ⟨S128x4x2x16x64, .f32⟩
  | _ => ⟨S128x4x1024, .f32⟩

abbrev hbmTy0_5 (i : Nat) : BufTy := match i % 128 with
  | 0 => ⟨S128x4x2x16x64, .f32⟩
  | 1 => ⟨S128x4x2x16x64, .f32⟩
  | 2 => ⟨S_, .f32⟩
  | 3 => ⟨S128x4x2x16x64, .f32⟩
  | 4 => ⟨S128x4x2x16x64, .f32⟩
  | 5 => ⟨S_, .f32⟩
  | 6 => ⟨S128x4x2x16x64, .f32⟩
  | 7 => ⟨S128x4x2x16x64, .f32⟩
  | 8 => ⟨S128x4x2x16x64, .i32⟩
  | 9 => ⟨S_, .i32⟩
  | 10 => ⟨S128x4x2x16x64, .i32⟩
  | 11 => ⟨S128x4x2x16x64, .i32⟩
  | 12 => ⟨S_, .i32⟩
  | 13 => ⟨S128x4x2x16x64, .i32⟩
  | 14 => ⟨S128x4x2x16x64, .i1⟩
  | 15 => ⟨S_, .i32⟩
  | 16 => ⟨S128x4x2x16x64, .i32⟩
  | 17 => ⟨S128x4x2x16x64, .i32⟩
  | 18 => ⟨S128x4x2x16x64, .i32⟩
  | 19 => ⟨S_, .i32⟩
  | 20 => ⟨S1x1x2x1x1, .i32⟩
  | 21 => ⟨S1x1x2x1x1, .i1⟩
  | 22 => ⟨S_, .i32⟩
  | 23 => ⟨S1x1x2x1x1, .i32⟩
  | 24 => ⟨S1x1x2x1x1, .i32⟩
  | 25 => ⟨S1x1x2x1x1, .i32⟩
  | 26 => ⟨S_, .i32⟩
  | 27 => ⟨S128x4x2x16x64, .i32⟩
  | 28 => ⟨S128x4x2x16x64, .i1⟩
  | 29 => ⟨S_, .i32⟩
  | 30 => ⟨S128x4x2x16x64, .i32⟩
  | 31 => ⟨S128x4x2x16x64, .i32⟩
  | 32 => ⟨S128x4x2x16x64, .i32⟩
  | 33 => ⟨S128x4x2x16x64, .i32⟩
  | 34 => ⟨S128x4x2x16x64x1, .i32⟩
  | 35 => ⟨S128x4x2x16x64x1, .i32⟩
  | 36 => ⟨S128x4x2x16x64x2, .i32⟩
  | 37 => ⟨S128x4x2x16x64x4, .f32⟩
  | 38 => ⟨S128x4x2x4x16x64, .f32⟩
  | 39 => ⟨S128x4x2x4x16x64, .f32⟩
  | 40 => ⟨S_, .i32⟩
  | 41 => ⟨S128x4x2x16x64, .i32⟩
  | 42 => ⟨S128x4x2x16x64, .i1⟩
  | 43 => ⟨S128x4x2x1x16x64, .i1⟩
  | 44 => ⟨S_, .f32⟩
  | 45 => ⟨S_, .f32⟩
  | 46 => ⟨S128x4x2x4x16x64, .i1⟩
  | 47 => ⟨S128x4x2x4x16x64, .f32⟩
  | 48 => ⟨S128x4x2x4x16x64, .f32⟩
  | 49 => ⟨S_, .f32⟩
  | 50 => ⟨S128x4x2x4, .f32⟩
  | 51 => ⟨S128x4x2x4x1x1, .f32⟩
  | 52 => ⟨S128x4x2x4x1x1, .f32⟩
  | 53 => ⟨S_, .f32⟩
  | 54 => ⟨S128x4x2x4x1x1, .f32⟩
  | 55 => ⟨S128x4x2x4x1x1, .i1⟩
  | 56 => ⟨S_, .f32⟩
  | 57 => ⟨S_, .f32⟩
  | 58 => ⟨S128x4x2x4x1x1, .f32⟩
  | 59 => ⟨S128x4x2x4x1x1, .f32⟩
  | 60 => ⟨S128x4x2x4x16x64, .f32⟩
  | 61 => ⟨S128x4x2x4x16x64, .f32⟩
  | 62 => ⟨S128x4x2x4x16x64, .f32⟩
  | 63 => ⟨S_, .f32⟩
  | 64 => ⟨S_, .f32⟩
  | 65 => ⟨S128x4x2x4x16x64, .i1⟩
  | 66 => ⟨S128x4x2x4x16x64, .f32⟩
  | 67 => ⟨S128x4x2x4x16x64, .f32⟩
  | 68 => ⟨S_, .f32⟩
  | 69 => ⟨S128x4x2x4, .f32⟩
  | 70 => ⟨S128x4x2x4x1x1, .f32⟩
  | 71 => ⟨S_, .f32⟩
  | 72 => ⟨S128x4x2x4x1x1, .f32⟩
  | 73 => ⟨S128x4x2x4x1x1, .i1⟩
  | 74 => ⟨S_, .f32⟩
  | 75 => ⟨S_, .f32⟩
  | 76 => ⟨S128x4x2x4x1x1, .f32⟩
  | 77 => ⟨S128x4x2x4x1x1, .f32⟩
  | 78 => ⟨S128x4x2x4x16x64, .f32⟩
  | 79 => ⟨S128x4x2x4x16x64, .f32⟩
  | 80 => ⟨S128x4x2x4x64, .f32⟩
  | 81 => ⟨S128x2x516x4x4, .f32⟩
  | 82 => ⟨S128x4x2x4x516, .f32⟩
  | 83 => ⟨S_, .f32⟩
  | 84 => ⟨S128x4x2x4x516, .f32⟩
  | 85 => ⟨S128x4x2x4x516, .f32⟩
  | 86 => ⟨S4x1, .i32⟩
  | 87 => ⟨S1x516, .i32⟩
  | 88 => ⟨S4x516, .i32⟩
  | 89 => ⟨S4x516, .i32⟩
  | 90 => ⟨S4x516, .i32⟩
  | 91 => ⟨S_, .i32⟩
  | 92 => ⟨S4x516, .i32⟩
  | 93 => ⟨S4x516, .i32⟩
  | 94 => ⟨S_, .i32⟩
  | 95 => ⟨S4x516, .i32⟩
  | 96 => ⟨S4x516, .i32⟩
  | 97 => ⟨S4x516, .f32⟩
  | 98 => ⟨S_, .f32⟩
  | 99 => ⟨S4x516, .f32⟩
  | 100 => ⟨S4x516, .f32⟩
  | 101 => ⟨S4x516, .f32⟩
  | 102 => ⟨S_, .f32⟩
  | 103 => ⟨S4x516, .f32⟩
  | 104 => ⟨S4x516, .f32⟩
  | 105 => ⟨S_, .f32⟩
  | 106 => ⟨S4x516, .f32⟩
  | 107 => ⟨S4x516, .f32⟩
  | 108 => ⟨S4x516, .i32⟩
  | 109 => ⟨S_, .i32⟩
  | 110 => ⟨S4x516, .i32⟩
  | 111 => ⟨S4x516, .i32⟩
  | 112 => ⟨S_, .i32⟩
  | 113 => ⟨S4x516, .i32⟩
  | 114 => ⟨S4x516, .i1⟩
  | 115 => ⟨S_, .i32⟩
  | 116 => ⟨S4x516, .i32⟩
  | 117 => ⟨S4x516, .i32⟩
  | 118 => ⟨S4x516, .i32⟩
  | 119 => ⟨S_, .i32⟩
  | 120 => ⟨S4x516, .i32⟩
  | 121 => ⟨S4x516, .i1⟩
  | 122 => ⟨S_, .i32⟩
  | 123 => ⟨S4x516, .i32⟩
  | 124 => ⟨S4x516, .i32⟩
  | 125 => ⟨S4x516, .i32⟩
  | 126 => ⟨S4x516x1, .i32⟩
  | 127 => ⟨S4x516x2x4, .f32⟩
  | _ => ⟨S128x4x1024, .f32⟩

abbrev hbmTy0_6 (i : Nat) : BufTy := match i % 128 with
  | 0 => ⟨S4x2x4x516, .f32⟩
  | 1 => ⟨S1x4x2x4x516, .f32⟩
  | 2 => ⟨S128x4x2x4x516, .f32⟩
  | 3 => ⟨S128x4x2x4x516, .f32⟩
  | 4 => ⟨S_, .i32⟩
  | 5 => ⟨S4x516, .i32⟩
  | 6 => ⟨S4x516, .i1⟩
  | 7 => ⟨S_, .i32⟩
  | 8 => ⟨S4x516, .i32⟩
  | 9 => ⟨S4x516, .i1⟩
  | 10 => ⟨S4x516, .i1⟩
  | 11 => ⟨S_, .i32⟩
  | 12 => ⟨S516, .i32⟩
  | 13 => ⟨S516, .i1⟩
  | 14 => ⟨S1x516, .i1⟩
  | 15 => ⟨S4x516, .i1⟩
  | 16 => ⟨S4x516, .i1⟩
  | 17 => ⟨S1x4x1x1x516, .i1⟩
  | 18 => ⟨S_, .f32⟩
  | 19 => ⟨S_, .f32⟩
  | 20 => ⟨S128x4x2x4x516, .i1⟩
  | 21 => ⟨S128x4x2x4x516, .f32⟩
  | 22 => ⟨S128x4x2x4x516, .f32⟩
  | 23 => ⟨S_, .f32⟩
  | 24 => ⟨S128x4x2x4, .f32⟩
  | 25 => ⟨S128x4x2x4x1, .f32⟩
  | 26 => ⟨S128x4x2x4x1, .f32⟩
  | 27 => ⟨S_, .f32⟩
  | 28 => ⟨S128x4x2x4x1, .f32⟩
  | 29 => ⟨S128x4x2x4x1, .i1⟩
  | 30 => ⟨S_, .f32⟩
  | 31 => ⟨S_, .f32⟩
  | 32 => ⟨S128x4x2x4x1, .f32⟩
  | 33 => ⟨S128x4x2x4x1, .f32⟩
  | 34 => ⟨S128x4x2x4x516, .f32⟩
  | 35 => ⟨S128x4x2x4x516, .f32⟩
  | 36 => ⟨S128x4x2x4x516, .f32⟩
  | 37 => ⟨S_, .f32⟩
  | 38 => ⟨S_, .f32⟩
  | 39 => ⟨S128x4x2x4x516, .i1⟩
  | 40 => ⟨S128x4x2x4x516, .f32⟩
  | 41 => ⟨S128x4x2x4x516, .f32⟩
  | 42 => ⟨S_, .f32⟩
  | 43 => ⟨S128x4x2x4, .f32⟩
  | 44 => ⟨S128x4x2x4x1, .f32⟩
  | 45 => ⟨S_, .f32⟩
  | 46 => ⟨S128x4x2x4x1, .f32⟩
  | 47 => ⟨S128x4x2x4x1, .i1⟩
  | 48 => ⟨S_, .f32⟩
  | 49 => ⟨S_, .f32⟩
  | 50 => ⟨S128x4x2x4x1, .f32⟩
  | 51 => ⟨S128x4x2x4x1, .f32⟩
  | 52 => ⟨S128x4x2x4x516, .f32⟩
  | 53 => ⟨S128x4x2x4x516, .f32⟩
  | 54 => ⟨S128x2x64x4x4, .f32⟩
  | 55 => ⟨S128x4x2x4x64, .f32⟩
  | 56 => ⟨S128x4x2x4x1, .f32⟩
  | 57 => ⟨S128x4x2x4x64, .f32⟩
  | 58 => ⟨S128x4x2x4x64, .f32⟩
  | 59 => ⟨S128x4x2x4x1, .f32⟩
  | 60 => ⟨S128x4x2x4x64, .f32⟩
  | 61 => ⟨S128x4x2x4x64, .f32⟩
  | 62 => ⟨S128x4x2x4x64, .f32⟩
  | 63 => ⟨S128x4x2x4x1, .f32⟩
  | 64 => ⟨S128x4x2x4x64, .f32⟩
  | 65 => ⟨S128x4x2x4x64, .f32⟩
  | 66 => ⟨S128x4x2x4x64, .f32⟩
  | 67 => ⟨S128x512x2x2x64, .f32⟩
  | 68 => ⟨S128x4x512, .f32⟩
  | 69 => ⟨S128x4x1x2x64, .f32⟩
  | 70 => ⟨S128x4x1x2x64, .f32⟩
  | 71 => ⟨S128x4x2x2x64, .f32⟩
  | 72 => ⟨S128x4x1x2x64, .f32⟩
  | 73 => ⟨S128x4x1x2x64, .f32⟩
  | 74 => ⟨S128x4x2x2x64, .f32⟩
  | 75 => ⟨S128x4x512, .f32⟩
  | 76 => ⟨S128x4x512, .f32⟩
  | 77 => ⟨S128x4x512, .f32⟩
  | 78 => ⟨S128x4x512, .f32⟩
  | 79 => ⟨S_, .f32⟩
  | 80 => ⟨S128x4x512, .f32⟩
  | 81 => ⟨S128x4x512, .f32⟩
  | 82 => ⟨S_, .f32⟩
  | 83 => ⟨S128x4x512, .f32⟩
  | 84 => ⟨S128x4x512, .f32⟩
  | 85 => ⟨S128x4x512, .f32⟩
  | 86 => ⟨S128x34x512, .f32⟩
  | 87 => ⟨S128x4x512, .f32⟩
  | 88 => ⟨S1x512, .f32⟩
  | 89 => ⟨S512, .f32⟩
  | 90 => ⟨S1x1x512, .f32⟩
  | 91 => ⟨S128x4x512, .f32⟩
  | 92 => ⟨S128x4x512, .f32⟩
  | 93 => ⟨S_, .f32⟩
  | 94 => ⟨S128x4x512, .f32⟩
  | 95 => ⟨S128x4x512, .f32⟩
  | 96 => ⟨S128x4x512, .f32⟩
  | 97 => ⟨S1x512, .f32⟩
  | 98 => ⟨S512, .f32⟩
  | 99 => ⟨S1x1x512, .f32⟩
  | 100 => ⟨S128x4x512, .f32⟩
  | 101 => ⟨S128x4x512, .f32⟩
  | 102 => ⟨S128x4x512, .f32⟩
  | 103 => ⟨S128x4x512, .f32⟩
  | 104 => ⟨S1x512, .f32⟩
  | 105 => ⟨S512, .f32⟩
  | 106 => ⟨S1x1x512, .f32⟩
  | 107 => ⟨S128x4x512, .f32⟩
  | 108 => ⟨S128x4x512, .f32⟩
  | 109 => ⟨S128x4x512, .f32⟩
  | 110 => ⟨S128x4x512, .f32⟩
  | 111 => ⟨S1x512, .f32⟩
  | 112 => ⟨S512, .f32⟩
  | 113 => ⟨S1x1x512, .f32⟩
  | 114 => ⟨S128x4x512, .f32⟩
  | 115 => ⟨S128x4x512, .f32⟩
  | 116 => ⟨S128x4x512, .f32⟩
  | 117 => ⟨S128x4x512, .f32⟩
  | 118 => ⟨S1x512, .f32⟩
  | 119 => ⟨S512, .f32⟩
  | 120 => ⟨S1x1x512, .f32⟩
  | 121 => ⟨S128x4x512, .f32⟩
  | 122 => ⟨S128x4x512, .f32⟩
  | 123 => ⟨S128x4x512, .f32⟩
  | 124 => ⟨S128x4x512, .f32⟩
  | 125 => ⟨S1x512, .f32⟩
  | 126 => ⟨S512, .f32⟩
  | 127 => ⟨S1x1x512, .f32⟩
  | _ => ⟨S128x4x1024, .f32⟩

abbrev hbmTy0_7 (i : Nat) : BufTy := match i % 128 with
  | 0 => ⟨S128x4x512, .f32⟩
  | 1 => ⟨S128x4x512, .f32⟩
  | 2 => ⟨S128x4x512, .f32⟩
  | 3 => ⟨S128x4x512, .f32⟩
  | 4 => ⟨S1x512, .f32⟩
  | 5 => ⟨S512, .f32⟩
  | 6 => ⟨S1x1x512, .f32⟩
  | 7 => ⟨S128x4x512, .f32⟩
  | 8 => ⟨S128x4x512, .f32⟩
  | 9 => ⟨S128x4x512, .f32⟩
  | 10 => ⟨S128x4x512, .f32⟩
  | 11 => ⟨S1x512, .f32⟩
  | 12 => ⟨S512, .f32⟩
  | 13 => ⟨S1x1x512, .f32⟩
  | 14 => ⟨S128x4x512, .f32⟩
  | 15 => ⟨S128x4x512, .f32⟩
  | 16 => ⟨S128x4x512, .f32⟩
  | 17 => ⟨S128x4x512, .f32⟩
  | 18 => ⟨S1x512, .f32⟩
  | 19 => ⟨S512, .f32⟩
  | 20 => ⟨S1x1x512, .f32⟩
  | 21 => ⟨S128x4x512, .f32⟩
  | 22 => ⟨S128x4x512, .f32⟩
  | 23 => ⟨S128x4x512, .f32⟩
  | 24 => ⟨S128x4x512, .f32⟩
  | 25 => ⟨S1x512, .f32⟩
  | 26 => ⟨S512, .f32⟩
  | 27 => ⟨S1x1x512, .f32⟩
  | 28 => ⟨S128x4x512, .f32⟩
  | 29 => ⟨S128x4x512, .f32⟩
  | 30 => ⟨S128x4x512, .f32⟩
  | 31 => ⟨S128x4x512, .f32⟩
  | 32 => ⟨S1x512, .f32⟩
  | 33 => ⟨S512, .f32⟩
  | 34 => ⟨S1x1x512, .f32⟩
  | 35 => ⟨S128x4x512, .f32⟩
  | 36 => ⟨S128x4x512, .f32⟩
  | 37 => ⟨S128x4x512, .f32⟩
  | 38 => ⟨S128x4x512, .f32⟩
  | 39 => ⟨S1x512, .f32⟩
  | 40 => ⟨S512, .f32⟩
  | 41 => ⟨S1x1x512, .f32⟩
  | 42 => ⟨S128x4x512, .f32⟩
  | 43 => ⟨S128x4x512, .f32⟩
  | 44 => ⟨S128x4x512, .f32⟩
  | 45 => ⟨S128x4x512, .f32⟩
  | 46 => ⟨S1x512, .f32⟩
  | 47 => ⟨S512, .f32⟩
  | 48 => ⟨S1x1x512, .f32⟩
  | 49 => ⟨S128x4x512, .f32⟩
  | 50 => ⟨S128x4x512, .f32⟩
  | 51 => ⟨S128x4x512, .f32⟩
  | 52 => ⟨S128x4x512, .f32⟩
  | 53 => ⟨S1x512, .f32⟩
  | 54 => ⟨S512, .f32⟩
  | 55 => ⟨S1x1x512, .f32⟩
  | 56 => ⟨S128x4x512, .f32⟩
  | 57 => ⟨S128x4x512, .f32⟩
  | 58 => ⟨S128x4x512, .f32⟩
  | 59 => ⟨S128x4x512, .f32⟩
  | 60 => ⟨S1x512, .f32⟩
  | 61 => ⟨S512, .f32⟩
  | 62 => ⟨S1x1x512, .f32⟩
  | 63 => ⟨S128x4x512, .f32⟩
  | 64 => ⟨S128x4x512, .f32⟩
  | 65 => ⟨S128x4x512, .f32⟩
  | 66 => ⟨S128x4x512, .f32⟩
  | 67 => ⟨S1x512, .f32⟩
  | 68 => ⟨S512, .f32⟩
  | 69 => ⟨S1x1x512, .f32⟩
  | 70 => ⟨S128x4x512, .f32⟩
  | 71 => ⟨S128x4x512, .f32⟩
  | 72 => ⟨S128x4x512, .f32⟩
  | 73 => ⟨S128x4x512, .f32⟩
  | 74 => ⟨S1x512, .f32⟩
  | 75 => ⟨S512, .f32⟩
  | 76 => ⟨S1x1x512, .f32⟩
  | 77 => ⟨S128x4x512, .f32⟩
  | 78 => ⟨S128x4x512, .f32⟩
  | 79 => ⟨S128x4x512, .f32⟩
  | 80 => ⟨S128x4x512, .f32⟩
  | 81 => ⟨S1x512, .f32⟩
  | 82 => ⟨S512, .f32⟩
  | 83 => ⟨S1x1x512, .f32⟩
  | 84 => ⟨S128x4x512, .f32⟩
  | 85 => ⟨S128x4x512, .f32⟩
  | 86 => ⟨S128x4x512, .f32⟩
  | 87 => ⟨S128x4x512, .f32⟩
  | 88 => ⟨S1x512, .f32⟩
  | 89 => ⟨S512, .f32⟩
  | 90 => ⟨S1x1x512, .f32⟩
  | 91 => ⟨S128x4x512, .f32⟩
  | 92 => ⟨S128x4x512, .f32⟩
  | 93 => ⟨S128x4x512, .f32⟩
  | 94 => ⟨S128x4x512, .f32⟩
  | 95 => ⟨S1x512, .f32⟩
  | 96 => ⟨S512, .f32⟩
  | 97 => ⟨S1x1x512, .f32⟩
  | 98 => ⟨S128x4x512, .f32⟩
  | 99 => ⟨S128x4x512, .f32⟩
  | 100 => ⟨S128x4x512, .f32⟩
  | 101 => ⟨S128x4x512, .f32⟩
  | 102 => ⟨S1x512, .f32⟩
  | 103 => ⟨S512, .f32⟩
  | 104 => ⟨S1x1x512, .f32⟩
  | 105 => ⟨S128x4x512, .f32⟩
  | 106 => ⟨S128x4x512, .f32⟩
  | 107 => ⟨S128x4x512, .f32⟩
  | 108 => ⟨S128x4x512, .f32⟩
  | 109 => ⟨S1x512, .f32⟩
  | 110 => ⟨S512, .f32⟩
  | 111 => ⟨S1x1x512, .f32⟩
  | 112 => ⟨S128x4x512, .f32⟩
  | 113 => ⟨S128x4x512, .f32⟩
  | 114 => ⟨S128x4x512, .f32⟩
  | 115 => ⟨S128x4x512, .f32⟩
  | 116 => ⟨S1x512, .f32⟩
  | 117 => ⟨S512, .f32⟩
  | 118 => ⟨S1x1x512, .f32⟩
  | 119 => ⟨S128x4x512, .f32⟩
  | 120 => ⟨S128x4x512, .f32⟩
  | 121 => ⟨S128x4x512, .f32⟩
  | 122 => ⟨S128x4x512, .f32⟩
  | 123 => ⟨S1x512, .f32⟩
  | 124 => ⟨S512, .f32⟩
  | 125 => ⟨S1x1x512, .f32⟩
  | 126 => ⟨S128x4x512, .f32⟩
  | 127 => ⟨S128x4x512, .f32⟩
  | _ => ⟨S128x4x1024, .f32⟩

abbrev hbmTy0_8 (i : Nat) : BufTy := match i % 128 with
  | 0 => ⟨S128x4x512, .f32⟩
  | 1 => ⟨S128x4x512, .f32⟩
  | 2 => ⟨S1x512, .f32⟩
  | 3 => ⟨S512, .f32⟩
  | 4 => ⟨S1x1x512, .f32⟩
  | 5 => ⟨S128x4x512, .f32⟩
  | 6 => ⟨S128x4x512, .f32⟩
  | 7 => ⟨S128x4x512, .f32⟩
  | 8 => ⟨S128x4x512, .f32⟩
  | 9 => ⟨S1x512, .f32⟩
  | 10 => ⟨S512, .f32⟩
  | 11 => ⟨S1x1x512, .f32⟩
  | 12 => ⟨S128x4x512, .f32⟩
  | 13 => ⟨S128x4x512, .f32⟩
  | 14 => ⟨S128x4x512, .f32⟩
  | 15 => ⟨S128x4x512, .f32⟩
  | 16 => ⟨S1x512, .f32⟩
  | 17 => ⟨S512, .f32⟩
  | 18 => ⟨S1x1x512, .f32⟩
  | 19 => ⟨S128x4x512, .f32⟩
  | 20 => ⟨S128x4x512, .f32⟩
  | 21 => ⟨S128x4x512, .f32⟩
  | 22 => ⟨S128x4x512, .f32⟩
  | 23 => ⟨S1x512, .f32⟩
  | 24 => ⟨S512, .f32⟩
  | 25 => ⟨S1x1x512, .f32⟩
  | 26 => ⟨S128x4x512, .f32⟩
  | 27 => ⟨S128x4x512, .f32⟩
  | 28 => ⟨S128x4x512, .f32⟩
  | 29 => ⟨S128x4x512, .f32⟩
  | 30 => ⟨S1x512, .f32⟩
  | 31 => ⟨S512, .f32⟩
  | 32 => ⟨S1x1x512, .f32⟩
  | 33 => ⟨S128x4x512, .f32⟩
  | 34 => ⟨S128x4x512, .f32⟩
  | 35 => ⟨S128x4x512, .f32⟩
  | 36 => ⟨S128x4x512, .f32⟩
  | 37 => ⟨S1x512, .f32⟩
  | 38 => ⟨S512, .f32⟩
  | 39 => ⟨S1x1x512, .f32⟩
  | 40 => ⟨S128x4x512, .f32⟩
  | 41 => ⟨S128x4x512, .f32⟩
  | 42 => ⟨S128x4x512, .f32⟩
  | 43 => ⟨S128x4x512, .f32⟩
  | 44 => ⟨S1x512, .f32⟩
  | 45 => ⟨S512, .f32⟩
  | 46 => ⟨S1x1x512, .f32⟩
  | 47 => ⟨S128x4x512, .f32⟩
  | 48 => ⟨S128x4x512, .f32⟩
  | 49 => ⟨S128x4x512, .f32⟩
  | 50 => ⟨S1x1x512, .f32⟩
  | 51 => ⟨S128x4x512, .f32⟩
  | 52 => ⟨S128x4x512, .f32⟩
  | 53 => ⟨S_, .f32⟩
  | 54 => ⟨S128x4, .f32⟩
  | 55 => ⟨S128x4x1, .f32⟩
  | 56 => ⟨S_, .f32⟩
  | 57 => ⟨S128x4x1, .f32⟩
  | 58 => ⟨S128x4x1, .f32⟩
  | 59 => ⟨S128x4x512, .f32⟩
  | 60 => ⟨S128x4x512, .f32⟩
  | 61 => ⟨S128x4x512, .f32⟩
  | 62 => ⟨S_, .f32⟩
  | 63 => ⟨S128x4, .f32⟩
  | 64 => ⟨S128x4x1, .f32⟩
  | 65 => ⟨S_, .f32⟩
  | 66 => ⟨S128x4x1, .f32⟩
  | 67 => ⟨S128x4x1, .f32⟩
  | 68 => ⟨S128x4x512, .f32⟩
  | 69 => ⟨S128x4x512, .f32⟩
  | 70 => ⟨S_, .f32⟩
  | 71 => ⟨S128x4x1, .f32⟩
  | 72 => ⟨S128x4x1, .f32⟩
  | 73 => ⟨S128x4x1, .f32⟩
  | 74 => ⟨S128x4x512, .f32⟩
  | 75 => ⟨S128x4x512, .f32⟩
  | 76 => ⟨S1x1x512, .f32⟩
  | 77 => ⟨S128x4x512, .f32⟩
  | 78 => ⟨S128x4x512, .f32⟩
  | 79 => ⟨S1x1x512, .f32⟩
  | 80 => ⟨S128x4x512, .f32⟩
  | 81 => ⟨S128x4x512, .f32⟩
  | 82 => ⟨S128x4x512, .f32⟩
  | 83 => ⟨S128x4x512, .f32⟩
  | 84 => ⟨S_, .f32⟩
  | 85 => ⟨S128x4x512, .f32⟩
  | 86 => ⟨S128x4x512, .f32⟩
  | 87 => ⟨S_, .f32⟩
  | 88 => ⟨S128x4x512, .f32⟩
  | 89 => ⟨S128x4x512, .f32⟩
  | 90 => ⟨S128x4x512, .f32⟩
  | 91 => ⟨S128x30x512, .f32⟩
  | 92 => ⟨S128x4x512, .f32⟩
  | 93 => ⟨S_, .f32⟩
  | 94 => ⟨S128x4, .f32⟩
  | 95 => ⟨S128x4x1, .f32⟩
  | 96 => ⟨S_, .f32⟩
  | 97 => ⟨S128x4x1, .f32⟩
  | 98 => ⟨S128x4x1, .f32⟩
  | 99 => ⟨S_, .f32⟩
  | 100 => ⟨S128x4x1, .f32⟩
  | 101 => ⟨S128x4x1, .f32⟩
  | 102 => ⟨S128x4x1, .f32⟩
  | 103 => ⟨S128x4x512, .f32⟩
  | 104 => ⟨S128x4x512, .f32⟩
  | 105 => ⟨S1x1x512, .f32⟩
  | 106 => ⟨S128x4x512, .f32⟩
  | 107 => ⟨S128x4x512, .f32⟩
  | 108 => ⟨S1x1x512, .f32⟩
  | 109 => ⟨S128x4x512, .f32⟩
  | 110 => ⟨S128x4x512, .f32⟩
  | 111 => ⟨S128x4x1024, .f32⟩
  | 112 => ⟨S512x1024, .f32⟩
  | 113 => ⟨S_, .i32⟩
  | 114 => ⟨S_, .f32⟩
  | 115 => ⟨S1024x1024, .f32⟩
  | 116 => ⟨S1024x1024, .bf16⟩
  | 117 => ⟨S512x1024, .f32⟩
  | 118 => ⟨S128x4x1024, .f32⟩
  | 119 => ⟨S128x4x1024, .f32⟩
  | 120 => ⟨S128x4x1024, .f32⟩
  | 121 => ⟨S128x4x1024, .f32⟩
  | 122 => ⟨S128x4x1024, .f32⟩
  | 123 => ⟨S_, .f32⟩
  | 124 => ⟨S128x4, .f32⟩
  | 125 => ⟨S128x4x1, .f32⟩
  | 126 => ⟨S_, .f32⟩
  | 127 => ⟨S128x4x1, .f32⟩
  | _ => ⟨S128x4x1024, .f32⟩

abbrev hbmTy0_9 (i : Nat) : BufTy := match i % 128 with
  | 0 => ⟨S128x4x1, .f32⟩
  | 1 => ⟨S_, .f32⟩
  | 2 => ⟨S128x4x1, .f32⟩
  | 3 => ⟨S128x4x1, .f32⟩
  | 4 => ⟨S128x4x1, .f32⟩
  | 5 => ⟨S128x4x1024, .f32⟩
  | 6 => ⟨S128x4x1024, .f32⟩
  | 7 => ⟨S1x1x1024, .f32⟩
  | 8 => ⟨S128x4x1024, .f32⟩
  | 9 => ⟨S128x4x1024, .f32⟩
  | 10 => ⟨S_, .f32⟩
  | 11 => ⟨S128x1x1024, .f32⟩
  | 12 => ⟨S128x1x1024, .f32⟩
  | 13 => ⟨S128x4x1024, .f32⟩
  | 14 => ⟨S128x4x1024, .f32⟩
  | 15 => ⟨S128x4x1024, .f32⟩
  | 16 => ⟨S128x4x1024, .f32⟩
  | 17 => ⟨S512x1024, .f32⟩
  | 18 => ⟨S_, .i32⟩
  | 19 => ⟨S_, .f32⟩
  | 20 => ⟨S1024x2048, .f32⟩
  | 21 => ⟨S1024x2048, .bf16⟩
  | 22 => ⟨S512x2048, .f32⟩
  | 23 => ⟨S2x256x1024, .f32⟩
  | 24 => ⟨S2x256x2048, .f32⟩
  | 25 => ⟨S_, .f32⟩
  | 26 => ⟨S2x256x1024, .f32⟩
  | 27 => ⟨S_, .i32⟩
  | 28 => ⟨S2x256x1024, .f32⟩
  | 29 => ⟨S2x256x2048, .f32⟩
  | 30 => ⟨S8x2x128x128, .f32⟩
  | 31 => ⟨S16384x1024, .f32⟩
  | 32 => ⟨S16384x1024, .f32⟩
  | 33 => ⟨S_, .i32⟩
  | 34 => ⟨S2x256x1024, .f32⟩
  | 35 => ⟨S_, .i32⟩
  | 36 => ⟨S_, .i1⟩
  | 37 => ⟨S_, .i32⟩
  | 38 => ⟨S_, .i32⟩
  | 39 => ⟨S1x256x1024, .f32⟩
  | 40 => ⟨S256x1024, .f32⟩
  | 41 => ⟨S_, .i32⟩
  | 42 => ⟨S_, .i32⟩
  | 43 => ⟨S1x256x2048, .f32⟩
  | 44 => ⟨S256x2048, .f32⟩
  | 45 => ⟨S256x8x2x128, .f32⟩
  | 46 => ⟨S8x2x128x256, .f32⟩
  | 47 => ⟨S256x8x2x128, .f32⟩
  | 48 => ⟨S256x8x1x128, .f32⟩
  | 49 => ⟨S256x8x128, .f32⟩
  | 50 => ⟨S256x8x16, .f32⟩
  | 51 => ⟨S256x8x16, .i32⟩
  | 52 => ⟨S256x8x1x128, .f32⟩
  | 53 => ⟨S256x8x128, .f32⟩
  | 54 => ⟨S256x8x16, .f32⟩
  | 55 => ⟨S256x8x16, .i32⟩
  | 56 => ⟨S256x8x16x1, .f32⟩
  | 57 => ⟨S256x8x1x16, .f32⟩
  | 58 => ⟨S256x8x16x16, .f32⟩
  | 59 => ⟨S256x8x16x16, .f32⟩
  | 60 => ⟨S256x8x16x16, .f32⟩
  | 61 => ⟨S256x8x256, .f32⟩
  | 62 => ⟨S256x8x16x1, .i32⟩
  | 63 => ⟨S_, .i32⟩
  | 64 => ⟨S256x8x16x1, .i32⟩
  | 65 => ⟨S256x8x16x1, .i32⟩
  | 66 => ⟨S256x8x1x16, .i32⟩
  | 67 => ⟨S256x8x16x16, .i32⟩
  | 68 => ⟨S256x8x16x16, .i32⟩
  | 69 => ⟨S256x8x16x16, .i32⟩
  | 70 => ⟨S256x8x256, .i32⟩
  | 71 => ⟨S256x8x16, .f32⟩
  | 72 => ⟨S256x8x16, .i32⟩
  | 73 => ⟨S_, .i32⟩
  | 74 => ⟨S256x8x16, .i32⟩
  | 75 => ⟨S256x8x16, .i1⟩
  | 76 => ⟨S_, .i32⟩
  | 77 => ⟨S256x8x16, .i32⟩
  | 78 => ⟨S256x8x16, .i32⟩
  | 79 => ⟨S256x8x16, .i32⟩
  | 80 => ⟨S256x8x16x1, .i32⟩
  | 81 => ⟨S1, .i32⟩
  | 82 => ⟨S_, .i32⟩
  | 83 => ⟨S256x8x16x1, .i32⟩
  | 84 => ⟨S256x8x16x1, .i1⟩
  | 85 => ⟨S1x1x1x1, .i32⟩
  | 86 => ⟨S256x8x16x1, .i32⟩
  | 87 => ⟨S256x8x16x1, .i1⟩
  | 88 => ⟨S256x8x16x1, .i1⟩
  | 89 => ⟨S_, .i1⟩
  | 90 => ⟨S256x8x16, .i1⟩
  | 91 => ⟨S256x8x16, .i32⟩
  | 92 => ⟨S_, .i32⟩
  | 93 => ⟨S256x8x16, .i32⟩
  | 94 => ⟨S256x8x16, .i32⟩
  | 95 => ⟨S_, .f32⟩
  | 96 => ⟨S256x8, .f32⟩
  | 97 => ⟨S_, .f32⟩
  | 98 => ⟨S256x8, .f32⟩
  | 99 => ⟨S256x8, .f32⟩
  | 100 => ⟨S256x8x1, .f32⟩
  | 101 => ⟨S256x8x16, .f32⟩
  | 102 => ⟨S256x8x16, .f32⟩
  | 103 => ⟨S256x8x16, .f32⟩
  | 104 => ⟨S_, .f32⟩
  | 105 => ⟨S256x8, .f32⟩
  | 106 => ⟨S256x8x1, .f32⟩
  | 107 => ⟨S256x8x16, .f32⟩
  | 108 => ⟨S256x8x16, .f32⟩
  | 109 => ⟨S_, .i32⟩
  | 110 => ⟨S256x8x16, .i32⟩
  | 111 => ⟨S256x8x16, .i1⟩
  | 112 => ⟨S_, .i32⟩
  | 113 => ⟨S256x8x16, .i32⟩
  | 114 => ⟨S256x8x16, .i32⟩
  | 115 => ⟨S256x8x16, .i32⟩
  | 116 => ⟨S256x8x16x1, .i32⟩
  | 117 => ⟨S256x8x16x1024, .f32⟩
  | 118 => ⟨S_, .i32⟩
  | 119 => ⟨S256x8x16, .i32⟩
  | 120 => ⟨S256x8x16, .i1⟩
  | 121 => ⟨S_, .i32⟩
  | 122 => ⟨S256x8x16, .i32⟩
  | 123 => ⟨S256x8x16, .i32⟩
  | 124 => ⟨S256x8x16, .i32⟩
  | 125 => ⟨S256x8x16x1, .i32⟩
  | 126 => ⟨S256x8x16x1024, .f32⟩
  | 127 => ⟨S256x8x16, .f32⟩
  | _ => ⟨S128x4x1024, .f32⟩

abbrev hbmTy0_10 (i : Nat) : BufTy := match i % 128 with
  | 0 => ⟨S256x8x16, .f32⟩
  | 1 => ⟨S256x8x16, .f32⟩
  | 2 => ⟨S_, .f32⟩
  | 3 => ⟨S256x8x16, .f32⟩
  | 4 => ⟨S256x8x16, .f32⟩
  | 5 => ⟨S256x8x16, .f32⟩
  | 6 => ⟨S_, .f32⟩
  | 7 => ⟨S256x8x16, .f32⟩
  | 8 => ⟨S256x8x16, .f32⟩
  | 9 => ⟨S256x8x16, .f32⟩
  | 10 => ⟨S_, .f32⟩
  | 11 => ⟨S256x8x16, .f32⟩
  | 12 => ⟨S256x8x16, .f32⟩
  | 13 => ⟨S_, .f32⟩
  | 14 => ⟨S256x8x16, .f32⟩
  | 15 => ⟨S256x8x16, .f32⟩
  | 16 => ⟨S256x8x16, .f32⟩
  | 17 => ⟨S256x8x16, .f32⟩
  | 18 => ⟨S256x1024, .f32⟩
  | 19 => ⟨S1x256x1024, .f32⟩
  | 20 => ⟨S_, .i32⟩
  | 21 => ⟨S_, .i32⟩
  | 22 => ⟨S2x256x1024, .f32⟩
  | 23 => ⟨S_, .i32⟩
  | 24 => ⟨S_, .i32⟩
  | 25 => ⟨S512x1024, .f32⟩
  | 26 => ⟨S128x4x1024, .f32⟩
  | 27 => ⟨S128x4x1024, .f32⟩
  | 28 => ⟨S128x4x1024, .f32⟩
  | 29 => ⟨S128x4x1024, .f32⟩
  | 30 => ⟨S1x128x4x2x2x64, .f32⟩
  | 31 => ⟨S1x128x4x2x2x64, .f32⟩
  | 32 => ⟨S1x128x512x2x2x64, .f32⟩
  | 33 => ⟨S1x128x30x512, .f32⟩
  | _ => ⟨S128x4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S128x4x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S1024x2432, .bf16⟩
  | .local _ .vmem, ⟨2, _⟩ => ⟨S512x2432, .f32⟩
  | .local _ .vmem, ⟨3, _⟩ => ⟨S512x1024, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1024x2048, .bf16⟩
  | .local _ .vmem, ⟨8, _⟩ => ⟨S512x2048, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst : Ref sig .tc := ⟨.hbm, 79, rfl⟩
abbrev main_v40 : Ref sig .tc := ⟨.hbm, 80, rfl⟩
abbrev main_v41 : Ref sig .tc := ⟨.hbm, 81, rfl⟩
abbrev main_cst_0 : Ref sig .tc := ⟨.hbm, 82, rfl⟩
abbrev main_v42 : Ref sig .tc := ⟨.hbm, 83, rfl⟩
abbrev main_v43 : Ref sig .tc := ⟨.hbm, 84, rfl⟩
abbrev main_cst_1 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_2 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c : Ref sig .tc := ⟨.hbm, 102, rfl⟩
abbrev main_call1_v0 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_3 : Ref sig .tc := ⟨.hbm, 120, rfl⟩
abbrev main_v75 : Ref sig .tc := ⟨.hbm, 121, rfl⟩
abbrev main_v76 : Ref sig .tc := ⟨.hbm, 122, rfl⟩
abbrev main_cst_4 : Ref sig .tc := ⟨.hbm, 123, rfl⟩
abbrev main_v77 : Ref sig .tc := ⟨.hbm, 124, rfl⟩
abbrev main_v78 : Ref sig .tc := ⟨.hbm, 125, rfl⟩
abbrev main_cst_5 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_6 : Ref sig .tc := ⟨.hbm, 139, rfl⟩
abbrev main_v91 : Ref sig .tc := ⟨.hbm, 140, rfl⟩
abbrev main_v92 : Ref sig .tc := ⟨.hbm, 141, rfl⟩
abbrev main_cst_7 : Ref sig .tc := ⟨.hbm, 142, rfl⟩
abbrev main_v93 : Ref sig .tc := ⟨.hbm, 143, rfl⟩
abbrev main_v94 : Ref sig .tc := ⟨.hbm, 144, rfl⟩
abbrev main_cst_8 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_9 : Ref sig .tc := ⟨.hbm, 158, rfl⟩
abbrev main_v107 : Ref sig .tc := ⟨.hbm, 159, rfl⟩
abbrev main_v108 : Ref sig .tc := ⟨.hbm, 160, rfl⟩
abbrev main_cst_10 : Ref sig .tc := ⟨.hbm, 161, rfl⟩
abbrev main_v109 : Ref sig .tc := ⟨.hbm, 162, rfl⟩
abbrev main_v110 : Ref sig .tc := ⟨.hbm, 163, rfl⟩
abbrev main_cst_11 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_12 : Ref sig .tc := ⟨.hbm, 176, rfl⟩
abbrev main_v122 : Ref sig .tc := ⟨.hbm, 177, rfl⟩
abbrev main_v123 : Ref sig .tc := ⟨.hbm, 178, rfl⟩
abbrev main_cst_13 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_c_14 : Ref sig .tc := ⟨.hbm, 187, rfl⟩
abbrev main_v131 : Ref sig .tc := ⟨.hbm, 188, rfl⟩
abbrev main_v132 : Ref sig .tc := ⟨.hbm, 189, rfl⟩
abbrev main_c_15 : Ref sig .tc := ⟨.hbm, 190, rfl⟩
abbrev main_v133 : Ref sig .tc := ⟨.hbm, 191, rfl⟩
abbrev main_v134 : Ref sig .tc := ⟨.hbm, 192, rfl⟩
abbrev main_c_16 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_c_17 : Ref sig .tc := ⟨.hbm, 200, rfl⟩
abbrev main_v141 : Ref sig .tc := ⟨.hbm, 201, rfl⟩
abbrev main_v142 : Ref sig .tc := ⟨.hbm, 202, rfl⟩
abbrev main_c_18 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_19 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_cst_20 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_cst_21 : Ref sig .tc := ⟨.hbm, 249, rfl⟩
abbrev main_v186 : Ref sig .tc := ⟨.hbm, 250, rfl⟩
abbrev main_v187 : Ref sig .tc := ⟨.hbm, 251, rfl⟩
abbrev main_cst_22 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_c_23 : Ref sig .tc := ⟨.hbm, 261, rfl⟩
abbrev main_v196 : Ref sig .tc := ⟨.hbm, 262, rfl⟩
abbrev main_v197 : Ref sig .tc := ⟨.hbm, 263, rfl⟩
abbrev main_c_24 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_cst_25 : Ref sig .tc := ⟨.hbm, 270, rfl⟩
abbrev main_v203 : Ref sig .tc := ⟨.hbm, 271, rfl⟩
abbrev main_v204 : Ref sig .tc := ⟨.hbm, 272, rfl⟩
abbrev main_cst_26 : Ref sig .tc := ⟨.hbm, 273, rfl⟩
abbrev main_v205 : Ref sig .tc := ⟨.hbm, 274, rfl⟩
abbrev main_v206 : Ref sig .tc := ⟨.hbm, 275, rfl⟩
abbrev main_cst_27 : Ref sig .tc := ⟨.hbm, 276, rfl⟩
abbrev main_v207 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_v244 : Ref sig .tc := ⟨.hbm, 314, rfl⟩
abbrev main_v245 : Ref sig .tc := ⟨.hbm, 315, rfl⟩
abbrev main_cst_28 : Ref sig .tc := ⟨.hbm, 316, rfl⟩
abbrev main_v246 : Ref sig .tc := ⟨.hbm, 317, rfl⟩
abbrev main_v247 : Ref sig .tc := ⟨.hbm, 318, rfl⟩
abbrev main_v248 : Ref sig .tc := ⟨.hbm, 319, rfl⟩
abbrev main_cst_29 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_cst_30 : Ref sig .tc := ⟨.hbm, 324, rfl⟩
abbrev main_v252 : Ref sig .tc := ⟨.hbm, 325, rfl⟩
abbrev main_v253 : Ref sig .tc := ⟨.hbm, 326, rfl⟩
abbrev main_cst_31 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_c_32 : Ref sig .tc := ⟨.hbm, 336, rfl⟩
abbrev main_v262 : Ref sig .tc := ⟨.hbm, 337, rfl⟩
abbrev main_v263 : Ref sig .tc := ⟨.hbm, 338, rfl⟩
abbrev main_c_33 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_c_34 : Ref sig .tc := ⟨.hbm, 345, rfl⟩
abbrev main_call2_v0 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_c_35 : Ref sig .tc := ⟨.hbm, 353, rfl⟩
abbrev main_call3_v0 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_c_36 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_cst_37 : Ref sig .tc := ⟨.hbm, 373, rfl⟩
abbrev main_v292 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_c_38 : Ref sig .tc := ⟨.hbm, 381, rfl⟩
abbrev main_v299 : Ref sig .tc := ⟨.hbm, 382, rfl⟩
abbrev main_v300 : Ref sig .tc := ⟨.hbm, 383, rfl⟩
abbrev main_c_39 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_cst_40 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_cst_41 : Ref sig .tc := ⟨.hbm, 392, rfl⟩
abbrev main_v307 : Ref sig .tc := ⟨.hbm, 393, rfl⟩
abbrev main_v308 : Ref sig .tc := ⟨.hbm, 394, rfl⟩
abbrev main_cst_42 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_c_43 : Ref sig .tc := ⟨.hbm, 399, rfl⟩
abbrev main_v312 : Ref sig .tc := ⟨.hbm, 400, rfl⟩
abbrev main_v313 : Ref sig .tc := ⟨.hbm, 401, rfl⟩
abbrev main_c_44 : Ref sig .tc := ⟨.hbm, 402, rfl⟩
abbrev main_v314 : Ref sig .tc := ⟨.hbm, 403, rfl⟩
abbrev main_v315 : Ref sig .tc := ⟨.hbm, 404, rfl⟩
abbrev main_c_45 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_c_46 : Ref sig .tc := ⟨.hbm, 409, rfl⟩
abbrev main_v319 : Ref sig .tc := ⟨.hbm, 410, rfl⟩
abbrev main_v320 : Ref sig .tc := ⟨.hbm, 411, rfl⟩
abbrev main_c_47 : Ref sig .tc := ⟨.hbm, 412, rfl⟩
abbrev main_v321 : Ref sig .tc := ⟨.hbm, 413, rfl⟩
abbrev main_v322 : Ref sig .tc := ⟨.hbm, 414, rfl⟩
abbrev main_v323 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_v328 : Ref sig .tc := ⟨.hbm, 420, rfl⟩
abbrev main_v329 : Ref sig .tc := ⟨.hbm, 421, rfl⟩
abbrev main_c_48 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_cst_49 : Ref sig .tc := ⟨.hbm, 426, rfl⟩
abbrev main_call5_v0 : Ref sig .tc := ⟨.hbm, 427, rfl⟩
abbrev main_call5_v1 : Ref sig .tc := ⟨.hbm, 428, rfl⟩
abbrev main_call5_v2 : Ref sig .tc := ⟨.hbm, 429, rfl⟩
abbrev main_v333 : Ref sig .tc := ⟨.hbm, 430, rfl⟩
abbrev main_cst_50 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_cst_51 : Ref sig .tc := ⟨.hbm, 435, rfl⟩
abbrev main_v337 : Ref sig .tc := ⟨.hbm, 436, rfl⟩
abbrev main_v338 : Ref sig .tc := ⟨.hbm, 437, rfl⟩
abbrev main_cst_52 : Ref sig .tc := ⟨.hbm, 438, rfl⟩
abbrev main_call6_v0 : Ref sig .tc := ⟨.hbm, 439, rfl⟩
abbrev main_call6_v1 : Ref sig .tc := ⟨.hbm, 440, rfl⟩
abbrev main_v339 : Ref sig .tc := ⟨.hbm, 441, rfl⟩
abbrev main_v340 : Ref sig .tc := ⟨.hbm, 442, rfl⟩
abbrev main_v341 : Ref sig .tc := ⟨.hbm, 443, rfl⟩
abbrev main_v342 : Ref sig .tc := ⟨.hbm, 444, rfl⟩
abbrev main_cst_53 : Ref sig .tc := ⟨.hbm, 445, rfl⟩
abbrev main_call7_v0 : Ref sig .tc := ⟨.hbm, 446, rfl⟩
abbrev main_call7_v1 : Ref sig .tc := ⟨.hbm, 447, rfl⟩
abbrev main_call7_v2 : Ref sig .tc := ⟨.hbm, 448, rfl⟩
abbrev main_v343 : Ref sig .tc := ⟨.hbm, 449, rfl⟩
abbrev main_cst_54 : Ref sig .tc := ⟨.hbm, 450, rfl⟩
abbrev main_v344 : Ref sig .tc := ⟨.hbm, 451, rfl⟩
abbrev main_v345 : Ref sig .tc := ⟨.hbm, 452, rfl⟩
abbrev main_cst_55 : Ref sig .tc := ⟨.hbm, 453, rfl⟩
abbrev main_v346 : Ref sig .tc := ⟨.hbm, 454, rfl⟩
abbrev main_v347 : Ref sig .tc := ⟨.hbm, 455, rfl⟩
abbrev main_cst_56 : Ref sig .tc := ⟨.hbm, 456, rfl⟩
abbrev main_call8_v0 : Ref sig .tc := ⟨.hbm, 457, rfl⟩
abbrev main_call8_v1 : Ref sig .tc := ⟨.hbm, 458, rfl⟩
abbrev main_v348 : Ref sig .tc := ⟨.hbm, 459, rfl⟩
abbrev main_v349 : Ref sig .tc := ⟨.hbm, 460, rfl⟩
abbrev main_v350 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_c_57 : Ref sig .tc := ⟨.hbm, 468, rfl⟩
abbrev main_v357 : Ref sig .tc := ⟨.hbm, 469, rfl⟩
abbrev main_v358 : Ref sig .tc := ⟨.hbm, 470, rfl⟩
abbrev main_c_58 : Ref sig .tc := ⟨.hbm, 471, rfl⟩
abbrev main_v359 : Ref sig .tc := ⟨.hbm, 472, rfl⟩
abbrev main_v360 : Ref sig .tc := ⟨.hbm, 473, rfl⟩
abbrev main_c_59 : Ref sig .tc := ⟨.hbm, 474, rfl⟩
abbrev main_v361 : Ref sig .tc := ⟨.hbm, 475, rfl⟩
abbrev main_v362 : Ref sig .tc := ⟨.hbm, 476, rfl⟩
abbrev main_v363 : Ref sig .tc := ⟨.hbm, 477, rfl⟩
abbrev main_v364 : Ref sig .tc := ⟨.hbm, 478, rfl⟩
abbrev main_v365 : Ref sig .tc := ⟨.hbm, 479, rfl⟩
abbrev main_c_60 : Ref sig .tc := ⟨.hbm, 480, rfl⟩
abbrev main_v366 : Ref sig .tc := ⟨.hbm, 481, rfl⟩
abbrev main_v367 : Ref sig .tc := ⟨.hbm, 482, rfl⟩
abbrev main_c_61 : Ref sig .tc := ⟨.hbm, 483, rfl⟩
abbrev main_v368 : Ref sig .tc := ⟨.hbm, 484, rfl⟩
abbrev main_v369 : Ref sig .tc := ⟨.hbm, 485, rfl⟩
abbrev main_c_62 : Ref sig .tc := ⟨.hbm, 486, rfl⟩
abbrev main_v370 : Ref sig .tc := ⟨.hbm, 487, rfl⟩
abbrev main_v371 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_cst_63 : Ref sig .tc := ⟨.hbm, 494, rfl⟩
abbrev main_v377 : Ref sig .tc := ⟨.hbm, 495, rfl⟩
abbrev main_v378 : Ref sig .tc := ⟨.hbm, 496, rfl⟩
abbrev main_c_64 : Ref sig .tc := ⟨.hbm, 497, rfl⟩
abbrev main_call9_v0 : Ref sig .tc := ⟨.hbm, 498, rfl⟩
abbrev main_call9_v1 : Ref sig .tc := ⟨.hbm, 499, rfl⟩
abbrev main_call9_v2 : Ref sig .tc := ⟨.hbm, 500, rfl⟩
abbrev main_call9_v3 : Ref sig .tc := ⟨.hbm, 501, rfl⟩
abbrev main_call9_v4 : Ref sig .tc := ⟨.hbm, 502, rfl⟩
abbrev main_call9_v5 : Ref sig .tc := ⟨.hbm, 503, rfl⟩
abbrev main_call9_v6 : Ref sig .tc := ⟨.hbm, 504, rfl⟩
abbrev main_call9_v7 : Ref sig .tc := ⟨.hbm, 505, rfl⟩
abbrev main_call9_v8 : Ref sig .tc := ⟨.hbm, 506, rfl⟩
abbrev main_call9_c : Ref sig .tc := ⟨.hbm, 507, rfl⟩
abbrev main_call9_v9 : Ref sig .tc := ⟨.hbm, 508, rfl⟩
abbrev main_call9_v10 : Ref sig .tc := ⟨.hbm, 509, rfl⟩
abbrev main_call9_v11 : Ref sig .tc := ⟨.hbm, 510, rfl⟩
abbrev main_call9_c_0 : Ref sig .tc := ⟨.hbm, 511, rfl⟩
abbrev main_call9_v12 : Ref sig .tc := ⟨.hbm, 512, rfl⟩
abbrev main_call9_v13 : Ref sig .tc := ⟨.hbm, 513, rfl⟩
abbrev main_v379 : Ref sig .tc := ⟨.hbm, 514, rfl⟩
abbrev main_v380 : Ref sig .tc := ⟨.hbm, 515, rfl⟩
abbrev main_c_65 : Ref sig .tc := ⟨.hbm, 516, rfl⟩
abbrev main_v381 : Ref sig .tc := ⟨.hbm, 517, rfl⟩
abbrev main_v382 : Ref sig .tc := ⟨.hbm, 518, rfl⟩
abbrev main_v383 : Ref sig .tc := ⟨.hbm, 519, rfl⟩
abbrev main_v384 : Ref sig .tc := ⟨.hbm, 520, rfl⟩
abbrev main_v385 : Ref sig .tc := ⟨.hbm, 521, rfl⟩
abbrev main_v386 : Ref sig .tc := ⟨.hbm, 522, rfl⟩
abbrev main_v387 : Ref sig .tc := ⟨.hbm, 523, rfl⟩
abbrev main_c_66 : Ref sig .tc := ⟨.hbm, 524, rfl⟩
abbrev main_v388 : Ref sig .tc := ⟨.hbm, 525, rfl⟩
abbrev main_v389 : Ref sig .tc := ⟨.hbm, 526, rfl⟩
abbrev main_v390 : Ref sig .tc := ⟨.hbm, 527, rfl⟩
abbrev main_v391 : Ref sig .tc := ⟨.hbm, 528, rfl⟩
abbrev main_v392 : Ref sig .tc := ⟨.hbm, 529, rfl⟩
abbrev main_v393 : Ref sig .tc := ⟨.hbm, 530, rfl⟩
abbrev main_c_67 : Ref sig .tc := ⟨.hbm, 531, rfl⟩
abbrev main_v394 : Ref sig .tc := ⟨.hbm, 532, rfl⟩
abbrev main_v395 : Ref sig .tc := ⟨.hbm, 533, rfl⟩
abbrev main_v396 : Ref sig .tc := ⟨.hbm, 534, rfl⟩
abbrev main_v397 : Ref sig .tc := ⟨.hbm, 535, rfl⟩
abbrev main_v398 : Ref sig .tc := ⟨.hbm, 536, rfl⟩
abbrev main_v399 : Ref sig .tc := ⟨.hbm, 537, rfl⟩
abbrev main_v400 : Ref sig .tc := ⟨.hbm, 538, rfl⟩
abbrev main_cst_68 : Ref sig .tc := ⟨.hbm, 539, rfl⟩
abbrev main_v401 : Ref sig .tc := ⟨.hbm, 540, rfl⟩
abbrev main_v402 : Ref sig .tc := ⟨.hbm, 541, rfl⟩
abbrev main_call10_v0 : Ref sig .tc := ⟨.hbm, 542, rfl⟩
abbrev main_v403 : Ref sig .tc := ⟨.hbm, 543, rfl⟩
abbrev main_v404 : Ref sig .tc := ⟨.hbm, 544, rfl⟩
abbrev main_cst_69 : Ref sig .tc := ⟨.hbm, 545, rfl⟩
abbrev main_call11_v0 : Ref sig .tc := ⟨.hbm, 546, rfl⟩
abbrev main_call11_v1 : Ref sig .tc := ⟨.hbm, 547, rfl⟩
abbrev main_call11_v2 : Ref sig .tc := ⟨.hbm, 548, rfl⟩
abbrev main_v405 : Ref sig .tc := ⟨.hbm, 549, rfl⟩
abbrev main_values : Ref sig .tc := ⟨.hbm, 550, rfl⟩
abbrev main_indices : Ref sig .tc := ⟨.hbm, 551, rfl⟩
abbrev main_v406 : Ref sig .tc := ⟨.hbm, 552, rfl⟩
abbrev main_v407 : Ref sig .tc := ⟨.hbm, 553, rfl⟩
abbrev main_v408 : Ref sig .tc := ⟨.hbm, 554, rfl⟩
abbrev main_v409 : Ref sig .tc := ⟨.hbm, 555, rfl⟩
abbrev main_c_70 : Ref sig .tc := ⟨.hbm, 556, rfl⟩
abbrev main_v410 : Ref sig .tc := ⟨.hbm, 557, rfl⟩
abbrev main_v411 : Ref sig .tc := ⟨.hbm, 558, rfl⟩
abbrev main_c_71 : Ref sig .tc := ⟨.hbm, 559, rfl⟩
abbrev main_v412 : Ref sig .tc := ⟨.hbm, 560, rfl⟩
abbrev main_v413 : Ref sig .tc := ⟨.hbm, 561, rfl⟩
abbrev main_v414 : Ref sig .tc := ⟨.hbm, 562, rfl⟩
abbrev main_c_72 : Ref sig .tc := ⟨.hbm, 563, rfl⟩
abbrev main_v415 : Ref sig .tc := ⟨.hbm, 564, rfl⟩
abbrev main_v416 : Ref sig .tc := ⟨.hbm, 565, rfl⟩
abbrev main_c_73 : Ref sig .tc := ⟨.hbm, 566, rfl⟩
abbrev main_v417 : Ref sig .tc := ⟨.hbm, 567, rfl⟩
abbrev main_v418 : Ref sig .tc := ⟨.hbm, 568, rfl⟩
abbrev main_v419 : Ref sig .tc := ⟨.hbm, 569, rfl⟩
abbrev main_c_74 : Ref sig .tc := ⟨.hbm, 570, rfl⟩
abbrev main_v420 : Ref sig .tc := ⟨.hbm, 571, rfl⟩
abbrev main_v421 : Ref sig .tc := ⟨.hbm, 572, rfl⟩
abbrev main_c_75 : Ref sig .tc := ⟨.hbm, 573, rfl⟩
abbrev main_v422 : Ref sig .tc := ⟨.hbm, 574, rfl⟩
abbrev main_v423 : Ref sig .tc := ⟨.hbm, 575, rfl⟩
abbrev main_v424 : Ref sig .tc := ⟨.hbm, 576, rfl⟩
abbrev main_v425 : Ref sig .tc := ⟨.hbm, 577, rfl⟩
abbrev main_v426 : Ref sig .tc := ⟨.hbm, 578, rfl⟩
abbrev main_v427 : Ref sig .tc := ⟨.hbm, 579, rfl⟩
abbrev main_v428 : Ref sig .tc := ⟨.hbm, 580, rfl⟩
abbrev main_v429 : Ref sig .tc := ⟨.hbm, 581, rfl⟩
abbrev main_v430 : Ref sig .tc := ⟨.hbm, 582, rfl⟩
abbrev main_v431 : Ref sig .tc := ⟨.hbm, 583, rfl⟩
abbrev main_c_76 : Ref sig .tc := ⟨.hbm, 584, rfl⟩
abbrev main_v432 : Ref sig .tc := ⟨.hbm, 585, rfl⟩
abbrev main_v433 : Ref sig .tc := ⟨.hbm, 586, rfl⟩
abbrev main_c_77 : Ref sig .tc := ⟨.hbm, 587, rfl⟩
abbrev main_v434 : Ref sig .tc := ⟨.hbm, 588, rfl⟩
abbrev main_v435 : Ref sig .tc := ⟨.hbm, 589, rfl⟩
abbrev main_v436 : Ref sig .tc := ⟨.hbm, 590, rfl⟩
abbrev main_c_78 : Ref sig .tc := ⟨.hbm, 591, rfl⟩
abbrev main_v437 : Ref sig .tc := ⟨.hbm, 592, rfl⟩
abbrev main_v438 : Ref sig .tc := ⟨.hbm, 593, rfl⟩
abbrev main_c_79 : Ref sig .tc := ⟨.hbm, 594, rfl⟩
abbrev main_v439 : Ref sig .tc := ⟨.hbm, 595, rfl⟩
abbrev main_v440 : Ref sig .tc := ⟨.hbm, 596, rfl⟩
abbrev main_v441 : Ref sig .tc := ⟨.hbm, 597, rfl⟩
abbrev main_c_80 : Ref sig .tc := ⟨.hbm, 598, rfl⟩
abbrev main_v442 : Ref sig .tc := ⟨.hbm, 599, rfl⟩
abbrev main_v443 : Ref sig .tc := ⟨.hbm, 600, rfl⟩
abbrev main_c_81 : Ref sig .tc := ⟨.hbm, 601, rfl⟩
abbrev main_v444 : Ref sig .tc := ⟨.hbm, 602, rfl⟩
abbrev main_v445 : Ref sig .tc := ⟨.hbm, 603, rfl⟩
abbrev main_v446 : Ref sig .tc := ⟨.hbm, 604, rfl⟩
abbrev main_v447 : Ref sig .tc := ⟨.hbm, 605, rfl⟩
abbrev main_v448 : Ref sig .tc := ⟨.hbm, 606, rfl⟩
abbrev main_v449 : Ref sig .tc := ⟨.hbm, 607, rfl⟩
abbrev main_v450 : Ref sig .tc := ⟨.hbm, 608, rfl⟩
abbrev main_v451 : Ref sig .tc := ⟨.hbm, 609, rfl⟩
abbrev main_v452 : Ref sig .tc := ⟨.hbm, 610, rfl⟩
abbrev main_v453 : Ref sig .tc := ⟨.hbm, 611, rfl⟩
abbrev main_v454 : Ref sig .tc := ⟨.hbm, 612, rfl⟩
abbrev main_cst_82 : Ref sig .tc := ⟨.hbm, 613, rfl⟩
abbrev main_v455 : Ref sig .tc := ⟨.hbm, 614, rfl⟩
abbrev main_v456 : Ref sig .tc := ⟨.hbm, 615, rfl⟩
abbrev main_v457 : Ref sig .tc := ⟨.hbm, 616, rfl⟩
abbrev main_c_83 : Ref sig .tc := ⟨.hbm, 617, rfl⟩
abbrev main_v458 : Ref sig .tc := ⟨.hbm, 618, rfl⟩
abbrev main_v459 : Ref sig .tc := ⟨.hbm, 619, rfl⟩
abbrev main_v460 : Ref sig .tc := ⟨.hbm, 620, rfl⟩
abbrev main_v461 : Ref sig .tc := ⟨.hbm, 621, rfl⟩
abbrev main_v462 : Ref sig .tc := ⟨.hbm, 622, rfl⟩
abbrev main_v463 : Ref sig .tc := ⟨.hbm, 623, rfl⟩
abbrev main_v464 : Ref sig .tc := ⟨.hbm, 624, rfl⟩
abbrev main_v465 : Ref sig .tc := ⟨.hbm, 625, rfl⟩
abbrev main_v466 : Ref sig .tc := ⟨.hbm, 626, rfl⟩
abbrev main_v467 : Ref sig .tc := ⟨.hbm, 627, rfl⟩
abbrev main_v468 : Ref sig .tc := ⟨.hbm, 628, rfl⟩
abbrev main_v469 : Ref sig .tc := ⟨.hbm, 629, rfl⟩
abbrev main_v470 : Ref sig .tc := ⟨.hbm, 630, rfl⟩
abbrev main_c_84 : Ref sig .tc := ⟨.hbm, 631, rfl⟩
abbrev main_v471 : Ref sig .tc := ⟨.hbm, 632, rfl⟩
abbrev main_v472 : Ref sig .tc := ⟨.hbm, 633, rfl⟩
abbrev main_c_85 : Ref sig .tc := ⟨.hbm, 634, rfl⟩
abbrev main_v473 : Ref sig .tc := ⟨.hbm, 635, rfl⟩
abbrev main_v474 : Ref sig .tc := ⟨.hbm, 636, rfl⟩
abbrev main_v475 : Ref sig .tc := ⟨.hbm, 637, rfl⟩
abbrev main_cst_86 : Ref sig .tc := ⟨.hbm, 638, rfl⟩
abbrev main_v476 : Ref sig .tc := ⟨.hbm, 639, rfl⟩
abbrev main_v477 : Ref sig .tc := ⟨.hbm, 640, rfl⟩
abbrev main_v478 : Ref sig .tc := ⟨.hbm, 641, rfl⟩
abbrev main_cst_87 : Ref sig .tc := ⟨.hbm, 642, rfl⟩
abbrev main_v479 : Ref sig .tc := ⟨.hbm, 643, rfl⟩
abbrev main_v480 : Ref sig .tc := ⟨.hbm, 644, rfl⟩
abbrev main_cst_88 : Ref sig .tc := ⟨.hbm, 645, rfl⟩
abbrev main_v481 : Ref sig .tc := ⟨.hbm, 646, rfl⟩
abbrev main_v482 : Ref sig .tc := ⟨.hbm, 647, rfl⟩
abbrev main_v483 : Ref sig .tc := ⟨.hbm, 648, rfl⟩
abbrev main_c_89 : Ref sig .tc := ⟨.hbm, 649, rfl⟩
abbrev main_v484 : Ref sig .tc := ⟨.hbm, 650, rfl⟩
abbrev main_v485 : Ref sig .tc := ⟨.hbm, 651, rfl⟩
abbrev main_c_90 : Ref sig .tc := ⟨.hbm, 652, rfl⟩
abbrev main_v486 : Ref sig .tc := ⟨.hbm, 653, rfl⟩
abbrev main_v487 : Ref sig .tc := ⟨.hbm, 654, rfl⟩
abbrev main_c_91 : Ref sig .tc := ⟨.hbm, 655, rfl⟩
abbrev main_v488 : Ref sig .tc := ⟨.hbm, 656, rfl⟩
abbrev main_v489 : Ref sig .tc := ⟨.hbm, 657, rfl⟩
abbrev main_v490 : Ref sig .tc := ⟨.hbm, 658, rfl⟩
abbrev main_c_92 : Ref sig .tc := ⟨.hbm, 659, rfl⟩
abbrev main_v491 : Ref sig .tc := ⟨.hbm, 660, rfl⟩
abbrev main_v492 : Ref sig .tc := ⟨.hbm, 661, rfl⟩
abbrev main_c_93 : Ref sig .tc := ⟨.hbm, 662, rfl⟩
abbrev main_v493 : Ref sig .tc := ⟨.hbm, 663, rfl⟩
abbrev main_v494 : Ref sig .tc := ⟨.hbm, 664, rfl⟩
abbrev main_v495 : Ref sig .tc := ⟨.hbm, 665, rfl⟩
abbrev main_c_94 : Ref sig .tc := ⟨.hbm, 666, rfl⟩
abbrev main_v496 : Ref sig .tc := ⟨.hbm, 667, rfl⟩
abbrev main_v497 : Ref sig .tc := ⟨.hbm, 668, rfl⟩
abbrev main_c_95 : Ref sig .tc := ⟨.hbm, 669, rfl⟩
abbrev main_v498 : Ref sig .tc := ⟨.hbm, 670, rfl⟩
abbrev main_v499 : Ref sig .tc := ⟨.hbm, 671, rfl⟩
abbrev main_v500 : Ref sig .tc := ⟨.hbm, 672, rfl⟩
abbrev main_v501 : Ref sig .tc := ⟨.hbm, 673, rfl⟩
abbrev main_v502 : Ref sig .tc := ⟨.hbm, 674, rfl⟩
abbrev main_v503 : Ref sig .tc := ⟨.hbm, 675, rfl⟩
abbrev main_v504 : Ref sig .tc := ⟨.hbm, 676, rfl⟩
abbrev main_v505 : Ref sig .tc := ⟨.hbm, 677, rfl⟩
abbrev main_v506 : Ref sig .tc := ⟨.hbm, 678, rfl⟩
abbrev main_v507 : Ref sig .tc := ⟨.hbm, 679, rfl⟩
abbrev main_c_96 : Ref sig .tc := ⟨.hbm, 680, rfl⟩
abbrev main_v508 : Ref sig .tc := ⟨.hbm, 681, rfl⟩
abbrev main_v509 : Ref sig .tc := ⟨.hbm, 682, rfl⟩
abbrev main_v510 : Ref sig .tc := ⟨.hbm, 683, rfl⟩
abbrev main_cst_97 : Ref sig .tc := ⟨.hbm, 684, rfl⟩
abbrev main_call13_v0 : Ref sig .tc := ⟨.hbm, 685, rfl⟩
abbrev main_call13_v1 : Ref sig .tc := ⟨.hbm, 686, rfl⟩
abbrev main_call13_v2 : Ref sig .tc := ⟨.hbm, 687, rfl⟩
abbrev main_v511 : Ref sig .tc := ⟨.hbm, 688, rfl⟩
abbrev main_cst_98 : Ref sig .tc := ⟨.hbm, 689, rfl⟩
abbrev main_v512 : Ref sig .tc := ⟨.hbm, 690, rfl⟩
abbrev main_v513 : Ref sig .tc := ⟨.hbm, 691, rfl⟩
abbrev main_v514 : Ref sig .tc := ⟨.hbm, 692, rfl⟩
abbrev main_cst_99 : Ref sig .tc := ⟨.hbm, 693, rfl⟩
abbrev main_v515 : Ref sig .tc := ⟨.hbm, 694, rfl⟩
abbrev main_v516 : Ref sig .tc := ⟨.hbm, 695, rfl⟩
abbrev main_cst_100 : Ref sig .tc := ⟨.hbm, 696, rfl⟩
abbrev main_call14_v0 : Ref sig .tc := ⟨.hbm, 697, rfl⟩
abbrev main_call14_v1 : Ref sig .tc := ⟨.hbm, 698, rfl⟩
abbrev main_v517 : Ref sig .tc := ⟨.hbm, 699, rfl⟩
abbrev main_v518 : Ref sig .tc := ⟨.hbm, 700, rfl⟩
abbrev main_v519 : Ref sig .tc := ⟨.hbm, 701, rfl⟩
abbrev main_v520 : Ref sig .tc := ⟨.hbm, 702, rfl⟩
abbrev main_cst_101 : Ref sig .tc := ⟨.hbm, 703, rfl⟩
abbrev main_call15_v0 : Ref sig .tc := ⟨.hbm, 704, rfl⟩
abbrev main_call15_v1 : Ref sig .tc := ⟨.hbm, 705, rfl⟩
abbrev main_call15_v2 : Ref sig .tc := ⟨.hbm, 706, rfl⟩
abbrev main_v521 : Ref sig .tc := ⟨.hbm, 707, rfl⟩
abbrev main_cst_102 : Ref sig .tc := ⟨.hbm, 708, rfl⟩
abbrev main_v522 : Ref sig .tc := ⟨.hbm, 709, rfl⟩
abbrev main_v523 : Ref sig .tc := ⟨.hbm, 710, rfl⟩
abbrev main_cst_103 : Ref sig .tc := ⟨.hbm, 711, rfl⟩
abbrev main_v524 : Ref sig .tc := ⟨.hbm, 712, rfl⟩
abbrev main_v525 : Ref sig .tc := ⟨.hbm, 713, rfl⟩
abbrev main_cst_104 : Ref sig .tc := ⟨.hbm, 714, rfl⟩
abbrev main_call16_v0 : Ref sig .tc := ⟨.hbm, 715, rfl⟩
abbrev main_call16_v1 : Ref sig .tc := ⟨.hbm, 716, rfl⟩
abbrev main_v526 : Ref sig .tc := ⟨.hbm, 717, rfl⟩
abbrev main_v527 : Ref sig .tc := ⟨.hbm, 718, rfl⟩
abbrev main_v528 : Ref sig .tc := ⟨.hbm, 719, rfl⟩
abbrev main_v529 : Ref sig .tc := ⟨.hbm, 720, rfl⟩
abbrev main_v530 : Ref sig .tc := ⟨.hbm, 721, rfl⟩
abbrev main_v531 : Ref sig .tc := ⟨.hbm, 722, rfl⟩
abbrev main_cst_105 : Ref sig .tc := ⟨.hbm, 723, rfl⟩
abbrev main_v532 : Ref sig .tc := ⟨.hbm, 724, rfl⟩
abbrev main_v533 : Ref sig .tc := ⟨.hbm, 725, rfl⟩
abbrev main_v534 : Ref sig .tc := ⟨.hbm, 726, rfl⟩
abbrev main_v535 : Ref sig .tc := ⟨.hbm, 727, rfl⟩
abbrev main_v536 : Ref sig .tc := ⟨.hbm, 728, rfl⟩
abbrev main_v537 : Ref sig .tc := ⟨.hbm, 729, rfl⟩
abbrev main_v538 : Ref sig .tc := ⟨.hbm, 730, rfl⟩
abbrev main_c_106 : Ref sig .tc := ⟨.hbm, 731, rfl⟩
abbrev main_v539 : Ref sig .tc := ⟨.hbm, 732, rfl⟩
abbrev main_v540 : Ref sig .tc := ⟨.hbm, 733, rfl⟩
abbrev main_c_107 : Ref sig .tc := ⟨.hbm, 734, rfl⟩
abbrev main_v541 : Ref sig .tc := ⟨.hbm, 735, rfl⟩
abbrev main_v542 : Ref sig .tc := ⟨.hbm, 736, rfl⟩
abbrev main_v543 : Ref sig .tc := ⟨.hbm, 737, rfl⟩
abbrev main_cst_108 : Ref sig .tc := ⟨.hbm, 738, rfl⟩
abbrev main_v544 : Ref sig .tc := ⟨.hbm, 739, rfl⟩
abbrev main_v545 : Ref sig .tc := ⟨.hbm, 740, rfl⟩
abbrev main_v546 : Ref sig .tc := ⟨.hbm, 741, rfl⟩
abbrev main_cst_109 : Ref sig .tc := ⟨.hbm, 742, rfl⟩
abbrev main_v547 : Ref sig .tc := ⟨.hbm, 743, rfl⟩
abbrev main_v548 : Ref sig .tc := ⟨.hbm, 744, rfl⟩
abbrev main_cst_110 : Ref sig .tc := ⟨.hbm, 745, rfl⟩
abbrev main_v549 : Ref sig .tc := ⟨.hbm, 746, rfl⟩
abbrev main_v550 : Ref sig .tc := ⟨.hbm, 747, rfl⟩
abbrev main_v551 : Ref sig .tc := ⟨.hbm, 748, rfl⟩
abbrev main_c_111 : Ref sig .tc := ⟨.hbm, 749, rfl⟩
abbrev main_v552 : Ref sig .tc := ⟨.hbm, 750, rfl⟩
abbrev main_v553 : Ref sig .tc := ⟨.hbm, 751, rfl⟩
abbrev main_c_112 : Ref sig .tc := ⟨.hbm, 752, rfl⟩
abbrev main_v554 : Ref sig .tc := ⟨.hbm, 753, rfl⟩
abbrev main_v555 : Ref sig .tc := ⟨.hbm, 754, rfl⟩
abbrev main_c_113 : Ref sig .tc := ⟨.hbm, 755, rfl⟩
abbrev main_v556 : Ref sig .tc := ⟨.hbm, 756, rfl⟩
abbrev main_v557 : Ref sig .tc := ⟨.hbm, 757, rfl⟩
abbrev main_v558 : Ref sig .tc := ⟨.hbm, 758, rfl⟩
abbrev main_c_114 : Ref sig .tc := ⟨.hbm, 759, rfl⟩
abbrev main_v559 : Ref sig .tc := ⟨.hbm, 760, rfl⟩
abbrev main_v560 : Ref sig .tc := ⟨.hbm, 761, rfl⟩
abbrev main_c_115 : Ref sig .tc := ⟨.hbm, 762, rfl⟩
abbrev main_v561 : Ref sig .tc := ⟨.hbm, 763, rfl⟩
abbrev main_v562 : Ref sig .tc := ⟨.hbm, 764, rfl⟩
abbrev main_v563 : Ref sig .tc := ⟨.hbm, 765, rfl⟩
abbrev main_v564 : Ref sig .tc := ⟨.hbm, 766, rfl⟩
abbrev main_v565 : Ref sig .tc := ⟨.hbm, 767, rfl⟩
abbrev main_v566 : Ref sig .tc := ⟨.hbm, 768, rfl⟩
abbrev main_v567 : Ref sig .tc := ⟨.hbm, 769, rfl⟩
abbrev main_v568 : Ref sig .tc := ⟨.hbm, 770, rfl⟩
abbrev main_v569 : Ref sig .tc := ⟨.hbm, 771, rfl⟩
abbrev main_c_116 : Ref sig .tc := ⟨.hbm, 772, rfl⟩
abbrev main_v570 : Ref sig .tc := ⟨.hbm, 773, rfl⟩
abbrev main_v571 : Ref sig .tc := ⟨.hbm, 774, rfl⟩
abbrev main_c_117 : Ref sig .tc := ⟨.hbm, 775, rfl⟩
abbrev main_v572 : Ref sig .tc := ⟨.hbm, 776, rfl⟩
abbrev main_v573 : Ref sig .tc := ⟨.hbm, 777, rfl⟩
abbrev main_v574 : Ref sig .tc := ⟨.hbm, 778, rfl⟩
abbrev main_c_118 : Ref sig .tc := ⟨.hbm, 779, rfl⟩
abbrev main_v575 : Ref sig .tc := ⟨.hbm, 780, rfl⟩
abbrev main_v576 : Ref sig .tc := ⟨.hbm, 781, rfl⟩
abbrev main_v577 : Ref sig .tc := ⟨.hbm, 782, rfl⟩
abbrev main_v578 : Ref sig .tc := ⟨.hbm, 783, rfl⟩
abbrev main_v579 : Ref sig .tc := ⟨.hbm, 784, rfl⟩
abbrev main_v580 : Ref sig .tc := ⟨.hbm, 785, rfl⟩
abbrev main_cst_119 : Ref sig .tc := ⟨.hbm, 786, rfl⟩
abbrev main_call18_v0 : Ref sig .tc := ⟨.hbm, 787, rfl⟩
abbrev main_call18_v1 : Ref sig .tc := ⟨.hbm, 788, rfl⟩
abbrev main_call18_v2 : Ref sig .tc := ⟨.hbm, 789, rfl⟩
abbrev main_v581 : Ref sig .tc := ⟨.hbm, 790, rfl⟩
abbrev main_cst_120 : Ref sig .tc := ⟨.hbm, 791, rfl⟩
abbrev main_v582 : Ref sig .tc := ⟨.hbm, 792, rfl⟩
abbrev main_v583 : Ref sig .tc := ⟨.hbm, 793, rfl⟩
abbrev main_v584 : Ref sig .tc := ⟨.hbm, 794, rfl⟩
abbrev main_cst_121 : Ref sig .tc := ⟨.hbm, 795, rfl⟩
abbrev main_v585 : Ref sig .tc := ⟨.hbm, 796, rfl⟩
abbrev main_v586 : Ref sig .tc := ⟨.hbm, 797, rfl⟩
abbrev main_cst_122 : Ref sig .tc := ⟨.hbm, 798, rfl⟩
abbrev main_call19_v0 : Ref sig .tc := ⟨.hbm, 799, rfl⟩
abbrev main_call19_v1 : Ref sig .tc := ⟨.hbm, 800, rfl⟩
abbrev main_v587 : Ref sig .tc := ⟨.hbm, 801, rfl⟩
abbrev main_v588 : Ref sig .tc := ⟨.hbm, 802, rfl⟩
abbrev main_v589 : Ref sig .tc := ⟨.hbm, 803, rfl⟩
abbrev main_v590 : Ref sig .tc := ⟨.hbm, 804, rfl⟩
abbrev main_cst_123 : Ref sig .tc := ⟨.hbm, 805, rfl⟩
abbrev main_call20_v0 : Ref sig .tc := ⟨.hbm, 806, rfl⟩
abbrev main_call20_v1 : Ref sig .tc := ⟨.hbm, 807, rfl⟩
abbrev main_call20_v2 : Ref sig .tc := ⟨.hbm, 808, rfl⟩
abbrev main_v591 : Ref sig .tc := ⟨.hbm, 809, rfl⟩
abbrev main_cst_124 : Ref sig .tc := ⟨.hbm, 810, rfl⟩
abbrev main_v592 : Ref sig .tc := ⟨.hbm, 811, rfl⟩
abbrev main_v593 : Ref sig .tc := ⟨.hbm, 812, rfl⟩
abbrev main_cst_125 : Ref sig .tc := ⟨.hbm, 813, rfl⟩
abbrev main_v594 : Ref sig .tc := ⟨.hbm, 814, rfl⟩
abbrev main_v595 : Ref sig .tc := ⟨.hbm, 815, rfl⟩
abbrev main_cst_126 : Ref sig .tc := ⟨.hbm, 816, rfl⟩
abbrev main_call21_v0 : Ref sig .tc := ⟨.hbm, 817, rfl⟩
abbrev main_call21_v1 : Ref sig .tc := ⟨.hbm, 818, rfl⟩
abbrev main_v596 : Ref sig .tc := ⟨.hbm, 819, rfl⟩
abbrev main_v597 : Ref sig .tc := ⟨.hbm, 820, rfl⟩
abbrev main_v598 : Ref sig .tc := ⟨.hbm, 821, rfl⟩
abbrev main_v599 : Ref sig .tc := ⟨.hbm, 822, rfl⟩
abbrev main_v600 : Ref sig .tc := ⟨.hbm, 823, rfl⟩
abbrev main_v601 : Ref sig .tc := ⟨.hbm, 824, rfl⟩
abbrev main_v602 : Ref sig .tc := ⟨.hbm, 825, rfl⟩
abbrev main_v603 : Ref sig .tc := ⟨.hbm, 826, rfl⟩
abbrev main_v604 : Ref sig .tc := ⟨.hbm, 827, rfl⟩
abbrev main_v605 : Ref sig .tc := ⟨.hbm, 828, rfl⟩
abbrev main_v606 : Ref sig .tc := ⟨.hbm, 829, rfl⟩
abbrev main_v607 : Ref sig .tc := ⟨.hbm, 830, rfl⟩
abbrev main_v608 : Ref sig .tc := ⟨.hbm, 831, rfl⟩
abbrev main_v609 : Ref sig .tc := ⟨.hbm, 832, rfl⟩
abbrev main_v610 : Ref sig .tc := ⟨.hbm, 833, rfl⟩
abbrev main_v611 : Ref sig .tc := ⟨.hbm, 834, rfl⟩
abbrev main_v612 : Ref sig .tc := ⟨.hbm, 835, rfl⟩
abbrev main_v613 : Ref sig .tc := ⟨.hbm, 836, rfl⟩
abbrev main_v614 : Ref sig .tc := ⟨.hbm, 837, rfl⟩
abbrev main_v615 : Ref sig .tc := ⟨.hbm, 838, rfl⟩
abbrev main_v616 : Ref sig .tc := ⟨.hbm, 839, rfl⟩
abbrev main_v617 : Ref sig .tc := ⟨.hbm, 840, rfl⟩
abbrev main_v618 : Ref sig .tc := ⟨.hbm, 841, rfl⟩
abbrev main_v619 : Ref sig .tc := ⟨.hbm, 842, rfl⟩
abbrev main_v620 : Ref sig .tc := ⟨.hbm, 843, rfl⟩
abbrev main_v621 : Ref sig .tc := ⟨.hbm, 844, rfl⟩
abbrev main_v622 : Ref sig .tc := ⟨.hbm, 845, rfl⟩
abbrev main_v623 : Ref sig .tc := ⟨.hbm, 846, rfl⟩
abbrev main_cst_127 : Ref sig .tc := ⟨.hbm, 847, rfl⟩
abbrev main_v624 : Ref sig .tc := ⟨.hbm, 848, rfl⟩
abbrev main_v625 : Ref sig .tc := ⟨.hbm, 849, rfl⟩
abbrev main_cst_128 : Ref sig .tc := ⟨.hbm, 850, rfl⟩
abbrev main_v626 : Ref sig .tc := ⟨.hbm, 851, rfl⟩
abbrev main_v627 : Ref sig .tc := ⟨.hbm, 852, rfl⟩
abbrev main_v628 : Ref sig .tc := ⟨.hbm, 853, rfl⟩
abbrev main_v629 : Ref sig .tc := ⟨.hbm, 854, rfl⟩
abbrev main_v630 : Ref sig .tc := ⟨.hbm, 855, rfl⟩
abbrev main_v631 : Ref sig .tc := ⟨.hbm, 856, rfl⟩
abbrev main_v632 : Ref sig .tc := ⟨.hbm, 857, rfl⟩
abbrev main_v633 : Ref sig .tc := ⟨.hbm, 858, rfl⟩
abbrev main_v634 : Ref sig .tc := ⟨.hbm, 859, rfl⟩
abbrev main_v635 : Ref sig .tc := ⟨.hbm, 860, rfl⟩
abbrev main_cst_129 : Ref sig .tc := ⟨.hbm, 861, rfl⟩
abbrev main_v636 : Ref sig .tc := ⟨.hbm, 862, rfl⟩
abbrev main_v637 : Ref sig .tc := ⟨.hbm, 863, rfl⟩
abbrev main_v638 : Ref sig .tc := ⟨.hbm, 864, rfl⟩
abbrev main_v639 : Ref sig .tc := ⟨.hbm, 865, rfl⟩
abbrev main_v640 : Ref sig .tc := ⟨.hbm, 866, rfl⟩
abbrev main_v641 : Ref sig .tc := ⟨.hbm, 867, rfl⟩
abbrev main_v642 : Ref sig .tc := ⟨.hbm, 868, rfl⟩
abbrev main_v643 : Ref sig .tc := ⟨.hbm, 869, rfl⟩
abbrev main_v644 : Ref sig .tc := ⟨.hbm, 870, rfl⟩
abbrev main_v645 : Ref sig .tc := ⟨.hbm, 871, rfl⟩
abbrev main_v646 : Ref sig .tc := ⟨.hbm, 872, rfl⟩
abbrev main_v647 : Ref sig .tc := ⟨.hbm, 873, rfl⟩
abbrev main_v648 : Ref sig .tc := ⟨.hbm, 874, rfl⟩
abbrev main_v649 : Ref sig .tc := ⟨.hbm, 875, rfl⟩
abbrev main_v650 : Ref sig .tc := ⟨.hbm, 876, rfl⟩
abbrev main_v651 : Ref sig .tc := ⟨.hbm, 877, rfl⟩
abbrev main_v652 : Ref sig .tc := ⟨.hbm, 878, rfl⟩
abbrev main_v653 : Ref sig .tc := ⟨.hbm, 879, rfl⟩
abbrev main_v654 : Ref sig .tc := ⟨.hbm, 880, rfl⟩
abbrev main_v655 : Ref sig .tc := ⟨.hbm, 881, rfl⟩
abbrev main_v656 : Ref sig .tc := ⟨.hbm, 882, rfl⟩
abbrev main_v657 : Ref sig .tc := ⟨.hbm, 883, rfl⟩
abbrev main_v658 : Ref sig .tc := ⟨.hbm, 884, rfl⟩
abbrev main_v659 : Ref sig .tc := ⟨.hbm, 885, rfl⟩
abbrev main_v660 : Ref sig .tc := ⟨.hbm, 886, rfl⟩
abbrev main_v661 : Ref sig .tc := ⟨.hbm, 887, rfl⟩
abbrev main_v662 : Ref sig .tc := ⟨.hbm, 888, rfl⟩
abbrev main_v663 : Ref sig .tc := ⟨.hbm, 889, rfl⟩
abbrev main_v664 : Ref sig .tc := ⟨.hbm, 890, rfl⟩
abbrev main_v665 : Ref sig .tc := ⟨.hbm, 891, rfl⟩
abbrev main_v666 : Ref sig .tc := ⟨.hbm, 892, rfl⟩
abbrev main_v667 : Ref sig .tc := ⟨.hbm, 893, rfl⟩
abbrev main_v668 : Ref sig .tc := ⟨.hbm, 894, rfl⟩
abbrev main_v669 : Ref sig .tc := ⟨.hbm, 895, rfl⟩
abbrev main_v670 : Ref sig .tc := ⟨.hbm, 896, rfl⟩
abbrev main_v671 : Ref sig .tc := ⟨.hbm, 897, rfl⟩
abbrev main_v672 : Ref sig .tc := ⟨.hbm, 898, rfl⟩
abbrev main_v673 : Ref sig .tc := ⟨.hbm, 899, rfl⟩
abbrev main_v674 : Ref sig .tc := ⟨.hbm, 900, rfl⟩
abbrev main_v675 : Ref sig .tc := ⟨.hbm, 901, rfl⟩
abbrev main_v676 : Ref sig .tc := ⟨.hbm, 902, rfl⟩
abbrev main_v677 : Ref sig .tc := ⟨.hbm, 903, rfl⟩
abbrev main_v678 : Ref sig .tc := ⟨.hbm, 904, rfl⟩
abbrev main_v679 : Ref sig .tc := ⟨.hbm, 905, rfl⟩
abbrev main_v680 : Ref sig .tc := ⟨.hbm, 906, rfl⟩
abbrev main_v681 : Ref sig .tc := ⟨.hbm, 907, rfl⟩
abbrev main_v682 : Ref sig .tc := ⟨.hbm, 908, rfl⟩
abbrev main_v683 : Ref sig .tc := ⟨.hbm, 909, rfl⟩
abbrev main_v684 : Ref sig .tc := ⟨.hbm, 910, rfl⟩
abbrev main_v685 : Ref sig .tc := ⟨.hbm, 911, rfl⟩
abbrev main_v686 : Ref sig .tc := ⟨.hbm, 912, rfl⟩
abbrev main_v687 : Ref sig .tc := ⟨.hbm, 913, rfl⟩
abbrev main_v688 : Ref sig .tc := ⟨.hbm, 914, rfl⟩
abbrev main_v689 : Ref sig .tc := ⟨.hbm, 915, rfl⟩
abbrev main_v690 : Ref sig .tc := ⟨.hbm, 916, rfl⟩
abbrev main_v691 : Ref sig .tc := ⟨.hbm, 917, rfl⟩
abbrev main_v692 : Ref sig .tc := ⟨.hbm, 918, rfl⟩
abbrev main_v693 : Ref sig .tc := ⟨.hbm, 919, rfl⟩
abbrev main_v694 : Ref sig .tc := ⟨.hbm, 920, rfl⟩
abbrev main_v695 : Ref sig .tc := ⟨.hbm, 921, rfl⟩
abbrev main_v696 : Ref sig .tc := ⟨.hbm, 922, rfl⟩
abbrev main_v697 : Ref sig .tc := ⟨.hbm, 923, rfl⟩
abbrev main_v698 : Ref sig .tc := ⟨.hbm, 924, rfl⟩
abbrev main_v699 : Ref sig .tc := ⟨.hbm, 925, rfl⟩
abbrev main_v700 : Ref sig .tc := ⟨.hbm, 926, rfl⟩
abbrev main_v701 : Ref sig .tc := ⟨.hbm, 927, rfl⟩
abbrev main_v702 : Ref sig .tc := ⟨.hbm, 928, rfl⟩
abbrev main_v703 : Ref sig .tc := ⟨.hbm, 929, rfl⟩
abbrev main_v704 : Ref sig .tc := ⟨.hbm, 930, rfl⟩
abbrev main_v705 : Ref sig .tc := ⟨.hbm, 931, rfl⟩
abbrev main_v706 : Ref sig .tc := ⟨.hbm, 932, rfl⟩
abbrev main_v707 : Ref sig .tc := ⟨.hbm, 933, rfl⟩
abbrev main_v708 : Ref sig .tc := ⟨.hbm, 934, rfl⟩
abbrev main_v709 : Ref sig .tc := ⟨.hbm, 935, rfl⟩
abbrev main_v710 : Ref sig .tc := ⟨.hbm, 936, rfl⟩
abbrev main_v711 : Ref sig .tc := ⟨.hbm, 937, rfl⟩
abbrev main_v712 : Ref sig .tc := ⟨.hbm, 938, rfl⟩
abbrev main_v713 : Ref sig .tc := ⟨.hbm, 939, rfl⟩
abbrev main_v714 : Ref sig .tc := ⟨.hbm, 940, rfl⟩
abbrev main_v715 : Ref sig .tc := ⟨.hbm, 941, rfl⟩
abbrev main_v716 : Ref sig .tc := ⟨.hbm, 942, rfl⟩
abbrev main_v717 : Ref sig .tc := ⟨.hbm, 943, rfl⟩
abbrev main_v718 : Ref sig .tc := ⟨.hbm, 944, rfl⟩
abbrev main_v719 : Ref sig .tc := ⟨.hbm, 945, rfl⟩
abbrev main_v720 : Ref sig .tc := ⟨.hbm, 946, rfl⟩
abbrev main_v721 : Ref sig .tc := ⟨.hbm, 947, rfl⟩
abbrev main_v722 : Ref sig .tc := ⟨.hbm, 948, rfl⟩
abbrev main_v723 : Ref sig .tc := ⟨.hbm, 949, rfl⟩
abbrev main_v724 : Ref sig .tc := ⟨.hbm, 950, rfl⟩
abbrev main_v725 : Ref sig .tc := ⟨.hbm, 951, rfl⟩
abbrev main_v726 : Ref sig .tc := ⟨.hbm, 952, rfl⟩
abbrev main_v727 : Ref sig .tc := ⟨.hbm, 953, rfl⟩
abbrev main_v728 : Ref sig .tc := ⟨.hbm, 954, rfl⟩
abbrev main_v729 : Ref sig .tc := ⟨.hbm, 955, rfl⟩
abbrev main_v730 : Ref sig .tc := ⟨.hbm, 956, rfl⟩
abbrev main_v731 : Ref sig .tc := ⟨.hbm, 957, rfl⟩
abbrev main_v732 : Ref sig .tc := ⟨.hbm, 958, rfl⟩
abbrev main_v733 : Ref sig .tc := ⟨.hbm, 959, rfl⟩
abbrev main_v734 : Ref sig .tc := ⟨.hbm, 960, rfl⟩
abbrev main_v735 : Ref sig .tc := ⟨.hbm, 961, rfl⟩
abbrev main_v736 : Ref sig .tc := ⟨.hbm, 962, rfl⟩
abbrev main_v737 : Ref sig .tc := ⟨.hbm, 963, rfl⟩
abbrev main_v738 : Ref sig .tc := ⟨.hbm, 964, rfl⟩
abbrev main_v739 : Ref sig .tc := ⟨.hbm, 965, rfl⟩
abbrev main_v740 : Ref sig .tc := ⟨.hbm, 966, rfl⟩
abbrev main_v741 : Ref sig .tc := ⟨.hbm, 967, rfl⟩
abbrev main_v742 : Ref sig .tc := ⟨.hbm, 968, rfl⟩
abbrev main_v743 : Ref sig .tc := ⟨.hbm, 969, rfl⟩
abbrev main_v744 : Ref sig .tc := ⟨.hbm, 970, rfl⟩
abbrev main_v745 : Ref sig .tc := ⟨.hbm, 971, rfl⟩
abbrev main_v746 : Ref sig .tc := ⟨.hbm, 972, rfl⟩
abbrev main_v747 : Ref sig .tc := ⟨.hbm, 973, rfl⟩
abbrev main_v748 : Ref sig .tc := ⟨.hbm, 974, rfl⟩
abbrev main_v749 : Ref sig .tc := ⟨.hbm, 975, rfl⟩
abbrev main_v750 : Ref sig .tc := ⟨.hbm, 976, rfl⟩
abbrev main_v751 : Ref sig .tc := ⟨.hbm, 977, rfl⟩
abbrev main_v752 : Ref sig .tc := ⟨.hbm, 978, rfl⟩
abbrev main_v753 : Ref sig .tc := ⟨.hbm, 979, rfl⟩
abbrev main_v754 : Ref sig .tc := ⟨.hbm, 980, rfl⟩
abbrev main_v755 : Ref sig .tc := ⟨.hbm, 981, rfl⟩
abbrev main_v756 : Ref sig .tc := ⟨.hbm, 982, rfl⟩
abbrev main_v757 : Ref sig .tc := ⟨.hbm, 983, rfl⟩
abbrev main_v758 : Ref sig .tc := ⟨.hbm, 984, rfl⟩
abbrev main_v759 : Ref sig .tc := ⟨.hbm, 985, rfl⟩
abbrev main_v760 : Ref sig .tc := ⟨.hbm, 986, rfl⟩
abbrev main_v761 : Ref sig .tc := ⟨.hbm, 987, rfl⟩
abbrev main_v762 : Ref sig .tc := ⟨.hbm, 988, rfl⟩
abbrev main_v763 : Ref sig .tc := ⟨.hbm, 989, rfl⟩
abbrev main_v764 : Ref sig .tc := ⟨.hbm, 990, rfl⟩
abbrev main_v765 : Ref sig .tc := ⟨.hbm, 991, rfl⟩
abbrev main_v766 : Ref sig .tc := ⟨.hbm, 992, rfl⟩
abbrev main_v767 : Ref sig .tc := ⟨.hbm, 993, rfl⟩
abbrev main_v768 : Ref sig .tc := ⟨.hbm, 994, rfl⟩
abbrev main_v769 : Ref sig .tc := ⟨.hbm, 995, rfl⟩
abbrev main_v770 : Ref sig .tc := ⟨.hbm, 996, rfl⟩
abbrev main_v771 : Ref sig .tc := ⟨.hbm, 997, rfl⟩
abbrev main_v772 : Ref sig .tc := ⟨.hbm, 998, rfl⟩
abbrev main_v773 : Ref sig .tc := ⟨.hbm, 999, rfl⟩
abbrev main_v774 : Ref sig .tc := ⟨.hbm, 1000, rfl⟩
abbrev main_v775 : Ref sig .tc := ⟨.hbm, 1001, rfl⟩
abbrev main_v776 : Ref sig .tc := ⟨.hbm, 1002, rfl⟩
abbrev main_v777 : Ref sig .tc := ⟨.hbm, 1003, rfl⟩
abbrev main_v778 : Ref sig .tc := ⟨.hbm, 1004, rfl⟩
abbrev main_v779 : Ref sig .tc := ⟨.hbm, 1005, rfl⟩
abbrev main_v780 : Ref sig .tc := ⟨.hbm, 1006, rfl⟩
abbrev main_v781 : Ref sig .tc := ⟨.hbm, 1007, rfl⟩
abbrev main_v782 : Ref sig .tc := ⟨.hbm, 1008, rfl⟩
abbrev main_v783 : Ref sig .tc := ⟨.hbm, 1009, rfl⟩
abbrev main_v784 : Ref sig .tc := ⟨.hbm, 1010, rfl⟩
abbrev main_v785 : Ref sig .tc := ⟨.hbm, 1011, rfl⟩
abbrev main_v786 : Ref sig .tc := ⟨.hbm, 1012, rfl⟩
abbrev main_v787 : Ref sig .tc := ⟨.hbm, 1013, rfl⟩
abbrev main_v788 : Ref sig .tc := ⟨.hbm, 1014, rfl⟩
abbrev main_v789 : Ref sig .tc := ⟨.hbm, 1015, rfl⟩
abbrev main_v790 : Ref sig .tc := ⟨.hbm, 1016, rfl⟩
abbrev main_v791 : Ref sig .tc := ⟨.hbm, 1017, rfl⟩
abbrev main_v792 : Ref sig .tc := ⟨.hbm, 1018, rfl⟩
abbrev main_v793 : Ref sig .tc := ⟨.hbm, 1019, rfl⟩
abbrev main_v794 : Ref sig .tc := ⟨.hbm, 1020, rfl⟩
abbrev main_v795 : Ref sig .tc := ⟨.hbm, 1021, rfl⟩
abbrev main_v796 : Ref sig .tc := ⟨.hbm, 1022, rfl⟩
abbrev main_v797 : Ref sig .tc := ⟨.hbm, 1023, rfl⟩
abbrev main_v798 : Ref sig .tc := ⟨.hbm, 1024, rfl⟩
abbrev main_v799 : Ref sig .tc := ⟨.hbm, 1025, rfl⟩
abbrev main_v800 : Ref sig .tc := ⟨.hbm, 1026, rfl⟩
abbrev main_v801 : Ref sig .tc := ⟨.hbm, 1027, rfl⟩
abbrev main_v802 : Ref sig .tc := ⟨.hbm, 1028, rfl⟩
abbrev main_v803 : Ref sig .tc := ⟨.hbm, 1029, rfl⟩
abbrev main_v804 : Ref sig .tc := ⟨.hbm, 1030, rfl⟩
abbrev main_v805 : Ref sig .tc := ⟨.hbm, 1031, rfl⟩
abbrev main_v806 : Ref sig .tc := ⟨.hbm, 1032, rfl⟩
abbrev main_v807 : Ref sig .tc := ⟨.hbm, 1033, rfl⟩
abbrev main_v808 : Ref sig .tc := ⟨.hbm, 1034, rfl⟩
abbrev main_v809 : Ref sig .tc := ⟨.hbm, 1035, rfl⟩
abbrev main_v810 : Ref sig .tc := ⟨.hbm, 1036, rfl⟩
abbrev main_v811 : Ref sig .tc := ⟨.hbm, 1037, rfl⟩
abbrev main_v812 : Ref sig .tc := ⟨.hbm, 1038, rfl⟩
abbrev main_v813 : Ref sig .tc := ⟨.hbm, 1039, rfl⟩
abbrev main_v814 : Ref sig .tc := ⟨.hbm, 1040, rfl⟩
abbrev main_v815 : Ref sig .tc := ⟨.hbm, 1041, rfl⟩
abbrev main_v816 : Ref sig .tc := ⟨.hbm, 1042, rfl⟩
abbrev main_v817 : Ref sig .tc := ⟨.hbm, 1043, rfl⟩
abbrev main_v818 : Ref sig .tc := ⟨.hbm, 1044, rfl⟩
abbrev main_v819 : Ref sig .tc := ⟨.hbm, 1045, rfl⟩
abbrev main_v820 : Ref sig .tc := ⟨.hbm, 1046, rfl⟩
abbrev main_v821 : Ref sig .tc := ⟨.hbm, 1047, rfl⟩
abbrev main_v822 : Ref sig .tc := ⟨.hbm, 1048, rfl⟩
abbrev main_v823 : Ref sig .tc := ⟨.hbm, 1049, rfl⟩
abbrev main_v824 : Ref sig .tc := ⟨.hbm, 1050, rfl⟩
abbrev main_v825 : Ref sig .tc := ⟨.hbm, 1051, rfl⟩
abbrev main_v826 : Ref sig .tc := ⟨.hbm, 1052, rfl⟩
abbrev main_v827 : Ref sig .tc := ⟨.hbm, 1053, rfl⟩
abbrev main_v828 : Ref sig .tc := ⟨.hbm, 1054, rfl⟩
abbrev main_v829 : Ref sig .tc := ⟨.hbm, 1055, rfl⟩
abbrev main_v830 : Ref sig .tc := ⟨.hbm, 1056, rfl⟩
abbrev main_v831 : Ref sig .tc := ⟨.hbm, 1057, rfl⟩
abbrev main_v832 : Ref sig .tc := ⟨.hbm, 1058, rfl⟩
abbrev main_v833 : Ref sig .tc := ⟨.hbm, 1059, rfl⟩
abbrev main_v834 : Ref sig .tc := ⟨.hbm, 1060, rfl⟩
abbrev main_v835 : Ref sig .tc := ⟨.hbm, 1061, rfl⟩
abbrev main_v836 : Ref sig .tc := ⟨.hbm, 1062, rfl⟩
abbrev main_v837 : Ref sig .tc := ⟨.hbm, 1063, rfl⟩
abbrev main_v838 : Ref sig .tc := ⟨.hbm, 1064, rfl⟩
abbrev main_v839 : Ref sig .tc := ⟨.hbm, 1065, rfl⟩
abbrev main_v840 : Ref sig .tc := ⟨.hbm, 1066, rfl⟩
abbrev main_v841 : Ref sig .tc := ⟨.hbm, 1067, rfl⟩
abbrev main_v842 : Ref sig .tc := ⟨.hbm, 1068, rfl⟩
abbrev main_v843 : Ref sig .tc := ⟨.hbm, 1069, rfl⟩
abbrev main_v844 : Ref sig .tc := ⟨.hbm, 1070, rfl⟩
abbrev main_v845 : Ref sig .tc := ⟨.hbm, 1071, rfl⟩
abbrev main_v846 : Ref sig .tc := ⟨.hbm, 1072, rfl⟩
abbrev main_v847 : Ref sig .tc := ⟨.hbm, 1073, rfl⟩
abbrev main_v848 : Ref sig .tc := ⟨.hbm, 1074, rfl⟩
abbrev main_v849 : Ref sig .tc := ⟨.hbm, 1075, rfl⟩
abbrev main_v850 : Ref sig .tc := ⟨.hbm, 1076, rfl⟩
abbrev main_cst_130 : Ref sig .tc := ⟨.hbm, 1077, rfl⟩
abbrev main_v851 : Ref sig .tc := ⟨.hbm, 1078, rfl⟩
abbrev main_v852 : Ref sig .tc := ⟨.hbm, 1079, rfl⟩
abbrev main_cst_131 : Ref sig .tc := ⟨.hbm, 1080, rfl⟩
abbrev main_v853 : Ref sig .tc := ⟨.hbm, 1081, rfl⟩
abbrev main_v854 : Ref sig .tc := ⟨.hbm, 1082, rfl⟩
abbrev main_v855 : Ref sig .tc := ⟨.hbm, 1083, rfl⟩
abbrev main_v856 : Ref sig .tc := ⟨.hbm, 1084, rfl⟩
abbrev main_v857 : Ref sig .tc := ⟨.hbm, 1085, rfl⟩
abbrev main_cst_132 : Ref sig .tc := ⟨.hbm, 1086, rfl⟩
abbrev main_v858 : Ref sig .tc := ⟨.hbm, 1087, rfl⟩
abbrev main_v859 : Ref sig .tc := ⟨.hbm, 1088, rfl⟩
abbrev main_cst_133 : Ref sig .tc := ⟨.hbm, 1089, rfl⟩
abbrev main_v860 : Ref sig .tc := ⟨.hbm, 1090, rfl⟩
abbrev main_v861 : Ref sig .tc := ⟨.hbm, 1091, rfl⟩
abbrev main_v862 : Ref sig .tc := ⟨.hbm, 1092, rfl⟩
abbrev main_v863 : Ref sig .tc := ⟨.hbm, 1093, rfl⟩
abbrev main_cst_134 : Ref sig .tc := ⟨.hbm, 1094, rfl⟩
abbrev main_v864 : Ref sig .tc := ⟨.hbm, 1095, rfl⟩
abbrev main_v865 : Ref sig .tc := ⟨.hbm, 1096, rfl⟩
abbrev main_v866 : Ref sig .tc := ⟨.hbm, 1097, rfl⟩
abbrev main_v867 : Ref sig .tc := ⟨.hbm, 1098, rfl⟩
abbrev main_v868 : Ref sig .tc := ⟨.hbm, 1099, rfl⟩
abbrev main_v869 : Ref sig .tc := ⟨.hbm, 1100, rfl⟩
abbrev main_v870 : Ref sig .tc := ⟨.hbm, 1101, rfl⟩
abbrev main_v871 : Ref sig .tc := ⟨.hbm, 1102, rfl⟩
abbrev main_v872 : Ref sig .tc := ⟨.hbm, 1103, rfl⟩
abbrev main_v873 : Ref sig .tc := ⟨.hbm, 1104, rfl⟩
abbrev main_v874 : Ref sig .tc := ⟨.hbm, 1105, rfl⟩
abbrev main_call22_v0 : Ref sig .tc := ⟨.hbm, 1106, rfl⟩
abbrev main_call22_v1 : Ref sig .tc := ⟨.hbm, 1107, rfl⟩
abbrev main_call22_cst : Ref sig .tc := ⟨.hbm, 1108, rfl⟩
abbrev main_call22_v2 : Ref sig .tc := ⟨.hbm, 1109, rfl⟩
abbrev main_call22_v3 : Ref sig .tc := ⟨.hbm, 1110, rfl⟩
abbrev main_call22_cst_0 : Ref sig .tc := ⟨.hbm, 1111, rfl⟩
abbrev main_call22_v4 : Ref sig .tc := ⟨.hbm, 1112, rfl⟩
abbrev main_call22_v5 : Ref sig .tc := ⟨.hbm, 1113, rfl⟩
abbrev main_v875 : Ref sig .tc := ⟨.hbm, 1114, rfl⟩
abbrev main_v876 : Ref sig .tc := ⟨.hbm, 1115, rfl⟩
abbrev main_v877 : Ref sig .tc := ⟨.hbm, 1116, rfl⟩
abbrev main_cst_135 : Ref sig .tc := ⟨.hbm, 1117, rfl⟩
abbrev main_v878 : Ref sig .tc := ⟨.hbm, 1118, rfl⟩
abbrev main_v879 : Ref sig .tc := ⟨.hbm, 1119, rfl⟩
abbrev main_cst_136 : Ref sig .tc := ⟨.hbm, 1120, rfl⟩
abbrev main_v880 : Ref sig .tc := ⟨.hbm, 1121, rfl⟩
abbrev main_v881 : Ref sig .tc := ⟨.hbm, 1122, rfl⟩
abbrev main_cst_137 : Ref sig .tc := ⟨.hbm, 1123, rfl⟩
abbrev main_v882 : Ref sig .tc := ⟨.hbm, 1124, rfl⟩
abbrev main_v883 : Ref sig .tc := ⟨.hbm, 1125, rfl⟩
abbrev main_v884 : Ref sig .tc := ⟨.hbm, 1126, rfl⟩
abbrev main_v885 : Ref sig .tc := ⟨.hbm, 1127, rfl⟩
abbrev main_v886 : Ref sig .tc := ⟨.hbm, 1128, rfl⟩
abbrev main_v887 : Ref sig .tc := ⟨.hbm, 1129, rfl⟩
abbrev main_v888 : Ref sig .tc := ⟨.hbm, 1130, rfl⟩
abbrev main_v889 : Ref sig .tc := ⟨.hbm, 1131, rfl⟩
abbrev main_v890 : Ref sig .tc := ⟨.hbm, 1132, rfl⟩
abbrev main_v891 : Ref sig .tc := ⟨.hbm, 1133, rfl⟩
abbrev main_v892 : Ref sig .tc := ⟨.hbm, 1134, rfl⟩
abbrev main_v893 : Ref sig .tc := ⟨.hbm, 1135, rfl⟩
abbrev main_v894 : Ref sig .tc := ⟨.hbm, 1136, rfl⟩
abbrev main_c_138 : Ref sig .tc := ⟨.hbm, 1137, rfl⟩
abbrev main_call23_v0 : Ref sig .tc := ⟨.hbm, 1138, rfl⟩
abbrev main_v895 : Ref sig .tc := ⟨.hbm, 1139, rfl⟩
abbrev main_v896 : Ref sig .tc := ⟨.hbm, 1140, rfl⟩
abbrev main_v897 : Ref sig .tc := ⟨.hbm, 1141, rfl⟩
abbrev main_v898 : Ref sig .tc := ⟨.hbm, 1142, rfl⟩
abbrev main_v899 : Ref sig .tc := ⟨.hbm, 1143, rfl⟩
abbrev main_v900 : Ref sig .tc := ⟨.hbm, 1144, rfl⟩
abbrev main_v901 : Ref sig .tc := ⟨.hbm, 1145, rfl⟩
abbrev main_v902 : Ref sig .tc := ⟨.hbm, 1146, rfl⟩
abbrev main_cst_139 : Ref sig .tc := ⟨.hbm, 1147, rfl⟩
abbrev main_v903 : Ref sig .tc := ⟨.hbm, 1148, rfl⟩
abbrev main_v904 : Ref sig .tc := ⟨.hbm, 1149, rfl⟩
abbrev main_cst_140 : Ref sig .tc := ⟨.hbm, 1150, rfl⟩
abbrev main_v905 : Ref sig .tc := ⟨.hbm, 1151, rfl⟩
abbrev main_v906 : Ref sig .tc := ⟨.hbm, 1152, rfl⟩
abbrev main_cst_141 : Ref sig .tc := ⟨.hbm, 1153, rfl⟩
abbrev main_v907 : Ref sig .tc := ⟨.hbm, 1154, rfl⟩
abbrev main_v908 : Ref sig .tc := ⟨.hbm, 1155, rfl⟩
abbrev main_v909 : Ref sig .tc := ⟨.hbm, 1156, rfl⟩
abbrev main_v910 : Ref sig .tc := ⟨.hbm, 1157, rfl⟩
abbrev main_v911 : Ref sig .tc := ⟨.hbm, 1158, rfl⟩
abbrev main_v912 : Ref sig .tc := ⟨.hbm, 1159, rfl⟩
abbrev main_v913 : Ref sig .tc := ⟨.hbm, 1160, rfl⟩
abbrev main_v914 : Ref sig .tc := ⟨.hbm, 1161, rfl⟩
abbrev main_cst_142 : Ref sig .tc := ⟨.hbm, 1162, rfl⟩
abbrev main_v915 : Ref sig .tc := ⟨.hbm, 1163, rfl⟩
abbrev main_v916 : Ref sig .tc := ⟨.hbm, 1164, rfl⟩
abbrev main_v917 : Ref sig .tc := ⟨.hbm, 1165, rfl⟩
abbrev main_v918 : Ref sig .tc := ⟨.hbm, 1166, rfl⟩
abbrev main_v919 : Ref sig .tc := ⟨.hbm, 1167, rfl⟩
abbrev main_v920 : Ref sig .tc := ⟨.hbm, 1168, rfl⟩
abbrev main_v921 : Ref sig .tc := ⟨.hbm, 1169, rfl⟩
abbrev main_c_143 : Ref sig .tc := ⟨.hbm, 1170, rfl⟩
abbrev main_call24_v0 : Ref sig .tc := ⟨.hbm, 1171, rfl⟩
abbrev main_v922 : Ref sig .tc := ⟨.hbm, 1172, rfl⟩
abbrev main_v923 : Ref sig .tc := ⟨.hbm, 1173, rfl⟩
abbrev main_v924 : Ref sig .tc := ⟨.hbm, 1174, rfl⟩
abbrev main_v925 : Ref sig .tc := ⟨.hbm, 1175, rfl⟩
abbrev main_v926 : Ref sig .tc := ⟨.hbm, 1176, rfl⟩
abbrev main_cst_144 : Ref sig .tc := ⟨.hbm, 1177, rfl⟩
abbrev main_v927 : Ref sig .tc := ⟨.hbm, 1178, rfl⟩
abbrev main_c_145 : Ref sig .tc := ⟨.hbm, 1179, rfl⟩
abbrev main_v928_0 : Ref sig .tc := ⟨.hbm, 1180, rfl⟩
abbrev main_v928_1 : Ref sig .tc := ⟨.hbm, 1181, rfl⟩
abbrev main_v928_2 : Ref sig .tc := ⟨.hbm, 1182, rfl⟩
abbrev main_v928_3 : Ref sig .tc := ⟨.hbm, 1183, rfl⟩
abbrev main_v928_4 : Ref sig .tc := ⟨.hbm, 1184, rfl⟩
abbrev main_v928_5 : Ref sig .tc := ⟨.hbm, 1185, rfl⟩
abbrev main_v928_6 : Ref sig .tc := ⟨.hbm, 1186, rfl⟩
abbrev main_while0c_c_152 : Ref sig .tc := ⟨.hbm, 1187, rfl⟩
abbrev main_while0c_v938 : Ref sig .tc := ⟨.hbm, 1188, rfl⟩
abbrev main_while0b_call25_c : Ref sig .tc := ⟨.hbm, 1189, rfl⟩
abbrev main_while0b_call25_c_0 : Ref sig .tc := ⟨.hbm, 1190, rfl⟩
abbrev main_while0b_call25_v0 : Ref sig .tc := ⟨.hbm, 1191, rfl⟩
abbrev main_while0b_v938 : Ref sig .tc := ⟨.hbm, 1192, rfl⟩
abbrev main_while0b_call26_c : Ref sig .tc := ⟨.hbm, 1193, rfl⟩
abbrev main_while0b_call26_c_0 : Ref sig .tc := ⟨.hbm, 1194, rfl⟩
abbrev main_while0b_call26_v0 : Ref sig .tc := ⟨.hbm, 1195, rfl⟩
abbrev main_while0b_v939 : Ref sig .tc := ⟨.hbm, 1196, rfl⟩
abbrev main_while0b_v940 : Ref sig .tc := ⟨.hbm, 1197, rfl⟩
abbrev main_while0b_v941 : Ref sig .tc := ⟨.hbm, 1198, rfl⟩
abbrev main_while0b_v942 : Ref sig .tc := ⟨.hbm, 1199, rfl⟩
abbrev main_while0b_v943 : Ref sig .tc := ⟨.hbm, 1200, rfl⟩
abbrev main_while0b_v944 : Ref sig .tc := ⟨.hbm, 1201, rfl⟩
abbrev main_while0b_values_152 : Ref sig .tc := ⟨.hbm, 1202, rfl⟩
abbrev main_while0b_indices_153 : Ref sig .tc := ⟨.hbm, 1203, rfl⟩
abbrev main_while0b_v945 : Ref sig .tc := ⟨.hbm, 1204, rfl⟩
abbrev main_while0b_v946 : Ref sig .tc := ⟨.hbm, 1205, rfl⟩
abbrev main_while0b_values_154 : Ref sig .tc := ⟨.hbm, 1206, rfl⟩
abbrev main_while0b_indices_155 : Ref sig .tc := ⟨.hbm, 1207, rfl⟩
abbrev main_while0b_v947 : Ref sig .tc := ⟨.hbm, 1208, rfl⟩
abbrev main_while0b_v948 : Ref sig .tc := ⟨.hbm, 1209, rfl⟩
abbrev main_while0b_v949 : Ref sig .tc := ⟨.hbm, 1210, rfl⟩
abbrev main_while0b_v950 : Ref sig .tc := ⟨.hbm, 1211, rfl⟩
abbrev main_while0b_v951 : Ref sig .tc := ⟨.hbm, 1212, rfl⟩
abbrev main_while0b_v952 : Ref sig .tc := ⟨.hbm, 1213, rfl⟩
abbrev main_while0b_v953 : Ref sig .tc := ⟨.hbm, 1214, rfl⟩
abbrev main_while0b_c_156 : Ref sig .tc := ⟨.hbm, 1215, rfl⟩
abbrev main_while0b_v954 : Ref sig .tc := ⟨.hbm, 1216, rfl⟩
abbrev main_while0b_v955 : Ref sig .tc := ⟨.hbm, 1217, rfl⟩
abbrev main_while0b_v956 : Ref sig .tc := ⟨.hbm, 1218, rfl⟩
abbrev main_while0b_v957 : Ref sig .tc := ⟨.hbm, 1219, rfl⟩
abbrev main_while0b_v958 : Ref sig .tc := ⟨.hbm, 1220, rfl⟩
abbrev main_while0b_v959 : Ref sig .tc := ⟨.hbm, 1221, rfl⟩
abbrev main_while0b_v960 : Ref sig .tc := ⟨.hbm, 1222, rfl⟩
abbrev main_while0b_values_157 : Ref sig .tc := ⟨.hbm, 1223, rfl⟩
abbrev main_while0b_indices_158 : Ref sig .tc := ⟨.hbm, 1224, rfl⟩
abbrev main_while0b_call27_c : Ref sig .tc := ⟨.hbm, 1225, rfl⟩
abbrev main_while0b_call27_v0 : Ref sig .tc := ⟨.hbm, 1226, rfl⟩
abbrev main_while0b_call27_v1 : Ref sig .tc := ⟨.hbm, 1227, rfl⟩
abbrev main_while0b_call27_c_0 : Ref sig .tc := ⟨.hbm, 1228, rfl⟩
abbrev main_while0b_call27_v2 : Ref sig .tc := ⟨.hbm, 1229, rfl⟩
abbrev main_while0b_call27_v3 : Ref sig .tc := ⟨.hbm, 1230, rfl⟩
abbrev main_while0b_call27_v4 : Ref sig .tc := ⟨.hbm, 1231, rfl⟩
abbrev main_while0b_call27_v5 : Ref sig .tc := ⟨.hbm, 1232, rfl⟩
abbrev main_while0b_call27_c_1 : Ref sig .tc := ⟨.hbm, 1233, rfl⟩
abbrev main_while0b_call27_c_2 : Ref sig .tc := ⟨.hbm, 1234, rfl⟩
abbrev main_while0b_call27_v6 : Ref sig .tc := ⟨.hbm, 1235, rfl⟩
abbrev main_while0b_call27_v7 : Ref sig .tc := ⟨.hbm, 1236, rfl⟩
abbrev main_while0b_call27_v8 : Ref sig .tc := ⟨.hbm, 1237, rfl⟩
abbrev main_while0b_call27_v9 : Ref sig .tc := ⟨.hbm, 1238, rfl⟩
abbrev main_while0b_call27_v10 : Ref sig .tc := ⟨.hbm, 1239, rfl⟩
abbrev main_while0b_call27_v11 : Ref sig .tc := ⟨.hbm, 1240, rfl⟩
abbrev main_while0b_call27_c_3 : Ref sig .tc := ⟨.hbm, 1241, rfl⟩
abbrev main_while0b_call27_v12 : Ref sig .tc := ⟨.hbm, 1242, rfl⟩
abbrev main_while0b_call27_v13 : Ref sig .tc := ⟨.hbm, 1243, rfl⟩
abbrev main_while0b_call27_c_4 : Ref sig .tc := ⟨.hbm, 1244, rfl⟩
abbrev main_while0b_call27_v14 : Ref sig .tc := ⟨.hbm, 1245, rfl⟩
abbrev main_while0b_v961 : Ref sig .tc := ⟨.hbm, 1246, rfl⟩
abbrev main_while0b_cst_159 : Ref sig .tc := ⟨.hbm, 1247, rfl⟩
abbrev main_while0b_v962 : Ref sig .tc := ⟨.hbm, 1248, rfl⟩
abbrev main_while0b_cst_160 : Ref sig .tc := ⟨.hbm, 1249, rfl⟩
abbrev main_while0b_v963 : Ref sig .tc := ⟨.hbm, 1250, rfl⟩
abbrev main_while0b_v964 : Ref sig .tc := ⟨.hbm, 1251, rfl⟩
abbrev main_while0b_v965 : Ref sig .tc := ⟨.hbm, 1252, rfl⟩
abbrev main_while0b_v966 : Ref sig .tc := ⟨.hbm, 1253, rfl⟩
abbrev main_while0b_v967 : Ref sig .tc := ⟨.hbm, 1254, rfl⟩
abbrev main_while0b_v968 : Ref sig .tc := ⟨.hbm, 1255, rfl⟩
abbrev main_while0b_cst_161 : Ref sig .tc := ⟨.hbm, 1256, rfl⟩
abbrev main_while0b_v969 : Ref sig .tc := ⟨.hbm, 1257, rfl⟩
abbrev main_while0b_v970 : Ref sig .tc := ⟨.hbm, 1258, rfl⟩
abbrev main_while0b_v971 : Ref sig .tc := ⟨.hbm, 1259, rfl⟩
abbrev main_while0b_v972 : Ref sig .tc := ⟨.hbm, 1260, rfl⟩
abbrev main_while0b_c_162 : Ref sig .tc := ⟨.hbm, 1261, rfl⟩
abbrev main_while0b_v973 : Ref sig .tc := ⟨.hbm, 1262, rfl⟩
abbrev main_while0b_v974 : Ref sig .tc := ⟨.hbm, 1263, rfl⟩
abbrev main_while0b_c_163 : Ref sig .tc := ⟨.hbm, 1264, rfl⟩
abbrev main_while0b_v975 : Ref sig .tc := ⟨.hbm, 1265, rfl⟩
abbrev main_while0b_v976 : Ref sig .tc := ⟨.hbm, 1266, rfl⟩
abbrev main_while0b_v977 : Ref sig .tc := ⟨.hbm, 1267, rfl⟩
abbrev main_while0b_v978 : Ref sig .tc := ⟨.hbm, 1268, rfl⟩
abbrev main_while0b_v979 : Ref sig .tc := ⟨.hbm, 1269, rfl⟩
abbrev main_while0b_c_164 : Ref sig .tc := ⟨.hbm, 1270, rfl⟩
abbrev main_while0b_v980 : Ref sig .tc := ⟨.hbm, 1271, rfl⟩
abbrev main_while0b_v981 : Ref sig .tc := ⟨.hbm, 1272, rfl⟩
abbrev main_while0b_c_165 : Ref sig .tc := ⟨.hbm, 1273, rfl⟩
abbrev main_while0b_v982 : Ref sig .tc := ⟨.hbm, 1274, rfl⟩
abbrev main_while0b_v983 : Ref sig .tc := ⟨.hbm, 1275, rfl⟩
abbrev main_while0b_v984 : Ref sig .tc := ⟨.hbm, 1276, rfl⟩
abbrev main_while0b_v985 : Ref sig .tc := ⟨.hbm, 1277, rfl⟩
abbrev main_while0b_v986 : Ref sig .tc := ⟨.hbm, 1278, rfl⟩
abbrev main_while0b_v987 : Ref sig .tc := ⟨.hbm, 1279, rfl⟩
abbrev main_while0b_v988 : Ref sig .tc := ⟨.hbm, 1280, rfl⟩
abbrev main_while0b_v989 : Ref sig .tc := ⟨.hbm, 1281, rfl⟩
abbrev main_while0b_cst_166 : Ref sig .tc := ⟨.hbm, 1282, rfl⟩
abbrev main_while0b_v990 : Ref sig .tc := ⟨.hbm, 1283, rfl⟩
abbrev main_while0b_v991 : Ref sig .tc := ⟨.hbm, 1284, rfl⟩
abbrev main_while0b_v992 : Ref sig .tc := ⟨.hbm, 1285, rfl⟩
abbrev main_while0b_cst_167 : Ref sig .tc := ⟨.hbm, 1286, rfl⟩
abbrev main_while0b_v993 : Ref sig .tc := ⟨.hbm, 1287, rfl⟩
abbrev main_while0b_v994 : Ref sig .tc := ⟨.hbm, 1288, rfl⟩
abbrev main_while0b_v995 : Ref sig .tc := ⟨.hbm, 1289, rfl⟩
abbrev main_while0b_cst_168 : Ref sig .tc := ⟨.hbm, 1290, rfl⟩
abbrev main_while0b_v996 : Ref sig .tc := ⟨.hbm, 1291, rfl⟩
abbrev main_while0b_v997 : Ref sig .tc := ⟨.hbm, 1292, rfl⟩
abbrev main_while0b_cst_169 : Ref sig .tc := ⟨.hbm, 1293, rfl⟩
abbrev main_while0b_v998 : Ref sig .tc := ⟨.hbm, 1294, rfl⟩
abbrev main_while0b_v999 : Ref sig .tc := ⟨.hbm, 1295, rfl⟩
abbrev main_while0b_v1000 : Ref sig .tc := ⟨.hbm, 1296, rfl⟩
abbrev main_while0b_v1001 : Ref sig .tc := ⟨.hbm, 1297, rfl⟩
abbrev main_while0b_v1002 : Ref sig .tc := ⟨.hbm, 1298, rfl⟩
abbrev main_while0b_call28_v0 : Ref sig .tc := ⟨.hbm, 1299, rfl⟩
abbrev main_while0b_call28_c : Ref sig .tc := ⟨.hbm, 1300, rfl⟩
abbrev main_while0b_call28_c_0 : Ref sig .tc := ⟨.hbm, 1301, rfl⟩
abbrev main_while0b_v1003 : Ref sig .tc := ⟨.hbm, 1302, rfl⟩
abbrev main_while0b_c_170 : Ref sig .tc := ⟨.hbm, 1303, rfl⟩
abbrev main_while0b_v1004 : Ref sig .tc := ⟨.hbm, 1304, rfl⟩
abbrev main_v929 : Ref sig .tc := ⟨.hbm, 1305, rfl⟩
abbrev main_v930 : Ref sig .tc := ⟨.hbm, 1306, rfl⟩
abbrev main_v931 : Ref sig .tc := ⟨.hbm, 1307, rfl⟩
abbrev main_v932 : Ref sig .tc := ⟨.hbm, 1308, rfl⟩
abbrev main_v933 : Ref sig .tc := ⟨.hbm, 1309, rfl⟩
abbrev main_v934 : Ref sig .tc := ⟨.hbm, 1310, rfl⟩
abbrev main_v935 : Ref sig .tc := ⟨.hbm, 1311, rfl⟩
abbrev main_v936 : Ref sig .tc := ⟨.hbm, 1312, rfl⟩
abbrev main_v937 : Ref sig .tc := ⟨.hbm, 1313, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8

abbrev nD : Nat := 1
abbrev τ : Topo := Topo.v7x

variable {F : FTy → Type} [FloatOps F]

abbrev main_while0_count : Scf.Loop 32 := ⟨0#32, 2#32, 1#32⟩

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]
-- ==== ReferenceIdeal.lean ====
abbrev S128x4x1024 : Shape := ⟨3, ![128, 4, 1024]⟩
abbrev S128x1024 : Shape := ⟨2, ![128, 1024]⟩
abbrev S1x10240x128x2x2x64 : Shape := ⟨6, ![1, 10240, 128, 2, 2, 64]⟩
abbrev S1x128x512x2x2x64 : Shape := ⟨6, ![1, 128, 512, 2, 2, 64]⟩
abbrev S1x128x30x512 : Shape := ⟨4, ![1, 128, 30, 512]⟩
abbrev S128x64 : Shape := ⟨2, ![128, 64]⟩
abbrev S32x8 : Shape := ⟨2, ![32, 8]⟩
abbrev S1x1024x6144 : Shape := ⟨3, ![1, 1024, 6144]⟩
abbrev S1x6144 : Shape := ⟨2, ![1, 6144]⟩
abbrev S1x1024 : Shape := ⟨2, ![1, 1024]⟩
abbrev S1x1024x2328 : Shape := ⟨3, ![1, 1024, 2328]⟩
abbrev S1x64 : Shape := ⟨2, ![1, 64]⟩
abbrev S1x3x64 : Shape := ⟨3, ![1, 3, 64]⟩
abbrev S1x2x32x64 : Shape := ⟨4, ![1, 2, 32, 64]⟩
abbrev S1x2x2048x256 : Shape := ⟨4, ![1, 2, 2048, 256]⟩
abbrev S1x2x256 : Shape := ⟨3, ![1, 2, 256]⟩
abbrev S1x2x256x64 : Shape := ⟨4, ![1, 2, 256, 64]⟩
abbrev S1x2x64 : Shape := ⟨3, ![1, 2, 64]⟩
abbrev S1x31x512 : Shape := ⟨3, ![1, 31, 512]⟩
abbrev S1x512 : Shape := ⟨2, ![1, 512]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S1x16384x1024 : Shape := ⟨3, ![1, 16384, 1024]⟩
abbrev S1024x6144 : Shape := ⟨2, ![1024, 6144]⟩
abbrev S6144 : Shape := ⟨1, ![6144]⟩
abbrev S1024 : Shape := ⟨1, ![1024]⟩
abbrev S1024x2328 : Shape := ⟨2, ![1024, 2328]⟩
abbrev S64 : Shape := ⟨1, ![64]⟩
abbrev S3x64 : Shape := ⟨2, ![3, 64]⟩
abbrev S2x32x64 : Shape := ⟨3, ![2, 32, 64]⟩
abbrev S2x2048x256 : Shape := ⟨3, ![2, 2048, 256]⟩
abbrev S2x256 : Shape := ⟨2, ![2, 256]⟩
abbrev S2x256x64 : Shape := ⟨3, ![2, 256, 64]⟩
abbrev S2x64 : Shape := ⟨2, ![2, 64]⟩
abbrev S31x512 : Shape := ⟨2, ![31, 512]⟩
abbrev S512 : Shape := ⟨1, ![512]⟩
abbrev S1024x1024 : Shape := ⟨2, ![1024, 1024]⟩
abbrev S1024x2048 : Shape := ⟨2, ![1024, 2048]⟩
abbrev S8x2x128x128 : Shape := ⟨4, ![8, 2, 128, 128]⟩
abbrev S16384x1024 : Shape := ⟨2, ![16384, 1024]⟩
abbrev S128x30x512 : Shape := ⟨3, ![128, 30, 512]⟩
abbrev S10240x128x2x2x64 : Shape := ⟨5, ![10240, 128, 2, 2, 64]⟩
abbrev S128x512x2x2x64 : Shape := ⟨5, ![128, 512, 2, 2, 64]⟩
abbrev S_ : Shape := ⟨0, ![]⟩
abbrev S128x6144 : Shape := ⟨2, ![128, 6144]⟩
abbrev S128x1x6144 : Shape := ⟨3, ![128, 1, 6144]⟩
abbrev S128x1x1024 : Shape := ⟨3, ![128, 1, 1024]⟩
abbrev S128x4 : Shape := ⟨2, ![128, 4]⟩
abbrev S128x4x1 : Shape := ⟨3, ![128, 4, 1]⟩
abbrev S1x1x1024 : Shape := ⟨3, ![1, 1, 1024]⟩
abbrev S1x1x1 : Shape := ⟨3, ![1, 1, 1]⟩
abbrev S128x4x2328 : Shape := ⟨3, ![128, 4, 2328]⟩
abbrev S128x4x512 : Shape := ⟨3, ![128, 4, 512]⟩
abbrev S128x4x128 : Shape := ⟨3, ![128, 4, 128]⟩
abbrev S128x4x24 : Shape := ⟨3, ![128, 4, 24]⟩
abbrev S128x4x2x4x64 : Shape := ⟨5, ![128, 4, 2, 4, 64]⟩
abbrev S128x4x2x4 : Shape := ⟨4, ![128, 4, 2, 4]⟩
abbrev S128x4x2x4x1 : Shape := ⟨5, ![128, 4, 2, 4, 1]⟩
abbrev S1x1x1x1x64 : Shape := ⟨5, ![1, 1, 1, 1, 64]⟩
abbrev S128x4x2x64 : Shape := ⟨4, ![128, 4, 2, 64]⟩
abbrev S128x4x2 : Shape := ⟨3, ![128, 4, 2]⟩
abbrev S128x4x2x1 : Shape := ⟨4, ![128, 4, 2, 1]⟩
abbrev S1x1x1x64 : Shape := ⟨4, ![1, 1, 1, 64]⟩
abbrev S128x4x2x4x3 : Shape := ⟨5, ![128, 4, 2, 4, 3]⟩
abbrev S4 : Shape := ⟨1, ![4]⟩
abbrev S128x64x1 : Shape := ⟨3, ![128, 64, 1]⟩
abbrev S128x64x128x2x2x64 : Shape := ⟨6, ![128, 64, 128, 2, 2, 64]⟩
abbrev S128x8192x2x2x64 : Shape := ⟨5, ![128, 8192, 2, 2, 64]⟩
abbrev S128x8192x1x2x64 : Shape := ⟨5, ![128, 8192, 1, 2, 64]⟩
abbrev S128x8192x2x64 : Shape := ⟨4, ![128, 8192, 2, 64]⟩
abbrev S128x8196x2x64 : Shape := ⟨4, ![128, 8196, 2, 64]⟩
abbrev S1x32x64 : Shape := ⟨3, ![1, 32, 64]⟩
abbrev S32x64 : Shape := ⟨2, ![32, 64]⟩
abbrev S1x2048x256 : Shape := ⟨3, ![1, 2048, 256]⟩
abbrev S2048x256 : Shape := ⟨2, ![2048, 256]⟩
abbrev S1x256 : Shape := ⟨2, ![1, 256]⟩
abbrev S256 : Shape := ⟨1, ![256]⟩
abbrev S1x256x64 : Shape := ⟨3, ![1, 256, 64]⟩
abbrev S256x64 : Shape := ⟨2, ![256, 64]⟩
abbrev S128x512x16x2x64 : Shape := ⟨5, ![128, 512, 16, 2, 64]⟩
abbrev S2x16x64x256 : Shape := ⟨4, ![2, 16, 64, 256]⟩
abbrev S2x256x128x512x2 : Shape := ⟨5, ![2, 256, 128, 512, 2]⟩
abbrev S2x128x512x2x256 : Shape := ⟨5, ![2, 128, 512, 2, 256]⟩
abbrev S2048 : Shape := ⟨1, ![2048]⟩
abbrev S1x128x511x2x256 : Shape := ⟨5, ![1, 128, 511, 2, 256]⟩
abbrev S128x511x2x256 : Shape := ⟨4, ![128, 511, 2, 256]⟩
abbrev S1x1x1x256 : Shape := ⟨4, ![1, 1, 1, 256]⟩
abbrev S128x511x2x64 : Shape := ⟨4, ![128, 511, 2, 64]⟩
abbrev S511 : Shape := ⟨1, ![511]⟩
abbrev S128x511x2 : Shape := ⟨3, ![128, 511, 2]⟩
abbrev S128x511x2x1 : Shape := ⟨4, ![128, 511, 2, 1]⟩
abbrev S128x8256x2x64 : Shape := ⟨4, ![128, 8256, 2, 64]⟩
abbrev S128x129x64x2x64 : Shape := ⟨5, ![128, 129, 64, 2, 64]⟩
abbrev S128x2x129x64x64 : Shape := ⟨5, ![128, 2, 129, 64, 64]⟩
abbrev S128x4x1x2x64 : Shape := ⟨5, ![128, 4, 1, 2, 64]⟩
abbrev S128x4x2x2x64 : Shape := ⟨5, ![128, 4, 2, 2, 64]⟩
abbrev S128x516x2x2x64 : Shape := ⟨5, ![128, 516, 2, 2, 64]⟩
abbrev S516 : Shape := ⟨1, ![516]⟩
abbrev S128x516x1x2x64 : Shape := ⟨5, ![128, 516, 1, 2, 64]⟩
abbrev S128x516x2x64 : Shape := ⟨4, ![128, 516, 2, 64]⟩
abbrev S32x2x4 : Shape := ⟨3, ![32, 2, 4]⟩
abbrev S128x2x511x4x4 : Shape := ⟨5, ![128, 2, 511, 4, 4]⟩
abbrev S128x4x2x4x511 : Shape := ⟨5, ![128, 4, 2, 4, 511]⟩
abbrev S4x1 : Shape := ⟨2, ![4, 1]⟩
abbrev S1x511 : Shape := ⟨2, ![1, 511]⟩
abbrev S4x511 : Shape := ⟨2, ![4, 511]⟩
abbrev S4x511x1 : Shape := ⟨3, ![4, 511, 1]⟩
abbrev S4x511x2x4 : Shape := ⟨4, ![4, 511, 2, 4]⟩
abbrev S4x2x4x511 : Shape := ⟨4, ![4, 2, 4, 511]⟩
abbrev S1x4x2x4x511 : Shape := ⟨5, ![1, 4, 2, 4, 511]⟩
abbrev S1x4x1x1x511 : Shape := ⟨5, ![1, 4, 1, 1, 511]⟩
abbrev S128x2x64x4x4 : Shape := ⟨5, ![128, 2, 64, 4, 4]⟩
abbrev S511x1 : Shape := ⟨2, ![511, 1]⟩
abbrev S129 : Shape := ⟨1, ![129]⟩
abbrev S1x129 : Shape := ⟨2, ![1, 129]⟩
abbrev S511x129 : Shape := ⟨2, ![511, 129]⟩
abbrev S128x4x2x511 : Shape := ⟨4, ![128, 4, 2, 511]⟩
abbrev S128x4x2x129 : Shape := ⟨4, ![128, 4, 2, 129]⟩
abbrev S4x129 : Shape := ⟨2, ![4, 129]⟩
abbrev S1x4x1x129 : Shape := ⟨4, ![1, 4, 1, 129]⟩
abbrev S128x4x2x16 : Shape := ⟨4, ![128, 4, 2, 16]⟩
abbrev S128 : Shape := ⟨1, ![128]⟩
abbrev S128x1x1x1 : Shape := ⟨4, ![128, 1, 1, 1]⟩
abbrev S2 : Shape := ⟨1, ![2]⟩
abbrev S1x1x2x1 : Shape := ⟨4, ![1, 1, 2, 1]⟩
abbrev S128x4x2x16x1 : Shape := ⟨5, ![128, 4, 2, 16, 1]⟩
abbrev S128x4x2x16x3 : Shape := ⟨5, ![128, 4, 2, 16, 3]⟩
abbrev S128x4x2x16x64x64 : Shape := ⟨6, ![128, 4, 2, 16, 64, 64]⟩
abbrev S128x4x2x4x16x64 : Shape := ⟨6, ![128, 4, 2, 4, 16, 64]⟩
abbrev S128x4x2x16x64 : Shape := ⟨5, ![128, 4, 2, 16, 64]⟩
abbrev S1x4x1x1x1 : Shape := ⟨5, ![1, 4, 1, 1, 1]⟩
abbrev S2x32x4 : Shape := ⟨3, ![2, 32, 4]⟩
abbrev S1x1x2x1x1 : Shape := ⟨5, ![1, 1, 2, 1, 1]⟩
abbrev S128x4x2x16x64x1 : Shape := ⟨6, ![128, 4, 2, 16, 64, 1]⟩
abbrev S128x4x2x16x64x2 : Shape := ⟨6, ![128, 4, 2, 16, 64, 2]⟩
abbrev S128x4x2x16x64x4 : Shape := ⟨6, ![128, 4, 2, 16, 64, 4]⟩
abbrev S128x4x2x1x16x64 : Shape := ⟨6, ![128, 4, 2, 1, 16, 64]⟩
abbrev S128x4x2x4x1x1 : Shape := ⟨6, ![128, 4, 2, 4, 1, 1]⟩
abbrev S128x2x516x4x4 : Shape := ⟨5, ![128, 2, 516, 4, 4]⟩
abbrev S128x4x2x4x516 : Shape := ⟨5, ![128, 4, 2, 4, 516]⟩
abbrev S1x516 : Shape := ⟨2, ![1, 516]⟩
abbrev S4x516 : Shape := ⟨2, ![4, 516]⟩
abbrev S4x516x1 : Shape := ⟨3, ![4, 516, 1]⟩
abbrev S4x516x2x4 : Shape := ⟨4, ![4, 516, 2, 4]⟩
abbrev S4x2x4x516 : Shape := ⟨4, ![4, 2, 4, 516]⟩
abbrev S1x4x2x4x516 : Shape := ⟨5, ![1, 4, 2, 4, 516]⟩
abbrev S1x4x1x1x516 : Shape := ⟨5, ![1, 4, 1, 1, 516]⟩
abbrev S128x34x512 : Shape := ⟨3, ![128, 34, 512]⟩
abbrev S1x1x512 : Shape := ⟨3, ![1, 1, 512]⟩
abbrev S512x1024 : Shape := ⟨2, ![512, 1024]⟩
abbrev S2x256x1024 : Shape := ⟨3, ![2, 256, 1024]⟩
abbrev S1x256x1024 : Shape := ⟨3, ![1, 256, 1024]⟩
abbrev S256x1024 : Shape := ⟨2, ![256, 1024]⟩
abbrev S256x2048 : Shape := ⟨2, ![256, 2048]⟩
abbrev S256x8x2x128 : Shape := ⟨4, ![256, 8, 2, 128]⟩
abbrev S8x2x128x256 : Shape := ⟨4, ![8, 2, 128, 256]⟩
abbrev S256x8x1x128 : Shape := ⟨4, ![256, 8, 1, 128]⟩
abbrev S256x8x128 : Shape := ⟨3, ![256, 8, 128]⟩
abbrev S256x8x16 : Shape := ⟨3, ![256, 8, 16]⟩
abbrev S256x8x16x1 : Shape := ⟨4, ![256, 8, 16, 1]⟩
abbrev S256x8x1x16 : Shape := ⟨4, ![256, 8, 1, 16]⟩
abbrev S256x8x16x16 : Shape := ⟨4, ![256, 8, 16, 16]⟩
abbrev S256x8x256 : Shape := ⟨3, ![256, 8, 256]⟩
abbrev S1 : Shape := ⟨1, ![1]⟩
abbrev S1x1x1x1 : Shape := ⟨4, ![1, 1, 1, 1]⟩
abbrev S256x8 : Shape := ⟨2, ![256, 8]⟩
abbrev S256x8x1 : Shape := ⟨3, ![256, 8, 1]⟩
abbrev S256x8x16x1024 : Shape := ⟨4, ![256, 8, 16, 1024]⟩
abbrev S1x128x4x2x2x64 : Shape := ⟨6, ![1, 128, 4, 2, 2, 64]⟩

abbrev nBuf : Space → Nat
  | .hbm => 1314
  | .vmem => 0
  | .smem => 0
  | _ => 0

abbrev hbmTy0_0 (i : Nat) : BufTy := match i % 128 with
  | 0 => ⟨S128x4x1024, .f32⟩
  | 1 => ⟨S128x1024, .f32⟩
  | 2 => ⟨S1x10240x128x2x2x64, .f32⟩
  | 3 => ⟨S1x10240x128x2x2x64, .f32⟩
  | 4 => ⟨S1x128x512x2x2x64, .f32⟩
  | 5 => ⟨S1x128x30x512, .f32⟩
  | 6 => ⟨S128x64, .i32⟩
  | 7 => ⟨S32x8, .f32⟩
  | 8 => ⟨S1x1024x6144, .f32⟩
  | 9 => ⟨S1x6144, .f32⟩
  | 10 => ⟨S1x1024, .f32⟩
  | 11 => ⟨S1x1024x2328, .f32⟩
  | 12 => ⟨S1x64, .f32⟩
  | 13 => ⟨S1x3x64, .f32⟩
  | 14 => ⟨S1x2x32x64, .f32⟩
  | 15 => ⟨S1x2x2048x256, .f32⟩
  | 16 => ⟨S1x2x256, .f32⟩
  | 17 => ⟨S1x2x256x64, .f32⟩
  | 18 => ⟨S1x2x64, .f32⟩
  | 19 => ⟨S1x31x512, .f32⟩
  | 20 => ⟨S1x512, .f32⟩
  | 21 => ⟨S1x512, .f32⟩
  | 22 => ⟨S1x512, .f32⟩
  | 23 => ⟨S1x512, .f32⟩
  | 24 => ⟨S1x512, .f32⟩
  | 25 => ⟨S1x1024x1024, .f32⟩
  | 26 => ⟨S1x1024, .f32⟩
  | 27 => ⟨S1x1024x2048, .f32⟩
  | 28 => ⟨S1x8x2x128x128, .f32⟩
  | 29 => ⟨S1x16384x1024, .f32⟩
  | 30 => ⟨S1x16384x1024, .f32⟩
  | 31 => ⟨S1024x6144, .f32⟩
  | 32 => ⟨S6144, .f32⟩
  | 33 => ⟨S1024, .f32⟩
  | 34 => ⟨S1024x2328, .f32⟩
  | 35 => ⟨S64, .f32⟩
  | 36 => ⟨S3x64, .f32⟩
  | 37 => ⟨S2x32x64, .f32⟩
  | 38 => ⟨S2x2048x256, .f32⟩
  | 39 => ⟨S2x256, .f32⟩
  | 40 => ⟨S2x256x64, .f32⟩
  | 41 => ⟨S2x64, .f32⟩
  | 42 => ⟨S31x512, .f32⟩
  | 43 => ⟨S512, .f32⟩
  | 44 => ⟨S512, .f32⟩
  | 45 => ⟨S512, .f32⟩
  | 46 => ⟨S512, .f32⟩
  | 47 => ⟨S512, .f32⟩
  | 48 => ⟨S1024x1024, .f32⟩
  | 49 => ⟨S1024, .f32⟩
  | 50 => ⟨S1024x2048, .f32⟩
  | 51 => ⟨S8x2x128x128, .f32⟩
  | 52 => ⟨S16384x1024, .f32⟩
  | 53 => ⟨S16384x1024, .f32⟩
  | 54 => ⟨S128x30x512, .f32⟩
  | 55 => ⟨S10240x128x2x2x64, .f32⟩
  | 56 => ⟨S10240x128x2x2x64, .f32⟩
  | 57 => ⟨S128x512x2x2x64, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S_, .f32⟩
  | 64 => ⟨S128x1024, .f32⟩
  | 65 => ⟨S128x1024, .f32⟩
  | 66 => ⟨S128x1024, .f32⟩
  | 67 => ⟨S128x6144, .f32⟩
  | 68 => ⟨S1x6144, .f32⟩
  | 69 => ⟨S128x6144, .f32⟩
  | 70 => ⟨S128x6144, .f32⟩
  | 71 => ⟨S128x1x6144, .f32⟩
  | 72 => ⟨S128x1x1024, .f32⟩
  | 73 => ⟨S128x1x1024, .f32⟩
  | 74 => ⟨S128x1x1024, .f32⟩
  | 75 => ⟨S128x1x1024, .f32⟩
  | 76 => ⟨S128x1x1024, .f32⟩
  | 77 => ⟨S128x1x1024, .f32⟩
  | 78 => ⟨S128x4x1024, .f32⟩
  | 79 => ⟨S_, .f32⟩
  | 80 => ⟨S128x4, .f32⟩
  | 81 => ⟨S128x4x1, .f32⟩
  | 82 => ⟨S_, .f32⟩
  | 83 => ⟨S128x4x1, .f32⟩
  | 84 => ⟨S128x4x1, .f32⟩
  | 85 => ⟨S_, .f32⟩
  | 86 => ⟨S128x4x1, .f32⟩
  | 87 => ⟨S128x4x1, .f32⟩
  | 88 => ⟨S128x4x1, .f32⟩
  | 89 => ⟨S128x4x1024, .f32⟩
  | 90 => ⟨S128x4x1024, .f32⟩
  | 91 => ⟨S1x1x1024, .f32⟩
  | 92 => ⟨S128x4x1024, .f32⟩
  | 93 => ⟨S128x4x1024, .f32⟩
  | 94 => ⟨S_, .f32⟩
  | 95 => ⟨S128x1x1024, .f32⟩
  | 96 => ⟨S128x1x1024, .f32⟩
  | 97 => ⟨S128x4x1024, .f32⟩
  | 98 => ⟨S128x4x1024, .f32⟩
  | 99 => ⟨S128x4x1024, .f32⟩
  | 100 => ⟨S128x4x1024, .f32⟩
  | 101 => ⟨S1x1x1, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S128x4x2328, .f32⟩
  | 109 => ⟨S128x4x512, .f32⟩
  | 110 => ⟨S128x4x128, .f32⟩
  | 111 => ⟨S128x4x128, .f32⟩
  | 112 => ⟨S128x4x128, .f32⟩
  | 113 => ⟨S128x4x128, .f32⟩
  | 114 => ⟨S128x4x128, .f32⟩
  | 115 => ⟨S128x4x128, .f32⟩
  | 116 => ⟨S128x4x24, .f32⟩
  | 117 => ⟨S128x4x1024, .f32⟩
  | 118 => ⟨S128x4x2x4x64, .f32⟩
  | 119 => ⟨S128x4x2x4x64, .f32⟩
  | 120 => ⟨S_, .f32⟩
  | 121 => ⟨S128x4x2x4, .f32⟩
  | 122 => ⟨S128x4x2x4x1, .f32⟩
  | 123 => ⟨S_, .f32⟩
  | 124 => ⟨S128x4x2x4x1, .f32⟩
  | 125 => ⟨S128x4x2x4x1, .f32⟩
  | 126 => ⟨S_, .f32⟩
  | 127 => ⟨S128x4x2x4x1, .f32⟩
  | _ => ⟨S128x4x1024, .f32⟩

abbrev hbmTy0_1 (i : Nat) : BufTy := match i % 128 with
  | 0 => ⟨S128x4x2x4x1, .f32⟩
  | 1 => ⟨S128x4x2x4x1, .f32⟩
  | 2 => ⟨S128x4x2x4x64, .f32⟩
  | 3 => ⟨S128x4x2x4x64, .f32⟩
  | 4 => ⟨S1x1x1x1x64, .f32⟩
  | 5 => ⟨S128x4x2x4x64, .f32⟩
  | 6 => ⟨S128x4x2x4x64, .f32⟩
  | 7 => ⟨S128x4x2x64, .f32⟩
  | 8 => ⟨S1x64, .f32⟩
  | 9 => ⟨S64, .f32⟩
  | 10 => ⟨S128x4x2x64, .f32⟩
  | 11 => ⟨S_, .f32⟩
  | 12 => ⟨S128x4x2, .f32⟩
  | 13 => ⟨S128x4x2x1, .f32⟩
  | 14 => ⟨S_, .f32⟩
  | 15 => ⟨S128x4x2x1, .f32⟩
  | 16 => ⟨S128x4x2x1, .f32⟩
  | 17 => ⟨S_, .f32⟩
  | 18 => ⟨S128x4x2x1, .f32⟩
  | 19 => ⟨S128x4x2x1, .f32⟩
  | 20 => ⟨S128x4x2x1, .f32⟩
  | 21 => ⟨S128x4x2x64, .f32⟩
  | 22 => ⟨S128x4x2x64, .f32⟩
  | 23 => ⟨S1x1x1x64, .f32⟩
  | 24 => ⟨S128x4x2x64, .f32⟩
  | 25 => ⟨S128x4x2x64, .f32⟩
  | 26 => ⟨S128x4x2x64, .f32⟩
  | 27 => ⟨S1x64, .f32⟩
  | 28 => ⟨S64, .f32⟩
  | 29 => ⟨S128x4x2x64, .f32⟩
  | 30 => ⟨S_, .f32⟩
  | 31 => ⟨S128x4x2, .f32⟩
  | 32 => ⟨S128x4x2x1, .f32⟩
  | 33 => ⟨S_, .f32⟩
  | 34 => ⟨S128x4x2x1, .f32⟩
  | 35 => ⟨S128x4x2x1, .f32⟩
  | 36 => ⟨S_, .f32⟩
  | 37 => ⟨S128x4x2x1, .f32⟩
  | 38 => ⟨S128x4x2x1, .f32⟩
  | 39 => ⟨S128x4x2x1, .f32⟩
  | 40 => ⟨S128x4x2x64, .f32⟩
  | 41 => ⟨S128x4x2x64, .f32⟩
  | 42 => ⟨S1x1x1x64, .f32⟩
  | 43 => ⟨S128x4x2x64, .f32⟩
  | 44 => ⟨S128x4x2x64, .f32⟩
  | 45 => ⟨S128x4x2x4x3, .f32⟩
  | 46 => ⟨S128x4x2x4x3, .f32⟩
  | 47 => ⟨S128x4x2x4x3, .f32⟩
  | 48 => ⟨S_, .f32⟩
  | 49 => ⟨S128x4x2x4x3, .f32⟩
  | 50 => ⟨S128x4x2x4x3, .f32⟩
  | 51 => ⟨S_, .f32⟩
  | 52 => ⟨S128x4x2x4x3, .f32⟩
  | 53 => ⟨S128x4x2x4x3, .f32⟩
  | 54 => ⟨S128x4x2x64, .f32⟩
  | 55 => ⟨S128x4x2x64, .f32⟩
  | 56 => ⟨S128x4x2x64, .f32⟩
  | 57 => ⟨S128x4x2x64, .f32⟩
  | 58 => ⟨S4, .i32⟩
  | 59 => ⟨S_, .i32⟩
  | 60 => ⟨S4, .i32⟩
  | 61 => ⟨S4, .i32⟩
  | 62 => ⟨S_, .i32⟩
  | 63 => ⟨S128x64, .i32⟩
  | 64 => ⟨S128x64, .i1⟩
  | 65 => ⟨S_, .i32⟩
  | 66 => ⟨S128x64, .i32⟩
  | 67 => ⟨S128x64, .i32⟩
  | 68 => ⟨S128x64, .i32⟩
  | 69 => ⟨S128x64x1, .i32⟩
  | 70 => ⟨S128x64x128x2x2x64, .f32⟩
  | 71 => ⟨S128x8192x2x2x64, .f32⟩
  | 72 => ⟨S_, .i32⟩
  | 73 => ⟨S128x64, .i32⟩
  | 74 => ⟨S128x64, .i1⟩
  | 75 => ⟨S_, .i32⟩
  | 76 => ⟨S128x64, .i32⟩
  | 77 => ⟨S128x64, .i32⟩
  | 78 => ⟨S128x64, .i32⟩
  | 79 => ⟨S128x64x1, .i32⟩
  | 80 => ⟨S128x64x128x2x2x64, .f32⟩
  | 81 => ⟨S128x8192x2x2x64, .f32⟩
  | 82 => ⟨S128x8192x1x2x64, .f32⟩
  | 83 => ⟨S128x8192x2x64, .f32⟩
  | 84 => ⟨S128x8196x2x64, .f32⟩
  | 85 => ⟨S1x32x64, .f32⟩
  | 86 => ⟨S32x64, .f32⟩
  | 87 => ⟨S1x2048x256, .f32⟩
  | 88 => ⟨S2048x256, .f32⟩
  | 89 => ⟨S1x256, .f32⟩
  | 90 => ⟨S256, .f32⟩
  | 91 => ⟨S1x256x64, .f32⟩
  | 92 => ⟨S256x64, .f32⟩
  | 93 => ⟨S1x64, .f32⟩
  | 94 => ⟨S64, .f32⟩
  | 95 => ⟨S128x8192x2x64, .f32⟩
  | 96 => ⟨S128x512x16x2x64, .f32⟩
  | 97 => ⟨S2x16x64x256, .f32⟩
  | 98 => ⟨S2x256x128x512x2, .f32⟩
  | 99 => ⟨S2x128x512x2x256, .f32⟩
  | 100 => ⟨S2048, .f32⟩
  | 101 => ⟨S256, .f32⟩
  | 102 => ⟨S256, .f32⟩
  | 103 => ⟨S1x128x511x2x256, .f32⟩
  | 104 => ⟨S128x511x2x256, .f32⟩
  | 105 => ⟨S1x1x1x256, .f32⟩
  | 106 => ⟨S128x511x2x256, .f32⟩
  | 107 => ⟨S128x511x2x256, .f32⟩
  | 108 => ⟨S1x128x511x2x256, .f32⟩
  | 109 => ⟨S128x511x2x256, .f32⟩
  | 110 => ⟨S128x511x2x256, .f32⟩
  | 111 => ⟨S128x511x2x256, .f32⟩
  | 112 => ⟨S128x511x2x256, .f32⟩
  | 113 => ⟨S_, .f32⟩
  | 114 => ⟨S128x511x2x256, .f32⟩
  | 115 => ⟨S128x511x2x256, .f32⟩
  | 116 => ⟨S128x511x2x256, .f32⟩
  | 117 => ⟨S_, .f32⟩
  | 118 => ⟨S128x511x2x256, .f32⟩
  | 119 => ⟨S128x511x2x256, .f32⟩
  | 120 => ⟨S128x511x2x256, .f32⟩
  | 121 => ⟨S_, .f32⟩
  | 122 => ⟨S128x511x2x256, .f32⟩
  | 123 => ⟨S128x511x2x256, .f32⟩
  | 124 => ⟨S_, .f32⟩
  | 125 => ⟨S128x511x2x256, .f32⟩
  | 126 => ⟨S128x511x2x256, .f32⟩
  | 127 => ⟨S128x511x2x256, .f32⟩
  | _ => ⟨S128x4x1024, .f32⟩

abbrev hbmTy0_2 (i : Nat) : BufTy := match i % 128 with
  | 0 => ⟨S128x511x2x64, .f32⟩
  | 1 => ⟨S1x1x1x64, .f32⟩
  | 2 => ⟨S128x511x2x64, .f32⟩
  | 3 => ⟨S128x511x2x64, .f32⟩
  | 4 => ⟨S511, .i32⟩
  | 5 => ⟨S_, .i32⟩
  | 6 => ⟨S511, .i32⟩
  | 7 => ⟨S511, .i32⟩
  | 8 => ⟨S_, .i32⟩
  | 9 => ⟨S511, .i32⟩
  | 10 => ⟨S511, .i32⟩
  | 11 => ⟨S1x64, .f32⟩
  | 12 => ⟨S64, .f32⟩
  | 13 => ⟨S128x511x2x64, .f32⟩
  | 14 => ⟨S_, .f32⟩
  | 15 => ⟨S128x511x2, .f32⟩
  | 16 => ⟨S128x511x2x1, .f32⟩
  | 17 => ⟨S_, .f32⟩
  | 18 => ⟨S128x511x2x1, .f32⟩
  | 19 => ⟨S128x511x2x1, .f32⟩
  | 20 => ⟨S_, .f32⟩
  | 21 => ⟨S128x511x2x1, .f32⟩
  | 22 => ⟨S128x511x2x1, .f32⟩
  | 23 => ⟨S128x511x2x1, .f32⟩
  | 24 => ⟨S128x511x2x64, .f32⟩
  | 25 => ⟨S128x511x2x64, .f32⟩
  | 26 => ⟨S1x1x1x64, .f32⟩
  | 27 => ⟨S128x511x2x64, .f32⟩
  | 28 => ⟨S128x511x2x64, .f32⟩
  | 29 => ⟨S128x8192x1x2x64, .f32⟩
  | 30 => ⟨S128x8192x2x64, .f32⟩
  | 31 => ⟨S128x8196x2x64, .f32⟩
  | 32 => ⟨S1x32x64, .f32⟩
  | 33 => ⟨S32x64, .f32⟩
  | 34 => ⟨S1x2048x256, .f32⟩
  | 35 => ⟨S2048x256, .f32⟩
  | 36 => ⟨S1x256, .f32⟩
  | 37 => ⟨S256, .f32⟩
  | 38 => ⟨S1x256x64, .f32⟩
  | 39 => ⟨S256x64, .f32⟩
  | 40 => ⟨S1x64, .f32⟩
  | 41 => ⟨S64, .f32⟩
  | 42 => ⟨S128x8192x2x64, .f32⟩
  | 43 => ⟨S128x512x16x2x64, .f32⟩
  | 44 => ⟨S2x16x64x256, .f32⟩
  | 45 => ⟨S2x256x128x512x2, .f32⟩
  | 46 => ⟨S2x128x512x2x256, .f32⟩
  | 47 => ⟨S2048, .f32⟩
  | 48 => ⟨S256, .f32⟩
  | 49 => ⟨S256, .f32⟩
  | 50 => ⟨S1x128x511x2x256, .f32⟩
  | 51 => ⟨S128x511x2x256, .f32⟩
  | 52 => ⟨S1x1x1x256, .f32⟩
  | 53 => ⟨S128x511x2x256, .f32⟩
  | 54 => ⟨S128x511x2x256, .f32⟩
  | 55 => ⟨S1x128x511x2x256, .f32⟩
  | 56 => ⟨S128x511x2x256, .f32⟩
  | 57 => ⟨S128x511x2x256, .f32⟩
  | 58 => ⟨S128x511x2x256, .f32⟩
  | 59 => ⟨S128x511x2x256, .f32⟩
  | 60 => ⟨S_, .f32⟩
  | 61 => ⟨S128x511x2x256, .f32⟩
  | 62 => ⟨S128x511x2x256, .f32⟩
  | 63 => ⟨S128x511x2x256, .f32⟩
  | 64 => ⟨S_, .f32⟩
  | 65 => ⟨S128x511x2x256, .f32⟩
  | 66 => ⟨S128x511x2x256, .f32⟩
  | 67 => ⟨S128x511x2x256, .f32⟩
  | 68 => ⟨S_, .f32⟩
  | 69 => ⟨S128x511x2x256, .f32⟩
  | 70 => ⟨S128x511x2x256, .f32⟩
  | 71 => ⟨S_, .f32⟩
  | 72 => ⟨S128x511x2x256, .f32⟩
  | 73 => ⟨S128x511x2x256, .f32⟩
  | 74 => ⟨S128x511x2x256, .f32⟩
  | 75 => ⟨S128x511x2x64, .f32⟩
  | 76 => ⟨S1x1x1x64, .f32⟩
  | 77 => ⟨S128x511x2x64, .f32⟩
  | 78 => ⟨S128x511x2x64, .f32⟩
  | 79 => ⟨S511, .i32⟩
  | 80 => ⟨S_, .i32⟩
  | 81 => ⟨S511, .i32⟩
  | 82 => ⟨S511, .i32⟩
  | 83 => ⟨S_, .i32⟩
  | 84 => ⟨S511, .i32⟩
  | 85 => ⟨S511, .i32⟩
  | 86 => ⟨S128x8192x1x2x64, .f32⟩
  | 87 => ⟨S128x8192x2x64, .f32⟩
  | 88 => ⟨S128x8196x2x64, .f32⟩
  | 89 => ⟨S_, .i32⟩
  | 90 => ⟨S_, .f32⟩
  | 91 => ⟨S128x8256x2x64, .f32⟩
  | 92 => ⟨S128x129x64x2x64, .f32⟩
  | 93 => ⟨S128x2x129x64x64, .f32⟩
  | 94 => ⟨S128x8192x1x2x64, .f32⟩
  | 95 => ⟨S128x8192x2x64, .f32⟩
  | 96 => ⟨S128x8196x2x64, .f32⟩
  | 97 => ⟨S_, .i32⟩
  | 98 => ⟨S_, .f32⟩
  | 99 => ⟨S128x8256x2x64, .f32⟩
  | 100 => ⟨S128x129x64x2x64, .f32⟩
  | 101 => ⟨S128x2x129x64x64, .f32⟩
  | 102 => ⟨S128x4x1x2x64, .f32⟩
  | 103 => ⟨S128x4x1x2x64, .f32⟩
  | 104 => ⟨S128x4x2x2x64, .f32⟩
  | 105 => ⟨S128x516x2x2x64, .f32⟩
  | 106 => ⟨S516, .i32⟩
  | 107 => ⟨S_, .i32⟩
  | 108 => ⟨S516, .i32⟩
  | 109 => ⟨S516, .i32⟩
  | 110 => ⟨S128x516x1x2x64, .f32⟩
  | 111 => ⟨S128x516x2x64, .f32⟩
  | 112 => ⟨S128x516x1x2x64, .f32⟩
  | 113 => ⟨S128x516x2x64, .f32⟩
  | 114 => ⟨S32x2x4, .f32⟩
  | 115 => ⟨S128x2x511x4x4, .f32⟩
  | 116 => ⟨S128x4x2x4x511, .f32⟩
  | 117 => ⟨S_, .f32⟩
  | 118 => ⟨S128x4x2x4x511, .f32⟩
  | 119 => ⟨S128x4x2x4x511, .f32⟩
  | 120 => ⟨S4x1, .i32⟩
  | 121 => ⟨S1x511, .i32⟩
  | 122 => ⟨S4x511, .i32⟩
  | 123 => ⟨S4x511, .i32⟩
  | 124 => ⟨S4x511, .i32⟩
  | 125 => ⟨S_, .i32⟩
  | 126 => ⟨S4x511, .i32⟩
  | 127 => ⟨S4x511, .i32⟩
  | _ => ⟨S128x4x1024, .f32⟩

abbrev hbmTy0_3 (i : Nat) : BufTy := match i % 128 with
  | 0 => ⟨S_, .i32⟩
  | 1 => ⟨S4x511, .i32⟩
  | 2 => ⟨S4x511, .i32⟩
  | 3 => ⟨S4x511, .f32⟩
  | 4 => ⟨S_, .f32⟩
  | 5 => ⟨S4x511, .f32⟩
  | 6 => ⟨S4x511, .f32⟩
  | 7 => ⟨S4x511, .f32⟩
  | 8 => ⟨S_, .f32⟩
  | 9 => ⟨S4x511, .f32⟩
  | 10 => ⟨S4x511, .f32⟩
  | 11 => ⟨S_, .f32⟩
  | 12 => ⟨S4x511, .f32⟩
  | 13 => ⟨S4x511, .f32⟩
  | 14 => ⟨S4x511, .i32⟩
  | 15 => ⟨S_, .i32⟩
  | 16 => ⟨S4x511, .i32⟩
  | 17 => ⟨S4x511, .i32⟩
  | 18 => ⟨S_, .i32⟩
  | 19 => ⟨S4x511, .i32⟩
  | 20 => ⟨S4x511, .i1⟩
  | 21 => ⟨S_, .i32⟩
  | 22 => ⟨S4x511, .i32⟩
  | 23 => ⟨S4x511, .i32⟩
  | 24 => ⟨S4x511, .i32⟩
  | 25 => ⟨S_, .i32⟩
  | 26 => ⟨S4x511, .i32⟩
  | 27 => ⟨S4x511, .i1⟩
  | 28 => ⟨S_, .i32⟩
  | 29 => ⟨S4x511, .i32⟩
  | 30 => ⟨S4x511, .i32⟩
  | 31 => ⟨S4x511, .i32⟩
  | 32 => ⟨S4x511x1, .i32⟩
  | 33 => ⟨S4x511x2x4, .f32⟩
  | 34 => ⟨S4x2x4x511, .f32⟩
  | 35 => ⟨S1x4x2x4x511, .f32⟩
  | 36 => ⟨S128x4x2x4x511, .f32⟩
  | 37 => ⟨S128x4x2x4x511, .f32⟩
  | 38 => ⟨S_, .i32⟩
  | 39 => ⟨S4x511, .i32⟩
  | 40 => ⟨S4x511, .i1⟩
  | 41 => ⟨S1x4x1x1x511, .i1⟩
  | 42 => ⟨S_, .f32⟩
  | 43 => ⟨S_, .f32⟩
  | 44 => ⟨S128x4x2x4x511, .i1⟩
  | 45 => ⟨S128x4x2x4x511, .f32⟩
  | 46 => ⟨S128x4x2x4x511, .f32⟩
  | 47 => ⟨S_, .f32⟩
  | 48 => ⟨S128x4x2x4, .f32⟩
  | 49 => ⟨S128x4x2x4x1, .f32⟩
  | 50 => ⟨S128x4x2x4x1, .f32⟩
  | 51 => ⟨S_, .f32⟩
  | 52 => ⟨S128x4x2x4x1, .f32⟩
  | 53 => ⟨S128x4x2x4x1, .i1⟩
  | 54 => ⟨S_, .f32⟩
  | 55 => ⟨S_, .f32⟩
  | 56 => ⟨S128x4x2x4x1, .f32⟩
  | 57 => ⟨S128x4x2x4x1, .f32⟩
  | 58 => ⟨S128x4x2x4x511, .f32⟩
  | 59 => ⟨S128x4x2x4x511, .f32⟩
  | 60 => ⟨S128x4x2x4x511, .f32⟩
  | 61 => ⟨S_, .f32⟩
  | 62 => ⟨S_, .f32⟩
  | 63 => ⟨S128x4x2x4x511, .i1⟩
  | 64 => ⟨S128x4x2x4x511, .f32⟩
  | 65 => ⟨S128x4x2x4x511, .f32⟩
  | 66 => ⟨S_, .f32⟩
  | 67 => ⟨S128x4x2x4, .f32⟩
  | 68 => ⟨S128x4x2x4x1, .f32⟩
  | 69 => ⟨S_, .f32⟩
  | 70 => ⟨S128x4x2x4x1, .f32⟩
  | 71 => ⟨S128x4x2x4x1, .i1⟩
  | 72 => ⟨S_, .f32⟩
  | 73 => ⟨S_, .f32⟩
  | 74 => ⟨S128x4x2x4x1, .f32⟩
  | 75 => ⟨S128x4x2x4x1, .f32⟩
  | 76 => ⟨S128x4x2x4x511, .f32⟩
  | 77 => ⟨S128x4x2x4x511, .f32⟩
  | 78 => ⟨S128x2x64x4x4, .f32⟩
  | 79 => ⟨S128x4x2x4x64, .f32⟩
  | 80 => ⟨S511, .i32⟩
  | 81 => ⟨S511x1, .i32⟩
  | 82 => ⟨S129, .i32⟩
  | 83 => ⟨S1x129, .i32⟩
  | 84 => ⟨S_, .i32⟩
  | 85 => ⟨S511x1, .i32⟩
  | 86 => ⟨S511x1, .i32⟩
  | 87 => ⟨S_, .i32⟩
  | 88 => ⟨S1x129, .i32⟩
  | 89 => ⟨S1x129, .i32⟩
  | 90 => ⟨S_, .i32⟩
  | 91 => ⟨S1x129, .i32⟩
  | 92 => ⟨S1x129, .i32⟩
  | 93 => ⟨S511x129, .i32⟩
  | 94 => ⟨S511x129, .i32⟩
  | 95 => ⟨S511x129, .i1⟩
  | 96 => ⟨S_, .i32⟩
  | 97 => ⟨S511x1, .i32⟩
  | 98 => ⟨S511x1, .i32⟩
  | 99 => ⟨S_, .i32⟩
  | 100 => ⟨S511x1, .i32⟩
  | 101 => ⟨S511x1, .i32⟩
  | 102 => ⟨S_, .i32⟩
  | 103 => ⟨S1x129, .i32⟩
  | 104 => ⟨S1x129, .i32⟩
  | 105 => ⟨S511x129, .i32⟩
  | 106 => ⟨S511x129, .i32⟩
  | 107 => ⟨S511x129, .i1⟩
  | 108 => ⟨S511x129, .i1⟩
  | 109 => ⟨S511x129, .f32⟩
  | 110 => ⟨S_, .f32⟩
  | 111 => ⟨S128x4x2x511, .f32⟩
  | 112 => ⟨S128x4x2x129, .f32⟩
  | 113 => ⟨S_, .i32⟩
  | 114 => ⟨S_, .i32⟩
  | 115 => ⟨S4, .i32⟩
  | 116 => ⟨S4, .i32⟩
  | 117 => ⟨S4, .i32⟩
  | 118 => ⟨S_, .i32⟩
  | 119 => ⟨S4, .i32⟩
  | 120 => ⟨S4, .i1⟩
  | 121 => ⟨S4, .i32⟩
  | 122 => ⟨S4, .i32⟩
  | 123 => ⟨S_, .i32⟩
  | 124 => ⟨S4, .i32⟩
  | 125 => ⟨S4, .i1⟩
  | 126 => ⟨S4, .i1⟩
  | 127 => ⟨S_, .i32⟩
  | _ => ⟨S128x4x1024, .f32⟩

abbrev hbmTy0_4 (i : Nat) : BufTy := match i % 128 with
  | 0 => ⟨S4, .i32⟩
  | 1 => ⟨S4, .i32⟩
  | 2 => ⟨S4, .i32⟩
  | 3 => ⟨S4x1, .i32⟩
  | 4 => ⟨S_, .i32⟩
  | 5 => ⟨S1x129, .i32⟩
  | 6 => ⟨S1x129, .i1⟩
  | 7 => ⟨S4x129, .i32⟩
  | 8 => ⟨S4x129, .i32⟩
  | 9 => ⟨S4x129, .i1⟩
  | 10 => ⟨S4x129, .i1⟩
  | 11 => ⟨S4x129, .i1⟩
  | 12 => ⟨S_, .i32⟩
  | 13 => ⟨S4x1, .i32⟩
  | 14 => ⟨S4x1, .i32⟩
  | 15 => ⟨S4x129, .i32⟩
  | 16 => ⟨S4x129, .i32⟩
  | 17 => ⟨S4x129, .i1⟩
  | 18 => ⟨S4x129, .i1⟩
  | 19 => ⟨S_, .i32⟩
  | 20 => ⟨S1x129, .i32⟩
  | 21 => ⟨S1x129, .i32⟩
  | 22 => ⟨S4x1, .i32⟩
  | 23 => ⟨S4x129, .i32⟩
  | 24 => ⟨S4x129, .i32⟩
  | 25 => ⟨S4x129, .i1⟩
  | 26 => ⟨S1x4x1x129, .i1⟩
  | 27 => ⟨S_, .f32⟩
  | 28 => ⟨S128x4x2x129, .f32⟩
  | 29 => ⟨S128x4x2x129, .f32⟩
  | 30 => ⟨S128x4x2x129, .i1⟩
  | 31 => ⟨S128x4x2x129, .f32⟩
  | 32 => ⟨S1x4x1x129, .i1⟩
  | 33 => ⟨S_, .f32⟩
  | 34 => ⟨S_, .f32⟩
  | 35 => ⟨S128x4x2x129, .i1⟩
  | 36 => ⟨S128x4x2x129, .f32⟩
  | 37 => ⟨S128x4x2x129, .f32⟩
  | 38 => ⟨S128x4x2x16, .f32⟩
  | 39 => ⟨S128x4x2x16, .i32⟩
  | 40 => ⟨S128, .i32⟩
  | 41 => ⟨S128x1x1x1, .i32⟩
  | 42 => ⟨S2, .i32⟩
  | 43 => ⟨S1x1x2x1, .i32⟩
  | 44 => ⟨S_, .i32⟩
  | 45 => ⟨S128x1x1x1, .i32⟩
  | 46 => ⟨S128x1x1x1, .i1⟩
  | 47 => ⟨S_, .i32⟩
  | 48 => ⟨S128x1x1x1, .i32⟩
  | 49 => ⟨S128x1x1x1, .i32⟩
  | 50 => ⟨S128x1x1x1, .i32⟩
  | 51 => ⟨S_, .i32⟩
  | 52 => ⟨S1x1x2x1, .i32⟩
  | 53 => ⟨S1x1x2x1, .i1⟩
  | 54 => ⟨S_, .i32⟩
  | 55 => ⟨S1x1x2x1, .i32⟩
  | 56 => ⟨S1x1x2x1, .i32⟩
  | 57 => ⟨S1x1x2x1, .i32⟩
  | 58 => ⟨S_, .i32⟩
  | 59 => ⟨S128x4x2x16, .i32⟩
  | 60 => ⟨S128x4x2x16, .i1⟩
  | 61 => ⟨S_, .i32⟩
  | 62 => ⟨S128x4x2x16, .i32⟩
  | 63 => ⟨S128x4x2x16, .i32⟩
  | 64 => ⟨S128x4x2x16, .i32⟩
  | 65 => ⟨S128x4x2x16, .i32⟩
  | 66 => ⟨S128x4x2x16, .i32⟩
  | 67 => ⟨S128x4x2x16x1, .i32⟩
  | 68 => ⟨S128x4x2x16x1, .i32⟩
  | 69 => ⟨S128x4x2x16x1, .i32⟩
  | 70 => ⟨S128x4x2x16x3, .i32⟩
  | 71 => ⟨S128x4x2x16x64x64, .f32⟩
  | 72 => ⟨S_, .i32⟩
  | 73 => ⟨S128x1x1x1, .i32⟩
  | 74 => ⟨S128x1x1x1, .i1⟩
  | 75 => ⟨S_, .i32⟩
  | 76 => ⟨S128x1x1x1, .i32⟩
  | 77 => ⟨S128x1x1x1, .i32⟩
  | 78 => ⟨S128x1x1x1, .i32⟩
  | 79 => ⟨S_, .i32⟩
  | 80 => ⟨S1x1x2x1, .i32⟩
  | 81 => ⟨S1x1x2x1, .i1⟩
  | 82 => ⟨S_, .i32⟩
  | 83 => ⟨S1x1x2x1, .i32⟩
  | 84 => ⟨S1x1x2x1, .i32⟩
  | 85 => ⟨S1x1x2x1, .i32⟩
  | 86 => ⟨S_, .i32⟩
  | 87 => ⟨S128x4x2x16, .i32⟩
  | 88 => ⟨S128x4x2x16, .i1⟩
  | 89 => ⟨S_, .i32⟩
  | 90 => ⟨S128x4x2x16, .i32⟩
  | 91 => ⟨S128x4x2x16, .i32⟩
  | 92 => ⟨S128x4x2x16, .i32⟩
  | 93 => ⟨S128x4x2x16, .i32⟩
  | 94 => ⟨S128x4x2x16, .i32⟩
  | 95 => ⟨S128x4x2x16x1, .i32⟩
  | 96 => ⟨S128x4x2x16x1, .i32⟩
  | 97 => ⟨S128x4x2x16x1, .i32⟩
  | 98 => ⟨S128x4x2x16x3, .i32⟩
  | 99 => ⟨S128x4x2x16x64x64, .f32⟩
  | 100 => ⟨S128x4x2x4x16x64, .f32⟩
  | 101 => ⟨S_, .f32⟩
  | 102 => ⟨S128x4x2x4x16x64, .f32⟩
  | 103 => ⟨S128x4x2x4x16x64, .f32⟩
  | 104 => ⟨S128x4x2x16x1, .i32⟩
  | 105 => ⟨S_, .i32⟩
  | 106 => ⟨S128x4x2x16x1, .i32⟩
  | 107 => ⟨S128x4x2x16x1, .i32⟩
  | 108 => ⟨S64, .i32⟩
  | 109 => ⟨S1x1x1x1x64, .i32⟩
  | 110 => ⟨S128x4x2x16x64, .i32⟩
  | 111 => ⟨S128x4x2x16x64, .i32⟩
  | 112 => ⟨S128x4x2x16x64, .i32⟩
  | 113 => ⟨S1x4x1x1x1, .i32⟩
  | 114 => ⟨S128x4x2x16x64, .i32⟩
  | 115 => ⟨S128x4x2x16x64, .i32⟩
  | 116 => ⟨S2x32x4, .f32⟩
  | 117 => ⟨S2, .i32⟩
  | 118 => ⟨S1x1x2x1x1, .i32⟩
  | 119 => ⟨S_, .i32⟩
  | 120 => ⟨S128x4x2x16x64, .i32⟩
  | 121 => ⟨S128x4x2x16x64, .i32⟩
  | 122 => ⟨S_, .i32⟩
  | 123 => ⟨S128x4x2x16x64, .i32⟩
  | 124 => ⟨S128x4x2x16x64, .i32⟩
  | 125 => ⟨S128x4x2x16x64, .f32⟩
  | 126 => ⟨S_, .f32⟩
  | 127 => ⟨S128x4x2x16x64, .f32⟩
  | _ => ⟨S128x4x1024, .f32⟩

abbrev hbmTy0_5 (i : Nat) : BufTy := match i % 128 with
  | 0 => ⟨S128x4x2x16x64, .f32⟩
  | 1 => ⟨S128x4x2x16x64, .f32⟩
  | 2 => ⟨S_, .f32⟩
  | 3 => ⟨S128x4x2x16x64, .f32⟩
  | 4 => ⟨S128x4x2x16x64, .f32⟩
  | 5 => ⟨S_, .f32⟩
  | 6 => ⟨S128x4x2x16x64, .f32⟩
  | 7 => ⟨S128x4x2x16x64, .f32⟩
  | 8 => ⟨S128x4x2x16x64, .i32⟩
  | 9 => ⟨S_, .i32⟩
  | 10 => ⟨S128x4x2x16x64, .i32⟩
  | 11 => ⟨S128x4x2x16x64, .i32⟩
  | 12 => ⟨S_, .i32⟩
  | 13 => ⟨S128x4x2x16x64, .i32⟩
  | 14 => ⟨S128x4x2x16x64, .i1⟩
  | 15 => ⟨S_, .i32⟩
  | 16 => ⟨S128x4x2x16x64, .i32⟩
  | 17 => ⟨S128x4x2x16x64, .i32⟩
  | 18 => ⟨S128x4x2x16x64, .i32⟩
  | 19 => ⟨S_, .i32⟩
  | 20 => ⟨S1x1x2x1x1, .i32⟩
  | 21 => ⟨S1x1x2x1x1, .i1⟩
  | 22 => ⟨S_, .i32⟩
  | 23 => ⟨S1x1x2x1x1, .i32⟩
  | 24 => ⟨S1x1x2x1x1, .i32⟩
  | 25 => ⟨S1x1x2x1x1, .i32⟩
  | 26 => ⟨S_, .i32⟩
  | 27 => ⟨S128x4x2x16x64, .i32⟩
  | 28 => ⟨S128x4x2x16x64, .i1⟩
  | 29 => ⟨S_, .i32⟩
  | 30 => ⟨S128x4x2x16x64, .i32⟩
  | 31 => ⟨S128x4x2x16x64, .i32⟩
  | 32 => ⟨S128x4x2x16x64, .i32⟩
  | 33 => ⟨S128x4x2x16x64, .i32⟩
  | 34 => ⟨S128x4x2x16x64x1, .i32⟩
  | 35 => ⟨S128x4x2x16x64x1, .i32⟩
  | 36 => ⟨S128x4x2x16x64x2, .i32⟩
  | 37 => ⟨S128x4x2x16x64x4, .f32⟩
  | 38 => ⟨S128x4x2x4x16x64, .f32⟩
  | 39 => ⟨S128x4x2x4x16x64, .f32⟩
  | 40 => ⟨S_, .i32⟩
  | 41 => ⟨S128x4x2x16x64, .i32⟩
  | 42 => ⟨S128x4x2x16x64, .i1⟩
  | 43 => ⟨S128x4x2x1x16x64, .i1⟩
  | 44 => ⟨S_, .f32⟩
  | 45 => ⟨S_, .f32⟩
  | 46 => ⟨S128x4x2x4x16x64, .i1⟩
  | 47 => ⟨S128x4x2x4x16x64, .f32⟩
  | 48 => ⟨S128x4x2x4x16x64, .f32⟩
  | 49 => ⟨S_, .f32⟩
  | 50 => ⟨S128x4x2x4, .f32⟩
  | 51 => ⟨S128x4x2x4x1x1, .f32⟩
  | 52 => ⟨S128x4x2x4x1x1, .f32⟩
  | 53 => ⟨S_, .f32⟩
  | 54 => ⟨S128x4x2x4x1x1, .f32⟩
  | 55 => ⟨S128x4x2x4x1x1, .i1⟩
  | 56 => ⟨S_, .f32⟩
  | 57 => ⟨S_, .f32⟩
  | 58 => ⟨S128x4x2x4x1x1, .f32⟩
  | 59 => ⟨S128x4x2x4x1x1, .f32⟩
  | 60 => ⟨S128x4x2x4x16x64, .f32⟩
  | 61 => ⟨S128x4x2x4x16x64, .f32⟩
  | 62 => ⟨S128x4x2x4x16x64, .f32⟩
  | 63 => ⟨S_, .f32⟩
  | 64 => ⟨S_, .f32⟩
  | 65 => ⟨S128x4x2x4x16x64, .i1⟩
  | 66 => ⟨S128x4x2x4x16x64, .f32⟩
  | 67 => ⟨S128x4x2x4x16x64, .f32⟩
  | 68 => ⟨S_, .f32⟩
  | 69 => ⟨S128x4x2x4, .f32⟩
  | 70 => ⟨S128x4x2x4x1x1, .f32⟩
  | 71 => ⟨S_, .f32⟩
  | 72 => ⟨S128x4x2x4x1x1, .f32⟩
  | 73 => ⟨S128x4x2x4x1x1, .i1⟩
  | 74 => ⟨S_, .f32⟩
  | 75 => ⟨S_, .f32⟩
  | 76 => ⟨S128x4x2x4x1x1, .f32⟩
  | 77 => ⟨S128x4x2x4x1x1, .f32⟩
  | 78 => ⟨S128x4x2x4x16x64, .f32⟩
  | 79 => ⟨S128x4x2x4x16x64, .f32⟩
  | 80 => ⟨S128x4x2x4x64, .f32⟩
  | 81 => ⟨S128x2x516x4x4, .f32⟩
  | 82 => ⟨S128x4x2x4x516, .f32⟩
  | 83 => ⟨S_, .f32⟩
  | 84 => ⟨S128x4x2x4x516, .f32⟩
  | 85 => ⟨S128x4x2x4x516, .f32⟩
  | 86 => ⟨S4x1, .i32⟩
  | 87 => ⟨S1x516, .i32⟩
  | 88 => ⟨S4x516, .i32⟩
  | 89 => ⟨S4x516, .i32⟩
  | 90 => ⟨S4x516, .i32⟩
  | 91 => ⟨S_, .i32⟩
  | 92 => ⟨S4x516, .i32⟩
  | 93 => ⟨S4x516, .i32⟩
  | 94 => ⟨S_, .i32⟩
  | 95 => ⟨S4x516, .i32⟩
  | 96 => ⟨S4x516, .i32⟩
  | 97 => ⟨S4x516, .f32⟩
  | 98 => ⟨S_, .f32⟩
  | 99 => ⟨S4x516, .f32⟩
  | 100 => ⟨S4x516, .f32⟩
  | 101 => ⟨S4x516, .f32⟩
  | 102 => ⟨S_, .f32⟩
  | 103 => ⟨S4x516, .f32⟩
  | 104 => ⟨S4x516, .f32⟩
  | 105 => ⟨S_, .f32⟩
  | 106 => ⟨S4x516, .f32⟩
  | 107 => ⟨S4x516, .f32⟩
  | 108 => ⟨S4x516, .i32⟩
  | 109 => ⟨S_, .i32⟩
  | 110 => ⟨S4x516, .i32⟩
  | 111 => ⟨S4x516, .i32⟩
  | 112 => ⟨S_, .i32⟩
  | 113 => ⟨S4x516, .i32⟩
  | 114 => ⟨S4x516, .i1⟩
  | 115 => ⟨S_, .i32⟩
  | 116 => ⟨S4x516, .i32⟩
  | 117 => ⟨S4x516, .i32⟩
  | 118 => ⟨S4x516, .i32⟩
  | 119 => ⟨S_, .i32⟩
  | 120 => ⟨S4x516, .i32⟩
  | 121 => ⟨S4x516, .i1⟩
  | 122 => ⟨S_, .i32⟩
  | 123 => ⟨S4x516, .i32⟩
  | 124 => ⟨S4x516, .i32⟩
  | 125 => ⟨S4x516, .i32⟩
  | 126 => ⟨S4x516x1, .i32⟩
  | 127 => ⟨S4x516x2x4, .f32⟩
  | _ => ⟨S128x4x1024, .f32⟩

abbrev hbmTy0_6 (i : Nat) : BufTy := match i % 128 with
  | 0 => ⟨S4x2x4x516, .f32⟩
  | 1 => ⟨S1x4x2x4x516, .f32⟩
  | 2 => ⟨S128x4x2x4x516, .f32⟩
  | 3 => ⟨S128x4x2x4x516, .f32⟩
  | 4 => ⟨S_, .i32⟩
  | 5 => ⟨S4x516, .i32⟩
  | 6 => ⟨S4x516, .i1⟩
  | 7 => ⟨S_, .i32⟩
  | 8 => ⟨S4x516, .i32⟩
  | 9 => ⟨S4x516, .i1⟩
  | 10 => ⟨S4x516, .i1⟩
  | 11 => ⟨S_, .i32⟩
  | 12 => ⟨S516, .i32⟩
  | 13 => ⟨S516, .i1⟩
  | 14 => ⟨S1x516, .i1⟩
  | 15 => ⟨S4x516, .i1⟩
  | 16 => ⟨S4x516, .i1⟩
  | 17 => ⟨S1x4x1x1x516, .i1⟩
  | 18 => ⟨S_, .f32⟩
  | 19 => ⟨S_, .f32⟩
  | 20 => ⟨S128x4x2x4x516, .i1⟩
  | 21 => ⟨S128x4x2x4x516, .f32⟩
  | 22 => ⟨S128x4x2x4x516, .f32⟩
  | 23 => ⟨S_, .f32⟩
  | 24 => ⟨S128x4x2x4, .f32⟩
  | 25 => ⟨S128x4x2x4x1, .f32⟩
  | 26 => ⟨S128x4x2x4x1, .f32⟩
  | 27 => ⟨S_, .f32⟩
  | 28 => ⟨S128x4x2x4x1, .f32⟩
  | 29 => ⟨S128x4x2x4x1, .i1⟩
  | 30 => ⟨S_, .f32⟩
  | 31 => ⟨S_, .f32⟩
  | 32 => ⟨S128x4x2x4x1, .f32⟩
  | 33 => ⟨S128x4x2x4x1, .f32⟩
  | 34 => ⟨S128x4x2x4x516, .f32⟩
  | 35 => ⟨S128x4x2x4x516, .f32⟩
  | 36 => ⟨S128x4x2x4x516, .f32⟩
  | 37 => ⟨S_, .f32⟩
  | 38 => ⟨S_, .f32⟩
  | 39 => ⟨S128x4x2x4x516, .i1⟩
  | 40 => ⟨S128x4x2x4x516, .f32⟩
  | 41 => ⟨S128x4x2x4x516, .f32⟩
  | 42 => ⟨S_, .f32⟩
  | 43 => ⟨S128x4x2x4, .f32⟩
  | 44 => ⟨S128x4x2x4x1, .f32⟩
  | 45 => ⟨S_, .f32⟩
  | 46 => ⟨S128x4x2x4x1, .f32⟩
  | 47 => ⟨S128x4x2x4x1, .i1⟩
  | 48 => ⟨S_, .f32⟩
  | 49 => ⟨S_, .f32⟩
  | 50 => ⟨S128x4x2x4x1, .f32⟩
  | 51 => ⟨S128x4x2x4x1, .f32⟩
  | 52 => ⟨S128x4x2x4x516, .f32⟩
  | 53 => ⟨S128x4x2x4x516, .f32⟩
  | 54 => ⟨S128x2x64x4x4, .f32⟩
  | 55 => ⟨S128x4x2x4x64, .f32⟩
  | 56 => ⟨S128x4x2x4x1, .f32⟩
  | 57 => ⟨S128x4x2x4x64, .f32⟩
  | 58 => ⟨S128x4x2x4x64, .f32⟩
  | 59 => ⟨S128x4x2x4x1, .f32⟩
  | 60 => ⟨S128x4x2x4x64, .f32⟩
  | 61 => ⟨S128x4x2x4x64, .f32⟩
  | 62 => ⟨S128x4x2x4x64, .f32⟩
  | 63 => ⟨S128x4x2x4x1, .f32⟩
  | 64 => ⟨S128x4x2x4x64, .f32⟩
  | 65 => ⟨S128x4x2x4x64, .f32⟩
  | 66 => ⟨S128x4x2x4x64, .f32⟩
  | 67 => ⟨S128x512x2x2x64, .f32⟩
  | 68 => ⟨S128x4x512, .f32⟩
  | 69 => ⟨S128x4x1x2x64, .f32⟩
  | 70 => ⟨S128x4x1x2x64, .f32⟩
  | 71 => ⟨S128x4x2x2x64, .f32⟩
  | 72 => ⟨S128x4x1x2x64, .f32⟩
  | 73 => ⟨S128x4x1x2x64, .f32⟩
  | 74 => ⟨S128x4x2x2x64, .f32⟩
  | 75 => ⟨S128x4x512, .f32⟩
  | 76 => ⟨S128x4x512, .f32⟩
  | 77 => ⟨S128x4x512, .f32⟩
  | 78 => ⟨S128x4x512, .f32⟩
  | 79 => ⟨S_, .f32⟩
  | 80 => ⟨S128x4x512, .f32⟩
  | 81 => ⟨S128x4x512, .f32⟩
  | 82 => ⟨S_, .f32⟩
  | 83 => ⟨S128x4x512, .f32⟩
  | 84 => ⟨S128x4x512, .f32⟩
  | 85 => ⟨S128x4x512, .f32⟩
  | 86 => ⟨S128x34x512, .f32⟩
  | 87 => ⟨S128x4x512, .f32⟩
  | 88 => ⟨S1x512, .f32⟩
  | 89 => ⟨S512, .f32⟩
  | 90 => ⟨S1x1x512, .f32⟩
  | 91 => ⟨S128x4x512, .f32⟩
  | 92 => ⟨S128x4x512, .f32⟩
  | 93 => ⟨S_, .f32⟩
  | 94 => ⟨S128x4x512, .f32⟩
  | 95 => ⟨S128x4x512, .f32⟩
  | 96 => ⟨S128x4x512, .f32⟩
  | 97 => ⟨S1x512, .f32⟩
  | 98 => ⟨S512, .f32⟩
  | 99 => ⟨S1x1x512, .f32⟩
  | 100 => ⟨S128x4x512, .f32⟩
  | 101 => ⟨S128x4x512, .f32⟩
  | 102 => ⟨S128x4x512, .f32⟩
  | 103 => ⟨S128x4x512, .f32⟩
  | 104 => ⟨S1x512, .f32⟩
  | 105 => ⟨S512, .f32⟩
  | 106 => ⟨S1x1x512, .f32⟩
  | 107 => ⟨S128x4x512, .f32⟩
  | 108 => ⟨S128x4x512, .f32⟩
  | 109 => ⟨S128x4x512, .f32⟩
  | 110 => ⟨S128x4x512, .f32⟩
  | 111 => ⟨S1x512, .f32⟩
  | 112 => ⟨S512, .f32⟩
  | 113 => ⟨S1x1x512, .f32⟩
  | 114 => ⟨S128x4x512, .f32⟩
  | 115 => ⟨S128x4x512, .f32⟩
  | 116 => ⟨S128x4x512, .f32⟩
  | 117 => ⟨S128x4x512, .f32⟩
  | 118 => ⟨S1x512, .f32⟩
  | 119 => ⟨S512, .f32⟩
  | 120 => ⟨S1x1x512, .f32⟩
  | 121 => ⟨S128x4x512, .f32⟩
  | 122 => ⟨S128x4x512, .f32⟩
  | 123 => ⟨S128x4x512, .f32⟩
  | 124 => ⟨S128x4x512, .f32⟩
  | 125 => ⟨S1x512, .f32⟩
  | 126 => ⟨S512, .f32⟩
  | 127 => ⟨S1x1x512, .f32⟩
  | _ => ⟨S128x4x1024, .f32⟩

abbrev hbmTy0_7 (i : Nat) : BufTy := match i % 128 with
  | 0 => ⟨S128x4x512, .f32⟩
  | 1 => ⟨S128x4x512, .f32⟩
  | 2 => ⟨S128x4x512, .f32⟩
  | 3 => ⟨S128x4x512, .f32⟩
  | 4 => ⟨S1x512, .f32⟩
  | 5 => ⟨S512, .f32⟩
  | 6 => ⟨S1x1x512, .f32⟩
  | 7 => ⟨S128x4x512, .f32⟩
  | 8 => ⟨S128x4x512, .f32⟩
  | 9 => ⟨S128x4x512, .f32⟩
  | 10 => ⟨S128x4x512, .f32⟩
  | 11 => ⟨S1x512, .f32⟩
  | 12 => ⟨S512, .f32⟩
  | 13 => ⟨S1x1x512, .f32⟩
  | 14 => ⟨S128x4x512, .f32⟩
  | 15 => ⟨S128x4x512, .f32⟩
  | 16 => ⟨S128x4x512, .f32⟩
  | 17 => ⟨S128x4x512, .f32⟩
  | 18 => ⟨S1x512, .f32⟩
  | 19 => ⟨S512, .f32⟩
  | 20 => ⟨S1x1x512, .f32⟩
  | 21 => ⟨S128x4x512, .f32⟩
  | 22 => ⟨S128x4x512, .f32⟩
  | 23 => ⟨S128x4x512, .f32⟩
  | 24 => ⟨S128x4x512, .f32⟩
  | 25 => ⟨S1x512, .f32⟩
  | 26 => ⟨S512, .f32⟩
  | 27 => ⟨S1x1x512, .f32⟩
  | 28 => ⟨S128x4x512, .f32⟩
  | 29 => ⟨S128x4x512, .f32⟩
  | 30 => ⟨S128x4x512, .f32⟩
  | 31 => ⟨S128x4x512, .f32⟩
  | 32 => ⟨S1x512, .f32⟩
  | 33 => ⟨S512, .f32⟩
  | 34 => ⟨S1x1x512, .f32⟩
  | 35 => ⟨S128x4x512, .f32⟩
  | 36 => ⟨S128x4x512, .f32⟩
  | 37 => ⟨S128x4x512, .f32⟩
  | 38 => ⟨S128x4x512, .f32⟩
  | 39 => ⟨S1x512, .f32⟩
  | 40 => ⟨S512, .f32⟩
  | 41 => ⟨S1x1x512, .f32⟩
  | 42 => ⟨S128x4x512, .f32⟩
  | 43 => ⟨S128x4x512, .f32⟩
  | 44 => ⟨S128x4x512, .f32⟩
  | 45 => ⟨S128x4x512, .f32⟩
  | 46 => ⟨S1x512, .f32⟩
  | 47 => ⟨S512, .f32⟩
  | 48 => ⟨S1x1x512, .f32⟩
  | 49 => ⟨S128x4x512, .f32⟩
  | 50 => ⟨S128x4x512, .f32⟩
  | 51 => ⟨S128x4x512, .f32⟩
  | 52 => ⟨S128x4x512, .f32⟩
  | 53 => ⟨S1x512, .f32⟩
  | 54 => ⟨S512, .f32⟩
  | 55 => ⟨S1x1x512, .f32⟩
  | 56 => ⟨S128x4x512, .f32⟩
  | 57 => ⟨S128x4x512, .f32⟩
  | 58 => ⟨S128x4x512, .f32⟩
  | 59 => ⟨S128x4x512, .f32⟩
  | 60 => ⟨S1x512, .f32⟩
  | 61 => ⟨S512, .f32⟩
  | 62 => ⟨S1x1x512, .f32⟩
  | 63 => ⟨S128x4x512, .f32⟩
  | 64 => ⟨S128x4x512, .f32⟩
  | 65 => ⟨S128x4x512, .f32⟩
  | 66 => ⟨S128x4x512, .f32⟩
  | 67 => ⟨S1x512, .f32⟩
  | 68 => ⟨S512, .f32⟩
  | 69 => ⟨S1x1x512, .f32⟩
  | 70 => ⟨S128x4x512, .f32⟩
  | 71 => ⟨S128x4x512, .f32⟩
  | 72 => ⟨S128x4x512, .f32⟩
  | 73 => ⟨S128x4x512, .f32⟩
  | 74 => ⟨S1x512, .f32⟩
  | 75 => ⟨S512, .f32⟩
  | 76 => ⟨S1x1x512, .f32⟩
  | 77 => ⟨S128x4x512, .f32⟩
  | 78 => ⟨S128x4x512, .f32⟩
  | 79 => ⟨S128x4x512, .f32⟩
  | 80 => ⟨S128x4x512, .f32⟩
  | 81 => ⟨S1x512, .f32⟩
  | 82 => ⟨S512, .f32⟩
  | 83 => ⟨S1x1x512, .f32⟩
  | 84 => ⟨S128x4x512, .f32⟩
  | 85 => ⟨S128x4x512, .f32⟩
  | 86 => ⟨S128x4x512, .f32⟩
  | 87 => ⟨S128x4x512, .f32⟩
  | 88 => ⟨S1x512, .f32⟩
  | 89 => ⟨S512, .f32⟩
  | 90 => ⟨S1x1x512, .f32⟩
  | 91 => ⟨S128x4x512, .f32⟩
  | 92 => ⟨S128x4x512, .f32⟩
  | 93 => ⟨S128x4x512, .f32⟩
  | 94 => ⟨S128x4x512, .f32⟩
  | 95 => ⟨S1x512, .f32⟩
  | 96 => ⟨S512, .f32⟩
  | 97 => ⟨S1x1x512, .f32⟩
  | 98 => ⟨S128x4x512, .f32⟩
  | 99 => ⟨S128x4x512, .f32⟩
  | 100 => ⟨S128x4x512, .f32⟩
  | 101 => ⟨S128x4x512, .f32⟩
  | 102 => ⟨S1x512, .f32⟩
  | 103 => ⟨S512, .f32⟩
  | 104 => ⟨S1x1x512, .f32⟩
  | 105 => ⟨S128x4x512, .f32⟩
  | 106 => ⟨S128x4x512, .f32⟩
  | 107 => ⟨S128x4x512, .f32⟩
  | 108 => ⟨S128x4x512, .f32⟩
  | 109 => ⟨S1x512, .f32⟩
  | 110 => ⟨S512, .f32⟩
  | 111 => ⟨S1x1x512, .f32⟩
  | 112 => ⟨S128x4x512, .f32⟩
  | 113 => ⟨S128x4x512, .f32⟩
  | 114 => ⟨S128x4x512, .f32⟩
  | 115 => ⟨S128x4x512, .f32⟩
  | 116 => ⟨S1x512, .f32⟩
  | 117 => ⟨S512, .f32⟩
  | 118 => ⟨S1x1x512, .f32⟩
  | 119 => ⟨S128x4x512, .f32⟩
  | 120 => ⟨S128x4x512, .f32⟩
  | 121 => ⟨S128x4x512, .f32⟩
  | 122 => ⟨S128x4x512, .f32⟩
  | 123 => ⟨S1x512, .f32⟩
  | 124 => ⟨S512, .f32⟩
  | 125 => ⟨S1x1x512, .f32⟩
  | 126 => ⟨S128x4x512, .f32⟩
  | 127 => ⟨S128x4x512, .f32⟩
  | _ => ⟨S128x4x1024, .f32⟩

abbrev hbmTy0_8 (i : Nat) : BufTy := match i % 128 with
  | 0 => ⟨S128x4x512, .f32⟩
  | 1 => ⟨S128x4x512, .f32⟩
  | 2 => ⟨S1x512, .f32⟩
  | 3 => ⟨S512, .f32⟩
  | 4 => ⟨S1x1x512, .f32⟩
  | 5 => ⟨S128x4x512, .f32⟩
  | 6 => ⟨S128x4x512, .f32⟩
  | 7 => ⟨S128x4x512, .f32⟩
  | 8 => ⟨S128x4x512, .f32⟩
  | 9 => ⟨S1x512, .f32⟩
  | 10 => ⟨S512, .f32⟩
  | 11 => ⟨S1x1x512, .f32⟩
  | 12 => ⟨S128x4x512, .f32⟩
  | 13 => ⟨S128x4x512, .f32⟩
  | 14 => ⟨S128x4x512, .f32⟩
  | 15 => ⟨S128x4x512, .f32⟩
  | 16 => ⟨S1x512, .f32⟩
  | 17 => ⟨S512, .f32⟩
  | 18 => ⟨S1x1x512, .f32⟩
  | 19 => ⟨S128x4x512, .f32⟩
  | 20 => ⟨S128x4x512, .f32⟩
  | 21 => ⟨S128x4x512, .f32⟩
  | 22 => ⟨S128x4x512, .f32⟩
  | 23 => ⟨S1x512, .f32⟩
  | 24 => ⟨S512, .f32⟩
  | 25 => ⟨S1x1x512, .f32⟩
  | 26 => ⟨S128x4x512, .f32⟩
  | 27 => ⟨S128x4x512, .f32⟩
  | 28 => ⟨S128x4x512, .f32⟩
  | 29 => ⟨S128x4x512, .f32⟩
  | 30 => ⟨S1x512, .f32⟩
  | 31 => ⟨S512, .f32⟩
  | 32 => ⟨S1x1x512, .f32⟩
  | 33 => ⟨S128x4x512, .f32⟩
  | 34 => ⟨S128x4x512, .f32⟩
  | 35 => ⟨S128x4x512, .f32⟩
  | 36 => ⟨S128x4x512, .f32⟩
  | 37 => ⟨S1x512, .f32⟩
  | 38 => ⟨S512, .f32⟩
  | 39 => ⟨S1x1x512, .f32⟩
  | 40 => ⟨S128x4x512, .f32⟩
  | 41 => ⟨S128x4x512, .f32⟩
  | 42 => ⟨S128x4x512, .f32⟩
  | 43 => ⟨S128x4x512, .f32⟩
  | 44 => ⟨S1x512, .f32⟩
  | 45 => ⟨S512, .f32⟩
  | 46 => ⟨S1x1x512, .f32⟩
  | 47 => ⟨S128x4x512, .f32⟩
  | 48 => ⟨S128x4x512, .f32⟩
  | 49 => ⟨S128x4x512, .f32⟩
  | 50 => ⟨S1x1x512, .f32⟩
  | 51 => ⟨S128x4x512, .f32⟩
  | 52 => ⟨S128x4x512, .f32⟩
  | 53 => ⟨S_, .f32⟩
  | 54 => ⟨S128x4, .f32⟩
  | 55 => ⟨S128x4x1, .f32⟩
  | 56 => ⟨S_, .f32⟩
  | 57 => ⟨S128x4x1, .f32⟩
  | 58 => ⟨S128x4x1, .f32⟩
  | 59 => ⟨S128x4x512, .f32⟩
  | 60 => ⟨S128x4x512, .f32⟩
  | 61 => ⟨S128x4x512, .f32⟩
  | 62 => ⟨S_, .f32⟩
  | 63 => ⟨S128x4, .f32⟩
  | 64 => ⟨S128x4x1, .f32⟩
  | 65 => ⟨S_, .f32⟩
  | 66 => ⟨S128x4x1, .f32⟩
  | 67 => ⟨S128x4x1, .f32⟩
  | 68 => ⟨S128x4x512, .f32⟩
  | 69 => ⟨S128x4x512, .f32⟩
  | 70 => ⟨S_, .f32⟩
  | 71 => ⟨S128x4x1, .f32⟩
  | 72 => ⟨S128x4x1, .f32⟩
  | 73 => ⟨S128x4x1, .f32⟩
  | 74 => ⟨S128x4x512, .f32⟩
  | 75 => ⟨S128x4x512, .f32⟩
  | 76 => ⟨S1x1x512, .f32⟩
  | 77 => ⟨S128x4x512, .f32⟩
  | 78 => ⟨S128x4x512, .f32⟩
  | 79 => ⟨S1x1x512, .f32⟩
  | 80 => ⟨S128x4x512, .f32⟩
  | 81 => ⟨S128x4x512, .f32⟩
  | 82 => ⟨S128x4x512, .f32⟩
  | 83 => ⟨S128x4x512, .f32⟩
  | 84 => ⟨S_, .f32⟩
  | 85 => ⟨S128x4x512, .f32⟩
  | 86 => ⟨S128x4x512, .f32⟩
  | 87 => ⟨S_, .f32⟩
  | 88 => ⟨S128x4x512, .f32⟩
  | 89 => ⟨S128x4x512, .f32⟩
  | 90 => ⟨S128x4x512, .f32⟩
  | 91 => ⟨S128x30x512, .f32⟩
  | 92 => ⟨S128x4x512, .f32⟩
  | 93 => ⟨S_, .f32⟩
  | 94 => ⟨S128x4, .f32⟩
  | 95 => ⟨S128x4x1, .f32⟩
  | 96 => ⟨S_, .f32⟩
  | 97 => ⟨S128x4x1, .f32⟩
  | 98 => ⟨S128x4x1, .f32⟩
  | 99 => ⟨S_, .f32⟩
  | 100 => ⟨S128x4x1, .f32⟩
  | 101 => ⟨S128x4x1, .f32⟩
  | 102 => ⟨S128x4x1, .f32⟩
  | 103 => ⟨S128x4x512, .f32⟩
  | 104 => ⟨S128x4x512, .f32⟩
  | 105 => ⟨S1x1x512, .f32⟩
  | 106 => ⟨S128x4x512, .f32⟩
  | 107 => ⟨S128x4x512, .f32⟩
  | 108 => ⟨S1x1x512, .f32⟩
  | 109 => ⟨S128x4x512, .f32⟩
  | 110 => ⟨S128x4x512, .f32⟩
  | 111 => ⟨S128x4x1024, .f32⟩
  | 112 => ⟨S1x1x1, .f32⟩
  | 113 => ⟨S_, .f32⟩
  | 114 => ⟨S_, .f32⟩
  | 115 => ⟨S_, .f32⟩
  | 116 => ⟨S_, .f32⟩
  | 117 => ⟨S_, .f32⟩
  | 118 => ⟨S128x4x1024, .f32⟩
  | 119 => ⟨S128x4x1024, .f32⟩
  | 120 => ⟨S128x4x1024, .f32⟩
  | 121 => ⟨S128x4x1024, .f32⟩
  | 122 => ⟨S128x4x1024, .f32⟩
  | 123 => ⟨S_, .f32⟩
  | 124 => ⟨S128x4, .f32⟩
  | 125 => ⟨S128x4x1, .f32⟩
  | 126 => ⟨S_, .f32⟩
  | 127 => ⟨S128x4x1, .f32⟩
  | _ => ⟨S128x4x1024, .f32⟩

abbrev hbmTy0_9 (i : Nat) : BufTy := match i % 128 with
  | 0 => ⟨S128x4x1, .f32⟩
  | 1 => ⟨S_, .f32⟩
  | 2 => ⟨S128x4x1, .f32⟩
  | 3 => ⟨S128x4x1, .f32⟩
  | 4 => ⟨S128x4x1, .f32⟩
  | 5 => ⟨S128x4x1024, .f32⟩
  | 6 => ⟨S128x4x1024, .f32⟩
  | 7 => ⟨S1x1x1024, .f32⟩
  | 8 => ⟨S128x4x1024, .f32⟩
  | 9 => ⟨S128x4x1024, .f32⟩
  | 10 => ⟨S_, .f32⟩
  | 11 => ⟨S128x1x1024, .f32⟩
  | 12 => ⟨S128x1x1024, .f32⟩
  | 13 => ⟨S128x4x1024, .f32⟩
  | 14 => ⟨S128x4x1024, .f32⟩
  | 15 => ⟨S128x4x1024, .f32⟩
  | 16 => ⟨S128x4x1024, .f32⟩
  | 17 => ⟨S512x1024, .f32⟩
  | 18 => ⟨S1x1x1, .f32⟩
  | 19 => ⟨S_, .f32⟩
  | 20 => ⟨S_, .f32⟩
  | 21 => ⟨S_, .f32⟩
  | 22 => ⟨S_, .f32⟩
  | 23 => ⟨S_, .f32⟩
  | 24 => ⟨S_, .i32⟩
  | 25 => ⟨S_, .f32⟩
  | 26 => ⟨S512x1024, .f32⟩
  | 27 => ⟨S2x256x1024, .f32⟩
  | 28 => ⟨S_, .f32⟩
  | 29 => ⟨S2x256x1024, .f32⟩
  | 30 => ⟨S_, .i32⟩
  | 31 => ⟨S2x256x1024, .f32⟩
  | 32 => ⟨S1024x2048, .f32⟩
  | 33 => ⟨S8x2x128x128, .f32⟩
  | 34 => ⟨S16384x1024, .f32⟩
  | 35 => ⟨S16384x1024, .f32⟩
  | 36 => ⟨S_, .i32⟩
  | 37 => ⟨S2x256x1024, .f32⟩
  | 38 => ⟨S_, .i32⟩
  | 39 => ⟨S_, .i1⟩
  | 40 => ⟨S_, .i32⟩
  | 41 => ⟨S_, .i32⟩
  | 42 => ⟨S1x256x1024, .f32⟩
  | 43 => ⟨S256x1024, .f32⟩
  | 44 => ⟨S256x2048, .f32⟩
  | 45 => ⟨S256x8x2x128, .f32⟩
  | 46 => ⟨S8x2x128x256, .f32⟩
  | 47 => ⟨S256x8x2x128, .f32⟩
  | 48 => ⟨S256x8x1x128, .f32⟩
  | 49 => ⟨S256x8x128, .f32⟩
  | 50 => ⟨S256x8x16, .f32⟩
  | 51 => ⟨S256x8x16, .i32⟩
  | 52 => ⟨S256x8x1x128, .f32⟩
  | 53 => ⟨S256x8x128, .f32⟩
  | 54 => ⟨S256x8x16, .f32⟩
  | 55 => ⟨S256x8x16, .i32⟩
  | 56 => ⟨S256x8x16x1, .f32⟩
  | 57 => ⟨S256x8x1x16, .f32⟩
  | 58 => ⟨S256x8x16x16, .f32⟩
  | 59 => ⟨S256x8x16x16, .f32⟩
  | 60 => ⟨S256x8x16x16, .f32⟩
  | 61 => ⟨S256x8x256, .f32⟩
  | 62 => ⟨S256x8x16x1, .i32⟩
  | 63 => ⟨S_, .i32⟩
  | 64 => ⟨S256x8x16x1, .i32⟩
  | 65 => ⟨S256x8x16x1, .i32⟩
  | 66 => ⟨S256x8x1x16, .i32⟩
  | 67 => ⟨S256x8x16x16, .i32⟩
  | 68 => ⟨S256x8x16x16, .i32⟩
  | 69 => ⟨S256x8x16x16, .i32⟩
  | 70 => ⟨S256x8x256, .i32⟩
  | 71 => ⟨S256x8x16, .f32⟩
  | 72 => ⟨S256x8x16, .i32⟩
  | 73 => ⟨S_, .i32⟩
  | 74 => ⟨S256x8x16, .i32⟩
  | 75 => ⟨S256x8x16, .i1⟩
  | 76 => ⟨S_, .i32⟩
  | 77 => ⟨S256x8x16, .i32⟩
  | 78 => ⟨S256x8x16, .i32⟩
  | 79 => ⟨S256x8x16, .i32⟩
  | 80 => ⟨S256x8x16x1, .i32⟩
  | 81 => ⟨S1, .i32⟩
  | 82 => ⟨S_, .i32⟩
  | 83 => ⟨S256x8x16x1, .i32⟩
  | 84 => ⟨S256x8x16x1, .i1⟩
  | 85 => ⟨S1x1x1x1, .i32⟩
  | 86 => ⟨S256x8x16x1, .i32⟩
  | 87 => ⟨S256x8x16x1, .i1⟩
  | 88 => ⟨S256x8x16x1, .i1⟩
  | 89 => ⟨S_, .i1⟩
  | 90 => ⟨S256x8x16, .i1⟩
  | 91 => ⟨S256x8x16, .i32⟩
  | 92 => ⟨S_, .i32⟩
  | 93 => ⟨S256x8x16, .i32⟩
  | 94 => ⟨S256x8x16, .i32⟩
  | 95 => ⟨S_, .f32⟩
  | 96 => ⟨S256x8, .f32⟩
  | 97 => ⟨S_, .f32⟩
  | 98 => ⟨S256x8, .f32⟩
  | 99 => ⟨S256x8, .f32⟩
  | 100 => ⟨S256x8x1, .f32⟩
  | 101 => ⟨S256x8x16, .f32⟩
  | 102 => ⟨S256x8x16, .f32⟩
  | 103 => ⟨S256x8x16, .f32⟩
  | 104 => ⟨S_, .f32⟩
  | 105 => ⟨S256x8, .f32⟩
  | 106 => ⟨S256x8x1, .f32⟩
  | 107 => ⟨S256x8x16, .f32⟩
  | 108 => ⟨S256x8x16, .f32⟩
  | 109 => ⟨S_, .i32⟩
  | 110 => ⟨S256x8x16, .i32⟩
  | 111 => ⟨S256x8x16, .i1⟩
  | 112 => ⟨S_, .i32⟩
  | 113 => ⟨S256x8x16, .i32⟩
  | 114 => ⟨S256x8x16, .i32⟩
  | 115 => ⟨S256x8x16, .i32⟩
  | 116 => ⟨S256x8x16x1, .i32⟩
  | 117 => ⟨S256x8x16x1024, .f32⟩
  | 118 => ⟨S_, .i32⟩
  | 119 => ⟨S256x8x16, .i32⟩
  | 120 => ⟨S256x8x16, .i1⟩
  | 121 => ⟨S_, .i32⟩
  | 122 => ⟨S256x8x16, .i32⟩
  | 123 => ⟨S256x8x16, .i32⟩
  | 124 => ⟨S256x8x16, .i32⟩
  | 125 => ⟨S256x8x16x1, .i32⟩
  | 126 => ⟨S256x8x16x1024, .f32⟩
  | 127 => ⟨S256x8x16, .f32⟩
  | _ => ⟨S128x4x1024, .f32⟩

abbrev hbmTy0_10 (i : Nat) : BufTy := match i % 128 with
  | 0 => ⟨S256x8x16, .f32⟩
  | 1 => ⟨S256x8x16, .f32⟩
  | 2 => ⟨S_, .f32⟩
  | 3 => ⟨S256x8x16, .f32⟩
  | 4 => ⟨S256x8x16, .f32⟩
  | 5 => ⟨S256x8x16, .f32⟩
  | 6 => ⟨S_, .f32⟩
  | 7 => ⟨S256x8x16, .f32⟩
  | 8 => ⟨S256x8x16, .f32⟩
  | 9 => ⟨S256x8x16, .f32⟩
  | 10 => ⟨S_, .f32⟩
  | 11 => ⟨S256x8x16, .f32⟩
  | 12 => ⟨S256x8x16, .f32⟩
  | 13 => ⟨S_, .f32⟩
  | 14 => ⟨S256x8x16, .f32⟩
  | 15 => ⟨S256x8x16, .f32⟩
  | 16 => ⟨S256x8x16, .f32⟩
  | 17 => ⟨S256x8x16, .f32⟩
  | 18 => ⟨S256x1024, .f32⟩
  | 19 => ⟨S1x256x1024, .f32⟩
  | 20 => ⟨S_, .i32⟩
  | 21 => ⟨S_, .i32⟩
  | 22 => ⟨S2x256x1024, .f32⟩
  | 23 => ⟨S_, .i32⟩
  | 24 => ⟨S_, .i32⟩
  | 25 => ⟨S512x1024, .f32⟩
  | 26 => ⟨S128x4x1024, .f32⟩
  | 27 => ⟨S128x4x1024, .f32⟩
  | 28 => ⟨S128x4x1024, .f32⟩
  | 29 => ⟨S128x4x1024, .f32⟩
  | 30 => ⟨S1x128x4x2x2x64, .f32⟩
  | 31 => ⟨S1x128x4x2x2x64, .f32⟩
  | 32 => ⟨S1x128x512x2x2x64, .f32⟩
  | 33 => ⟨S1x128x30x512, .f32⟩
  | _ => ⟨S128x4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst : Ref sig .tc := ⟨.hbm, 79, rfl⟩
abbrev main_v40 : Ref sig .tc := ⟨.hbm, 80, rfl⟩
abbrev main_v41 : Ref sig .tc := ⟨.hbm, 81, rfl⟩
abbrev main_cst_0 : Ref sig .tc := ⟨.hbm, 82, rfl⟩
abbrev main_v42 : Ref sig .tc := ⟨.hbm, 83, rfl⟩
abbrev main_v43 : Ref sig .tc := ⟨.hbm, 84, rfl⟩
abbrev main_cst_1 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_2 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_3 : Ref sig .tc := ⟨.hbm, 120, rfl⟩
abbrev main_v77 : Ref sig .tc := ⟨.hbm, 121, rfl⟩
abbrev main_v78 : Ref sig .tc := ⟨.hbm, 122, rfl⟩
abbrev main_cst_4 : Ref sig .tc := ⟨.hbm, 123, rfl⟩
abbrev main_v79 : Ref sig .tc := ⟨.hbm, 124, rfl⟩
abbrev main_v80 : Ref sig .tc := ⟨.hbm, 125, rfl⟩
abbrev main_cst_5 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_6 : Ref sig .tc := ⟨.hbm, 139, rfl⟩
abbrev main_v93 : Ref sig .tc := ⟨.hbm, 140, rfl⟩
abbrev main_v94 : Ref sig .tc := ⟨.hbm, 141, rfl⟩
abbrev main_cst_7 : Ref sig .tc := ⟨.hbm, 142, rfl⟩
abbrev main_v95 : Ref sig .tc := ⟨.hbm, 143, rfl⟩
abbrev main_v96 : Ref sig .tc := ⟨.hbm, 144, rfl⟩
abbrev main_cst_8 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_9 : Ref sig .tc := ⟨.hbm, 158, rfl⟩
abbrev main_v109 : Ref sig .tc := ⟨.hbm, 159, rfl⟩
abbrev main_v110 : Ref sig .tc := ⟨.hbm, 160, rfl⟩
abbrev main_cst_10 : Ref sig .tc := ⟨.hbm, 161, rfl⟩
abbrev main_v111 : Ref sig .tc := ⟨.hbm, 162, rfl⟩
abbrev main_v112 : Ref sig .tc := ⟨.hbm, 163, rfl⟩
abbrev main_cst_11 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_12 : Ref sig .tc := ⟨.hbm, 176, rfl⟩
abbrev main_v124 : Ref sig .tc := ⟨.hbm, 177, rfl⟩
abbrev main_v125 : Ref sig .tc := ⟨.hbm, 178, rfl⟩
abbrev main_cst_13 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c : Ref sig .tc := ⟨.hbm, 187, rfl⟩
abbrev main_v133 : Ref sig .tc := ⟨.hbm, 188, rfl⟩
abbrev main_v134 : Ref sig .tc := ⟨.hbm, 189, rfl⟩
abbrev main_c_14 : Ref sig .tc := ⟨.hbm, 190, rfl⟩
abbrev main_v135 : Ref sig .tc := ⟨.hbm, 191, rfl⟩
abbrev main_v136 : Ref sig .tc := ⟨.hbm, 192, rfl⟩
abbrev main_c_15 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_c_16 : Ref sig .tc := ⟨.hbm, 200, rfl⟩
abbrev main_v143 : Ref sig .tc := ⟨.hbm, 201, rfl⟩
abbrev main_v144 : Ref sig .tc := ⟨.hbm, 202, rfl⟩
abbrev main_c_17 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_18 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_cst_19 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_20 : Ref sig .tc := ⟨.hbm, 249, rfl⟩
abbrev main_v188 : Ref sig .tc := ⟨.hbm, 250, rfl⟩
abbrev main_v189 : Ref sig .tc := ⟨.hbm, 251, rfl⟩
abbrev main_cst_21 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_22 : Ref sig .tc := ⟨.hbm, 261, rfl⟩
abbrev main_v198 : Ref sig .tc := ⟨.hbm, 262, rfl⟩
abbrev main_v199 : Ref sig .tc := ⟨.hbm, 263, rfl⟩
abbrev main_c_23 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_cst_24 : Ref sig .tc := ⟨.hbm, 270, rfl⟩
abbrev main_v205 : Ref sig .tc := ⟨.hbm, 271, rfl⟩
abbrev main_v206 : Ref sig .tc := ⟨.hbm, 272, rfl⟩
abbrev main_cst_25 : Ref sig .tc := ⟨.hbm, 273, rfl⟩
abbrev main_v207 : Ref sig .tc := ⟨.hbm, 274, rfl⟩
abbrev main_v208 : Ref sig .tc := ⟨.hbm, 275, rfl⟩
abbrev main_cst_26 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_27 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_cst_28 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_cst_29 : Ref sig .tc := ⟨.hbm, 324, rfl⟩
abbrev main_v254 : Ref sig .tc := ⟨.hbm, 325, rfl⟩
abbrev main_v255 : Ref sig .tc := ⟨.hbm, 326, rfl⟩
abbrev main_cst_30 : Ref sig .tc := ⟨.hbm, 327, rfl⟩
abbrev main_v256 : Ref sig .tc := ⟨.hbm, 328, rfl⟩
abbrev main_v257 : Ref sig .tc := ⟨.hbm, 329, rfl⟩
abbrev main_v258 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev main_c_31 : Ref sig .tc := ⟨.hbm, 336, rfl⟩
abbrev main_v264 : Ref sig .tc := ⟨.hbm, 337, rfl⟩
abbrev main_v265 : Ref sig .tc := ⟨.hbm, 338, rfl⟩
abbrev main_c_32 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_c_33 : Ref sig .tc := ⟨.hbm, 345, rfl⟩
abbrev main_call1_v0 : Ref sig .tc := ⟨.hbm, 346, rfl⟩
abbrev main_v271 : Ref sig .tc := ⟨.hbm, 347, rfl⟩
abbrev main_v272 : Ref sig .tc := ⟨.hbm, 348, rfl⟩
abbrev main_v273 : Ref sig .tc := ⟨.hbm, 349, rfl⟩
abbrev main_v274 : Ref sig .tc := ⟨.hbm, 350, rfl⟩
abbrev main_v275 : Ref sig .tc := ⟨.hbm, 351, rfl⟩
abbrev main_v276 : Ref sig .tc := ⟨.hbm, 352, rfl⟩
abbrev main_c_34 : Ref sig .tc := ⟨.hbm, 353, rfl⟩
abbrev main_call2_v0 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_c_35 : Ref sig .tc := ⟨.hbm, 363, rfl⟩
abbrev main_v285 : Ref sig .tc := ⟨.hbm, 364, rfl⟩
abbrev main_v286 : Ref sig .tc := ⟨.hbm, 365, rfl⟩
abbrev main_v287 : Ref sig .tc := ⟨.hbm, 366, rfl⟩
abbrev main_v288 : Ref sig .tc := ⟨.hbm, 367, rfl⟩
abbrev main_v289 : Ref sig .tc := ⟨.hbm, 368, rfl⟩
abbrev main_v290 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_cst_36 : Ref sig .tc := ⟨.hbm, 373, rfl⟩
abbrev main_v294 : Ref sig .tc := ⟨.hbm, 374, rfl⟩
abbrev main_v295 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_c_37 : Ref sig .tc := ⟨.hbm, 381, rfl⟩
abbrev main_v301 : Ref sig .tc := ⟨.hbm, 382, rfl⟩
abbrev main_v302 : Ref sig .tc := ⟨.hbm, 383, rfl⟩
abbrev main_c_38 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_cst_39 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_cst_40 : Ref sig .tc := ⟨.hbm, 392, rfl⟩
abbrev main_v309 : Ref sig .tc := ⟨.hbm, 393, rfl⟩
abbrev main_v310 : Ref sig .tc := ⟨.hbm, 394, rfl⟩
abbrev main_cst_41 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_c_42 : Ref sig .tc := ⟨.hbm, 399, rfl⟩
abbrev main_v314 : Ref sig .tc := ⟨.hbm, 400, rfl⟩
abbrev main_v315 : Ref sig .tc := ⟨.hbm, 401, rfl⟩
abbrev main_c_43 : Ref sig .tc := ⟨.hbm, 402, rfl⟩
abbrev main_v316 : Ref sig .tc := ⟨.hbm, 403, rfl⟩
abbrev main_v317 : Ref sig .tc := ⟨.hbm, 404, rfl⟩
abbrev main_c_44 : Ref sig .tc := ⟨.hbm, 405, rfl⟩
abbrev main_v318 : Ref sig .tc := ⟨.hbm, 406, rfl⟩
abbrev main_v319 : Ref sig .tc := ⟨.hbm, 407, rfl⟩
abbrev main_v320 : Ref sig .tc := ⟨.hbm, 408, rfl⟩
abbrev main_c_45 : Ref sig .tc := ⟨.hbm, 409, rfl⟩
abbrev main_v321 : Ref sig .tc := ⟨.hbm, 410, rfl⟩
abbrev main_v322 : Ref sig .tc := ⟨.hbm, 411, rfl⟩
abbrev main_c_46 : Ref sig .tc := ⟨.hbm, 412, rfl⟩
abbrev main_v323 : Ref sig .tc := ⟨.hbm, 413, rfl⟩
abbrev main_v324 : Ref sig .tc := ⟨.hbm, 414, rfl⟩
abbrev main_v325 : Ref sig .tc := ⟨.hbm, 415, rfl⟩
abbrev main_v326 : Ref sig .tc := ⟨.hbm, 416, rfl⟩
abbrev main_v327 : Ref sig .tc := ⟨.hbm, 417, rfl⟩
abbrev main_v328 : Ref sig .tc := ⟨.hbm, 418, rfl⟩
abbrev main_v329 : Ref sig .tc := ⟨.hbm, 419, rfl⟩
abbrev main_v330 : Ref sig .tc := ⟨.hbm, 420, rfl⟩
abbrev main_v331 : Ref sig .tc := ⟨.hbm, 421, rfl⟩
abbrev main_c_47 : Ref sig .tc := ⟨.hbm, 422, rfl⟩
abbrev main_v332 : Ref sig .tc := ⟨.hbm, 423, rfl⟩
abbrev main_v333 : Ref sig .tc := ⟨.hbm, 424, rfl⟩
abbrev main_v334 : Ref sig .tc := ⟨.hbm, 425, rfl⟩
abbrev main_cst_48 : Ref sig .tc := ⟨.hbm, 426, rfl⟩
abbrev main_call4_v0 : Ref sig .tc := ⟨.hbm, 427, rfl⟩
abbrev main_call4_v1 : Ref sig .tc := ⟨.hbm, 428, rfl⟩
abbrev main_call4_v2 : Ref sig .tc := ⟨.hbm, 429, rfl⟩
abbrev main_v335 : Ref sig .tc := ⟨.hbm, 430, rfl⟩
abbrev main_cst_49 : Ref sig .tc := ⟨.hbm, 431, rfl⟩
abbrev main_v336 : Ref sig .tc := ⟨.hbm, 432, rfl⟩
abbrev main_v337 : Ref sig .tc := ⟨.hbm, 433, rfl⟩
abbrev main_v338 : Ref sig .tc := ⟨.hbm, 434, rfl⟩
abbrev main_cst_50 : Ref sig .tc := ⟨.hbm, 435, rfl⟩
abbrev main_v339 : Ref sig .tc := ⟨.hbm, 436, rfl⟩
abbrev main_v340 : Ref sig .tc := ⟨.hbm, 437, rfl⟩
abbrev main_cst_51 : Ref sig .tc := ⟨.hbm, 438, rfl⟩
abbrev main_call5_v0 : Ref sig .tc := ⟨.hbm, 439, rfl⟩
abbrev main_call5_v1 : Ref sig .tc := ⟨.hbm, 440, rfl⟩
abbrev main_v341 : Ref sig .tc := ⟨.hbm, 441, rfl⟩
abbrev main_v342 : Ref sig .tc := ⟨.hbm, 442, rfl⟩
abbrev main_v343 : Ref sig .tc := ⟨.hbm, 443, rfl⟩
abbrev main_v344 : Ref sig .tc := ⟨.hbm, 444, rfl⟩
abbrev main_cst_52 : Ref sig .tc := ⟨.hbm, 445, rfl⟩
abbrev main_call6_v0 : Ref sig .tc := ⟨.hbm, 446, rfl⟩
abbrev main_call6_v1 : Ref sig .tc := ⟨.hbm, 447, rfl⟩
abbrev main_call6_v2 : Ref sig .tc := ⟨.hbm, 448, rfl⟩
abbrev main_v345 : Ref sig .tc := ⟨.hbm, 449, rfl⟩
abbrev main_cst_53 : Ref sig .tc := ⟨.hbm, 450, rfl⟩
abbrev main_v346 : Ref sig .tc := ⟨.hbm, 451, rfl⟩
abbrev main_v347 : Ref sig .tc := ⟨.hbm, 452, rfl⟩
abbrev main_cst_54 : Ref sig .tc := ⟨.hbm, 453, rfl⟩
abbrev main_v348 : Ref sig .tc := ⟨.hbm, 454, rfl⟩
abbrev main_v349 : Ref sig .tc := ⟨.hbm, 455, rfl⟩
abbrev main_cst_55 : Ref sig .tc := ⟨.hbm, 456, rfl⟩
abbrev main_call7_v0 : Ref sig .tc := ⟨.hbm, 457, rfl⟩
abbrev main_call7_v1 : Ref sig .tc := ⟨.hbm, 458, rfl⟩
abbrev main_v350 : Ref sig .tc := ⟨.hbm, 459, rfl⟩
abbrev main_v351 : Ref sig .tc := ⟨.hbm, 460, rfl⟩
abbrev main_v352 : Ref sig .tc := ⟨.hbm, 461, rfl⟩
abbrev main_v353 : Ref sig .tc := ⟨.hbm, 462, rfl⟩
abbrev main_v354 : Ref sig .tc := ⟨.hbm, 463, rfl⟩
abbrev main_v355 : Ref sig .tc := ⟨.hbm, 464, rfl⟩
abbrev main_v356 : Ref sig .tc := ⟨.hbm, 465, rfl⟩
abbrev main_v357 : Ref sig .tc := ⟨.hbm, 466, rfl⟩
abbrev main_v358 : Ref sig .tc := ⟨.hbm, 467, rfl⟩
abbrev main_c_56 : Ref sig .tc := ⟨.hbm, 468, rfl⟩
abbrev main_v359 : Ref sig .tc := ⟨.hbm, 469, rfl⟩
abbrev main_v360 : Ref sig .tc := ⟨.hbm, 470, rfl⟩
abbrev main_c_57 : Ref sig .tc := ⟨.hbm, 471, rfl⟩
abbrev main_v361 : Ref sig .tc := ⟨.hbm, 472, rfl⟩
abbrev main_v362 : Ref sig .tc := ⟨.hbm, 473, rfl⟩
abbrev main_c_58 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_c_59 : Ref sig .tc := ⟨.hbm, 480, rfl⟩
abbrev main_v368 : Ref sig .tc := ⟨.hbm, 481, rfl⟩
abbrev main_v369 : Ref sig .tc := ⟨.hbm, 482, rfl⟩
abbrev main_c_60 : Ref sig .tc := ⟨.hbm, 483, rfl⟩
abbrev main_v370 : Ref sig .tc := ⟨.hbm, 484, rfl⟩
abbrev main_v371 : Ref sig .tc := ⟨.hbm, 485, rfl⟩
abbrev main_c_61 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_v376 : Ref sig .tc := ⟨.hbm, 491, rfl⟩
abbrev main_v377 : Ref sig .tc := ⟨.hbm, 492, rfl⟩
abbrev main_v378 : Ref sig .tc := ⟨.hbm, 493, rfl⟩
abbrev main_cst_62 : Ref sig .tc := ⟨.hbm, 494, rfl⟩
abbrev main_v379 : Ref sig .tc := ⟨.hbm, 495, rfl⟩
abbrev main_v380 : Ref sig .tc := ⟨.hbm, 496, rfl⟩
abbrev main_c_63 : Ref sig .tc := ⟨.hbm, 497, rfl⟩
abbrev main_call8_v0 : Ref sig .tc := ⟨.hbm, 498, rfl⟩
abbrev main_call8_v1 : Ref sig .tc := ⟨.hbm, 499, rfl⟩
abbrev main_call8_v2 : Ref sig .tc := ⟨.hbm, 500, rfl⟩
abbrev main_call8_v3 : Ref sig .tc := ⟨.hbm, 501, rfl⟩
abbrev main_call8_v4 : Ref sig .tc := ⟨.hbm, 502, rfl⟩
abbrev main_call8_v5 : Ref sig .tc := ⟨.hbm, 503, rfl⟩
abbrev main_call8_v6 : Ref sig .tc := ⟨.hbm, 504, rfl⟩
abbrev main_call8_v7 : Ref sig .tc := ⟨.hbm, 505, rfl⟩
abbrev main_call8_v8 : Ref sig .tc := ⟨.hbm, 506, rfl⟩
abbrev main_call8_c : Ref sig .tc := ⟨.hbm, 507, rfl⟩
abbrev main_call8_v9 : Ref sig .tc := ⟨.hbm, 508, rfl⟩
abbrev main_call8_v10 : Ref sig .tc := ⟨.hbm, 509, rfl⟩
abbrev main_call8_v11 : Ref sig .tc := ⟨.hbm, 510, rfl⟩
abbrev main_call8_c_0 : Ref sig .tc := ⟨.hbm, 511, rfl⟩
abbrev main_call8_v12 : Ref sig .tc := ⟨.hbm, 512, rfl⟩
abbrev main_call8_v13 : Ref sig .tc := ⟨.hbm, 513, rfl⟩
abbrev main_v381 : Ref sig .tc := ⟨.hbm, 514, rfl⟩
abbrev main_v382 : Ref sig .tc := ⟨.hbm, 515, rfl⟩
abbrev main_c_64 : Ref sig .tc := ⟨.hbm, 516, rfl⟩
abbrev main_v383 : Ref sig .tc := ⟨.hbm, 517, rfl⟩
abbrev main_v384 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev main_v388 : Ref sig .tc := ⟨.hbm, 522, rfl⟩
abbrev main_v389 : Ref sig .tc := ⟨.hbm, 523, rfl⟩
abbrev main_c_65 : Ref sig .tc := ⟨.hbm, 524, rfl⟩
abbrev main_v390 : Ref sig .tc := ⟨.hbm, 525, rfl⟩
abbrev main_v391 : Ref sig .tc := ⟨.hbm, 526, rfl⟩
abbrev main_v392 : Ref sig .tc := ⟨.hbm, 527, rfl⟩
abbrev main_v393 : Ref sig .tc := ⟨.hbm, 528, rfl⟩
abbrev main_v394 : Ref sig .tc := ⟨.hbm, 529, rfl⟩
abbrev main_v395 : Ref sig .tc := ⟨.hbm, 530, rfl⟩
abbrev main_c_66 : Ref sig .tc := ⟨.hbm, 531, rfl⟩
abbrev main_v396 : Ref sig .tc := ⟨.hbm, 532, rfl⟩
abbrev main_v397 : Ref sig .tc := ⟨.hbm, 533, rfl⟩
abbrev main_v398 : Ref sig .tc := ⟨.hbm, 534, rfl⟩
abbrev main_v399 : Ref sig .tc := ⟨.hbm, 535, rfl⟩
abbrev main_v400 : Ref sig .tc := ⟨.hbm, 536, rfl⟩
abbrev main_v401 : Ref sig .tc := ⟨.hbm, 537, rfl⟩
abbrev main_v402 : Ref sig .tc := ⟨.hbm, 538, rfl⟩
abbrev main_cst_67 : Ref sig .tc := ⟨.hbm, 539, rfl⟩
abbrev main_v403 : Ref sig .tc := ⟨.hbm, 540, rfl⟩
abbrev main_v404 : Ref sig .tc := ⟨.hbm, 541, rfl⟩
abbrev main_call9_v0 : Ref sig .tc := ⟨.hbm, 542, rfl⟩
abbrev main_v405 : Ref sig .tc := ⟨.hbm, 543, rfl⟩
abbrev main_v406 : Ref sig .tc := ⟨.hbm, 544, rfl⟩
abbrev main_cst_68 : Ref sig .tc := ⟨.hbm, 545, rfl⟩
abbrev main_call10_v0 : Ref sig .tc := ⟨.hbm, 546, rfl⟩
abbrev main_call10_v1 : Ref sig .tc := ⟨.hbm, 547, rfl⟩
abbrev main_call10_v2 : Ref sig .tc := ⟨.hbm, 548, rfl⟩
abbrev main_v407 : Ref sig .tc := ⟨.hbm, 549, rfl⟩
abbrev main_values : Ref sig .tc := ⟨.hbm, 550, rfl⟩
abbrev main_indices : Ref sig .tc := ⟨.hbm, 551, rfl⟩
abbrev main_v408 : Ref sig .tc := ⟨.hbm, 552, rfl⟩
abbrev main_v409 : Ref sig .tc := ⟨.hbm, 553, rfl⟩
abbrev main_v410 : Ref sig .tc := ⟨.hbm, 554, rfl⟩
abbrev main_v411 : Ref sig .tc := ⟨.hbm, 555, rfl⟩
abbrev main_c_69 : Ref sig .tc := ⟨.hbm, 556, rfl⟩
abbrev main_v412 : Ref sig .tc := ⟨.hbm, 557, rfl⟩
abbrev main_v413 : Ref sig .tc := ⟨.hbm, 558, rfl⟩
abbrev main_c_70 : Ref sig .tc := ⟨.hbm, 559, rfl⟩
abbrev main_v414 : Ref sig .tc := ⟨.hbm, 560, rfl⟩
abbrev main_v415 : Ref sig .tc := ⟨.hbm, 561, rfl⟩
abbrev main_v416 : Ref sig .tc := ⟨.hbm, 562, rfl⟩
abbrev main_c_71 : Ref sig .tc := ⟨.hbm, 563, rfl⟩
abbrev main_v417 : Ref sig .tc := ⟨.hbm, 564, rfl⟩
abbrev main_v418 : Ref sig .tc := ⟨.hbm, 565, rfl⟩
abbrev main_c_72 : Ref sig .tc := ⟨.hbm, 566, rfl⟩
abbrev main_v419 : Ref sig .tc := ⟨.hbm, 567, rfl⟩
abbrev main_v420 : Ref sig .tc := ⟨.hbm, 568, rfl⟩
abbrev main_v421 : Ref sig .tc := ⟨.hbm, 569, rfl⟩
abbrev main_c_73 : Ref sig .tc := ⟨.hbm, 570, rfl⟩
abbrev main_v422 : Ref sig .tc := ⟨.hbm, 571, rfl⟩
abbrev main_v423 : Ref sig .tc := ⟨.hbm, 572, rfl⟩
abbrev main_c_74 : Ref sig .tc := ⟨.hbm, 573, rfl⟩
abbrev main_v424 : Ref sig .tc := ⟨.hbm, 574, rfl⟩
abbrev main_v425 : Ref sig .tc := ⟨.hbm, 575, rfl⟩
abbrev main_v426 : Ref sig .tc := ⟨.hbm, 576, rfl⟩
abbrev main_v427 : Ref sig .tc := ⟨.hbm, 577, rfl⟩
abbrev main_v428 : Ref sig .tc := ⟨.hbm, 578, rfl⟩
abbrev main_v429 : Ref sig .tc := ⟨.hbm, 579, rfl⟩
abbrev main_v430 : Ref sig .tc := ⟨.hbm, 580, rfl⟩
abbrev main_v431 : Ref sig .tc := ⟨.hbm, 581, rfl⟩
abbrev main_v432 : Ref sig .tc := ⟨.hbm, 582, rfl⟩
abbrev main_v433 : Ref sig .tc := ⟨.hbm, 583, rfl⟩
abbrev main_c_75 : Ref sig .tc := ⟨.hbm, 584, rfl⟩
abbrev main_v434 : Ref sig .tc := ⟨.hbm, 585, rfl⟩
abbrev main_v435 : Ref sig .tc := ⟨.hbm, 586, rfl⟩
abbrev main_c_76 : Ref sig .tc := ⟨.hbm, 587, rfl⟩
abbrev main_v436 : Ref sig .tc := ⟨.hbm, 588, rfl⟩
abbrev main_v437 : Ref sig .tc := ⟨.hbm, 589, rfl⟩
abbrev main_v438 : Ref sig .tc := ⟨.hbm, 590, rfl⟩
abbrev main_c_77 : Ref sig .tc := ⟨.hbm, 591, rfl⟩
abbrev main_v439 : Ref sig .tc := ⟨.hbm, 592, rfl⟩
abbrev main_v440 : Ref sig .tc := ⟨.hbm, 593, rfl⟩
abbrev main_c_78 : Ref sig .tc := ⟨.hbm, 594, rfl⟩
abbrev main_v441 : Ref sig .tc := ⟨.hbm, 595, rfl⟩
abbrev main_v442 : Ref sig .tc := ⟨.hbm, 596, rfl⟩
abbrev main_v443 : Ref sig .tc := ⟨.hbm, 597, rfl⟩
abbrev main_c_79 : Ref sig .tc := ⟨.hbm, 598, rfl⟩
abbrev main_v444 : Ref sig .tc := ⟨.hbm, 599, rfl⟩
abbrev main_v445 : Ref sig .tc := ⟨.hbm, 600, rfl⟩
abbrev main_c_80 : Ref sig .tc := ⟨.hbm, 601, rfl⟩
abbrev main_v446 : Ref sig .tc := ⟨.hbm, 602, rfl⟩
abbrev main_v447 : Ref sig .tc := ⟨.hbm, 603, rfl⟩
abbrev main_v448 : Ref sig .tc := ⟨.hbm, 604, rfl⟩
abbrev main_v449 : Ref sig .tc := ⟨.hbm, 605, rfl⟩
abbrev main_v450 : Ref sig .tc := ⟨.hbm, 606, rfl⟩
abbrev main_v451 : Ref sig .tc := ⟨.hbm, 607, rfl⟩
abbrev main_v452 : Ref sig .tc := ⟨.hbm, 608, rfl⟩
abbrev main_v453 : Ref sig .tc := ⟨.hbm, 609, rfl⟩
abbrev main_v454 : Ref sig .tc := ⟨.hbm, 610, rfl⟩
abbrev main_v455 : Ref sig .tc := ⟨.hbm, 611, rfl⟩
abbrev main_v456 : Ref sig .tc := ⟨.hbm, 612, rfl⟩
abbrev main_cst_81 : Ref sig .tc := ⟨.hbm, 613, rfl⟩
abbrev main_v457 : Ref sig .tc := ⟨.hbm, 614, rfl⟩
abbrev main_v458 : Ref sig .tc := ⟨.hbm, 615, rfl⟩
abbrev main_v459 : Ref sig .tc := ⟨.hbm, 616, rfl⟩
abbrev main_c_82 : Ref sig .tc := ⟨.hbm, 617, rfl⟩
abbrev main_v460 : Ref sig .tc := ⟨.hbm, 618, rfl⟩
abbrev main_v461 : Ref sig .tc := ⟨.hbm, 619, rfl⟩
abbrev main_v462 : Ref sig .tc := ⟨.hbm, 620, rfl⟩
abbrev main_v463 : Ref sig .tc := ⟨.hbm, 621, rfl⟩
abbrev main_v464 : Ref sig .tc := ⟨.hbm, 622, rfl⟩
abbrev main_v465 : Ref sig .tc := ⟨.hbm, 623, rfl⟩
abbrev main_v466 : Ref sig .tc := ⟨.hbm, 624, rfl⟩
abbrev main_v467 : Ref sig .tc := ⟨.hbm, 625, rfl⟩
abbrev main_v468 : Ref sig .tc := ⟨.hbm, 626, rfl⟩
abbrev main_v469 : Ref sig .tc := ⟨.hbm, 627, rfl⟩
abbrev main_v470 : Ref sig .tc := ⟨.hbm, 628, rfl⟩
abbrev main_v471 : Ref sig .tc := ⟨.hbm, 629, rfl⟩
abbrev main_v472 : Ref sig .tc := ⟨.hbm, 630, rfl⟩
abbrev main_c_83 : Ref sig .tc := ⟨.hbm, 631, rfl⟩
abbrev main_v473 : Ref sig .tc := ⟨.hbm, 632, rfl⟩
abbrev main_v474 : Ref sig .tc := ⟨.hbm, 633, rfl⟩
abbrev main_c_84 : Ref sig .tc := ⟨.hbm, 634, rfl⟩
abbrev main_v475 : Ref sig .tc := ⟨.hbm, 635, rfl⟩
abbrev main_v476 : Ref sig .tc := ⟨.hbm, 636, rfl⟩
abbrev main_v477 : Ref sig .tc := ⟨.hbm, 637, rfl⟩
abbrev main_cst_85 : Ref sig .tc := ⟨.hbm, 638, rfl⟩
abbrev main_v478 : Ref sig .tc := ⟨.hbm, 639, rfl⟩
abbrev main_v479 : Ref sig .tc := ⟨.hbm, 640, rfl⟩
abbrev main_v480 : Ref sig .tc := ⟨.hbm, 641, rfl⟩
abbrev main_cst_86 : Ref sig .tc := ⟨.hbm, 642, rfl⟩
abbrev main_v481 : Ref sig .tc := ⟨.hbm, 643, rfl⟩
abbrev main_v482 : Ref sig .tc := ⟨.hbm, 644, rfl⟩
abbrev main_cst_87 : Ref sig .tc := ⟨.hbm, 645, rfl⟩
abbrev main_v483 : Ref sig .tc := ⟨.hbm, 646, rfl⟩
abbrev main_v484 : Ref sig .tc := ⟨.hbm, 647, rfl⟩
abbrev main_v485 : Ref sig .tc := ⟨.hbm, 648, rfl⟩
abbrev main_c_88 : Ref sig .tc := ⟨.hbm, 649, rfl⟩
abbrev main_v486 : Ref sig .tc := ⟨.hbm, 650, rfl⟩
abbrev main_v487 : Ref sig .tc := ⟨.hbm, 651, rfl⟩
abbrev main_c_89 : Ref sig .tc := ⟨.hbm, 652, rfl⟩
abbrev main_v488 : Ref sig .tc := ⟨.hbm, 653, rfl⟩
abbrev main_v489 : Ref sig .tc := ⟨.hbm, 654, rfl⟩
abbrev main_c_90 : Ref sig .tc := ⟨.hbm, 655, rfl⟩
abbrev main_v490 : Ref sig .tc := ⟨.hbm, 656, rfl⟩
abbrev main_v491 : Ref sig .tc := ⟨.hbm, 657, rfl⟩
abbrev main_v492 : Ref sig .tc := ⟨.hbm, 658, rfl⟩
abbrev main_c_91 : Ref sig .tc := ⟨.hbm, 659, rfl⟩
abbrev main_v493 : Ref sig .tc := ⟨.hbm, 660, rfl⟩
abbrev main_v494 : Ref sig .tc := ⟨.hbm, 661, rfl⟩
abbrev main_c_92 : Ref sig .tc := ⟨.hbm, 662, rfl⟩
abbrev main_v495 : Ref sig .tc := ⟨.hbm, 663, rfl⟩
abbrev main_v496 : Ref sig .tc := ⟨.hbm, 664, rfl⟩
abbrev main_v497 : Ref sig .tc := ⟨.hbm, 665, rfl⟩
abbrev main_c_93 : Ref sig .tc := ⟨.hbm, 666, rfl⟩
abbrev main_v498 : Ref sig .tc := ⟨.hbm, 667, rfl⟩
abbrev main_v499 : Ref sig .tc := ⟨.hbm, 668, rfl⟩
abbrev main_c_94 : Ref sig .tc := ⟨.hbm, 669, rfl⟩
abbrev main_v500 : Ref sig .tc := ⟨.hbm, 670, rfl⟩
abbrev main_v501 : Ref sig .tc := ⟨.hbm, 671, rfl⟩
abbrev main_v502 : Ref sig .tc := ⟨.hbm, 672, rfl⟩
abbrev main_v503 : Ref sig .tc := ⟨.hbm, 673, rfl⟩
abbrev main_v504 : Ref sig .tc := ⟨.hbm, 674, rfl⟩
abbrev main_v505 : Ref sig .tc := ⟨.hbm, 675, rfl⟩
abbrev main_v506 : Ref sig .tc := ⟨.hbm, 676, rfl⟩
abbrev main_v507 : Ref sig .tc := ⟨.hbm, 677, rfl⟩
abbrev main_v508 : Ref sig .tc := ⟨.hbm, 678, rfl⟩
abbrev main_v509 : Ref sig .tc := ⟨.hbm, 679, rfl⟩
abbrev main_c_95 : Ref sig .tc := ⟨.hbm, 680, rfl⟩
abbrev main_v510 : Ref sig .tc := ⟨.hbm, 681, rfl⟩
abbrev main_v511 : Ref sig .tc := ⟨.hbm, 682, rfl⟩
abbrev main_v512 : Ref sig .tc := ⟨.hbm, 683, rfl⟩
abbrev main_cst_96 : Ref sig .tc := ⟨.hbm, 684, rfl⟩
abbrev main_call12_v0 : Ref sig .tc := ⟨.hbm, 685, rfl⟩
abbrev main_call12_v1 : Ref sig .tc := ⟨.hbm, 686, rfl⟩
abbrev main_call12_v2 : Ref sig .tc := ⟨.hbm, 687, rfl⟩
abbrev main_v513 : Ref sig .tc := ⟨.hbm, 688, rfl⟩
abbrev main_cst_97 : Ref sig .tc := ⟨.hbm, 689, rfl⟩
abbrev main_v514 : Ref sig .tc := ⟨.hbm, 690, rfl⟩
abbrev main_v515 : Ref sig .tc := ⟨.hbm, 691, rfl⟩
abbrev main_v516 : Ref sig .tc := ⟨.hbm, 692, rfl⟩
abbrev main_cst_98 : Ref sig .tc := ⟨.hbm, 693, rfl⟩
abbrev main_v517 : Ref sig .tc := ⟨.hbm, 694, rfl⟩
abbrev main_v518 : Ref sig .tc := ⟨.hbm, 695, rfl⟩
abbrev main_cst_99 : Ref sig .tc := ⟨.hbm, 696, rfl⟩
abbrev main_call13_v0 : Ref sig .tc := ⟨.hbm, 697, rfl⟩
abbrev main_call13_v1 : Ref sig .tc := ⟨.hbm, 698, rfl⟩
abbrev main_v519 : Ref sig .tc := ⟨.hbm, 699, rfl⟩
abbrev main_v520 : Ref sig .tc := ⟨.hbm, 700, rfl⟩
abbrev main_v521 : Ref sig .tc := ⟨.hbm, 701, rfl⟩
abbrev main_v522 : Ref sig .tc := ⟨.hbm, 702, rfl⟩
abbrev main_cst_100 : Ref sig .tc := ⟨.hbm, 703, rfl⟩
abbrev main_call14_v0 : Ref sig .tc := ⟨.hbm, 704, rfl⟩
abbrev main_call14_v1 : Ref sig .tc := ⟨.hbm, 705, rfl⟩
abbrev main_call14_v2 : Ref sig .tc := ⟨.hbm, 706, rfl⟩
abbrev main_v523 : Ref sig .tc := ⟨.hbm, 707, rfl⟩
abbrev main_cst_101 : Ref sig .tc := ⟨.hbm, 708, rfl⟩
abbrev main_v524 : Ref sig .tc := ⟨.hbm, 709, rfl⟩
abbrev main_v525 : Ref sig .tc := ⟨.hbm, 710, rfl⟩
abbrev main_cst_102 : Ref sig .tc := ⟨.hbm, 711, rfl⟩
abbrev main_v526 : Ref sig .tc := ⟨.hbm, 712, rfl⟩
abbrev main_v527 : Ref sig .tc := ⟨.hbm, 713, rfl⟩
abbrev main_cst_103 : Ref sig .tc := ⟨.hbm, 714, rfl⟩
abbrev main_call15_v0 : Ref sig .tc := ⟨.hbm, 715, rfl⟩
abbrev main_call15_v1 : Ref sig .tc := ⟨.hbm, 716, rfl⟩
abbrev main_v528 : Ref sig .tc := ⟨.hbm, 717, rfl⟩
abbrev main_v529 : Ref sig .tc := ⟨.hbm, 718, rfl⟩
abbrev main_v530 : Ref sig .tc := ⟨.hbm, 719, rfl⟩
abbrev main_v531 : Ref sig .tc := ⟨.hbm, 720, rfl⟩
abbrev main_v532 : Ref sig .tc := ⟨.hbm, 721, rfl⟩
abbrev main_v533 : Ref sig .tc := ⟨.hbm, 722, rfl⟩
abbrev main_cst_104 : Ref sig .tc := ⟨.hbm, 723, rfl⟩
abbrev main_v534 : Ref sig .tc := ⟨.hbm, 724, rfl⟩
abbrev main_v535 : Ref sig .tc := ⟨.hbm, 725, rfl⟩
abbrev main_v536 : Ref sig .tc := ⟨.hbm, 726, rfl⟩
abbrev main_v537 : Ref sig .tc := ⟨.hbm, 727, rfl⟩
abbrev main_v538 : Ref sig .tc := ⟨.hbm, 728, rfl⟩
abbrev main_v539 : Ref sig .tc := ⟨.hbm, 729, rfl⟩
abbrev main_v540 : Ref sig .tc := ⟨.hbm, 730, rfl⟩
abbrev main_c_105 : Ref sig .tc := ⟨.hbm, 731, rfl⟩
abbrev main_v541 : Ref sig .tc := ⟨.hbm, 732, rfl⟩
abbrev main_v542 : Ref sig .tc := ⟨.hbm, 733, rfl⟩
abbrev main_c_106 : Ref sig .tc := ⟨.hbm, 734, rfl⟩
abbrev main_v543 : Ref sig .tc := ⟨.hbm, 735, rfl⟩
abbrev main_v544 : Ref sig .tc := ⟨.hbm, 736, rfl⟩
abbrev main_v545 : Ref sig .tc := ⟨.hbm, 737, rfl⟩
abbrev main_cst_107 : Ref sig .tc := ⟨.hbm, 738, rfl⟩
abbrev main_v546 : Ref sig .tc := ⟨.hbm, 739, rfl⟩
abbrev main_v547 : Ref sig .tc := ⟨.hbm, 740, rfl⟩
abbrev main_v548 : Ref sig .tc := ⟨.hbm, 741, rfl⟩
abbrev main_cst_108 : Ref sig .tc := ⟨.hbm, 742, rfl⟩
abbrev main_v549 : Ref sig .tc := ⟨.hbm, 743, rfl⟩
abbrev main_v550 : Ref sig .tc := ⟨.hbm, 744, rfl⟩
abbrev main_cst_109 : Ref sig .tc := ⟨.hbm, 745, rfl⟩
abbrev main_v551 : Ref sig .tc := ⟨.hbm, 746, rfl⟩
abbrev main_v552 : Ref sig .tc := ⟨.hbm, 747, rfl⟩
abbrev main_v553 : Ref sig .tc := ⟨.hbm, 748, rfl⟩
abbrev main_c_110 : Ref sig .tc := ⟨.hbm, 749, rfl⟩
abbrev main_v554 : Ref sig .tc := ⟨.hbm, 750, rfl⟩
abbrev main_v555 : Ref sig .tc := ⟨.hbm, 751, rfl⟩
abbrev main_c_111 : Ref sig .tc := ⟨.hbm, 752, rfl⟩
abbrev main_v556 : Ref sig .tc := ⟨.hbm, 753, rfl⟩
abbrev main_v557 : Ref sig .tc := ⟨.hbm, 754, rfl⟩
abbrev main_c_112 : Ref sig .tc := ⟨.hbm, 755, rfl⟩
abbrev main_v558 : Ref sig .tc := ⟨.hbm, 756, rfl⟩
abbrev main_v559 : Ref sig .tc := ⟨.hbm, 757, rfl⟩
abbrev main_v560 : Ref sig .tc := ⟨.hbm, 758, rfl⟩
abbrev main_c_113 : Ref sig .tc := ⟨.hbm, 759, rfl⟩
abbrev main_v561 : Ref sig .tc := ⟨.hbm, 760, rfl⟩
abbrev main_v562 : Ref sig .tc := ⟨.hbm, 761, rfl⟩
abbrev main_c_114 : Ref sig .tc := ⟨.hbm, 762, rfl⟩
abbrev main_v563 : Ref sig .tc := ⟨.hbm, 763, rfl⟩
abbrev main_v564 : Ref sig .tc := ⟨.hbm, 764, rfl⟩
abbrev main_v565 : Ref sig .tc := ⟨.hbm, 765, rfl⟩
abbrev main_v566 : Ref sig .tc := ⟨.hbm, 766, rfl⟩
abbrev main_v567 : Ref sig .tc := ⟨.hbm, 767, rfl⟩
abbrev main_v568 : Ref sig .tc := ⟨.hbm, 768, rfl⟩
abbrev main_v569 : Ref sig .tc := ⟨.hbm, 769, rfl⟩
abbrev main_v570 : Ref sig .tc := ⟨.hbm, 770, rfl⟩
abbrev main_v571 : Ref sig .tc := ⟨.hbm, 771, rfl⟩
abbrev main_c_115 : Ref sig .tc := ⟨.hbm, 772, rfl⟩
abbrev main_v572 : Ref sig .tc := ⟨.hbm, 773, rfl⟩
abbrev main_v573 : Ref sig .tc := ⟨.hbm, 774, rfl⟩
abbrev main_c_116 : Ref sig .tc := ⟨.hbm, 775, rfl⟩
abbrev main_v574 : Ref sig .tc := ⟨.hbm, 776, rfl⟩
abbrev main_v575 : Ref sig .tc := ⟨.hbm, 777, rfl⟩
abbrev main_v576 : Ref sig .tc := ⟨.hbm, 778, rfl⟩
abbrev main_c_117 : Ref sig .tc := ⟨.hbm, 779, rfl⟩
abbrev main_v577 : Ref sig .tc := ⟨.hbm, 780, rfl⟩
abbrev main_v578 : Ref sig .tc := ⟨.hbm, 781, rfl⟩
abbrev main_v579 : Ref sig .tc := ⟨.hbm, 782, rfl⟩
abbrev main_v580 : Ref sig .tc := ⟨.hbm, 783, rfl⟩
abbrev main_v581 : Ref sig .tc := ⟨.hbm, 784, rfl⟩
abbrev main_v582 : Ref sig .tc := ⟨.hbm, 785, rfl⟩
abbrev main_cst_118 : Ref sig .tc := ⟨.hbm, 786, rfl⟩
abbrev main_call17_v0 : Ref sig .tc := ⟨.hbm, 787, rfl⟩
abbrev main_call17_v1 : Ref sig .tc := ⟨.hbm, 788, rfl⟩
abbrev main_call17_v2 : Ref sig .tc := ⟨.hbm, 789, rfl⟩
abbrev main_v583 : Ref sig .tc := ⟨.hbm, 790, rfl⟩
abbrev main_cst_119 : Ref sig .tc := ⟨.hbm, 791, rfl⟩
abbrev main_v584 : Ref sig .tc := ⟨.hbm, 792, rfl⟩
abbrev main_v585 : Ref sig .tc := ⟨.hbm, 793, rfl⟩
abbrev main_v586 : Ref sig .tc := ⟨.hbm, 794, rfl⟩
abbrev main_cst_120 : Ref sig .tc := ⟨.hbm, 795, rfl⟩
abbrev main_v587 : Ref sig .tc := ⟨.hbm, 796, rfl⟩
abbrev main_v588 : Ref sig .tc := ⟨.hbm, 797, rfl⟩
abbrev main_cst_121 : Ref sig .tc := ⟨.hbm, 798, rfl⟩
abbrev main_call18_v0 : Ref sig .tc := ⟨.hbm, 799, rfl⟩
abbrev main_call18_v1 : Ref sig .tc := ⟨.hbm, 800, rfl⟩
abbrev main_v589 : Ref sig .tc := ⟨.hbm, 801, rfl⟩
abbrev main_v590 : Ref sig .tc := ⟨.hbm, 802, rfl⟩
abbrev main_v591 : Ref sig .tc := ⟨.hbm, 803, rfl⟩
abbrev main_v592 : Ref sig .tc := ⟨.hbm, 804, rfl⟩
abbrev main_cst_122 : Ref sig .tc := ⟨.hbm, 805, rfl⟩
abbrev main_call19_v0 : Ref sig .tc := ⟨.hbm, 806, rfl⟩
abbrev main_call19_v1 : Ref sig .tc := ⟨.hbm, 807, rfl⟩
abbrev main_call19_v2 : Ref sig .tc := ⟨.hbm, 808, rfl⟩
abbrev main_v593 : Ref sig .tc := ⟨.hbm, 809, rfl⟩
abbrev main_cst_123 : Ref sig .tc := ⟨.hbm, 810, rfl⟩
abbrev main_v594 : Ref sig .tc := ⟨.hbm, 811, rfl⟩
abbrev main_v595 : Ref sig .tc := ⟨.hbm, 812, rfl⟩
abbrev main_cst_124 : Ref sig .tc := ⟨.hbm, 813, rfl⟩
abbrev main_v596 : Ref sig .tc := ⟨.hbm, 814, rfl⟩
abbrev main_v597 : Ref sig .tc := ⟨.hbm, 815, rfl⟩
abbrev main_cst_125 : Ref sig .tc := ⟨.hbm, 816, rfl⟩
abbrev main_call20_v0 : Ref sig .tc := ⟨.hbm, 817, rfl⟩
abbrev main_call20_v1 : Ref sig .tc := ⟨.hbm, 818, rfl⟩
abbrev main_v598 : Ref sig .tc := ⟨.hbm, 819, rfl⟩
abbrev main_v599 : Ref sig .tc := ⟨.hbm, 820, rfl⟩
abbrev main_v600 : Ref sig .tc := ⟨.hbm, 821, rfl⟩
abbrev main_v601 : Ref sig .tc := ⟨.hbm, 822, rfl⟩
abbrev main_v602 : Ref sig .tc := ⟨.hbm, 823, rfl⟩
abbrev main_v603 : Ref sig .tc := ⟨.hbm, 824, rfl⟩
abbrev main_v604 : Ref sig .tc := ⟨.hbm, 825, rfl⟩
abbrev main_v605 : Ref sig .tc := ⟨.hbm, 826, rfl⟩
abbrev main_v606 : Ref sig .tc := ⟨.hbm, 827, rfl⟩
abbrev main_v607 : Ref sig .tc := ⟨.hbm, 828, rfl⟩
abbrev main_v608 : Ref sig .tc := ⟨.hbm, 829, rfl⟩
abbrev main_v609 : Ref sig .tc := ⟨.hbm, 830, rfl⟩
abbrev main_v610 : Ref sig .tc := ⟨.hbm, 831, rfl⟩
abbrev main_v611 : Ref sig .tc := ⟨.hbm, 832, rfl⟩
abbrev main_v612 : Ref sig .tc := ⟨.hbm, 833, rfl⟩
abbrev main_v613 : Ref sig .tc := ⟨.hbm, 834, rfl⟩
abbrev main_v614 : Ref sig .tc := ⟨.hbm, 835, rfl⟩
abbrev main_v615 : Ref sig .tc := ⟨.hbm, 836, rfl⟩
abbrev main_v616 : Ref sig .tc := ⟨.hbm, 837, rfl⟩
abbrev main_v617 : Ref sig .tc := ⟨.hbm, 838, rfl⟩
abbrev main_v618 : Ref sig .tc := ⟨.hbm, 839, rfl⟩
abbrev main_v619 : Ref sig .tc := ⟨.hbm, 840, rfl⟩
abbrev main_v620 : Ref sig .tc := ⟨.hbm, 841, rfl⟩
abbrev main_v621 : Ref sig .tc := ⟨.hbm, 842, rfl⟩
abbrev main_v622 : Ref sig .tc := ⟨.hbm, 843, rfl⟩
abbrev main_v623 : Ref sig .tc := ⟨.hbm, 844, rfl⟩
abbrev main_v624 : Ref sig .tc := ⟨.hbm, 845, rfl⟩
abbrev main_v625 : Ref sig .tc := ⟨.hbm, 846, rfl⟩
abbrev main_cst_126 : Ref sig .tc := ⟨.hbm, 847, rfl⟩
abbrev main_v626 : Ref sig .tc := ⟨.hbm, 848, rfl⟩
abbrev main_v627 : Ref sig .tc := ⟨.hbm, 849, rfl⟩
abbrev main_cst_127 : Ref sig .tc := ⟨.hbm, 850, rfl⟩
abbrev main_v628 : Ref sig .tc := ⟨.hbm, 851, rfl⟩
abbrev main_v629 : Ref sig .tc := ⟨.hbm, 852, rfl⟩
abbrev main_v630 : Ref sig .tc := ⟨.hbm, 853, rfl⟩
abbrev main_v631 : Ref sig .tc := ⟨.hbm, 854, rfl⟩
abbrev main_v632 : Ref sig .tc := ⟨.hbm, 855, rfl⟩
abbrev main_v633 : Ref sig .tc := ⟨.hbm, 856, rfl⟩
abbrev main_v634 : Ref sig .tc := ⟨.hbm, 857, rfl⟩
abbrev main_v635 : Ref sig .tc := ⟨.hbm, 858, rfl⟩
abbrev main_v636 : Ref sig .tc := ⟨.hbm, 859, rfl⟩
abbrev main_v637 : Ref sig .tc := ⟨.hbm, 860, rfl⟩
abbrev main_cst_128 : Ref sig .tc := ⟨.hbm, 861, rfl⟩
abbrev main_v638 : Ref sig .tc := ⟨.hbm, 862, rfl⟩
abbrev main_v639 : Ref sig .tc := ⟨.hbm, 863, rfl⟩
abbrev main_v640 : Ref sig .tc := ⟨.hbm, 864, rfl⟩
abbrev main_v641 : Ref sig .tc := ⟨.hbm, 865, rfl⟩
abbrev main_v642 : Ref sig .tc := ⟨.hbm, 866, rfl⟩
abbrev main_v643 : Ref sig .tc := ⟨.hbm, 867, rfl⟩
abbrev main_v644 : Ref sig .tc := ⟨.hbm, 868, rfl⟩
abbrev main_v645 : Ref sig .tc := ⟨.hbm, 869, rfl⟩
abbrev main_v646 : Ref sig .tc := ⟨.hbm, 870, rfl⟩
abbrev main_v647 : Ref sig .tc := ⟨.hbm, 871, rfl⟩
abbrev main_v648 : Ref sig .tc := ⟨.hbm, 872, rfl⟩
abbrev main_v649 : Ref sig .tc := ⟨.hbm, 873, rfl⟩
abbrev main_v650 : Ref sig .tc := ⟨.hbm, 874, rfl⟩
abbrev main_v651 : Ref sig .tc := ⟨.hbm, 875, rfl⟩
abbrev main_v652 : Ref sig .tc := ⟨.hbm, 876, rfl⟩
abbrev main_v653 : Ref sig .tc := ⟨.hbm, 877, rfl⟩
abbrev main_v654 : Ref sig .tc := ⟨.hbm, 878, rfl⟩
abbrev main_v655 : Ref sig .tc := ⟨.hbm, 879, rfl⟩
abbrev main_v656 : Ref sig .tc := ⟨.hbm, 880, rfl⟩
abbrev main_v657 : Ref sig .tc := ⟨.hbm, 881, rfl⟩
abbrev main_v658 : Ref sig .tc := ⟨.hbm, 882, rfl⟩
abbrev main_v659 : Ref sig .tc := ⟨.hbm, 883, rfl⟩
abbrev main_v660 : Ref sig .tc := ⟨.hbm, 884, rfl⟩
abbrev main_v661 : Ref sig .tc := ⟨.hbm, 885, rfl⟩
abbrev main_v662 : Ref sig .tc := ⟨.hbm, 886, rfl⟩
abbrev main_v663 : Ref sig .tc := ⟨.hbm, 887, rfl⟩
abbrev main_v664 : Ref sig .tc := ⟨.hbm, 888, rfl⟩
abbrev main_v665 : Ref sig .tc := ⟨.hbm, 889, rfl⟩
abbrev main_v666 : Ref sig .tc := ⟨.hbm, 890, rfl⟩
abbrev main_v667 : Ref sig .tc := ⟨.hbm, 891, rfl⟩
abbrev main_v668 : Ref sig .tc := ⟨.hbm, 892, rfl⟩
abbrev main_v669 : Ref sig .tc := ⟨.hbm, 893, rfl⟩
abbrev main_v670 : Ref sig .tc := ⟨.hbm, 894, rfl⟩
abbrev main_v671 : Ref sig .tc := ⟨.hbm, 895, rfl⟩
abbrev main_v672 : Ref sig .tc := ⟨.hbm, 896, rfl⟩
abbrev main_v673 : Ref sig .tc := ⟨.hbm, 897, rfl⟩
abbrev main_v674 : Ref sig .tc := ⟨.hbm, 898, rfl⟩
abbrev main_v675 : Ref sig .tc := ⟨.hbm, 899, rfl⟩
abbrev main_v676 : Ref sig .tc := ⟨.hbm, 900, rfl⟩
abbrev main_v677 : Ref sig .tc := ⟨.hbm, 901, rfl⟩
abbrev main_v678 : Ref sig .tc := ⟨.hbm, 902, rfl⟩
abbrev main_v679 : Ref sig .tc := ⟨.hbm, 903, rfl⟩
abbrev main_v680 : Ref sig .tc := ⟨.hbm, 904, rfl⟩
abbrev main_v681 : Ref sig .tc := ⟨.hbm, 905, rfl⟩
abbrev main_v682 : Ref sig .tc := ⟨.hbm, 906, rfl⟩
abbrev main_v683 : Ref sig .tc := ⟨.hbm, 907, rfl⟩
abbrev main_v684 : Ref sig .tc := ⟨.hbm, 908, rfl⟩
abbrev main_v685 : Ref sig .tc := ⟨.hbm, 909, rfl⟩
abbrev main_v686 : Ref sig .tc := ⟨.hbm, 910, rfl⟩
abbrev main_v687 : Ref sig .tc := ⟨.hbm, 911, rfl⟩
abbrev main_v688 : Ref sig .tc := ⟨.hbm, 912, rfl⟩
abbrev main_v689 : Ref sig .tc := ⟨.hbm, 913, rfl⟩
abbrev main_v690 : Ref sig .tc := ⟨.hbm, 914, rfl⟩
abbrev main_v691 : Ref sig .tc := ⟨.hbm, 915, rfl⟩
abbrev main_v692 : Ref sig .tc := ⟨.hbm, 916, rfl⟩
abbrev main_v693 : Ref sig .tc := ⟨.hbm, 917, rfl⟩
abbrev main_v694 : Ref sig .tc := ⟨.hbm, 918, rfl⟩
abbrev main_v695 : Ref sig .tc := ⟨.hbm, 919, rfl⟩
abbrev main_v696 : Ref sig .tc := ⟨.hbm, 920, rfl⟩
abbrev main_v697 : Ref sig .tc := ⟨.hbm, 921, rfl⟩
abbrev main_v698 : Ref sig .tc := ⟨.hbm, 922, rfl⟩
abbrev main_v699 : Ref sig .tc := ⟨.hbm, 923, rfl⟩
abbrev main_v700 : Ref sig .tc := ⟨.hbm, 924, rfl⟩
abbrev main_v701 : Ref sig .tc := ⟨.hbm, 925, rfl⟩
abbrev main_v702 : Ref sig .tc := ⟨.hbm, 926, rfl⟩
abbrev main_v703 : Ref sig .tc := ⟨.hbm, 927, rfl⟩
abbrev main_v704 : Ref sig .tc := ⟨.hbm, 928, rfl⟩
abbrev main_v705 : Ref sig .tc := ⟨.hbm, 929, rfl⟩
abbrev main_v706 : Ref sig .tc := ⟨.hbm, 930, rfl⟩
abbrev main_v707 : Ref sig .tc := ⟨.hbm, 931, rfl⟩
abbrev main_v708 : Ref sig .tc := ⟨.hbm, 932, rfl⟩
abbrev main_v709 : Ref sig .tc := ⟨.hbm, 933, rfl⟩
abbrev main_v710 : Ref sig .tc := ⟨.hbm, 934, rfl⟩
abbrev main_v711 : Ref sig .tc := ⟨.hbm, 935, rfl⟩
abbrev main_v712 : Ref sig .tc := ⟨.hbm, 936, rfl⟩
abbrev main_v713 : Ref sig .tc := ⟨.hbm, 937, rfl⟩
abbrev main_v714 : Ref sig .tc := ⟨.hbm, 938, rfl⟩
abbrev main_v715 : Ref sig .tc := ⟨.hbm, 939, rfl⟩
abbrev main_v716 : Ref sig .tc := ⟨.hbm, 940, rfl⟩
abbrev main_v717 : Ref sig .tc := ⟨.hbm, 941, rfl⟩
abbrev main_v718 : Ref sig .tc := ⟨.hbm, 942, rfl⟩
abbrev main_v719 : Ref sig .tc := ⟨.hbm, 943, rfl⟩
abbrev main_v720 : Ref sig .tc := ⟨.hbm, 944, rfl⟩
abbrev main_v721 : Ref sig .tc := ⟨.hbm, 945, rfl⟩
abbrev main_v722 : Ref sig .tc := ⟨.hbm, 946, rfl⟩
abbrev main_v723 : Ref sig .tc := ⟨.hbm, 947, rfl⟩
abbrev main_v724 : Ref sig .tc := ⟨.hbm, 948, rfl⟩
abbrev main_v725 : Ref sig .tc := ⟨.hbm, 949, rfl⟩
abbrev main_v726 : Ref sig .tc := ⟨.hbm, 950, rfl⟩
abbrev main_v727 : Ref sig .tc := ⟨.hbm, 951, rfl⟩
abbrev main_v728 : Ref sig .tc := ⟨.hbm, 952, rfl⟩
abbrev main_v729 : Ref sig .tc := ⟨.hbm, 953, rfl⟩
abbrev main_v730 : Ref sig .tc := ⟨.hbm, 954, rfl⟩
abbrev main_v731 : Ref sig .tc := ⟨.hbm, 955, rfl⟩
abbrev main_v732 : Ref sig .tc := ⟨.hbm, 956, rfl⟩
abbrev main_v733 : Ref sig .tc := ⟨.hbm, 957, rfl⟩
abbrev main_v734 : Ref sig .tc := ⟨.hbm, 958, rfl⟩
abbrev main_v735 : Ref sig .tc := ⟨.hbm, 959, rfl⟩
abbrev main_v736 : Ref sig .tc := ⟨.hbm, 960, rfl⟩
abbrev main_v737 : Ref sig .tc := ⟨.hbm, 961, rfl⟩
abbrev main_v738 : Ref sig .tc := ⟨.hbm, 962, rfl⟩
abbrev main_v739 : Ref sig .tc := ⟨.hbm, 963, rfl⟩
abbrev main_v740 : Ref sig .tc := ⟨.hbm, 964, rfl⟩
abbrev main_v741 : Ref sig .tc := ⟨.hbm, 965, rfl⟩
abbrev main_v742 : Ref sig .tc := ⟨.hbm, 966, rfl⟩
abbrev main_v743 : Ref sig .tc := ⟨.hbm, 967, rfl⟩
abbrev main_v744 : Ref sig .tc := ⟨.hbm, 968, rfl⟩
abbrev main_v745 : Ref sig .tc := ⟨.hbm, 969, rfl⟩
abbrev main_v746 : Ref sig .tc := ⟨.hbm, 970, rfl⟩
abbrev main_v747 : Ref sig .tc := ⟨.hbm, 971, rfl⟩
abbrev main_v748 : Ref sig .tc := ⟨.hbm, 972, rfl⟩
abbrev main_v749 : Ref sig .tc := ⟨.hbm, 973, rfl⟩
abbrev main_v750 : Ref sig .tc := ⟨.hbm, 974, rfl⟩
abbrev main_v751 : Ref sig .tc := ⟨.hbm, 975, rfl⟩
abbrev main_v752 : Ref sig .tc := ⟨.hbm, 976, rfl⟩
abbrev main_v753 : Ref sig .tc := ⟨.hbm, 977, rfl⟩
abbrev main_v754 : Ref sig .tc := ⟨.hbm, 978, rfl⟩
abbrev main_v755 : Ref sig .tc := ⟨.hbm, 979, rfl⟩
abbrev main_v756 : Ref sig .tc := ⟨.hbm, 980, rfl⟩
abbrev main_v757 : Ref sig .tc := ⟨.hbm, 981, rfl⟩
abbrev main_v758 : Ref sig .tc := ⟨.hbm, 982, rfl⟩
abbrev main_v759 : Ref sig .tc := ⟨.hbm, 983, rfl⟩
abbrev main_v760 : Ref sig .tc := ⟨.hbm, 984, rfl⟩
abbrev main_v761 : Ref sig .tc := ⟨.hbm, 985, rfl⟩
abbrev main_v762 : Ref sig .tc := ⟨.hbm, 986, rfl⟩
abbrev main_v763 : Ref sig .tc := ⟨.hbm, 987, rfl⟩
abbrev main_v764 : Ref sig .tc := ⟨.hbm, 988, rfl⟩
abbrev main_v765 : Ref sig .tc := ⟨.hbm, 989, rfl⟩
abbrev main_v766 : Ref sig .tc := ⟨.hbm, 990, rfl⟩
abbrev main_v767 : Ref sig .tc := ⟨.hbm, 991, rfl⟩
abbrev main_v768 : Ref sig .tc := ⟨.hbm, 992, rfl⟩
abbrev main_v769 : Ref sig .tc := ⟨.hbm, 993, rfl⟩
abbrev main_v770 : Ref sig .tc := ⟨.hbm, 994, rfl⟩
abbrev main_v771 : Ref sig .tc := ⟨.hbm, 995, rfl⟩
abbrev main_v772 : Ref sig .tc := ⟨.hbm, 996, rfl⟩
abbrev main_v773 : Ref sig .tc := ⟨.hbm, 997, rfl⟩
abbrev main_v774 : Ref sig .tc := ⟨.hbm, 998, rfl⟩
abbrev main_v775 : Ref sig .tc := ⟨.hbm, 999, rfl⟩
abbrev main_v776 : Ref sig .tc := ⟨.hbm, 1000, rfl⟩
abbrev main_v777 : Ref sig .tc := ⟨.hbm, 1001, rfl⟩
abbrev main_v778 : Ref sig .tc := ⟨.hbm, 1002, rfl⟩
abbrev main_v779 : Ref sig .tc := ⟨.hbm, 1003, rfl⟩
abbrev main_v780 : Ref sig .tc := ⟨.hbm, 1004, rfl⟩
abbrev main_v781 : Ref sig .tc := ⟨.hbm, 1005, rfl⟩
abbrev main_v782 : Ref sig .tc := ⟨.hbm, 1006, rfl⟩
abbrev main_v783 : Ref sig .tc := ⟨.hbm, 1007, rfl⟩
abbrev main_v784 : Ref sig .tc := ⟨.hbm, 1008, rfl⟩
abbrev main_v785 : Ref sig .tc := ⟨.hbm, 1009, rfl⟩
abbrev main_v786 : Ref sig .tc := ⟨.hbm, 1010, rfl⟩
abbrev main_v787 : Ref sig .tc := ⟨.hbm, 1011, rfl⟩
abbrev main_v788 : Ref sig .tc := ⟨.hbm, 1012, rfl⟩
abbrev main_v789 : Ref sig .tc := ⟨.hbm, 1013, rfl⟩
abbrev main_v790 : Ref sig .tc := ⟨.hbm, 1014, rfl⟩
abbrev main_v791 : Ref sig .tc := ⟨.hbm, 1015, rfl⟩
abbrev main_v792 : Ref sig .tc := ⟨.hbm, 1016, rfl⟩
abbrev main_v793 : Ref sig .tc := ⟨.hbm, 1017, rfl⟩
abbrev main_v794 : Ref sig .tc := ⟨.hbm, 1018, rfl⟩
abbrev main_v795 : Ref sig .tc := ⟨.hbm, 1019, rfl⟩
abbrev main_v796 : Ref sig .tc := ⟨.hbm, 1020, rfl⟩
abbrev main_v797 : Ref sig .tc := ⟨.hbm, 1021, rfl⟩
abbrev main_v798 : Ref sig .tc := ⟨.hbm, 1022, rfl⟩
abbrev main_v799 : Ref sig .tc := ⟨.hbm, 1023, rfl⟩
abbrev main_v800 : Ref sig .tc := ⟨.hbm, 1024, rfl⟩
abbrev main_v801 : Ref sig .tc := ⟨.hbm, 1025, rfl⟩
abbrev main_v802 : Ref sig .tc := ⟨.hbm, 1026, rfl⟩
abbrev main_v803 : Ref sig .tc := ⟨.hbm, 1027, rfl⟩
abbrev main_v804 : Ref sig .tc := ⟨.hbm, 1028, rfl⟩
abbrev main_v805 : Ref sig .tc := ⟨.hbm, 1029, rfl⟩
abbrev main_v806 : Ref sig .tc := ⟨.hbm, 1030, rfl⟩
abbrev main_v807 : Ref sig .tc := ⟨.hbm, 1031, rfl⟩
abbrev main_v808 : Ref sig .tc := ⟨.hbm, 1032, rfl⟩
abbrev main_v809 : Ref sig .tc := ⟨.hbm, 1033, rfl⟩
abbrev main_v810 : Ref sig .tc := ⟨.hbm, 1034, rfl⟩
abbrev main_v811 : Ref sig .tc := ⟨.hbm, 1035, rfl⟩
abbrev main_v812 : Ref sig .tc := ⟨.hbm, 1036, rfl⟩
abbrev main_v813 : Ref sig .tc := ⟨.hbm, 1037, rfl⟩
abbrev main_v814 : Ref sig .tc := ⟨.hbm, 1038, rfl⟩
abbrev main_v815 : Ref sig .tc := ⟨.hbm, 1039, rfl⟩
abbrev main_v816 : Ref sig .tc := ⟨.hbm, 1040, rfl⟩
abbrev main_v817 : Ref sig .tc := ⟨.hbm, 1041, rfl⟩
abbrev main_v818 : Ref sig .tc := ⟨.hbm, 1042, rfl⟩
abbrev main_v819 : Ref sig .tc := ⟨.hbm, 1043, rfl⟩
abbrev main_v820 : Ref sig .tc := ⟨.hbm, 1044, rfl⟩
abbrev main_v821 : Ref sig .tc := ⟨.hbm, 1045, rfl⟩
abbrev main_v822 : Ref sig .tc := ⟨.hbm, 1046, rfl⟩
abbrev main_v823 : Ref sig .tc := ⟨.hbm, 1047, rfl⟩
abbrev main_v824 : Ref sig .tc := ⟨.hbm, 1048, rfl⟩
abbrev main_v825 : Ref sig .tc := ⟨.hbm, 1049, rfl⟩
abbrev main_v826 : Ref sig .tc := ⟨.hbm, 1050, rfl⟩
abbrev main_v827 : Ref sig .tc := ⟨.hbm, 1051, rfl⟩
abbrev main_v828 : Ref sig .tc := ⟨.hbm, 1052, rfl⟩
abbrev main_v829 : Ref sig .tc := ⟨.hbm, 1053, rfl⟩
abbrev main_v830 : Ref sig .tc := ⟨.hbm, 1054, rfl⟩
abbrev main_v831 : Ref sig .tc := ⟨.hbm, 1055, rfl⟩
abbrev main_v832 : Ref sig .tc := ⟨.hbm, 1056, rfl⟩
abbrev main_v833 : Ref sig .tc := ⟨.hbm, 1057, rfl⟩
abbrev main_v834 : Ref sig .tc := ⟨.hbm, 1058, rfl⟩
abbrev main_v835 : Ref sig .tc := ⟨.hbm, 1059, rfl⟩
abbrev main_v836 : Ref sig .tc := ⟨.hbm, 1060, rfl⟩
abbrev main_v837 : Ref sig .tc := ⟨.hbm, 1061, rfl⟩
abbrev main_v838 : Ref sig .tc := ⟨.hbm, 1062, rfl⟩
abbrev main_v839 : Ref sig .tc := ⟨.hbm, 1063, rfl⟩
abbrev main_v840 : Ref sig .tc := ⟨.hbm, 1064, rfl⟩
abbrev main_v841 : Ref sig .tc := ⟨.hbm, 1065, rfl⟩
abbrev main_v842 : Ref sig .tc := ⟨.hbm, 1066, rfl⟩
abbrev main_v843 : Ref sig .tc := ⟨.hbm, 1067, rfl⟩
abbrev main_v844 : Ref sig .tc := ⟨.hbm, 1068, rfl⟩
abbrev main_v845 : Ref sig .tc := ⟨.hbm, 1069, rfl⟩
abbrev main_v846 : Ref sig .tc := ⟨.hbm, 1070, rfl⟩
abbrev main_v847 : Ref sig .tc := ⟨.hbm, 1071, rfl⟩
abbrev main_v848 : Ref sig .tc := ⟨.hbm, 1072, rfl⟩
abbrev main_v849 : Ref sig .tc := ⟨.hbm, 1073, rfl⟩
abbrev main_v850 : Ref sig .tc := ⟨.hbm, 1074, rfl⟩
abbrev main_v851 : Ref sig .tc := ⟨.hbm, 1075, rfl⟩
abbrev main_v852 : Ref sig .tc := ⟨.hbm, 1076, rfl⟩
abbrev main_cst_129 : Ref sig .tc := ⟨.hbm, 1077, rfl⟩
abbrev main_v853 : Ref sig .tc := ⟨.hbm, 1078, rfl⟩
abbrev main_v854 : Ref sig .tc := ⟨.hbm, 1079, rfl⟩
abbrev main_cst_130 : Ref sig .tc := ⟨.hbm, 1080, rfl⟩
abbrev main_v855 : Ref sig .tc := ⟨.hbm, 1081, rfl⟩
abbrev main_v856 : Ref sig .tc := ⟨.hbm, 1082, rfl⟩
abbrev main_v857 : Ref sig .tc := ⟨.hbm, 1083, rfl⟩
abbrev main_v858 : Ref sig .tc := ⟨.hbm, 1084, rfl⟩
abbrev main_v859 : Ref sig .tc := ⟨.hbm, 1085, rfl⟩
abbrev main_cst_131 : Ref sig .tc := ⟨.hbm, 1086, rfl⟩
abbrev main_v860 : Ref sig .tc := ⟨.hbm, 1087, rfl⟩
abbrev main_v861 : Ref sig .tc := ⟨.hbm, 1088, rfl⟩
abbrev main_cst_132 : Ref sig .tc := ⟨.hbm, 1089, rfl⟩
abbrev main_v862 : Ref sig .tc := ⟨.hbm, 1090, rfl⟩
abbrev main_v863 : Ref sig .tc := ⟨.hbm, 1091, rfl⟩
abbrev main_v864 : Ref sig .tc := ⟨.hbm, 1092, rfl⟩
abbrev main_v865 : Ref sig .tc := ⟨.hbm, 1093, rfl⟩
abbrev main_cst_133 : Ref sig .tc := ⟨.hbm, 1094, rfl⟩
abbrev main_v866 : Ref sig .tc := ⟨.hbm, 1095, rfl⟩
abbrev main_v867 : Ref sig .tc := ⟨.hbm, 1096, rfl⟩
abbrev main_v868 : Ref sig .tc := ⟨.hbm, 1097, rfl⟩
abbrev main_v869 : Ref sig .tc := ⟨.hbm, 1098, rfl⟩
abbrev main_v870 : Ref sig .tc := ⟨.hbm, 1099, rfl⟩
abbrev main_v871 : Ref sig .tc := ⟨.hbm, 1100, rfl⟩
abbrev main_v872 : Ref sig .tc := ⟨.hbm, 1101, rfl⟩
abbrev main_v873 : Ref sig .tc := ⟨.hbm, 1102, rfl⟩
abbrev main_v874 : Ref sig .tc := ⟨.hbm, 1103, rfl⟩
abbrev main_v875 : Ref sig .tc := ⟨.hbm, 1104, rfl⟩
abbrev main_v876 : Ref sig .tc := ⟨.hbm, 1105, rfl⟩
abbrev main_call21_v0 : Ref sig .tc := ⟨.hbm, 1106, rfl⟩
abbrev main_call21_v1 : Ref sig .tc := ⟨.hbm, 1107, rfl⟩
abbrev main_call21_cst : Ref sig .tc := ⟨.hbm, 1108, rfl⟩
abbrev main_call21_v2 : Ref sig .tc := ⟨.hbm, 1109, rfl⟩
abbrev main_call21_v3 : Ref sig .tc := ⟨.hbm, 1110, rfl⟩
abbrev main_call21_cst_0 : Ref sig .tc := ⟨.hbm, 1111, rfl⟩
abbrev main_call21_v4 : Ref sig .tc := ⟨.hbm, 1112, rfl⟩
abbrev main_call21_v5 : Ref sig .tc := ⟨.hbm, 1113, rfl⟩
abbrev main_v877 : Ref sig .tc := ⟨.hbm, 1114, rfl⟩
abbrev main_v878 : Ref sig .tc := ⟨.hbm, 1115, rfl⟩
abbrev main_v879 : Ref sig .tc := ⟨.hbm, 1116, rfl⟩
abbrev main_cst_134 : Ref sig .tc := ⟨.hbm, 1117, rfl⟩
abbrev main_v880 : Ref sig .tc := ⟨.hbm, 1118, rfl⟩
abbrev main_v881 : Ref sig .tc := ⟨.hbm, 1119, rfl⟩
abbrev main_cst_135 : Ref sig .tc := ⟨.hbm, 1120, rfl⟩
abbrev main_v882 : Ref sig .tc := ⟨.hbm, 1121, rfl⟩
abbrev main_v883 : Ref sig .tc := ⟨.hbm, 1122, rfl⟩
abbrev main_cst_136 : Ref sig .tc := ⟨.hbm, 1123, rfl⟩
abbrev main_v884 : Ref sig .tc := ⟨.hbm, 1124, rfl⟩
abbrev main_v885 : Ref sig .tc := ⟨.hbm, 1125, rfl⟩
abbrev main_v886 : Ref sig .tc := ⟨.hbm, 1126, rfl⟩
abbrev main_v887 : Ref sig .tc := ⟨.hbm, 1127, rfl⟩
abbrev main_v888 : Ref sig .tc := ⟨.hbm, 1128, rfl⟩
abbrev main_v889 : Ref sig .tc := ⟨.hbm, 1129, rfl⟩
abbrev main_v890 : Ref sig .tc := ⟨.hbm, 1130, rfl⟩
abbrev main_v891 : Ref sig .tc := ⟨.hbm, 1131, rfl⟩
abbrev main_v892 : Ref sig .tc := ⟨.hbm, 1132, rfl⟩
abbrev main_v893 : Ref sig .tc := ⟨.hbm, 1133, rfl⟩
abbrev main_v894 : Ref sig .tc := ⟨.hbm, 1134, rfl⟩
abbrev main_v895 : Ref sig .tc := ⟨.hbm, 1135, rfl⟩
abbrev main_v896 : Ref sig .tc := ⟨.hbm, 1136, rfl⟩
abbrev main_v897 : Ref sig .tc := ⟨.hbm, 1137, rfl⟩
abbrev main_v898 : Ref sig .tc := ⟨.hbm, 1138, rfl⟩
abbrev main_v899 : Ref sig .tc := ⟨.hbm, 1139, rfl⟩
abbrev main_v900 : Ref sig .tc := ⟨.hbm, 1140, rfl⟩
abbrev main_v901 : Ref sig .tc := ⟨.hbm, 1141, rfl⟩
abbrev main_v902 : Ref sig .tc := ⟨.hbm, 1142, rfl⟩
abbrev main_v903 : Ref sig .tc := ⟨.hbm, 1143, rfl⟩
abbrev main_v904 : Ref sig .tc := ⟨.hbm, 1144, rfl⟩
abbrev main_v905 : Ref sig .tc := ⟨.hbm, 1145, rfl⟩
abbrev main_v906 : Ref sig .tc := ⟨.hbm, 1146, rfl⟩
abbrev main_cst_137 : Ref sig .tc := ⟨.hbm, 1147, rfl⟩
abbrev main_v907 : Ref sig .tc := ⟨.hbm, 1148, rfl⟩
abbrev main_v908 : Ref sig .tc := ⟨.hbm, 1149, rfl⟩
abbrev main_cst_138 : Ref sig .tc := ⟨.hbm, 1150, rfl⟩
abbrev main_v909 : Ref sig .tc := ⟨.hbm, 1151, rfl⟩
abbrev main_v910 : Ref sig .tc := ⟨.hbm, 1152, rfl⟩
abbrev main_cst_139 : Ref sig .tc := ⟨.hbm, 1153, rfl⟩
abbrev main_v911 : Ref sig .tc := ⟨.hbm, 1154, rfl⟩
abbrev main_v912 : Ref sig .tc := ⟨.hbm, 1155, rfl⟩
abbrev main_v913 : Ref sig .tc := ⟨.hbm, 1156, rfl⟩
abbrev main_v914 : Ref sig .tc := ⟨.hbm, 1157, rfl⟩
abbrev main_v915 : Ref sig .tc := ⟨.hbm, 1158, rfl⟩
abbrev main_v916 : Ref sig .tc := ⟨.hbm, 1159, rfl⟩
abbrev main_v917 : Ref sig .tc := ⟨.hbm, 1160, rfl⟩
abbrev main_v918 : Ref sig .tc := ⟨.hbm, 1161, rfl⟩
abbrev main_cst_140 : Ref sig .tc := ⟨.hbm, 1162, rfl⟩
abbrev main_v919 : Ref sig .tc := ⟨.hbm, 1163, rfl⟩
abbrev main_v920 : Ref sig .tc := ⟨.hbm, 1164, rfl⟩
abbrev main_v921 : Ref sig .tc := ⟨.hbm, 1165, rfl⟩
abbrev main_v922 : Ref sig .tc := ⟨.hbm, 1166, rfl⟩
abbrev main_v923 : Ref sig .tc := ⟨.hbm, 1167, rfl⟩
abbrev main_v924 : Ref sig .tc := ⟨.hbm, 1168, rfl⟩
abbrev main_v925 : Ref sig .tc := ⟨.hbm, 1169, rfl⟩
abbrev main_v926 : Ref sig .tc := ⟨.hbm, 1170, rfl⟩
abbrev main_v927 : Ref sig .tc := ⟨.hbm, 1171, rfl⟩
abbrev main_v928 : Ref sig .tc := ⟨.hbm, 1172, rfl⟩
abbrev main_v929 : Ref sig .tc := ⟨.hbm, 1173, rfl⟩
abbrev main_v930 : Ref sig .tc := ⟨.hbm, 1174, rfl⟩
abbrev main_v931 : Ref sig .tc := ⟨.hbm, 1175, rfl⟩
abbrev main_c_141 : Ref sig .tc := ⟨.hbm, 1176, rfl⟩
abbrev main_call22_v0 : Ref sig .tc := ⟨.hbm, 1177, rfl⟩
abbrev main_v932 : Ref sig .tc := ⟨.hbm, 1178, rfl⟩
abbrev main_v933 : Ref sig .tc := ⟨.hbm, 1179, rfl⟩
abbrev main_cst_142 : Ref sig .tc := ⟨.hbm, 1180, rfl⟩
abbrev main_v934 : Ref sig .tc := ⟨.hbm, 1181, rfl⟩
abbrev main_c_143 : Ref sig .tc := ⟨.hbm, 1182, rfl⟩
abbrev main_v935_0 : Ref sig .tc := ⟨.hbm, 1183, rfl⟩
abbrev main_v935_1 : Ref sig .tc := ⟨.hbm, 1184, rfl⟩
abbrev main_v935_2 : Ref sig .tc := ⟨.hbm, 1185, rfl⟩
abbrev main_v935_3 : Ref sig .tc := ⟨.hbm, 1186, rfl⟩
abbrev main_v935_4 : Ref sig .tc := ⟨.hbm, 1187, rfl⟩
abbrev main_v935_5 : Ref sig .tc := ⟨.hbm, 1188, rfl⟩
abbrev main_v935_6 : Ref sig .tc := ⟨.hbm, 1189, rfl⟩
abbrev main_while0c_c_150 : Ref sig .tc := ⟨.hbm, 1190, rfl⟩
abbrev main_while0c_v945 : Ref sig .tc := ⟨.hbm, 1191, rfl⟩
abbrev main_while0b_call23_c : Ref sig .tc := ⟨.hbm, 1192, rfl⟩
abbrev main_while0b_call23_c_0 : Ref sig .tc := ⟨.hbm, 1193, rfl⟩
abbrev main_while0b_call23_v0 : Ref sig .tc := ⟨.hbm, 1194, rfl⟩
abbrev main_while0b_v945 : Ref sig .tc := ⟨.hbm, 1195, rfl⟩
abbrev main_while0b_v946 : Ref sig .tc := ⟨.hbm, 1196, rfl⟩
abbrev main_while0b_v947 : Ref sig .tc := ⟨.hbm, 1197, rfl⟩
abbrev main_while0b_v948 : Ref sig .tc := ⟨.hbm, 1198, rfl⟩
abbrev main_while0b_v949 : Ref sig .tc := ⟨.hbm, 1199, rfl⟩
abbrev main_while0b_v950 : Ref sig .tc := ⟨.hbm, 1200, rfl⟩
abbrev main_while0b_v951 : Ref sig .tc := ⟨.hbm, 1201, rfl⟩
abbrev main_while0b_values_150 : Ref sig .tc := ⟨.hbm, 1202, rfl⟩
abbrev main_while0b_indices_151 : Ref sig .tc := ⟨.hbm, 1203, rfl⟩
abbrev main_while0b_v952 : Ref sig .tc := ⟨.hbm, 1204, rfl⟩
abbrev main_while0b_v953 : Ref sig .tc := ⟨.hbm, 1205, rfl⟩
abbrev main_while0b_values_152 : Ref sig .tc := ⟨.hbm, 1206, rfl⟩
abbrev main_while0b_indices_153 : Ref sig .tc := ⟨.hbm, 1207, rfl⟩
abbrev main_while0b_v954 : Ref sig .tc := ⟨.hbm, 1208, rfl⟩
abbrev main_while0b_v955 : Ref sig .tc := ⟨.hbm, 1209, rfl⟩
abbrev main_while0b_v956 : Ref sig .tc := ⟨.hbm, 1210, rfl⟩
abbrev main_while0b_v957 : Ref sig .tc := ⟨.hbm, 1211, rfl⟩
abbrev main_while0b_v958 : Ref sig .tc := ⟨.hbm, 1212, rfl⟩
abbrev main_while0b_v959 : Ref sig .tc := ⟨.hbm, 1213, rfl⟩
abbrev main_while0b_v960 : Ref sig .tc := ⟨.hbm, 1214, rfl⟩
abbrev main_while0b_c_154 : Ref sig .tc := ⟨.hbm, 1215, rfl⟩
abbrev main_while0b_v961 : Ref sig .tc := ⟨.hbm, 1216, rfl⟩
abbrev main_while0b_v962 : Ref sig .tc := ⟨.hbm, 1217, rfl⟩
abbrev main_while0b_v963 : Ref sig .tc := ⟨.hbm, 1218, rfl⟩
abbrev main_while0b_v964 : Ref sig .tc := ⟨.hbm, 1219, rfl⟩
abbrev main_while0b_v965 : Ref sig .tc := ⟨.hbm, 1220, rfl⟩
abbrev main_while0b_v966 : Ref sig .tc := ⟨.hbm, 1221, rfl⟩
abbrev main_while0b_v967 : Ref sig .tc := ⟨.hbm, 1222, rfl⟩
abbrev main_while0b_values_155 : Ref sig .tc := ⟨.hbm, 1223, rfl⟩
abbrev main_while0b_indices_156 : Ref sig .tc := ⟨.hbm, 1224, rfl⟩
abbrev main_while0b_call24_c : Ref sig .tc := ⟨.hbm, 1225, rfl⟩
abbrev main_while0b_call24_v0 : Ref sig .tc := ⟨.hbm, 1226, rfl⟩
abbrev main_while0b_call24_v1 : Ref sig .tc := ⟨.hbm, 1227, rfl⟩
abbrev main_while0b_call24_c_0 : Ref sig .tc := ⟨.hbm, 1228, rfl⟩
abbrev main_while0b_call24_v2 : Ref sig .tc := ⟨.hbm, 1229, rfl⟩
abbrev main_while0b_call24_v3 : Ref sig .tc := ⟨.hbm, 1230, rfl⟩
abbrev main_while0b_call24_v4 : Ref sig .tc := ⟨.hbm, 1231, rfl⟩
abbrev main_while0b_call24_v5 : Ref sig .tc := ⟨.hbm, 1232, rfl⟩
abbrev main_while0b_call24_c_1 : Ref sig .tc := ⟨.hbm, 1233, rfl⟩
abbrev main_while0b_call24_c_2 : Ref sig .tc := ⟨.hbm, 1234, rfl⟩
abbrev main_while0b_call24_v6 : Ref sig .tc := ⟨.hbm, 1235, rfl⟩
abbrev main_while0b_call24_v7 : Ref sig .tc := ⟨.hbm, 1236, rfl⟩
abbrev main_while0b_call24_v8 : Ref sig .tc := ⟨.hbm, 1237, rfl⟩
abbrev main_while0b_call24_v9 : Ref sig .tc := ⟨.hbm, 1238, rfl⟩
abbrev main_while0b_call24_v10 : Ref sig .tc := ⟨.hbm, 1239, rfl⟩
abbrev main_while0b_call24_v11 : Ref sig .tc := ⟨.hbm, 1240, rfl⟩
abbrev main_while0b_call24_c_3 : Ref sig .tc := ⟨.hbm, 1241, rfl⟩
abbrev main_while0b_call24_v12 : Ref sig .tc := ⟨.hbm, 1242, rfl⟩
abbrev main_while0b_call24_v13 : Ref sig .tc := ⟨.hbm, 1243, rfl⟩
abbrev main_while0b_call24_c_4 : Ref sig .tc := ⟨.hbm, 1244, rfl⟩
abbrev main_while0b_call24_v14 : Ref sig .tc := ⟨.hbm, 1245, rfl⟩
abbrev main_while0b_v968 : Ref sig .tc := ⟨.hbm, 1246, rfl⟩
abbrev main_while0b_cst_157 : Ref sig .tc := ⟨.hbm, 1247, rfl⟩
abbrev main_while0b_v969 : Ref sig .tc := ⟨.hbm, 1248, rfl⟩
abbrev main_while0b_cst_158 : Ref sig .tc := ⟨.hbm, 1249, rfl⟩
abbrev main_while0b_v970 : Ref sig .tc := ⟨.hbm, 1250, rfl⟩
abbrev main_while0b_v971 : Ref sig .tc := ⟨.hbm, 1251, rfl⟩
abbrev main_while0b_v972 : Ref sig .tc := ⟨.hbm, 1252, rfl⟩
abbrev main_while0b_v973 : Ref sig .tc := ⟨.hbm, 1253, rfl⟩
abbrev main_while0b_v974 : Ref sig .tc := ⟨.hbm, 1254, rfl⟩
abbrev main_while0b_v975 : Ref sig .tc := ⟨.hbm, 1255, rfl⟩
abbrev main_while0b_cst_159 : Ref sig .tc := ⟨.hbm, 1256, rfl⟩
abbrev main_while0b_v976 : Ref sig .tc := ⟨.hbm, 1257, rfl⟩
abbrev main_while0b_v977 : Ref sig .tc := ⟨.hbm, 1258, rfl⟩
abbrev main_while0b_v978 : Ref sig .tc := ⟨.hbm, 1259, rfl⟩
abbrev main_while0b_v979 : Ref sig .tc := ⟨.hbm, 1260, rfl⟩
abbrev main_while0b_c_160 : Ref sig .tc := ⟨.hbm, 1261, rfl⟩
abbrev main_while0b_v980 : Ref sig .tc := ⟨.hbm, 1262, rfl⟩
abbrev main_while0b_v981 : Ref sig .tc := ⟨.hbm, 1263, rfl⟩
abbrev main_while0b_c_161 : Ref sig .tc := ⟨.hbm, 1264, rfl⟩
abbrev main_while0b_v982 : Ref sig .tc := ⟨.hbm, 1265, rfl⟩
abbrev main_while0b_v983 : Ref sig .tc := ⟨.hbm, 1266, rfl⟩
abbrev main_while0b_v984 : Ref sig .tc := ⟨.hbm, 1267, rfl⟩
abbrev main_while0b_v985 : Ref sig .tc := ⟨.hbm, 1268, rfl⟩
abbrev main_while0b_v986 : Ref sig .tc := ⟨.hbm, 1269, rfl⟩
abbrev main_while0b_c_162 : Ref sig .tc := ⟨.hbm, 1270, rfl⟩
abbrev main_while0b_v987 : Ref sig .tc := ⟨.hbm, 1271, rfl⟩
abbrev main_while0b_v988 : Ref sig .tc := ⟨.hbm, 1272, rfl⟩
abbrev main_while0b_c_163 : Ref sig .tc := ⟨.hbm, 1273, rfl⟩
abbrev main_while0b_v989 : Ref sig .tc := ⟨.hbm, 1274, rfl⟩
abbrev main_while0b_v990 : Ref sig .tc := ⟨.hbm, 1275, rfl⟩
abbrev main_while0b_v991 : Ref sig .tc := ⟨.hbm, 1276, rfl⟩
abbrev main_while0b_v992 : Ref sig .tc := ⟨.hbm, 1277, rfl⟩
abbrev main_while0b_v993 : Ref sig .tc := ⟨.hbm, 1278, rfl⟩
abbrev main_while0b_v994 : Ref sig .tc := ⟨.hbm, 1279, rfl⟩
abbrev main_while0b_v995 : Ref sig .tc := ⟨.hbm, 1280, rfl⟩
abbrev main_while0b_v996 : Ref sig .tc := ⟨.hbm, 1281, rfl⟩
abbrev main_while0b_cst_164 : Ref sig .tc := ⟨.hbm, 1282, rfl⟩
abbrev main_while0b_v997 : Ref sig .tc := ⟨.hbm, 1283, rfl⟩
abbrev main_while0b_v998 : Ref sig .tc := ⟨.hbm, 1284, rfl⟩
abbrev main_while0b_v999 : Ref sig .tc := ⟨.hbm, 1285, rfl⟩
abbrev main_while0b_cst_165 : Ref sig .tc := ⟨.hbm, 1286, rfl⟩
abbrev main_while0b_v1000 : Ref sig .tc := ⟨.hbm, 1287, rfl⟩
abbrev main_while0b_v1001 : Ref sig .tc := ⟨.hbm, 1288, rfl⟩
abbrev main_while0b_v1002 : Ref sig .tc := ⟨.hbm, 1289, rfl⟩
abbrev main_while0b_cst_166 : Ref sig .tc := ⟨.hbm, 1290, rfl⟩
abbrev main_while0b_v1003 : Ref sig .tc := ⟨.hbm, 1291, rfl⟩
abbrev main_while0b_v1004 : Ref sig .tc := ⟨.hbm, 1292, rfl⟩
abbrev main_while0b_cst_167 : Ref sig .tc := ⟨.hbm, 1293, rfl⟩
abbrev main_while0b_v1005 : Ref sig .tc := ⟨.hbm, 1294, rfl⟩
abbrev main_while0b_v1006 : Ref sig .tc := ⟨.hbm, 1295, rfl⟩
abbrev main_while0b_v1007 : Ref sig .tc := ⟨.hbm, 1296, rfl⟩
abbrev main_while0b_v1008 : Ref sig .tc := ⟨.hbm, 1297, rfl⟩
abbrev main_while0b_v1009 : Ref sig .tc := ⟨.hbm, 1298, rfl⟩
abbrev main_while0b_call25_v0 : Ref sig .tc := ⟨.hbm, 1299, rfl⟩
abbrev main_while0b_call25_c : Ref sig .tc := ⟨.hbm, 1300, rfl⟩
abbrev main_while0b_call25_c_0 : Ref sig .tc := ⟨.hbm, 1301, rfl⟩
abbrev main_while0b_v1010 : Ref sig .tc := ⟨.hbm, 1302, rfl⟩
abbrev main_while0b_c_168 : Ref sig .tc := ⟨.hbm, 1303, rfl⟩
abbrev main_while0b_v1011 : Ref sig .tc := ⟨.hbm, 1304, rfl⟩
abbrev main_v936 : Ref sig .tc := ⟨.hbm, 1305, rfl⟩
abbrev main_v937 : Ref sig .tc := ⟨.hbm, 1306, rfl⟩
abbrev main_v938 : Ref sig .tc := ⟨.hbm, 1307, rfl⟩
abbrev main_v939 : Ref sig .tc := ⟨.hbm, 1308, rfl⟩
abbrev main_v940 : Ref sig .tc := ⟨.hbm, 1309, rfl⟩
abbrev main_v941 : Ref sig .tc := ⟨.hbm, 1310, rfl⟩
abbrev main_v942 : Ref sig .tc := ⟨.hbm, 1311, rfl⟩
abbrev main_v943 : Ref sig .tc := ⟨.hbm, 1312, rfl⟩
abbrev main_v944 : Ref sig .tc := ⟨.hbm, 1313, rfl⟩

abbrev nD : Nat := 1
abbrev τ : Topo := Topo.v7x

variable {F : FTy → Type} [FloatOps F]

abbrev main_while0_count : Scf.Loop 32 := ⟨0#32, 2#32, 1#32⟩
-- ==== Kernel2.lean ====
abbrev S8x4096x1024 : Shape := ⟨3, ![8, 4096, 1024]⟩
abbrev S8x1024 : Shape := ⟨2, ![8, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x2328 : Shape := ⟨3, ![1, 1024, 2328]⟩
abbrev S1x3x64 : Shape := ⟨3, ![1, 3, 64]⟩
abbrev S1024x6144 : Shape := ⟨2, ![1024, 6144]⟩
abbrev S6144 : Shape := ⟨1, ![6144]⟩
abbrev S1024 : Shape := ⟨1, ![1024]⟩
abbrev S1024x2328 : Shape := ⟨2, ![1024, 2328]⟩
abbrev S3x64 : Shape := ⟨2, ![3, 64]⟩
abbrev S_ : Shape := ⟨0, ![]⟩
abbrev S8x6144 : Shape := ⟨2, ![8, 6144]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩
abbrev S1024x2432 : Shape := ⟨2, ![1024, 2432]⟩
abbrev S32768x2432 : Shape := ⟨2, ![32768, 2432]⟩
abbrev S512x1024 : Shape := ⟨2, ![512, 1024]⟩
abbrev S512x2432 : Shape := ⟨2, ![512, 2432]⟩
abbrev S32768x2328 : Shape := ⟨2, ![32768, 2328]⟩
abbrev S8x4096x2328 : Shape := ⟨3, ![8, 4096, 2328]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x2x64 : Shape := ⟨4, ![8, 4096, 2, 64]⟩
abbrev S1x64 : Shape := ⟨2, ![1, 64]⟩
abbrev S64 : Shape := ⟨1, ![64]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S8x4096x1x2x64 : Shape := ⟨5, ![8, 4096, 1, 2, 64]⟩
abbrev S8x4096x2x2x64 : Shape := ⟨5, ![8, 4096, 2, 2, 64]⟩
abbrev S8x512x2x2x64 : Shape := ⟨5, ![8, 512, 2, 2, 64]⟩
abbrev S8x30x512 : Shape := ⟨3, ![8, 30, 512]⟩
abbrev S8x4126x512 : Shape := ⟨3, ![8, 4126, 512]⟩
abbrev S1x8x4096x2x2x64 : Shape := ⟨6, ![1, 8, 4096, 2, 2, 64]⟩
abbrev S1x8x512x2x2x64 : Shape := ⟨6, ![1, 8, 512, 2, 2, 64]⟩
abbrev S1x8x30x512 : Shape := ⟨4, ![1, 8, 30, 512]⟩

abbrev nBuf : Space → Nat
  | .hbm => 143
  | .vmem => 5
  | .smem => 0
  | _ => 0

abbrev hbmTy0_0 (i : Nat) : BufTy := match i % 128 with
  | 0 => ⟨S8x4096x1024, .f32⟩
  | 1 => ⟨S8x1024, .f32⟩
  | 2 => ⟨S1x1024x6144, .f32⟩
  | 3 => ⟨S1x6144, .f32⟩
  | 4 => ⟨S1x1024, .f32⟩
  | 5 => ⟨S1x1024x2328, .f32⟩
  | 6 => ⟨S1x3x64, .f32⟩
  | 7 => ⟨S1024x6144, .f32⟩
  | 8 => ⟨S6144, .f32⟩
  | 9 => ⟨S1024, .f32⟩
  | 10 => ⟨S1024x2328, .f32⟩
  | 11 => ⟨S3x64, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S_, .f32⟩
  | 18 => ⟨S8x1024, .f32⟩
  | 19 => ⟨S8x1024, .f32⟩
  | 20 => ⟨S8x1024, .f32⟩
  | 21 => ⟨S8x6144, .f32⟩
  | 22 => ⟨S1x6144, .f32⟩
  | 23 => ⟨S8x6144, .f32⟩
  | 24 => ⟨S8x6144, .f32⟩
  | 25 => ⟨S8x1x6144, .f32⟩
  | 26 => ⟨S8x1x1024, .f32⟩
  | 27 => ⟨S8x1x1024, .f32⟩
  | 28 => ⟨S8x1x1024, .f32⟩
  | 29 => ⟨S8x1x1024, .f32⟩
  | 30 => ⟨S8x1x1024, .f32⟩
  | 31 => ⟨S8x1x1024, .f32⟩
  | 32 => ⟨S8x4096x1024, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x1024, .f32⟩
  | 44 => ⟨S8x4096x1024, .f32⟩
  | 45 => ⟨S1x1x1024, .f32⟩
  | 46 => ⟨S8x4096x1024, .f32⟩
  | 47 => ⟨S8x4096x1024, .f32⟩
  | 48 => ⟨S_, .f32⟩
  | 49 => ⟨S8x1x1024, .f32⟩
  | 50 => ⟨S8x1x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S32768x1024, .f32⟩
  | 56 => ⟨S_, .i32⟩
  | 57 => ⟨S_, .f32⟩
  | 58 => ⟨S1024x2432, .f32⟩
  | 59 => ⟨S1024x2432, .bf16⟩
  | 60 => ⟨S32768x2432, .f32⟩
  | 61 => ⟨S32768x2328, .f32⟩
  | 62 => ⟨S8x4096x2328, .f32⟩
  | 63 => ⟨S8x4096x512, .f32⟩
  | 64 => ⟨S8x4096x128, .f32⟩
  | 65 => ⟨S8x4096x128, .f32⟩
  | 66 => ⟨S8x4096x128, .f32⟩
  | 67 => ⟨S8x4096x128, .f32⟩
  | 68 => ⟨S8x4096x128, .f32⟩
  | 69 => ⟨S8x4096x128, .f32⟩
  | 70 => ⟨S8x4096x24, .f32⟩
  | 71 => ⟨S8x4096x1024, .f32⟩
  | 72 => ⟨S8x4096x2x64, .f32⟩
  | 73 => ⟨S1x64, .f32⟩
  | 74 => ⟨S64, .f32⟩
  | 75 => ⟨S8x4096x2x64, .f32⟩
  | 76 => ⟨S_, .f32⟩
  | 77 => ⟨S8x4096x2, .f32⟩
  | 78 => ⟨S8x4096x2x1, .f32⟩
  | 79 => ⟨S_, .f32⟩
  | 80 => ⟨S8x4096x2x1, .f32⟩
  | 81 => ⟨S8x4096x2x1, .f32⟩
  | 82 => ⟨S_, .f32⟩
  | 83 => ⟨S8x4096x2x1, .f32⟩
  | 84 => ⟨S8x4096x2x1, .f32⟩
  | 85 => ⟨S8x4096x2x1, .f32⟩
  | 86 => ⟨S8x4096x2x64, .f32⟩
  | 87 => ⟨S8x4096x2x64, .f32⟩
  | 88 => ⟨S1x1x1x64, .f32⟩
  | 89 => ⟨S8x4096x2x64, .f32⟩
  | 90 => ⟨S8x4096x2x64, .f32⟩
  | 91 => ⟨S8x4096x2x64, .f32⟩
  | 92 => ⟨S1x64, .f32⟩
  | 93 => ⟨S64, .f32⟩
  | 94 => ⟨S8x4096x2x64, .f32⟩
  | 95 => ⟨S_, .f32⟩
  | 96 => ⟨S8x4096x2, .f32⟩
  | 97 => ⟨S8x4096x2x1, .f32⟩
  | 98 => ⟨S_, .f32⟩
  | 99 => ⟨S8x4096x2x1, .f32⟩
  | 100 => ⟨S8x4096x2x1, .f32⟩
  | 101 => ⟨S_, .f32⟩
  | 102 => ⟨S8x4096x2x1, .f32⟩
  | 103 => ⟨S8x4096x2x1, .f32⟩
  | 104 => ⟨S8x4096x2x1, .f32⟩
  | 105 => ⟨S8x4096x2x64, .f32⟩
  | 106 => ⟨S8x4096x2x64, .f32⟩
  | 107 => ⟨S1x1x1x64, .f32⟩
  | 108 => ⟨S8x4096x2x64, .f32⟩
  | 109 => ⟨S8x4096x2x64, .f32⟩
  | 110 => ⟨S8x4096x2x64, .f32⟩
  | 111 => ⟨S8x4096x2x64, .f32⟩
  | 112 => ⟨S8x4096x1x2x64, .f32⟩
  | 113 => ⟨S8x4096x1x2x64, .f32⟩
  | 114 => ⟨S8x4096x2x2x64, .f32⟩
  | 115 => ⟨S8x4096x2x64, .f32⟩
  | 116 => ⟨S8x4096x1x2x64, .f32⟩
  | 117 => ⟨S8x4096x1x2x64, .f32⟩
  | 118 => ⟨S8x4096x2x2x64, .f32⟩
  | 119 => ⟨S8x4096x2x64, .f32⟩
  | 120 => ⟨S8x4096x1x2x64, .f32⟩
  | 121 => ⟨S8x4096x1x2x64, .f32⟩
  | 122 => ⟨S8x4096x2x2x64, .f32⟩
  | 123 => ⟨S8x512x2x2x64, .f32⟩
  | 124 => ⟨S_, .f32⟩
  | 125 => ⟨S8x30x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S_, .f32⟩
  | 3 => ⟨S8x4096x512, .f32⟩
  | 4 => ⟨S8x4096x512, .f32⟩
  | 5 => ⟨S_, .f32⟩
  | 6 => ⟨S8x4096x512, .f32⟩
  | 7 => ⟨S8x4096x512, .f32⟩
  | 8 => ⟨S8x4096x512, .f32⟩
  | 9 => ⟨S8x4126x512, .f32⟩
  | 10 => ⟨S8x30x512, .f32⟩
  | 11 => ⟨S1x8x4096x2x2x64, .f32⟩
  | 12 => ⟨S1x8x4096x2x2x64, .f32⟩
  | 13 => ⟨S1x8x512x2x2x64, .f32⟩
  | 14 => ⟨S1x8x30x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x2432, .bf16⟩
  | .local _ .vmem, ⟨3, _⟩ => ⟨S512x2432, .f32⟩
  | .local _ .vmem, ⟨4, _⟩ => ⟨S512x2432, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_3 : Ref sig .tc := ⟨.hbm, 76, rfl⟩
abbrev main_v55 : Ref sig .tc := ⟨.hbm, 77, rfl⟩
abbrev main_v56 : Ref sig .tc := ⟨.hbm, 78, rfl⟩
abbrev main_cst_4 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_6 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_9 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_10 : Ref sig .tc := ⟨.hbm, 130, rfl⟩
abbrev main_v102 : Ref sig .tc := ⟨.hbm, 131, rfl⟩
abbrev main_v103 : Ref sig .tc := ⟨.hbm, 132, rfl⟩
abbrev main_cst_11 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2432 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2432 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S8x4096x1024 : Shape := ⟨3, ![8, 4096, 1024]⟩
abbrev S8x1024 : Shape := ⟨2, ![8, 1024]⟩
abbrev S1x1024x6144 : Shape := ⟨3, ![1, 1024, 6144]⟩
abbrev S1x6144 : Shape := ⟨2, ![1, 6144]⟩
abbrev S1x1024 : Shape := ⟨2, ![1, 1024]⟩
abbrev S1x1024x2328 : Shape := ⟨3, ![1, 1024, 2328]⟩
abbrev S1x3x64 : Shape := ⟨3, ![1, 3, 64]⟩
abbrev S1024x6144 : Shape := ⟨2, ![1024, 6144]⟩
abbrev S6144 : Shape := ⟨1, ![6144]⟩
abbrev S1024 : Shape := ⟨1, ![1024]⟩
abbrev S1024x2328 : Shape := ⟨2, ![1024, 2328]⟩
abbrev S3x64 : Shape := ⟨2, ![3, 64]⟩
abbrev S_ : Shape := ⟨0, ![]⟩
abbrev S8x6144 : Shape := ⟨2, ![8, 6144]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩
abbrev S1x1x1 : Shape := ⟨3, ![1, 1, 1]⟩
abbrev S8x4096x2328 : Shape := ⟨3, ![8, 4096, 2328]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x2x64 : Shape := ⟨4, ![8, 4096, 2, 64]⟩
abbrev S1x64 : Shape := ⟨2, ![1, 64]⟩
abbrev S64 : Shape := ⟨1, ![64]⟩
abbrev S8x4096x2 : Shape := ⟨3, ![8, 4096, 2]⟩
abbrev S8x4096x2x1 : Shape := ⟨4, ![8, 4096, 2, 1]⟩
abbrev S1x1x1x64 : Shape := ⟨4, ![1, 1, 1, 64]⟩
abbrev S8x4096x1x2x64 : Shape := ⟨5, ![8, 4096, 1, 2, 64]⟩
abbrev S8x4096x2x2x64 : Shape := ⟨5, ![8, 4096, 2, 2, 64]⟩
abbrev S8x512x2x2x64 : Shape := ⟨5, ![8, 512, 2, 2, 64]⟩
abbrev S8x30x512 : Shape := ⟨3, ![8, 30, 512]⟩
abbrev S8x4126x512 : Shape := ⟨3, ![8, 4126, 512]⟩
abbrev S1x8x4096x2x2x64 : Shape := ⟨6, ![1, 8, 4096, 2, 2, 64]⟩
abbrev S1x8x512x2x2x64 : Shape := ⟨6, ![1, 8, 512, 2, 2, 64]⟩
abbrev S1x8x30x512 : Shape := ⟨4, ![1, 8, 30, 512]⟩

abbrev nBuf : Space → Nat
  | .hbm => 143
  | .vmem => 0
  | .smem => 0
  | _ => 0

abbrev hbmTy0_0 (i : Nat) : BufTy := match i % 128 with
  | 0 => ⟨S8x4096x1024, .f32⟩
  | 1 => ⟨S8x1024, .f32⟩
  | 2 => ⟨S1x1024x6144, .f32⟩
  | 3 => ⟨S1x6144, .f32⟩
  | 4 => ⟨S1x1024, .f32⟩
  | 5 => ⟨S1x1024x2328, .f32⟩
  | 6 => ⟨S1x3x64, .f32⟩
  | 7 => ⟨S1024x6144, .f32⟩
  | 8 => ⟨S6144, .f32⟩
  | 9 => ⟨S1024, .f32⟩
  | 10 => ⟨S1024x2328, .f32⟩
  | 11 => ⟨S3x64, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S_, .f32⟩
  | 18 => ⟨S8x1024, .f32⟩
  | 19 => ⟨S8x1024, .f32⟩
  | 20 => ⟨S8x1024, .f32⟩
  | 21 => ⟨S8x6144, .f32⟩
  | 22 => ⟨S1x6144, .f32⟩
  | 23 => ⟨S8x6144, .f32⟩
  | 24 => ⟨S8x6144, .f32⟩
  | 25 => ⟨S8x1x6144, .f32⟩
  | 26 => ⟨S8x1x1024, .f32⟩
  | 27 => ⟨S8x1x1024, .f32⟩
  | 28 => ⟨S8x1x1024, .f32⟩
  | 29 => ⟨S8x1x1024, .f32⟩
  | 30 => ⟨S8x1x1024, .f32⟩
  | 31 => ⟨S8x1x1024, .f32⟩
  | 32 => ⟨S8x4096x1024, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x1024, .f32⟩
  | 44 => ⟨S8x4096x1024, .f32⟩
  | 45 => ⟨S1x1x1024, .f32⟩
  | 46 => ⟨S8x4096x1024, .f32⟩
  | 47 => ⟨S8x4096x1024, .f32⟩
  | 48 => ⟨S_, .f32⟩
  | 49 => ⟨S8x1x1024, .f32⟩
  | 50 => ⟨S8x1x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S1x1x1, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S8x4096x2328, .f32⟩
  | 63 => ⟨S8x4096x512, .f32⟩
  | 64 => ⟨S8x4096x128, .f32⟩
  | 65 => ⟨S8x4096x128, .f32⟩
  | 66 => ⟨S8x4096x128, .f32⟩
  | 67 => ⟨S8x4096x128, .f32⟩
  | 68 => ⟨S8x4096x128, .f32⟩
  | 69 => ⟨S8x4096x128, .f32⟩
  | 70 => ⟨S8x4096x24, .f32⟩
  | 71 => ⟨S8x4096x1024, .f32⟩
  | 72 => ⟨S8x4096x2x64, .f32⟩
  | 73 => ⟨S1x64, .f32⟩
  | 74 => ⟨S64, .f32⟩
  | 75 => ⟨S8x4096x2x64, .f32⟩
  | 76 => ⟨S_, .f32⟩
  | 77 => ⟨S8x4096x2, .f32⟩
  | 78 => ⟨S8x4096x2x1, .f32⟩
  | 79 => ⟨S_, .f32⟩
  | 80 => ⟨S8x4096x2x1, .f32⟩
  | 81 => ⟨S8x4096x2x1, .f32⟩
  | 82 => ⟨S_, .f32⟩
  | 83 => ⟨S8x4096x2x1, .f32⟩
  | 84 => ⟨S8x4096x2x1, .f32⟩
  | 85 => ⟨S8x4096x2x1, .f32⟩
  | 86 => ⟨S8x4096x2x64, .f32⟩
  | 87 => ⟨S8x4096x2x64, .f32⟩
  | 88 => ⟨S1x1x1x64, .f32⟩
  | 89 => ⟨S8x4096x2x64, .f32⟩
  | 90 => ⟨S8x4096x2x64, .f32⟩
  | 91 => ⟨S8x4096x2x64, .f32⟩
  | 92 => ⟨S1x64, .f32⟩
  | 93 => ⟨S64, .f32⟩
  | 94 => ⟨S8x4096x2x64, .f32⟩
  | 95 => ⟨S_, .f32⟩
  | 96 => ⟨S8x4096x2, .f32⟩
  | 97 => ⟨S8x4096x2x1, .f32⟩
  | 98 => ⟨S_, .f32⟩
  | 99 => ⟨S8x4096x2x1, .f32⟩
  | 100 => ⟨S8x4096x2x1, .f32⟩
  | 101 => ⟨S_, .f32⟩
  | 102 => ⟨S8x4096x2x1, .f32⟩
  | 103 => ⟨S8x4096x2x1, .f32⟩
  | 104 => ⟨S8x4096x2x1, .f32⟩
  | 105 => ⟨S8x4096x2x64, .f32⟩
  | 106 => ⟨S8x4096x2x64, .f32⟩
  | 107 => ⟨S1x1x1x64, .f32⟩
  | 108 => ⟨S8x4096x2x64, .f32⟩
  | 109 => ⟨S8x4096x2x64, .f32⟩
  | 110 => ⟨S8x4096x2x64, .f32⟩
  | 111 => ⟨S8x4096x2x64, .f32⟩
  | 112 => ⟨S8x4096x1x2x64, .f32⟩
  | 113 => ⟨S8x4096x1x2x64, .f32⟩
  | 114 => ⟨S8x4096x2x2x64, .f32⟩
  | 115 => ⟨S8x4096x2x64, .f32⟩
  | 116 => ⟨S8x4096x1x2x64, .f32⟩
  | 117 => ⟨S8x4096x1x2x64, .f32⟩
  | 118 => ⟨S8x4096x2x2x64, .f32⟩
  | 119 => ⟨S8x4096x2x64, .f32⟩
  | 120 => ⟨S8x4096x1x2x64, .f32⟩
  | 121 => ⟨S8x4096x1x2x64, .f32⟩
  | 122 => ⟨S8x4096x2x2x64, .f32⟩
  | 123 => ⟨S8x512x2x2x64, .f32⟩
  | 124 => ⟨S_, .f32⟩
  | 125 => ⟨S8x30x512, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S_, .f32⟩
  | 3 => ⟨S8x4096x512, .f32⟩
  | 4 => ⟨S8x4096x512, .f32⟩
  | 5 => ⟨S_, .f32⟩
  | 6 => ⟨S8x4096x512, .f32⟩
  | 7 => ⟨S8x4096x512, .f32⟩
  | 8 => ⟨S8x4096x512, .f32⟩
  | 9 => ⟨S8x4126x512, .f32⟩
  | 10 => ⟨S8x30x512, .f32⟩
  | 11 => ⟨S1x8x4096x2x2x64, .f32⟩
  | 12 => ⟨S1x8x4096x2x2x64, .f32⟩
  | 13 => ⟨S1x8x512x2x2x64, .f32⟩
  | 14 => ⟨S1x8x30x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_cst_4 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_6 : Ref sig .tc := ⟨.hbm, 95, rfl⟩
abbrev main_v73 : Ref sig .tc := ⟨.hbm, 96, rfl⟩
abbrev main_v74 : Ref sig .tc := ⟨.hbm, 97, rfl⟩
abbrev main_cst_7 : Ref sig .tc := ⟨.hbm, 98, rfl⟩
abbrev main_v75 : Ref sig .tc := ⟨.hbm, 99, rfl⟩
abbrev main_v76 : Ref sig .tc := ⟨.hbm, 100, rfl⟩
abbrev main_cst_8 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_9 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_10 : Ref sig .tc := ⟨.hbm, 130, rfl⟩
abbrev main_v104 : Ref sig .tc := ⟨.hbm, 131, rfl⟩
abbrev main_v105 : Ref sig .tc := ⟨.hbm, 132, rfl⟩
abbrev main_cst_11 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩

abbrev nD : Nat := 1
abbrev τ : Topo := Topo.v7x

variable {F : FTy → Type} [FloatOps F]
-- ==== Kernel3.lean ====
abbrev S8x4096x1024 : Shape := ⟨3, ![8, 4096, 1024]⟩
abbrev S1x1024x1024 : Shape := ⟨3, ![1, 1024, 1024]⟩
abbrev S32768x1024 : Shape := ⟨2, ![32768, 1024]⟩
abbrev S1024x1024 : Shape := ⟨2, ![1024, 1024]⟩
abbrev S_ : Shape := ⟨0, ![]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1024, .f32⟩
  | .hbm, ⟨2, _⟩ => ⟨S32768x1024, .f32⟩
  | .hbm, ⟨3, _⟩ => ⟨S1024x1024, .f32⟩
  | .hbm, ⟨4, _⟩ => ⟨S_, .i32⟩
  | .hbm, ⟨5, _⟩ => ⟨S_, .f32⟩
  | .hbm, ⟨6, _⟩ => ⟨S1024x1024, .f32⟩
  | .hbm, ⟨7, _⟩ => ⟨S1024x1024, .bf16⟩
  | .hbm, ⟨8, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S8x4096x1024 : Shape := ⟨3, ![8, 4096, 1024]⟩
abbrev S1x1024x1024 : Shape := ⟨3, ![1, 1024, 1024]⟩
abbrev S1024x1024 : Shape := ⟨2, ![1024, 1024]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x1024, .f32⟩
  | .hbm, ⟨2, _⟩ => ⟨S1024x1024, .f32⟩
  | .hbm, ⟨3, _⟩ => ⟨S8x4096x1024, .f32⟩
  | .hbm, ⟨4, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x1024x2048 : Shape := ⟨3, ![1, 1024, 2048]⟩
abbrev S32768x1024 : Shape := ⟨2, ![32768, 1024]⟩
abbrev S1024x2048 : Shape := ⟨2, ![1024, 2048]⟩
abbrev S_ : Shape := ⟨0, ![]⟩
abbrev S32768x2048 : Shape := ⟨2, ![32768, 2048]⟩
abbrev S512x1024 : Shape := ⟨2, ![512, 1024]⟩
abbrev S512x2048 : Shape := ⟨2, ![512, 2048]⟩

abbrev nBuf : Space → Nat
  | .hbm => 9
  | .vmem => 5
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2048, .f32⟩
  | .hbm, ⟨2, _⟩ => ⟨S32768x1024, .f32⟩
  | .hbm, ⟨3, _⟩ => ⟨S1024x2048, .f32⟩
  | .hbm, ⟨4, _⟩ => ⟨S_, .i32⟩
  | .hbm, ⟨5, _⟩ => ⟨S_, .f32⟩
  | .hbm, ⟨6, _⟩ => ⟨S1024x2048, .f32⟩
  | .hbm, ⟨7, _⟩ => ⟨S1024x2048, .bf16⟩
  | .hbm, ⟨8, _⟩ => ⟨S32768x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x4096x1024 : Shape := ⟨3, ![8, 4096, 1024]⟩
abbrev S1x1024x2048 : Shape := ⟨3, ![1, 1024, 2048]⟩
abbrev S32768x1024 : Shape := ⟨2, ![32768, 1024]⟩
abbrev S1024x2048 : Shape := ⟨2, ![1024, 2048]⟩
abbrev S32768x2048 : Shape := ⟨2, ![32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024x2048, .f32⟩
  | .hbm, ⟨2, _⟩ => ⟨S32768x1024, .f32⟩
  | .hbm, ⟨3, _⟩ => ⟨S1024x2048, .f32⟩
  | .hbm, ⟨4, _⟩ => ⟨S32768x2048, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Region.lean ====
/-
  ONE MATRIX-PRODUCT CALL, whichever of the three it is, as a segment of the run. The three calls differ in their shapes
  only: each has three windows (rows, weight, result), every window its whole array, and a grid of one point. What is the
  same for all of them is said once here, for pipeline `p` and any proof data that starts from the buffers' contents.
-/
module

public import proofs.«01_k».proof.Proof.Gen.KernelIdeal.Launch
public import Idealize.ShloMosaic.Lib.Pipeline.RegionsLoop
public import Idealize.ShloMosaic.Lib.Pipeline.Frame
public import Idealize.ShloMosaic.Lib.StableHlo.RunLoop
public import Idealize.ShloMosaic.Lib.Tactic

@[expose] public section

noncomputable section

namespace Cert.Proof.Region

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

/-- The ghost state: one copy of the pipelines' for each of the three calls, and the counters of the transfers. -/
abbrev UU : Type := IProdConst (Fin 3) (UR sig nD τ) × Counters

local notation "𝕄" => MT nD τ sig Unit (Elt F) ℕ UU ℕ

/-- The pipelines have no tables, so there is nothing to admit. -/
abbrev adm : (p : Fin 3) → (pcfgs (F := F) p).Adm := fun p => (cfgs p).toPCfg_adm

abbrev 𝒱₀ : Variants := Variants.none

/-- No core owes another anything, so no level is assigned. -/
abbrev L : GSem nD τ sig → Finset Unit := fun _ => ∅
abbrev lv : GSem nD τ sig → Unit → ℕ := fun _ _ => 0

/-- What a core carries beside its buffers: that it owes nothing. -/
abbrev Rc (c : Dev nD) : sProp 𝕄 := iprop(∃ W, owes (c : Thread nD τ) (0 : CellTallies nD τ sig Unit) W)

/-- Proof data of a pipeline that a call does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The proof data of all pipelines when pipeline `p` runs. -/
abbrev Dats (F : FTy → Type) [FloatOps F] : Type :=
  (p : Fin 3) → (c : Dev nD) → Dat τ (Elt F) Unit ℕ UU ℕ (Pipeline.pin (pcfgs (F := F)) adm p) c

set_option backward.isDefEq.respectTransparency.types false in
/-- The call of pipeline `p` from every unscoped buffer at `V`, leaving them at `V'`: the proof data starts from `V`, its
    final arrays are what `V'` says, and `V'` is `V` off the pipeline's arrays. -/
def reg (p : Fin 3) (pdats : Dats F) (V V' : Dev nD → Valuation τ sig (Elt F))
    (hw : Pipeline.WinFacts (Pipeline.pin (pcfgs (F := F)) adm p).spec)
    (hpos : ∀ w : Fin (Pipeline.pin (pcfgs (F := F)) adm p).W, 0 < ((Pipeline.pin (pcfgs (F := F)) adm p).spec w).block.numel)
    (harr : ∀ w, ((Pipeline.pin (pcfgs (F := F)) adm p).spec w).arr.IsWhole)
    (hst : ∀ (w : Fin (Pipeline.pin (pcfgs (F := F)) adm p).W) (s : Fin ((Pipeline.pin (pcfgs (F := F)) adm p).spec w).nbuf),
      (((Pipeline.pin (pcfgs (F := F)) adm p).spec w).stage s).IsWhole)
    (hA : ∀ c w, (pdats p c).A w = V c (Proc.devRef .tc (Pipeline.arrRef (Pipeline.pin (pcfgs (F := F)) adm p).spec w)))
    (hΦ : ∀ c t, (pdats p c).Φ t = Pipeline.scopedRest (Pipeline.pin (pcfgs (F := F)) adm p).spec c)
    (hq : ∀ c w, (pdats p c).q w = fullShare)
    (hrec : ∀ c t, (pdats p c).recorded t = Set.univ)
    (howed : ∀ c t, (pdats p c).owed t = 0)
    (hbody : ∀ c, BodyObligation (pdats p c) (defs₀ (F := F)) 𝒱₀ () Set.univ)
    (hV' : ∀ c w, (pdats p c).arrAt w (Pipeline.pin (pcfgs (F := F)) adm p).N
      = V' c (Proc.devRef .tc (Pipeline.arrRef (Pipeline.pin (pcfgs (F := F)) adm p).spec w)))
    (hne : ∀ c b, b ∉ Finset.univ.image (Pipeline.arrRef (Pipeline.pin (pcfgs (F := F)) adm p).spec) →
      V' c (Proc.devRef .tc b) = V c (Proc.devRef .tc b)) :
    Pipeline.RegionSeg (pcfgs (F := F)) adm pdats () defs₀ 𝒱₀ L lv p where
  win := hw.to₀
  block_pos := hpos
  stage_whole := hst
  K := PEmpty
  osem k := k.elim
  ho := Pipeline.OwnSemFacts.none _
  hbody c := (hbody c).loose
  hwaits := Pipeline.hwaits_of_owed_zero _ _ _ _ L lv p fun c t => howed c t
  pre c := iprop(StableHlo.held (c : Thread nD τ) (ucRefs τ sig) (V c) ∗ Rc c)
  post c := iprop(StableHlo.held (c : Thread nD τ) (ucRefs τ sig) (V' c) ∗ Rc c)
  X _ := BI.emp
  Y _ := BI.emp
  Z c := iprop(Pipeline.unscopedRest (Ix := Unit) (Name := ℕ) (U := UU) (Lvl := ℕ) (Pipeline.pin (pcfgs (F := F)) adm p).spec c (fun b => V c b))
  hentry c := by
    rw [Pipeline.ownSems0_none]
    have hsplit := Pipeline.arrays_of_unscopedBufs (p := p) (pcfgs (F := F)) adm pdats hw harr c
      ((pdats p c).share_full fun w => hq c w) (fun b => V c b) (hA c)
    rw [← Pipeline.unscopedBufs_held]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl ((hrec c 0).symm ▸ Set.mem_univ _)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ) hw harr c
      pdats ((pdats p c).share_full fun w => hq c w) (fun b => V c b) (fun b => V' c b)
      ((pdats p c).arrAt · (Pipeline.pin (pcfgs (F := F)) adm p).N) (hV' c) (fun b hb => hne c b hb)
    rw [← Pipeline.unscopedBufs_held]
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, -, HO⟩; iexists W; iexact HO

end Cert.Proof.Region

end
-- ==== Proof.MatBody.lean ====
/-
  THE THREE MATRIX-PRODUCT KERNELS' BODIES, run once each on staging buffers held whole, and the proof data of their calls.
-/
module

public import proofs.«01_k».proof.Proof.Region
public import Idealize.ShloMosaic.Lib.Pipeline.Value

@[expose] public section

noncomputable section

namespace Cert.Proof.Region

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)

variable {F : FTy → Type} [FloatOps F]

local notation "𝕄" => MT nD τ sig Unit (Elt F) ℕ UU ℕ

/-- The contents of memref `M`'s buffer on core `c`, and that buffer held whole at some contents. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The offset of a whole-array access. -/
theorem hz : (![0, 0] : Fin 2 → Nat) = fun _ => 0 := funext fun a => by fin_cases a <;> rfl

/-- Reading back one store that covers the whole view gives the stored value. -/
theorem read_store_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, by
    subst h; rw [Rect.mem_set_unit]; intro a; have := (y a).isLt; omega⟩), View.canon_unit_zero h]

/-- Ownership through a memref that is a whole buffer is ownership of the buffer. -/
theorem owns_isWhole (c : Thread nD τ) {sp : Space} {sh : Shape} {e : EltTy} (M : Memref sig c.2.kind sp sh e) (h : M.IsWhole)
    (q : PosShare TreeShare) (X : sh.Idx → Elt F e) :
    (owns c M q X : sProp 𝕄) = iprop(∃ f : Buf (Elt F) (M.view.loc c), ⌜M.view.read (Elt F) f = X⌝ ∗ ((M.view.loc c) ↦{q} f)) := by
  obtain ⟨b, hsp, hsh, he, h⟩ := h
  subst hsp hsh he
  obtain rfl := eq_of_heq h
  unfold owns
  simp only [Memref.view_whole, View.set_whole]

/-- The body's product: the rows rounded to bf16, times the weight, from zero. -/
abbrev mm0 (X : S512x1024.Idx → Elt F .f32) (W : S1024x2432.Idx → Elt F .bf16) : S512x2432.Idx → Elt F .f32 :=
  matmul dot_S512x1024_S1024x2432_S512x2432_1_0_0_1_n_n none (truncf .bf16 X bitsLt_bf16_f32) W (constant S512x2432 .f32 0x00000000#32)

/-- The first call's body: from the three staging buffers held whole it runs to its return, leaving the rows' and the
    weight's as they were and the result's at the given contents. -/
noncomputable def run0 (c : Dev nD) (i : grid0.Coords) (M0 : Memref sig .tc .vmem S512x1024 .f32) (h0 : M0.IsWhole)
    (M1 : Memref sig .tc .vmem S1024x2432 .bf16) (h1 : M1.IsWhole) (M2 : Memref sig .tc .vmem S512x2432 .f32) (h2 : M2.IsWhole)
    (f0 : Bf (F := F) c M0) (f1 : Bf (F := F) c M1) :
    { W : Bf (F := F) c M2 // ∀ (f2 : Bf (F := F) c M2) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc0_matmul i M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

theorem run0_read (c : Dev nD) (i : grid0.Coords) (M0 : Memref sig .tc .vmem S512x1024 .f32) (h0 : M0.IsWhole)
    (M1 : Memref sig .tc .vmem S1024x2432 .bf16) (h1 : M1.IsWhole) (M2 : Memref sig .tc .vmem S512x2432 .f32) (h2 : M2.IsWhole)
    (f0 : Bf (F := F) c M0) (f1 : Bf (F := F) c M1) :
    M2.view.read (Elt F) (run0 c i M0 h0 M1 h1 M2 h2 f0 f1).1
      = matmul dot_S512x1024_S1024x2432_S512x2432_1_0_0_1_n_n none (truncf .bf16 (M0.view.read (Elt F) f0) bitsLt_bf16_f32)
          (M1.view.read (Elt F) f1) (constant S512x2432 .f32 0x00000000#32) := by
  unfold run0
  dsimp only
  sl_unfold_words
  rw [read_store_whole _ _ hz]
  simp only [View.readAt_eq_ld, View.ld_unit_zero (S := S512x1024) hz, View.ld_unit_zero (S := S1024x2432) hz, shapeCast_self]

/-- The run, on the three buffers owned at contents read through their memrefs. -/
theorem run0_owns (c : Dev nD) (i : grid0.Coords) (M0 : Memref sig .tc .vmem S512x1024 .f32) (h0 : M0.IsWhole)
    (M1 : Memref sig .tc .vmem S1024x2432 .bf16) (h1 : M1.IsWhole) (M2 : Memref sig .tc .vmem S512x2432 .f32) (h2 : M2.IsWhole)
    (X : S512x1024.Idx → Elt F .f32) (W : S1024x2432.Idx → Elt F .bf16) {K : PUnit.{1} → sProp 𝕄} :
    iprop(owns (c : Thread nD τ) M0 fullShare X ∗ owns (c : Thread nD τ) M1 fullShare W ∗ (∃ d, owns (c : Thread nD τ) M2 fullShare d)
        ∗ ((owns (c : Thread nD τ) M0 fullShare X ∗ owns (c : Thread nD τ) M1 fullShare W ∗ owns (c : Thread nD τ) M2 fullShare (mm0 X W)) -∗ K ⟨⟩))
      ⊢ wp frame (wpE (defs₀ (F := F)) 𝒱₀ c none) Set.univ (cc0_matmul i M0 h0 M1 h1 M2 h2) K := by
  simp only [owns_isWhole (c : Thread nD τ) M0 h0, owns_isWhole (c : Thread nD τ) M1 h1, owns_isWhole (c : Thread nD τ) M2 h2]
  iintro ⟨⟨%f0, %hf0, H0⟩, ⟨%f1, %hf1, H1⟩, ⟨%d2, %f2, -, H2⟩, Hk⟩
  iapply (run0 (F := F) c i M0 h0 M1 h1 M2 h2 f0 f1).2 f2 Set.univ K
  isplitl [H0]; · iexact H0
  isplitl [H1]; · iexact H1
  isplitl [H2]; · iexact H2
  iintro ⟨H0, H1, H2⟩
  iapply Hk
  isplitl [H0]; · iexists _; isplitr; swap; (· iexact H0); ipureintro; exact hf0
  isplitl [H1]; · iexists _; isplitr; swap; (· iexact H1); ipureintro; exact hf1
  iexists _; isplitr; swap; (· iexact H2); ipureintro
  exact (run0_read ..).trans (by rw [hf0, hf1])

/-- The blocks of the rows and of the weight as the fetch stages them: the arrays at `V`, read through the windows' views. -/
abbrev stgX0 (V : Dev nD → Valuation τ sig (Elt F)) (c : Dev nD) : S512x1024.Idx → Elt F .f32 :=
  (win0_0.blk t0_0).view.read (Elt F) (V c (Proc.devRef .tc (Pipeline.arrRef spec0 0)))
abbrev stgW0 (V : Dev nD → Valuation τ sig (Elt F)) (c : Dev nD) : S1024x2432.Idx → Elt F .bf16 :=
  (win0_1.blk t0_0).view.read (Elt F) (V c (Proc.devRef .tc (Pipeline.arrRef spec0 1)))

/-- The proof data of the first call entered at `V`. -/
def dat0 (V : Dev nD → Valuation τ sig (Elt F)) (c : Dev nD) : Dat τ (Elt F) Unit ℕ UU ℕ cfg0 c where
  A w := V c (Proc.devRef .tc (Pipeline.arrRef spec0 w))
  after w _ := match w with
    | ⟨0, _⟩ => stgX0 V c
    | ⟨1, _⟩ => stgW0 V c
    | ⟨2, _⟩ => mm0 (stgX0 V c) (stgW0 V c)
  Φ _ := Pipeline.scopedRest (Ix := Unit) (Name := ℕ) (U := UU) (Lvl := ℕ) (Val := Elt F) spec0 c
  q _ := fullShare
  owed _ := 0

/-- The fetched buffers hold their blocks when the body runs. -/
theorem before0_0 (V : Dev nD → Valuation τ sig (Elt F)) (c : Dev nD) (d) : (dat0 V c).before 0 t0_0 d = stgX0 V c := by
  unfold Dat.before; rw [if_pos (by decide)]; rfl
theorem before0_1 (V : Dev nD → Valuation τ sig (Elt F)) (c : Dev nD) (d) : (dat0 V c).before 1 t0_0 d = stgW0 V c := by
  unfold Dat.before; rw [if_pos (by decide)]; rfl

/-- The body meets its obligation. -/
theorem body0 (V : Dev nD → Valuation τ sig (Elt F)) (c : Dev nD) : BodyObligation (dat0 V c) (defs₀ (F := F)) 𝒱₀ () Set.univ := fun t => by
  obtain rfl := fin_N0 t
  rw [bigSep_W0, bigSep_W0]
  simp only [before0_0, before0_1]
  rw [show (dat0 V c).owesAt () t0_0.succ = (dat0 V c).owesAt () t0_0.castSucc from rfl,
    show (dat0 V c).Φ t0_0.succ = (dat0 V c).Φ t0_0.castSucc from rfl]
  iintro ⟨HΦ, Howes, ⟨%d0, H0⟩, ⟨%d1, H1⟩, ⟨%d2, H2⟩⟩
  iapply run0_owns (F := F) c (grid0.coords t0_0) _ (hstage0_0 ((cfg0.slots t0_0 0).cast nbuf0_0)) _ (hstage0_1 ((cfg0.slots t0_0 1).cast nbuf0_1))
    _ (hstage0_2 ((cfg0.slots t0_0 2).cast nbuf0_2)) (stgX0 V c) (stgW0 V c)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-- The body's product: the rows rounded to bf16, times the weight, from zero. -/
abbrev mm1 (X : S512x1024.Idx → Elt F .f32) (W : S1024x1024.Idx → Elt F .bf16) : S512x1024.Idx → Elt F .f32 :=
  matmul dot_S512x1024_S1024x1024_S512x1024_1_0_0_1_n_n none (truncf .bf16 X bitsLt_bf16_f32) W (constant S512x1024 .f32 0x00000000#32)

/-- The second call's body: from the three staging buffers held whole it runs to its return, leaving the rows' and the
    weight's as they were and the result's at the given contents. -/
noncomputable def run1 (c : Dev nD) (i : grid1.Coords) (M0 : Memref sig .tc .vmem S512x1024 .f32) (h0 : M0.IsWhole)
    (M1 : Memref sig .tc .vmem S1024x1024 .bf16) (h1 : M1.IsWhole) (M2 : Memref sig .tc .vmem S512x1024 .f32) (h2 : M2.IsWhole)
    (f0 : Bf (F := F) c M0) (f1 : Bf (F := F) c M1) :
    { W : Bf (F := F) c M2 // ∀ (f2 : Bf (F := F) c M2) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc1_matmul i M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

theorem run1_read (c : Dev nD) (i : grid1.Coords) (M0 : Memref sig .tc .vmem S512x1024 .f32) (h0 : M0.IsWhole)
    (M1 : Memref sig .tc .vmem S1024x1024 .bf16) (h1 : M1.IsWhole) (M2 : Memref sig .tc .vmem S512x1024 .f32) (h2 : M2.IsWhole)
    (f0 : Bf (F := F) c M0) (f1 : Bf (F := F) c M1) :
    M2.view.read (Elt F) (run1 c i M0 h0 M1 h1 M2 h2 f0 f1).1
      = matmul dot_S512x1024_S1024x1024_S512x1024_1_0_0_1_n_n none (truncf .bf16 (M0.view.read (Elt F) f0) bitsLt_bf16_f32)
          (M1.view.read (Elt F) f1) (constant S512x1024 .f32 0x00000000#32) := by
  unfold run1
  dsimp only
  sl_unfold_words
  rw [read_store_whole _ _ hz]
  simp only [View.readAt_eq_ld, View.ld_unit_zero (S := S512x1024) hz, View.ld_unit_zero (S := S1024x1024) hz, shapeCast_self]

/-- The run, on the three buffers owned at contents read through their memrefs. -/
theorem run1_owns (c : Dev nD) (i : grid1.Coords) (M0 : Memref sig .tc .vmem S512x1024 .f32) (h0 : M0.IsWhole)
    (M1 : Memref sig .tc .vmem S1024x1024 .bf16) (h1 : M1.IsWhole) (M2 : Memref sig .tc .vmem S512x1024 .f32) (h2 : M2.IsWhole)
    (X : S512x1024.Idx → Elt F .f32) (W : S1024x1024.Idx → Elt F .bf16) {K : PUnit.{1} → sProp 𝕄} :
    iprop(owns (c : Thread nD τ) M0 fullShare X ∗ owns (c : Thread nD τ) M1 fullShare W ∗ (∃ d, owns (c : Thread nD τ) M2 fullShare d)
        ∗ ((owns (c : Thread nD τ) M0 fullShare X ∗ owns (c : Thread nD τ) M1 fullShare W ∗ owns (c : Thread nD τ) M2 fullShare (mm1 X W)) -∗ K ⟨⟩))
      ⊢ wp frame (wpE (defs₀ (F := F)) 𝒱₀ c none) Set.univ (cc1_matmul i M0 h0 M1 h1 M2 h2) K := by
  simp only [owns_isWhole (c : Thread nD τ) M0 h0, owns_isWhole (c : Thread nD τ) M1 h1, owns_isWhole (c : Thread nD τ) M2 h2]
  iintro ⟨⟨%f0, %hf0, H0⟩, ⟨%f1, %hf1, H1⟩, ⟨%d2, %f2, -, H2⟩, Hk⟩
  iapply (run1 (F := F) c i M0 h0 M1 h1 M2 h2 f0 f1).2 f2 Set.univ K
  isplitl [H0]; · iexact H0
  isplitl [H1]; · iexact H1
  isplitl [H2]; · iexact H2
  iintro ⟨H0, H1, H2⟩
  iapply Hk
  isplitl [H0]; · iexists _; isplitr; swap; (· iexact H0); ipureintro; exact hf0
  isplitl [H1]; · iexists _; isplitr; swap; (· iexact H1); ipureintro; exact hf1
  iexists _; isplitr; swap; (· iexact H2); ipureintro
  exact (run1_read ..).trans (by rw [hf0, hf1])

/-- The blocks of the rows and of the weight as the fetch stages them: the arrays at `V`, read through the windows' views. -/
abbrev stgX1 (V : Dev nD → Valuation τ sig (Elt F)) (c : Dev nD) : S512x1024.Idx → Elt F .f32 :=
  (win1_0.blk t1_0).view.read (Elt F) (V c (Proc.devRef .tc (Pipeline.arrRef spec1 0)))
abbrev stgW1 (V : Dev nD → Valuation τ sig (Elt F)) (c : Dev nD) : S1024x1024.Idx → Elt F .bf16 :=
  (win1_1.blk t1_0).view.read (Elt F) (V c (Proc.devRef .tc (Pipeline.arrRef spec1 1)))

/-- The proof data of the second call entered at `V`. -/
def dat1 (V : Dev nD → Valuation τ sig (Elt F)) (c : Dev nD) : Dat τ (Elt F) Unit ℕ UU ℕ cfg1 c where
  A w := V c (Proc.devRef .tc (Pipeline.arrRef spec1 w))
  after w _ := match w with
    | ⟨0, _⟩ => stgX1 V c
    | ⟨1, _⟩ => stgW1 V c
    | ⟨2, _⟩ => mm1 (stgX1 V c) (stgW1 V c)
  Φ _ := Pipeline.scopedRest (Ix := Unit) (Name := ℕ) (U := UU) (Lvl := ℕ) (Val := Elt F) spec1 c
  q _ := fullShare
  owed _ := 0

/-- The fetched buffers hold their blocks when the body runs. -/
theorem before1_0 (V : Dev nD → Valuation τ sig (Elt F)) (c : Dev nD) (d) : (dat1 V c).before 0 t1_0 d = stgX1 V c := by
  unfold Dat.before; rw [if_pos (by decide)]; rfl
theorem before1_1 (V : Dev nD → Valuation τ sig (Elt F)) (c : Dev nD) (d) : (dat1 V c).before 1 t1_0 d = stgW1 V c := by
  unfold Dat.before; rw [if_pos (by decide)]; rfl

/-- The body meets its obligation. -/
theorem body1 (V : Dev nD → Valuation τ sig (Elt F)) (c : Dev nD) : BodyObligation (dat1 V c) (defs₀ (F := F)) 𝒱₀ () Set.univ := fun t => by
  obtain rfl := fin_N1 t
  rw [bigSep_W1, bigSep_W1]
  simp only [before1_0, before1_1]
  rw [show (dat1 V c).owesAt () t1_0.succ = (dat1 V c).owesAt () t1_0.castSucc from rfl,
    show (dat1 V c).Φ t1_0.succ = (dat1 V c).Φ t1_0.castSucc from rfl]
  iintro ⟨HΦ, Howes, ⟨%d0, H0⟩, ⟨%d1, H1⟩, ⟨%d2, H2⟩⟩
  iapply run1_owns (F := F) c (grid1.coords t1_0) _ (hstage1_0 ((cfg1.slots t1_0 0).cast nbuf1_0)) _ (hstage1_1 ((cfg1.slots t1_0 1).cast nbuf1_1))
    _ (hstage1_2 ((cfg1.slots t1_0 2).cast nbuf1_2)) (stgX1 V c) (stgW1 V c)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

/-- The body's product: the rows rounded to bf16, times the weight, from zero. -/
abbrev mm2 (X : S512x1024.Idx → Elt F .f32) (W : S1024x2048.Idx → Elt F .bf16) : S512x2048.Idx → Elt F .f32 :=
  matmul dot_S512x1024_S1024x2048_S512x2048_1_0_0_1_n_n none (truncf .bf16 X bitsLt_bf16_f32) W (constant S512x2048 .f32 0x00000000#32)

/-- The third call's body: from the three staging buffers held whole it runs to its return, leaving the rows' and the
    weight's as they were and the result's at the given contents. -/
noncomputable def run2 (c : Dev nD) (i : grid2.Coords) (M0 : Memref sig .tc .vmem S512x1024 .f32) (h0 : M0.IsWhole)
    (M1 : Memref sig .tc .vmem S1024x2048 .bf16) (h1 : M1.IsWhole) (M2 : Memref sig .tc .vmem S512x2048 .f32) (h2 : M2.IsWhole)
    (f0 : Bf (F := F) c M0) (f1 : Bf (F := F) c M1) :
    { W : Bf (F := F) c M2 // ∀ (f2 : Bf (F := F) c M2) (E : Set ℕ) (Q : PUnit → sProp 𝕄),
        iprop(pt c M0 f0 ∗ pt c M1 f1 ∗ pt c M2 f2 ∗ (iprop(pt c M0 f0 ∗ pt c M1 f1 ∗ pt c M2 W) -∗ Q ⟨⟩))
          ⊢ wp frame (wpE (defs₀ (F := F)) Variants.none c none) E (cc2_matmul i M0 h0 M1 h1 M2 h2) Q } := by
  refine ⟨?_, fun f2 E Q => ?run⟩
  case run =>
    iintro ⟨H0, H1, H2, Hk⟩
    sl_exec!
    sl_step
    iapply Hk
    isplitl [H0]; · iexact H0
    isplitl [H1]; · iexact H1
    iexact H2

theorem run2_read (c : Dev nD) (i : grid2.Coords) (M0 : Memref sig .tc .vmem S512x1024 .f32) (h0 : M0.IsWhole)
    (M1 : Memref sig .tc .vmem S1024x2048 .bf16) (h1 : M1.IsWhole) (M2 : Memref sig .tc .vmem S512x2048 .f32) (h2 : M2.IsWhole)
    (f0 : Bf (F := F) c M0) (f1 : Bf (F := F) c M1) :
    M2.view.read (Elt F) (run2 c i M0 h0 M1 h1 M2 h2 f0 f1).1
      = matmul dot_S512x1024_S1024x2048_S512x2048_1_0_0_1_n_n none (truncf .bf16 (M0.view.read (Elt F) f0) bitsLt_bf16_f32)
          (M1.view.read (Elt F) f1) (constant S512x2048 .f32 0x00000000#32) := by
  unfold run2
  dsimp only
  sl_unfold_words
  rw [read_store_whole _ _ hz]
  simp only [View.readAt_eq_ld, View.ld_unit_zero (S := S512x1024) hz, View.ld_unit_zero (S := S1024x2048) hz, shapeCast_self]

/-- The run, on the three buffers owned at contents read through their memrefs. -/
theorem run2_owns (c : Dev nD) (i : grid2.Coords) (M0 : Memref sig .tc .vmem S512x1024 .f32) (h0 : M0.IsWhole)
    (M1 : Memref sig .tc .vmem S1024x2048 .bf16) (h1 : M1.IsWhole) (M2 : Memref sig .tc .vmem S512x2048 .f32) (h2 : M2.IsWhole)
    (X : S512x1024.Idx → Elt F .f32) (W : S1024x2048.Idx → Elt F .bf16) {K : PUnit.{1} → sProp 𝕄} :
    iprop(owns (c : Thread nD τ) M0 fullShare X ∗ owns (c : Thread nD τ) M1 fullShare W ∗ (∃ d, owns (c : Thread nD τ) M2 fullShare d)
        ∗ ((owns (c : Thread nD τ) M0 fullShare X ∗ owns (c : Thread nD τ) M1 fullShare W ∗ owns (c : Thread nD τ) M2 fullShare (mm2 X W)) -∗ K ⟨⟩))
      ⊢ wp frame (wpE (defs₀ (F := F)) 𝒱₀ c none) Set.univ (cc2_matmul i M0 h0 M1 h1 M2 h2) K := by
  simp only [owns_isWhole (c : Thread nD τ) M0 h0, owns_isWhole (c : Thread nD τ) M1 h1, owns_isWhole (c : Thread nD τ) M2 h2]
  iintro ⟨⟨%f0, %hf0, H0⟩, ⟨%f1, %hf1, H1⟩, ⟨%d2, %f2, -, H2⟩, Hk⟩
  iapply (run2 (F := F) c i M0 h0 M1 h1 M2 h2 f0 f1).2 f2 Set.univ K
  isplitl [H0]; · iexact H0
  isplitl [H1]; · iexact H1
  isplitl [H2]; · iexact H2
  iintro ⟨H0, H1, H2⟩
  iapply Hk
  isplitl [H0]; · iexists _; isplitr; swap; (· iexact H0); ipureintro; exact hf0
  isplitl [H1]; · iexists _; isplitr; swap; (· iexact H1); ipureintro; exact hf1
  iexists _; isplitr; swap; (· iexact H2); ipureintro
  exact (run2_read ..).trans (by rw [hf0, hf1])

/-- The blocks of the rows and of the weight as the fetch stages them: the arrays at `V`, read through the windows' views. -/
abbrev stgX2 (V : Dev nD → Valuation τ sig (Elt F)) (c : Dev nD) : S512x1024.Idx → Elt F .f32 :=
  (win2_0.blk t2_0).view.read (Elt F) (V c (Proc.devRef .tc (Pipeline.arrRef spec2 0)))
abbrev stgW2 (V : Dev nD → Valuation τ sig (Elt F)) (c : Dev nD) : S1024x2048.Idx → Elt F .bf16 :=
  (win2_1.blk t2_0).view.read (Elt F) (V c (Proc.devRef .tc (Pipeline.arrRef spec2 1)))

/-- The proof data of the third call entered at `V`. -/
def dat2 (V : Dev nD → Valuation τ sig (Elt F)) (c : Dev nD) : Dat τ (Elt F) Unit ℕ UU ℕ cfg2 c where
  A w := V c (Proc.devRef .tc (Pipeline.arrRef spec2 w))
  after w _ := match w with
    | ⟨0, _⟩ => stgX2 V c
    | ⟨1, _⟩ => stgW2 V c
    | ⟨2, _⟩ => mm2 (stgX2 V c) (stgW2 V c)
  Φ _ := Pipeline.scopedRest (Ix := Unit) (Name := ℕ) (U := UU) (Lvl := ℕ) (Val := Elt F) spec2 c
  q _ := fullShare
  owed _ := 0

/-- The fetched buffers hold their blocks when the body runs. -/
theorem before2_0 (V : Dev nD → Valuation τ sig (Elt F)) (c : Dev nD) (d) : (dat2 V c).before 0 t2_0 d = stgX2 V c := by
  unfold Dat.before; rw [if_pos (by decide)]; rfl
theorem before2_1 (V : Dev nD → Valuation τ sig (Elt F)) (c : Dev nD) (d) : (dat2 V c).before 1 t2_0 d = stgW2 V c := by
  unfold Dat.before; rw [if_pos (by decide)]; rfl

/-- The body meets its obligation. -/
theorem body2 (V : Dev nD → Valuation τ sig (Elt F)) (c : Dev nD) : BodyObligation (dat2 V c) (defs₀ (F := F)) 𝒱₀ () Set.univ := fun t => by
  obtain rfl := fin_N2 t
  rw [bigSep_W2, bigSep_W2]
  simp only [before2_0, before2_1]
  rw [show (dat2 V c).owesAt () t2_0.succ = (dat2 V c).owesAt () t2_0.castSucc from rfl,
    show (dat2 V c).Φ t2_0.succ = (dat2 V c).Φ t2_0.castSucc from rfl]
  iintro ⟨HΦ, Howes, ⟨%d0, H0⟩, ⟨%d1, H1⟩, ⟨%d2, H2⟩⟩
  iapply run2_owns (F := F) c (grid2.coords t2_0) _ (hstage2_0 ((cfg2.slots t2_0 0).cast nbuf2_0)) _ (hstage2_1 ((cfg2.slots t2_0 1).cast nbuf2_1))
    _ (hstage2_2 ((cfg2.slots t2_0 2).cast nbuf2_2)) (stgX2 V c) (stgW2 V c)
  isplitl [H0]; · iexact H0
  isplitl [H1]; · iexact H1
  isplitl [H2]; · iexists _; iexact H2
  iintro ⟨H0, H1, H2⟩
  isplitl [HΦ]; · iexact HΦ
  isplitl [Howes]; · iexact Howes
  isplitl [H0]; · iexact H0
  isplitl [H1]; · iexact H1
  iexact H2

end Cert.Proof.Region

end
-- ==== Proof.Calls.lean ====
/-
  THE THREE CALLS: what each leaves in its result array, and each as a segment of the whole program's run.
-/
module

public import proofs.«01_k».proof.Proof.MatBody

@[expose] public section

noncomputable section

namespace Cert.Proof.Region

open Cert.KernelIdeal Cert.KernelIdeal.Gen

open Idealize.ShloMosaic
open Idealize.ShloMosaic.TcCoe
open Idealize.ShloMosaic.Pipeline (Dat Cfg)

variable {F : FTy → Type} [FloatOps F]

/-- The product that call 0 stores, from the contents at its entry. -/
abbrev res0 (V : Valuation τ sig (Elt F)) : S512x2432.Idx → Elt F .f32 :=
  mm0 (V (Proc.devRef .tc main_v58)) (V (Proc.devRef .tc main_v60))

/-- Its blocks are the whole arrays. -/
theorem stgX0_eq (V : Dev nD → Valuation τ sig (Elt F)) (c : Dev nD) : stgX0 V c = V c (Proc.devRef .tc main_v58) :=
  have hz' : (fun a => win0_0.index t0_0 a * main_v58.ty.shape.size a) = fun _ => 0 := funext fun a => by fin_cases a <;> decide
  Memref.read_access_unit_zero (Elt F) main_v58 hz' (fun a => by rw [congrFun hz' a]; simp) _
theorem stgW0_eq (V : Dev nD → Valuation τ sig (Elt F)) (c : Dev nD) : stgW0 V c = V c (Proc.devRef .tc main_v60) :=
  have hz' : (fun a => win0_1.index t0_0 a * main_v60.ty.shape.size a) = fun _ => 0 := funext fun a => by fin_cases a <;> decide
  Memref.read_access_unit_zero (Elt F) main_v60 hz' (fun a => by rw [congrFun hz' a]; simp) _

/-- The one write-back writes the product over the whole result array, -/
theorem flushed0 (V : Dev nD → Valuation τ sig (Elt F)) (c : Dev nD) (t : Fin cfg0.N) (_ : (cfg0.win 2).flush t = true) :
    (dat0 V c).flushed 2 t = ((cfg0.win 2).blk t).view.read (Elt F) (res0 (V c)) := by
  obtain rfl := fin_N0 t
  show (cfg0.win 2).cut (grid0.coords t0_0) (mm0 (stgX0 V c) (stgW0 V c)) = _
  rw [stgX0_eq, stgW0_eq]
  have hz' : (fun a => win0_2.index t0_0 a * main_v61.ty.shape.size a) = fun _ => 0 := funext fun a => by fin_cases a <;> decide
  exact (Memref.read_access_unit_zero (Elt F) main_v61 hz' (fun a => by rw [congrFun hz' a]; simp) (res0 (V c))).symm

/-- so that is what the array ends holding. -/
theorem final0 (V : Dev nD → Valuation τ sig (Elt F)) (c : Dev nD) : (dat0 V c).arrAt 2 cfg0.N = res0 (V c) :=
  (dat0 V c).arrAt_eq_of_cover 2 (res0 (V c)) (flushed0 V c) fun i =>
    ⟨t0_0, by decide, by
      show i ∈ ((View.whole main_v61).slice (win0_2.rect t0_0)).set
      rw [View.set_slice_whole, Rect.mem_set_unit]
      intro a
      have h0 : (i 0 : Nat) < 512 := (i 0).isLt
      have h1 : (i 1 : Nat) < 2432 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 512 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 2432 from by decide +kernel]; omega⟩

/-- The contents after call 0: the entry's, the product in its result array. -/
def past0 (V : Valuation τ sig (Elt F)) : Valuation τ sig (Elt F) := Function.update V (Proc.devRef .tc main_v61) (res0 V)

/-- Its arrays after it. -/
theorem arr0 (V : Dev nD → Valuation τ sig (Elt F)) (c : Dev nD) (w : Fin 3) :
    (dat0 V c).arrAt w cfg0.N = past0 (V c) (Proc.devRef .tc (Pipeline.arrRef spec0 w)) := by
  match w with
  | ⟨0, _⟩ => exact ((dat0 V c).arrAt_in 0 rfl _).trans (Function.update_of_ne (show Proc.devRef (τ := τ) .tc main_v58 ≠ Proc.devRef .tc main_v61 by decide) _ (V c)).symm
  | ⟨1, _⟩ => exact ((dat0 V c).arrAt_in 1 rfl _).trans (Function.update_of_ne (show Proc.devRef (τ := τ) .tc main_v60 ≠ Proc.devRef .tc main_v61 by decide) _ (V c)).symm
  | ⟨2, _⟩ => exact (final0 V c).trans (Function.update_self (Proc.devRef (τ := τ) .tc main_v61) _ (V c)).symm

/-- and everything else is as at its entry. -/
theorem past0_ne (V : Valuation τ sig (Elt F)) (b : DevRef τ sig) (h : b ≠ Proc.devRef .tc main_v61) : past0 V b = V b := Function.update_of_ne h _ _

/-- The product that call 1 stores, from the contents at its entry. -/
abbrev res1 (V : Valuation τ sig (Elt F)) : S512x1024.Idx → Elt F .f32 :=
  mm1 (V (Proc.devRef .tc main_v894)) (V (Proc.devRef .tc main_v896))

/-- Its blocks are the whole arrays. -/
theorem stgX1_eq (V : Dev nD → Valuation τ sig (Elt F)) (c : Dev nD) : stgX1 V c = V c (Proc.devRef .tc main_v894) :=
  have hz' : (fun a => win1_0.index t1_0 a * main_v894.ty.shape.size a) = fun _ => 0 := funext fun a => by fin_cases a <;> decide
  Memref.read_access_unit_zero (Elt F) main_v894 hz' (fun a => by rw [congrFun hz' a]; simp) _
theorem stgW1_eq (V : Dev nD → Valuation τ sig (Elt F)) (c : Dev nD) : stgW1 V c = V c (Proc.devRef .tc main_v896) :=
  have hz' : (fun a => win1_1.index t1_0 a * main_v896.ty.shape.size a) = fun _ => 0 := funext fun a => by fin_cases a <;> decide
  Memref.read_access_unit_zero (Elt F) main_v896 hz' (fun a => by rw [congrFun hz' a]; simp) _

/-- The one write-back writes the product over the whole result array, -/
theorem flushed1 (V : Dev nD → Valuation τ sig (Elt F)) (c : Dev nD) (t : Fin cfg1.N) (_ : (cfg1.win 2).flush t = true) :
    (dat1 V c).flushed 2 t = ((cfg1.win 2).blk t).view.read (Elt F) (res1 (V c)) := by
  obtain rfl := fin_N1 t
  show (cfg1.win 2).cut (grid1.coords t1_0) (mm1 (stgX1 V c) (stgW1 V c)) = _
  rw [stgX1_eq, stgW1_eq]
  have hz' : (fun a => win1_2.index t1_0 a * main_v897.ty.shape.size a) = fun _ => 0 := funext fun a => by fin_cases a <;> decide
  exact (Memref.read_access_unit_zero (Elt F) main_v897 hz' (fun a => by rw [congrFun hz' a]; simp) (res1 (V c))).symm

/-- so that is what the array ends holding. -/
theorem final1 (V : Dev nD → Valuation τ sig (Elt F)) (c : Dev nD) : (dat1 V c).arrAt 2 cfg1.N = res1 (V c) :=
  (dat1 V c).arrAt_eq_of_cover 2 (res1 (V c)) (flushed1 V c) fun i =>
    ⟨t1_0, by decide, by
      show i ∈ ((View.whole main_v897).slice (win1_2.rect t1_0)).set
      rw [View.set_slice_whole, Rect.mem_set_unit]
      intro a
      have h0 : (i 0 : Nat) < 512 := (i 0).isLt
      have h1 : (i 1 : Nat) < 1024 := (i 1).isLt
      match a with
      | ⟨0, _⟩ => show win1_2.index t1_0 0 * win1_2.size 0 ≤ (i 0 : Nat) ∧ (i 0 : Nat) < win1_2.index t1_0 0 * win1_2.size 0 + win1_2.xsize (grid1.coords t1_0) 0
                  rw [show win1_2.index t1_0 0 * win1_2.size 0 = 0 from by decide +kernel, show win1_2.xsize (grid1.coords t1_0) 0 = 512 from by decide +kernel]; omega
      | ⟨1, _⟩ => show win1_2.index t1_0 1 * win1_2.size 1 ≤ (i 1 : Nat) ∧ (i 1 : Nat) < win1_2.index t1_0 1 * win1_2.size 1 + win1_2.xsize (grid1.coords t1_0) 1
                  rw [show win1_2.index t1_0 1 * win1_2.size 1 = 0 from by decide +kernel, show win1_2.xsize (grid1.coords t1_0) 1 = 1024 from by decide +kernel]; omega⟩

/-- The contents after call 1: the entry's, the product in its result array. -/
def past1 (V : Valuation τ sig (Elt F)) : Valuation τ sig (Elt F) := Function.update V (Proc.devRef .tc main_v897) (res1 V)

/-- Its arrays after it. -/
theorem arr1 (V : Dev nD → Valuation τ sig (Elt F)) (c : Dev nD) (w : Fin 3) :
    (dat1 V c).arrAt w cfg1.N = past1 (V c) (Proc.devRef .tc (Pipeline.arrRef spec1 w)) := by
  match w with
  | ⟨0, _⟩ => exact ((dat1 V c).arrAt_in 0 rfl _).trans (Function.update_of_ne (show Proc.devRef (τ := τ) .tc main_v894 ≠ Proc.devRef .tc main_v897 by decide) _ (V c)).symm
  | ⟨1, _⟩ => exact ((dat1 V c).arrAt_in 1 rfl _).trans (Function.update_of_ne (show Proc.devRef (τ := τ) .tc main_v896 ≠ Proc.devRef .tc main_v897 by decide) _ (V c)).symm
  | ⟨2, _⟩ => exact (final1 V c).trans (Function.update_self (Proc.devRef (τ := τ) .tc main_v897) _ (V c)).symm

/-- and everything else is as at its entry. -/
theorem past1_ne (V : Valuation τ sig (Elt F)) (b : DevRef τ sig) (h : b ≠ Proc.devRef .tc main_v897) : past1 V b = V b := Function.update_of_ne h _ _

/-- The product that call 2 stores, from the contents at its entry. -/
abbrev res2 (V : Valuation τ sig (Elt F)) : S512x2048.Idx → Elt F .f32 :=
  mm2 (V (Proc.devRef .tc main_v921)) (V (Proc.devRef .tc main_v923))

/-- Its blocks are the whole arrays. -/
theorem stgX2_eq (V : Dev nD → Valuation τ sig (Elt F)) (c : Dev nD) : stgX2 V c = V c (Proc.devRef .tc main_v921) :=
  have hz' : (fun a => win2_0.index t2_0 a * main_v921.ty.shape.size a) = fun _ => 0 := funext fun a => by fin_cases a <;> decide
  Memref.read_access_unit_zero (Elt F) main_v921 hz' (fun a => by rw [congrFun hz' a]; simp) _
theorem stgW2_eq (V : Dev nD → Valuation τ sig (Elt F)) (c : Dev nD) : stgW2 V c = V c (Proc.devRef .tc main_v923) :=
  have hz' : (fun a => win2_1.index t2_0 a * main_v923.ty.shape.size a) = fun _ => 0 := funext fun a => by fin_cases a <;> decide
  Memref.read_access_unit_zero (Elt F) main_v923 hz' (fun a => by rw [congrFun hz' a]; simp) _

/-- The one write-back writes the product over the whole result array, -/
theorem flushed2 (V : Dev nD → Valuation τ sig (Elt F)) (c : Dev nD) (t : Fin cfg2.N) (_ : (cfg2.win 2).flush t = true) :
    (dat2 V c).flushed 2 t = ((cfg2.win 2).blk t).view.read (Elt F) (res2 (V c)) := by
  obtain rfl := fin_N2 t
  show (cfg2.win 2).cut (grid2.coords t2_0) (mm2 (stgX2 V c) (stgW2 V c)) = _
  rw [stgX2_eq, stgW2_eq]
  have hz' : (fun a => win2_2.index t2_0 a * main_v924.ty.shape.size a) = fun _ => 0 := funext fun a => by fin_cases a <;> decide
  exact (Memref.read_access_unit_zero (Elt F) main_v924 hz' (fun a => by rw [congrFun hz' a]; simp) (res2 (V c))).symm

/-- so that is what the array ends holding. -/
theorem final2 (V : Dev nD → Valuation τ sig (Elt F)) (c : Dev nD) : (dat2 V c).arrAt 2 cfg2.N = res2 (V c) :=
  (dat2 V c).arrAt_eq_of_cover 2 (res2 (V c)) (flushed2 V c) fun i =>
    ⟨t2_0, by decide, by
      show i ∈ ((View.whole main_v924).slice (win2_2.rect t2_0)).set
      rw [View.set_slice_whole, Rect.mem_set_unit]
      intro a
      have h0 : (i 0 : Nat) < 512 := (i 0).isLt
      have h1 : (i 1 : Nat) < 2048 := (i 1).isLt
      match a with
      | ⟨0, _⟩ => show win2_2.index t2_0 0 * win2_2.size 0 ≤ (i 0 : Nat) ∧ (i 0 : Nat) < win2_2.index t2_0 0 * win2_2.size 0 + win2_2.xsize (grid2.coords t2_0) 0
                  rw [show win2_2.index t2_0 0 * win2_2.size 0 = 0 from by decide +kernel, show win2_2.xsize (grid2.coords t2_0) 0 = 512 from by decide +kernel]; omega
      | ⟨1, _⟩ => show win2_2.index t2_0 1 * win2_2.size 1 ≤ (i 1 : Nat) ∧ (i 1 : Nat) < win2_2.index t2_0 1 * win2_2.size 1 + win2_2.xsize (grid2.coords t2_0) 1
                  rw [show win2_2.index t2_0 1 * win2_2.size 1 = 0 from by decide +kernel, show win2_2.xsize (grid2.coords t2_0) 1 = 2048 from by decide +kernel]; omega⟩

/-- The contents after call 2: the entry's, the product in its result array. -/
def past2 (V : Valuation τ sig (Elt F)) : Valuation τ sig (Elt F) := Function.update V (Proc.devRef .tc main_v924) (res2 V)

/-- Its arrays after it. -/
theorem arr2 (V : Dev nD → Valuation τ sig (Elt F)) (c : Dev nD) (w : Fin 3) :
    (dat2 V c).arrAt w cfg2.N = past2 (V c) (Proc.devRef .tc (Pipeline.arrRef spec2 w)) := by
  match w with
  | ⟨0, _⟩ => exact ((dat2 V c).arrAt_in 0 rfl _).trans (Function.update_of_ne (show Proc.devRef (τ := τ) .tc main_v921 ≠ Proc.devRef .tc main_v924 by decide) _ (V c)).symm
  | ⟨1, _⟩ => exact ((dat2 V c).arrAt_in 1 rfl _).trans (Function.update_of_ne (show Proc.devRef (τ := τ) .tc main_v923 ≠ Proc.devRef .tc main_v924 by decide) _ (V c)).symm
  | ⟨2, _⟩ => exact (final2 V c).trans (Function.update_self (Proc.devRef (τ := τ) .tc main_v924) _ (V c)).symm

/-- and everything else is as at its entry. -/
theorem past2_ne (V : Valuation τ sig (Elt F)) (b : DevRef τ sig) (h : b ≠ Proc.devRef .tc main_v924) : past2 V b = V b := Function.update_of_ne h _ _

end Cert.Proof.Region

end
-- ==== Proof.Items.lean ====
/-
  THE HOST CODE BETWEEN THE CALLS: its lists of operations, grouped as the calls and the loop cut them, and what each group
  leaves alone.
-/
module

public import proofs.«01_k».proof.Proof.Calls
public import proofs.«01_k».proof.Proof.Gen.KernelIdeal.Regions
public import Idealize.ShloMosaic.Lib.StableHlo.RunLoop

@[expose] public section

noncomputable section

namespace Cert.Proof.Region

open Cert.KernelIdeal Cert.KernelIdeal.Gen Cert.KernelIdeal.Gen.Cond

open Idealize.ShloMosaic
open Idealize.ShloMosaic.TcCoe
open Idealize.ShloMosaic.StableHlo

variable {F : FTy → Type} [FloatOps F]

/-- The lists before the first call, between the first two, between the last two, between the last call and the loop, and
    after the loop. -/
abbrev itemsA : List (List (HloOp τ sig (Elt F))) := [hostOps0, hostOps0_1, hostOps0_2, hostOps0_3, hostOps0_4]
abbrev itemsB : List (List (HloOp τ sig (Elt F))) :=
  [hostOps1, hostOps1_1, hostOps1_2, hostOps1_3, hostOps1_4, hostOps1_5, hostOps1_6, hostOps1_7, hostOps1_8, hostOps1_9, hostOps1_10, hostOps1_11,
  hostOps1_12, hostOps1_13, hostOps1_14, hostOps1_15, hostOps1_16, hostOps1_17, hostOps1_18, hostOps1_19, hostOps1_20, hostOps1_21, hostOps1_22,
  hostOps1_23, hostOps1_24, hostOps1_25, hostOps1_26, hostOps1_27, hostOps1_28, hostOps1_29, hostOps1_30, hostOps1_31, hostOps1_32, hostOps1_33,
  hostOps1_34, hostOps1_35, hostOps1_36, hostOps1_37, hostOps1_38, hostOps1_39, hostOps1_40, hostOps1_41, hostOps1_42, hostOps1_43, hostOps1_44]
abbrev itemsC : List (List (HloOp τ sig (Elt F))) := [hostOps2, hostOps2_1, hostOps2_2]
abbrev itemsD : List (List (HloOp τ sig (Elt F))) := [hostOps3]
abbrev itemsE : List (List (HloOp τ sig (Elt F))) := [hostOps3_1]
/-- The loop's body, and its condition. -/
abbrev itemsL : List (List (HloOp τ sig (Elt F))) :=
  [while0Ops0, while0Ops0_1, while0Ops0_2, while0Ops0_3, while0Ops0_4, while0Ops0_5, while0Ops0_6]
abbrev condK : List (HloOp τ sig (Elt F)) :=
  [ StableHlo.nullary main_while0c_c_152 (constantI S_ 32 2#32),
    StableHlo.binary main_v928_5 main_while0c_c_152 main_while0c_v938 (cmpi .slt) ]

/-! No operation of the loop's body allocates a buffer; and what each of its lists writes. -/

theorem while0Ops0_fresh : (while0Ops0 : List (HloOp τ sig (Elt F))).Forall fun op => op.fresh = ∅ := by
  simp only [List.Forall]; repeat' constructor
theorem while0Ops0_1_fresh : (while0Ops0_1 : List (HloOp τ sig (Elt F))).Forall fun op => op.fresh = ∅ := by
  simp only [List.Forall]; repeat' constructor
theorem while0Ops0_2_fresh : (while0Ops0_2 : List (HloOp τ sig (Elt F))).Forall fun op => op.fresh = ∅ := by
  simp only [List.Forall]; repeat' constructor
theorem while0Ops0_3_fresh : (while0Ops0_3 : List (HloOp τ sig (Elt F))).Forall fun op => op.fresh = ∅ := by
  simp only [List.Forall]; repeat' constructor
theorem while0Ops0_4_fresh : (while0Ops0_4 : List (HloOp τ sig (Elt F))).Forall fun op => op.fresh = ∅ := by
  simp only [List.Forall]; repeat' constructor
theorem while0Ops0_5_fresh : (while0Ops0_5 : List (HloOp τ sig (Elt F))).Forall fun op => op.fresh = ∅ := by
  simp only [List.Forall]; repeat' constructor
theorem while0Ops0_6_fresh : (while0Ops0_6 : List (HloOp τ sig (Elt F))).Forall fun op => op.fresh = ∅ := by
  simp only [List.Forall]; repeat' constructor
abbrev while0Ops0_W : List (Ref sig .tc) :=
  [main_while0b_call25_c, main_while0b_call25_c_0, main_while0b_call25_v0, main_while0b_v938]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_args : ∀ a ∈ argRefs, a ∉ while0Ops0_W := ListAll.forall_mem_of_all_decide (by decide +kernel)
abbrev while0Ops0_1_W : List (Ref sig .tc) :=
  [main_while0b_call26_c, main_while0b_call26_c_0, main_while0b_call26_v0, main_while0b_v939]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_1_args : ∀ a ∈ argRefs, a ∉ while0Ops0_1_W := ListAll.forall_mem_of_all_decide (by decide +kernel)
abbrev while0Ops0_2_W : List (Ref sig .tc) :=
  [main_while0b_v940, main_while0b_v941, main_while0b_v942, main_while0b_v943, main_while0b_v944, main_while0b_values_152, main_while0b_indices_153,
  main_while0b_v945, main_while0b_v946, main_while0b_values_154, main_while0b_indices_155, main_while0b_v947, main_while0b_v948, main_while0b_v949,
  main_while0b_v950, main_while0b_v951, main_while0b_v952, main_while0b_v953, main_while0b_c_156, main_while0b_v954, main_while0b_v955,
  main_while0b_v956, main_while0b_v957, main_while0b_v958, main_while0b_v959, main_while0b_v960, main_while0b_values_157, main_while0b_indices_158]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_2_args : ∀ a ∈ argRefs, a ∉ while0Ops0_2_W := ListAll.forall_mem_of_all_decide (by decide +kernel)
abbrev while0Ops0_3_W : List (Ref sig .tc) :=
  [main_while0b_call27_c, main_while0b_call27_v0, main_while0b_call27_v1, main_while0b_call27_c_0, main_while0b_call27_v2, main_while0b_call27_v3,
  main_while0b_call27_v4, main_while0b_call27_v5, main_while0b_call27_c_1, main_while0b_call27_c_2, main_while0b_call27_v6, main_while0b_call27_v7,
  main_while0b_call27_v8, main_while0b_call27_v9, main_while0b_call27_v10, main_while0b_call27_v11, main_while0b_call27_c_3, main_while0b_call27_v12,
  main_while0b_call27_v13, main_while0b_call27_c_4, main_while0b_call27_v14, main_while0b_v961]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_3_args : ∀ a ∈ argRefs, a ∉ while0Ops0_3_W := ListAll.forall_mem_of_all_decide (by decide +kernel)
abbrev while0Ops0_4_W : List (Ref sig .tc) :=
  [main_while0b_cst_159, main_while0b_v962, main_while0b_cst_160, main_while0b_v963, main_while0b_v964, main_while0b_v965, main_while0b_v966,
  main_while0b_v967, main_while0b_v968, main_while0b_cst_161, main_while0b_v969, main_while0b_v970, main_while0b_v971, main_while0b_v972,
  main_while0b_c_162, main_while0b_v973, main_while0b_v974, main_while0b_c_163, main_while0b_v975, main_while0b_v976, main_while0b_v977,
  main_while0b_v978, main_while0b_v979, main_while0b_c_164, main_while0b_v980, main_while0b_v981, main_while0b_c_165, main_while0b_v982,
  main_while0b_v983, main_while0b_v984, main_while0b_v985, main_while0b_v986, main_while0b_v987, main_while0b_v988, main_while0b_v989,
  main_while0b_cst_166, main_while0b_v990, main_while0b_v991, main_while0b_v992, main_while0b_cst_167, main_while0b_v993, main_while0b_v994,
  main_while0b_v995, main_while0b_cst_168, main_while0b_v996, main_while0b_v997, main_while0b_cst_169, main_while0b_v998, main_while0b_v999,
  main_while0b_v1000, main_while0b_v1001, main_while0b_v1002]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_4_args : ∀ a ∈ argRefs, a ∉ while0Ops0_4_W := ListAll.forall_mem_of_all_decide (by decide +kernel)
abbrev while0Ops0_5_W : List (Ref sig .tc) :=
  [main_while0b_call28_v0, main_while0b_call28_c, main_while0b_call28_c_0, main_while0b_v1003]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem while0Ops0_5_args : ∀ a ∈ argRefs, a ∉ while0Ops0_5_W := ListAll.forall_mem_of_all_decide (by decide +kernel)
abbrev while0Ops0_6_W : List (Ref sig .tc) :=
  [main_while0b_c_170, main_while0b_v1004, main_v928_5, main_v928_6]
theorem while0Ops0_6_writes : (while0Ops0_6 : List (HloOp τ sig (Elt F))).Forall fun op => op.writes ⊆ (while0Ops0_6_W.map (Proc.devRef (τ := τ) .tc)).toFinset :=
  StableHlo.forall_writes_sub_of_map rfl
theorem while0Ops0_6_args : ∀ a ∈ argRefs, a ∉ while0Ops0_6_W := ListAll.forall_mem_of_all_decide (by decide +kernel)
abbrev condK_W : List (Ref sig .tc) := [main_while0c_c_152, main_while0c_v938]
theorem condK_writes : (condK : List (HloOp τ sig (Elt F))).Forall fun op => op.writes ⊆ (condK_W.map (Proc.devRef (τ := τ) .tc)).toFinset :=
  StableHlo.forall_writes_sub_of_map rfl

theorem condK_args : ∀ a ∈ argRefs, a ∉ condK_W := ListAll.forall_mem_of_all_decide (by decide +kernel)

/-! Each group is plain operations on the TensorCore's references. -/

theorem plainA : Plain (itemsA (F := F)) :=
  .cons hostOps0_sub (.cons hostOps0_1_sub (.cons hostOps0_2_sub (.cons hostOps0_3_sub (.cons hostOps0_4_sub (.nil) (List.forall_iff_forall_mem.mp
  hostOps0_4_fresh)) (List.forall_iff_forall_mem.mp hostOps0_3_fresh)) (List.forall_iff_forall_mem.mp hostOps0_2_fresh))
  (List.forall_iff_forall_mem.mp hostOps0_1_fresh)) (List.forall_iff_forall_mem.mp hostOps0_fresh)
theorem plainB : Plain (itemsB (F := F)) :=
  .cons hostOps1_sub (.cons hostOps1_1_sub (.cons hostOps1_2_sub (.cons hostOps1_3_sub (.cons hostOps1_4_sub (.cons hostOps1_5_sub (.cons
  hostOps1_6_sub (.cons hostOps1_7_sub (.cons hostOps1_8_sub (.cons hostOps1_9_sub (.cons hostOps1_10_sub (.cons hostOps1_11_sub (.cons
  hostOps1_12_sub (.cons hostOps1_13_sub (.cons hostOps1_14_sub (.cons hostOps1_15_sub (.cons hostOps1_16_sub (.cons hostOps1_17_sub (.cons
  hostOps1_18_sub (.cons hostOps1_19_sub (.cons hostOps1_20_sub (.cons hostOps1_21_sub (.cons hostOps1_22_sub (.cons hostOps1_23_sub (.cons
  hostOps1_24_sub (.cons hostOps1_25_sub (.cons hostOps1_26_sub (.cons hostOps1_27_sub (.cons hostOps1_28_sub (.cons hostOps1_29_sub (.cons
  hostOps1_30_sub (.cons hostOps1_31_sub (.cons hostOps1_32_sub (.cons hostOps1_33_sub (.cons hostOps1_34_sub (.cons hostOps1_35_sub (.cons
  hostOps1_36_sub (.cons hostOps1_37_sub (.cons hostOps1_38_sub (.cons hostOps1_39_sub (.cons hostOps1_40_sub (.cons hostOps1_41_sub (.cons
  hostOps1_42_sub (.cons hostOps1_43_sub (.cons hostOps1_44_sub (.nil) (List.forall_iff_forall_mem.mp hostOps1_44_fresh))
  (List.forall_iff_forall_mem.mp hostOps1_43_fresh)) (List.forall_iff_forall_mem.mp hostOps1_42_fresh)) (List.forall_iff_forall_mem.mp
  hostOps1_41_fresh)) (List.forall_iff_forall_mem.mp hostOps1_40_fresh)) (List.forall_iff_forall_mem.mp hostOps1_39_fresh))
  (List.forall_iff_forall_mem.mp hostOps1_38_fresh)) (List.forall_iff_forall_mem.mp hostOps1_37_fresh)) (List.forall_iff_forall_mem.mp
  hostOps1_36_fresh)) (List.forall_iff_forall_mem.mp hostOps1_35_fresh)) (List.forall_iff_forall_mem.mp hostOps1_34_fresh))
  (List.forall_iff_forall_mem.mp hostOps1_33_fresh)) (List.forall_iff_forall_mem.mp hostOps1_32_fresh)) (List.forall_iff_forall_mem.mp
  hostOps1_31_fresh)) (List.forall_iff_forall_mem.mp hostOps1_30_fresh)) (List.forall_iff_forall_mem.mp hostOps1_29_fresh))
  (List.forall_iff_forall_mem.mp hostOps1_28_fresh)) (List.forall_iff_forall_mem.mp hostOps1_27_fresh)) (List.forall_iff_forall_mem.mp
  hostOps1_26_fresh)) (List.forall_iff_forall_mem.mp hostOps1_25_fresh)) (List.forall_iff_forall_mem.mp hostOps1_24_fresh))
  (List.forall_iff_forall_mem.mp hostOps1_23_fresh)) (List.forall_iff_forall_mem.mp hostOps1_22_fresh)) (List.forall_iff_forall_mem.mp
  hostOps1_21_fresh)) (List.forall_iff_forall_mem.mp hostOps1_20_fresh)) (List.forall_iff_forall_mem.mp hostOps1_19_fresh))
  (List.forall_iff_forall_mem.mp hostOps1_18_fresh)) (List.forall_iff_forall_mem.mp hostOps1_17_fresh)) (List.forall_iff_forall_mem.mp
  hostOps1_16_fresh)) (List.forall_iff_forall_mem.mp hostOps1_15_fresh)) (List.forall_iff_forall_mem.mp hostOps1_14_fresh))
  (List.forall_iff_forall_mem.mp hostOps1_13_fresh)) (List.forall_iff_forall_mem.mp hostOps1_12_fresh)) (List.forall_iff_forall_mem.mp
  hostOps1_11_fresh)) (List.forall_iff_forall_mem.mp hostOps1_10_fresh)) (List.forall_iff_forall_mem.mp hostOps1_9_fresh))
  (List.forall_iff_forall_mem.mp hostOps1_8_fresh)) (List.forall_iff_forall_mem.mp hostOps1_7_fresh)) (List.forall_iff_forall_mem.mp
  hostOps1_6_fresh)) (List.forall_iff_forall_mem.mp hostOps1_5_fresh)) (List.forall_iff_forall_mem.mp hostOps1_4_fresh))
  (List.forall_iff_forall_mem.mp hostOps1_3_fresh)) (List.forall_iff_forall_mem.mp hostOps1_2_fresh)) (List.forall_iff_forall_mem.mp
  hostOps1_1_fresh)) (List.forall_iff_forall_mem.mp hostOps1_fresh)
theorem plainC : Plain (itemsC (F := F)) :=
  .cons hostOps2_sub (.cons hostOps2_1_sub (.cons hostOps2_2_sub (.nil) (List.forall_iff_forall_mem.mp hostOps2_2_fresh))
  (List.forall_iff_forall_mem.mp hostOps2_1_fresh)) (List.forall_iff_forall_mem.mp hostOps2_fresh)
theorem plainD : Plain (itemsD (F := F)) :=
  .cons hostOps3_sub (.nil) (List.forall_iff_forall_mem.mp hostOps3_fresh)
theorem plainE : Plain (itemsE (F := F)) :=
  .cons hostOps3_1_sub (.nil) (List.forall_iff_forall_mem.mp hostOps3_1_fresh)
theorem plainL : Plain (itemsL (F := F)) :=
  .cons while0Ops0_sub (.cons while0Ops0_1_sub (.cons while0Ops0_2_sub (.cons while0Ops0_3_sub (.cons while0Ops0_4_sub (.cons while0Ops0_5_sub (.cons
  while0Ops0_6_sub (.nil) (List.forall_iff_forall_mem.mp while0Ops0_6_fresh)) (List.forall_iff_forall_mem.mp while0Ops0_5_fresh))
  (List.forall_iff_forall_mem.mp while0Ops0_4_fresh)) (List.forall_iff_forall_mem.mp while0Ops0_3_fresh)) (List.forall_iff_forall_mem.mp
  while0Ops0_2_fresh)) (List.forall_iff_forall_mem.mp while0Ops0_1_fresh)) (List.forall_iff_forall_mem.mp while0Ops0_fresh)

/-- A group leaves @main's arguments as they were. -/
def Keeps (items : List (List (HloOp τ sig (Elt F)))) : Prop :=
  ∀ (V : Valuation τ sig (Elt F)), ∀ a ∈ argRefs, afterL items V (Proc.devRef .tc a) = V (Proc.devRef .tc a)
theorem Keeps.nil : Keeps ([] : List (List (HloOp τ sig (Elt F)))) := fun _ _ _ => rfl
theorem Keeps.cons {ops : List (HloOp τ sig (Elt F))} {rest : List (List (HloOp τ sig (Elt F)))} {W : List (Ref sig .tc)}
    (hw : ops.Forall fun op => op.writes ⊆ (W.map (Proc.devRef (τ := τ) .tc)).toFinset) (hW : ∀ a ∈ argRefs, a ∉ W) (h : Keeps rest) :
    Keeps (ops :: rest) := fun V a ha => by
  rw [afterL_cons, h _ a ha]; exact after_of_writes_sub ops V hw (hW a ha)

theorem keepsA : Keeps (itemsA (F := F)) :=
  .cons hostOps0_writes args1 (.cons hostOps0_1_writes args2 (.cons hostOps0_2_writes args3 (.cons hostOps0_3_writes args4 (.cons hostOps0_4_writes
  args5 (.nil)))))
theorem keepsB : Keeps (itemsB (F := F)) :=
  .cons hostOps1_writes args7 (.cons hostOps1_1_writes args8 (.cons hostOps1_2_writes args9 (.cons hostOps1_3_writes args10 (.cons hostOps1_4_writes
  args11 (.cons hostOps1_5_writes args12 (.cons hostOps1_6_writes args13 (.cons hostOps1_7_writes args14 (.cons hostOps1_8_writes args15 (.cons
  hostOps1_9_writes args16 (.cons hostOps1_10_writes args17 (.cons hostOps1_11_writes args18 (.cons hostOps1_12_writes args19 (.cons
  hostOps1_13_writes args20 (.cons hostOps1_14_writes args21 (.cons hostOps1_15_writes args22 (.cons hostOps1_16_writes args23 (.cons
  hostOps1_17_writes args24 (.cons hostOps1_18_writes args25 (.cons hostOps1_19_writes args26 (.cons hostOps1_20_writes args27 (.cons
  hostOps1_21_writes args28 (.cons hostOps1_22_writes args29 (.cons hostOps1_23_writes args30 (.cons hostOps1_24_writes args31 (.cons
  hostOps1_25_writes args32 (.cons hostOps1_26_writes args33 (.cons hostOps1_27_writes args34 (.cons hostOps1_28_writes args35 (.cons
  hostOps1_29_writes args36 (.cons hostOps1_30_writes args37 (.cons hostOps1_31_writes args38 (.cons hostOps1_32_writes args39 (.cons
  hostOps1_33_writes args40 (.cons hostOps1_34_writes args41 (.cons hostOps1_35_writes args42 (.cons hostOps1_36_writes args43 (.cons
  hostOps1_37_writes args44 (.cons hostOps1_38_writes args45 (.cons hostOps1_39_writes args46 (.cons hostOps1_40_writes args47 (.cons
  hostOps1_41_writes args48 (.cons hostOps1_42_writes args49 (.cons hostOps1_43_writes args50 (.cons hostOps1_44_writes args51
  (.nil)))))))))))))))))))))))))))))))))))))))))))))
theorem keepsC : Keeps (itemsC (F := F)) :=
  .cons hostOps2_writes args53 (.cons hostOps2_1_writes args54 (.cons hostOps2_2_writes args55 (.nil)))
theorem keepsD : Keeps (itemsD (F := F)) :=
  .cons hostOps3_writes args57 (.nil)
theorem keepsE : Keeps (itemsE (F := F)) :=
  .cons hostOps3_1_writes args59 (.nil)
theorem keepsL : Keeps (itemsL (F := F)) :=
  .cons while0Ops0_writes while0Ops0_args (.cons while0Ops0_1_writes while0Ops0_1_args (.cons while0Ops0_2_writes while0Ops0_2_args (.cons
  while0Ops0_3_writes while0Ops0_3_args (.cons while0Ops0_4_writes while0Ops0_4_args (.cons while0Ops0_5_writes while0Ops0_5_args (.cons
  while0Ops0_6_writes while0Ops0_6_args (.nil)))))))
theorem keepsCond (V : Valuation τ sig (Elt F)) : ∀ a ∈ argRefs, after condK V (Proc.devRef .tc a) = V (Proc.devRef .tc a) :=
  fun a ha => after_of_writes_sub condK V condK_writes (condK_args a ha)

end Cert.Proof.Region

end
-- ==== Proof.Run.lean ====
/-
  THE RUN of the kernel's program: its three calls, its loop and the host code between them, as one list of segments; what every
  unscoped buffer ends holding.
-/
module

public import proofs.«01_k».proof.Proof.Items
public import Idealize.ShloMosaic.Lib.Pipeline.RegionsLoop
public import Idealize.ShloMosaic.Lib.Scf.ExitTest
public import Idealize.ShloMosaic.Lib.Scf.Counter

@[expose] public section

noncomputable section

namespace Cert.Proof.Region

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs CSeg)

variable {F : FTy → Type} [FloatOps F]

local notation "𝕄" => MT nD τ sig Unit (Elt F) ℕ UU ℕ

variable (m : (ℓ : Loc nD τ sig) → Buf (Elt F) ℓ)

/-! ## The contents of the buffers -/

/-- At launch; at each call's entry and return; at the loop's entry and after it; at the end. -/
def W0 (c : Dev nD) : Valuation τ sig (Elt F) := fun b => m ((c : Dev nD), b)
def WA (c : Dev nD) : Valuation τ sig (Elt F) := afterL itemsA (W0 m c)
def WA' (c : Dev nD) : Valuation τ sig (Elt F) := past0 (WA m c)
def WB (c : Dev nD) : Valuation τ sig (Elt F) := afterL itemsB (WA' m c)
def WB' (c : Dev nD) : Valuation τ sig (Elt F) := past1 (WB m c)
def WC (c : Dev nD) : Valuation τ sig (Elt F) := afterL itemsC (WB' m c)
def WC' (c : Dev nD) : Valuation τ sig (Elt F) := past2 (WC m c)
def WD (c : Dev nD) : Valuation τ sig (Elt F) := afterL itemsD (WC' m c)
abbrev Wk (k : ℕ) (c : Dev nD) : Valuation τ sig (Elt F) := atTrip condK itemsL (WD m) k c
def WE (c : Dev nD) : Valuation τ sig (Elt F) := after condK (Wk m 2 c)
def WF (c : Dev nD) : Valuation τ sig (Elt F) := afterL itemsE (WE m c)

/-! ## The loop's counter and condition -/

theorem ctr_entry (V : Valuation τ sig (Elt F)) : after hostOps3 V (Proc.devRef .tc main_v928_5) = fun _ => (0#32 : BitVec 32) := by
  after_results
  rfl
theorem ctr_last (V : Valuation τ sig (Elt F)) :
    after while0Ops0_6 V (Proc.devRef .tc main_v928_5) = addi (V (Proc.devRef .tc main_v928_5)) (constantI S_ 32 1#32) := by
  after_results
  rfl
/-- Only the body's last list writes the counter. -/
theorem ctr_step (V : Valuation τ sig (Elt F)) :
    afterL itemsL (after condK V) (Proc.devRef .tc main_v928_5) = addi (V (Proc.devRef .tc main_v928_5)) (constantI S_ 32 1#32) := by
  simp only [afterL_cons, afterL_nil]
  rw [ctr_last, after_of_writes_sub while0Ops0_5 _ while0Ops0_5_writes (by decide), after_of_writes_sub while0Ops0_4 _ while0Ops0_4_writes (by decide),
    after_of_writes_sub while0Ops0_3 _ while0Ops0_3_writes (by decide), after_of_writes_sub while0Ops0_2 _ while0Ops0_2_writes (by decide),
    after_of_writes_sub while0Ops0_1 _ while0Ops0_1_writes (by decide), after_of_writes_sub while0Ops0 _ while0Ops0_writes (by decide),
    after_of_writes_sub condK _ condK_writes (by decide)]
theorem atK_ctr (c : Dev nD) : ∀ k, Wk m k c (Proc.devRef .tc main_v928_5) = fun _ => Scf.iv 0#32 1#32 k
  | 0 => by
    rw [show Wk m 0 c = after hostOps3 (WC' m c) from rfl, ctr_entry, Scf.iv_zero]
  | k + 1 => by
    rw [show Wk m (k + 1) c = afterL itemsL (after condK (Wk m k c)) from rfl, ctr_step, atK_ctr c k, Scf.iv_succ]
    rfl

set_option backward.isDefEq.respectTransparency.types false in
/-- The condition, run before trip `k`, answers whether `k` is below two. -/
theorem cond_spec : LoopCond (pcfgs (F := F)) defs₀ 𝒱₀ loops Rc (main_while0_cond (F := F)) condK itemsL (WD m) 2 := by
  intro k hk c bd
  have hctr := atK_ctr m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (Wk m k c) main_v928_5 HostLoop.idx0)
        (HloOp.result _ (Wk m k c) main_while0c_c_152 HostLoop.idx0) = 1#1) (k < 2)
    rw [nullary_result_ne _ _ _ _ (by decide), nullary_result, hctr]
    exact Scf.cmpi_slt_iv_ub_iff (lb := 0#32) (ub := 2#32) (st := 1#32) (by decide) (show k ≤ Scf.trips 0#32 2#32 1#32 from hk)
  isplitl [Hb]; · iexact Hb
  isplitl [Hh]; · rw [after_cons, after_cons, after_nil]; iexact Hh
  iexact HR

end Cert.Proof.Region

end
-- ==== Proof.RunMain.lean ====
/-
  THE RUN, assembled: the segments chained, and what every unscoped buffer ends holding.
-/
module

public import proofs.«01_k».proof.Proof.Run

@[expose] public section

noncomputable section

namespace Cert.Proof.Region

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs CSeg)

variable {F : FTy → Type} [FloatOps F]

local notation "𝕄" => MT nD τ sig Unit (Elt F) ℕ UU ℕ

variable (m : (ℓ : Loc nD τ sig) → Buf (Elt F) ℓ)

/-- The calls' proof data, each entered at its contents; and their tickets, one each. -/
def pdats : Dats F := fun p c => match p with
  | ⟨0, _⟩ => dat0 (WA m) c
  | ⟨1, _⟩ => dat1 (WB m) c
  | ⟨2, _⟩ => dat2 (WC m) c
abbrev tk : Fin 3 → Pipeline.Ticket (Ix := Unit) (Name := ℕ) (U := UU) (Lvl := ℕ) (nD := nD) (τ := τ) (pcfgs (F := F)) adm :=
  fun j => { p := j, pdats := pdats m, EP := embAt j }

/-- A buffer that is none of a call's arrays is not its result. -/
theorem ne_result {n : ℕ} {spec : Fin n → Ref sig .tc} {w : Fin n} {o b : Ref sig .tc} (ho : spec w = o) (hb : b ∉ Finset.univ.image spec) :
    (Proc.devRef .tc b : DevRef τ sig) ≠ Proc.devRef .tc o :=
  StableHlo.devRef_ne_of_ne fun h => hb (Finset.mem_image.mpr ⟨w, Finset.mem_univ _, ho.trans h.symm⟩)

set_option backward.isDefEq.respectTransparency.types false in
def reg0 := reg (F := F) 0 (pdats m) (WA m) (WA' m) launch0.win launch0.block_pos launch0.arr_whole launch0.stage_whole
  (fun _ _ => rfl) (fun _ _ => rfl) (fun _ _ => rfl) (fun _ _ => rfl) (fun _ _ => rfl) (body0 (WA m)) (fun c w => arr0 (WA m) c w)
  (fun c b hb => past0_ne (WA m c) _ (ne_result (w := 2) rfl hb))
set_option backward.isDefEq.respectTransparency.types false in
def reg1 := reg (F := F) 1 (pdats m) (WB m) (WB' m) launch1.win launch1.block_pos launch1.arr_whole launch1.stage_whole
  (fun _ _ => rfl) (fun _ _ => rfl) (fun _ _ => rfl) (fun _ _ => rfl) (fun _ _ => rfl) (body1 (WB m)) (fun c w => arr1 (WB m) c w)
  (fun c b hb => past1_ne (WB m c) _ (ne_result (w := 2) rfl hb))
set_option backward.isDefEq.respectTransparency.types false in
def reg2 := reg (F := F) 2 (pdats m) (WC m) (WC' m) launch2.win launch2.block_pos launch2.arr_whole launch2.stage_whole
  (fun _ _ => rfl) (fun _ _ => rfl) (fun _ _ => rfl) (fun _ _ => rfl) (fun _ _ => rfl) (body2 (WC m)) (fun c w => arr2 (WC m) c w)
  (fun c b hb => past2_ne (WC m c) _ (ne_result (w := 2) rfl hb))

/-! ## The segments -/

abbrev KitSeg : Type 1 := CSeg (pcfgs (F := F)) adm defs₀ 𝒱₀ L lv loops (tk m)

/-- Host code as segments. -/
abbrev host (items : List (List (HloOp τ sig (Elt F)))) (h : Plain items) (V : Dev nD → Valuation τ sig (Elt F)) : List (KitSeg m) :=
  segsOf _ _ _ _ _ _ _ _ Rc items h V
/-- The calls, and the loop. -/
def call0 : KitSeg m := CSeg.region _ _ () cellOf_inj _ _ _ _ _ (tk m) (0 : Fin 3) (reg0 m)
def call1 : KitSeg m := CSeg.region _ _ () cellOf_inj _ _ _ _ _ (tk m) (1 : Fin 3) (reg1 m)
def call2 : KitSeg m := CSeg.region _ _ () cellOf_inj _ _ _ _ _ (tk m) (2 : Fin 3) (reg2 m)
def loop0 : KitSeg m :=
  loopSeg _ _ _ _ _ _ _ _ 0 (main_while0_cond (F := F)) (main_while0_body (F := F)) rfl condK itemsL plainL
    (by rw [while0_body_chain]; rfl) 2 (WD m) Rc (cond_spec m)

def segs : List (KitSeg m) :=
  host m itemsA plainA (W0 m) ++ call0 m :: (host m itemsB plainB (WA' m) ++ call1 m :: (host m itemsC plainC (WB' m) ++ call2 m ::
    (host m itemsD plainD (WC' m) ++ loop0 m :: host m itemsE plainE (WE m))))

/-- They are @main, in order. -/
theorem main_run (c : Dev nD) : main (F := F) c = CSeg.runL (segs m) := by
  refine (main_chain c).trans ?_
  unfold CSeg.runL segs host
  simp only [List.map_append, List.map_cons, segsOf_prog]
  rfl

/-! ## Each call consumes its own ticket -/

/-- The tickets of a list's segments are disjoint and all from `k` on. -/
def From (k : ℕ) (l : List (KitSeg m)) : Prop := (l.Pairwise fun s s' => Disjoint s.T s'.T) ∧ ∀ s ∈ l, ∀ j ∈ s.T, k ≤ j.val
theorem From.cons_empty {k : ℕ} {s : KitSeg m} {l : List (KitSeg m)} (h : From m k l) (hs : s.T = ∅) : From m k (s :: l) :=
  ⟨List.pairwise_cons.mpr ⟨fun _ _ => by rw [hs]; exact Finset.disjoint_empty_left _, h.1⟩, fun s' hs' j hj => by
    rcases List.mem_cons.mp hs' with rfl | hs'
    · rw [hs] at hj; exact absurd hj (Finset.notMem_empty _)
    · exact h.2 s' hs' j hj⟩
theorem From.append {k : ℕ} {l' : List (KitSeg m)} (h' : From m k l') : ∀ (l : List (KitSeg m)) (_ : ∀ s ∈ l, s.T = ∅), From m k (l ++ l')
  | [], _ => h'
  | s :: l, h => (From.append h' l fun s hs => h s (List.mem_cons_of_mem _ hs)).cons_empty m (h s List.mem_cons_self)
theorem From.host {k : ℕ} {l' : List (KitSeg m)} (h' : From m k l') (items : List (List (HloOp τ sig (Elt F)))) (h : Plain items)
    (V : Dev nD → Valuation τ sig (Elt F)) : From m k (Region.host m items h V ++ l') :=
  h'.append m _ fun s hs => (segsOf_M_T _ _ _ _ _ _ _ _ Rc items h V s hs).2
theorem From.call {k : ℕ} (hk : k < 3) {s : KitSeg m} {l : List (KitSeg m)} (h : From m (k + 1) l) (hs : s.T = {⟨k, hk⟩}) : From m k (s :: l) :=
  ⟨List.pairwise_cons.mpr ⟨fun s' hs' => by
      rw [hs, Finset.disjoint_singleton_left]; exact fun hj => absurd (h.2 s' hs' _ hj) (by simp), h.1⟩, fun s' hs' j hj => by
    rcases List.mem_cons.mp hs' with rfl | hs'
    · rw [hs, Finset.mem_singleton] at hj; subst hj; exact le_rfl
    · exact Nat.le_of_succ_le (h.2 s' hs' j hj)⟩
theorem From.nil {k : ℕ} : From m k [] := ⟨.nil, fun _ h => nomatch h⟩

theorem segs_disjoint : (segs m).Pairwise fun s s' => Disjoint s.T s'.T := by
  have hE : From m 3 (loop0 m :: Region.host m itemsE plainE (WE m)) := by
    have := ((From.nil m (k := 3)).host m itemsE plainE (WE m)).cons_empty m (s := loop0 m) rfl
    rwa [List.append_nil] at this
  have h2 := From.call m (k := 2) (by decide) (hE.host m itemsD plainD (WC' m)) (s := call2 m) rfl
  have h1 := From.call m (k := 1) (by decide) (h2.host m itemsC plainC (WB' m)) (s := call1 m) rfl
  exact ((From.call m (k := 0) (by decide) (h1.host m itemsB plainB (WA' m)) (s := call0 m) rfl).host m itemsA plainA (W0 m)).1

/-! ## The chain -/

/-- What a core carries between segments. -/
abbrev St (V : Dev nD → Valuation τ sig (Elt F)) (c : Dev nD) : sProp 𝕄 := iprop(held (c : Thread nD τ) (ucRefs τ sig) (V c) ∗ Rc c)

theorem segs_chain : CSeg.Chains (St (W0 m)) (segs m) (St (WF m)) := by
  unfold segs
  refine CSeg.Chains.append (segsOf_chains _ _ _ _ _ _ _ _ Rc itemsA plainA (W0 m)) ⟨fun _ => .rfl, ?_⟩
  refine CSeg.Chains.append (segsOf_chains _ _ _ _ _ _ _ _ Rc itemsB plainB (WA' m)) ⟨fun _ => .rfl, ?_⟩
  refine CSeg.Chains.append (segsOf_chains _ _ _ _ _ _ _ _ Rc itemsC plainC (WB' m)) ⟨fun _ => .rfl, ?_⟩
  refine CSeg.Chains.append (segsOf_chains _ _ _ _ _ _ _ _ Rc itemsD plainD (WC' m)) ⟨fun _ => .rfl, ?_⟩
  exact segsOf_chains _ _ _ _ _ _ _ _ Rc itemsE plainE (WE m)

theorem no_unscoped : ∀ sm : SemLoc sig, sm.isScoped .tc = true := by decide

set_option backward.isDefEq.respectTransparency.types false in
/-- THE RUN: every unscoped buffer ends at `WF`, every semaphore at zero. -/
theorem run_main (g : Dev nD → PrngReg) : θ_run defs (onTc (τ := τ) (main (F := F))) ⟨m, fun _ => 0, g⟩
    (fun r => (∀ (c : Dev nD), ∀ b ∈ ucRefs τ sig, r.2.mem (((c : Thread nD τ)).1, b) = WF m c b) ∧ r.2.sem = fun _ => 0) :=
  Pipeline.θ_run_regions_loop_kit_sems (pcfgs (F := F)) adm cellOf_inj defs₀ 𝒱₀ L lv loops (tk m) m g main (segs m)
    (fun c Q => by rw [main_run m c]) (segs_disjoint m)
    (O₀ := fun _ => 0) (hL := fun _ _ => rfl) (G := fun _ => BI.emp)
    (u₀ := (fun _ => initOf (Pipeline.cells (Pipeline.pin (pcfgs (F := F)) adm) cellOf_inj) (Pipeline.launchToks (Pipeline.pin (pcfgs (F := F)) adm) cellOf_inj), 1))
    (hu₀ := by
      iintro Hu
      ihave H := (ownU_pair _ _) $$ Hu
      icases H with ⟨HX, -⟩
      ihave H' := (own_iprod _) $$ HX
      imodintro
      isplitl [H']; · iexact H'
      rw [BI.bigSep_emp_const]; iempintro)
    (T₀ := St (W0 m)) (Tₙ := fun c => held (c : Thread nD τ) (ucRefs τ sig) (WF m c))
    (hch := segs_chain m)
    (hinit := by
      have h1 (c : Dev nD) : iprop(unscopedBufs c (fun b => m ((c.tc : Thread nD τ).loc b)) ∗ unscopedSems0 c ∗ owes (c.tc : Thread nD τ) (0 : CellTallies nD τ sig Unit) ∅
            ∗ Pipeline.launchCred (fun _ : Dev nD => (0 : CellTallies nD τ sig Unit)) c ∗ prngReg c (g c) ∗ BI.emp) ⊢ (St (W0 m) c : sProp 𝕄) := by
        rw [show unscopedBufs c (fun b => m ((c : Thread nD τ).loc b)) = held (c : Thread nD τ) (ucRefs τ sig) (W0 m c) from Pipeline.unscopedBufs_held c (W0 m c)]
        iintro ⟨Hh, -, HO, -⟩
        isplitl [Hh]; · iexact Hh
        iexists ∅; iexact HO
      iintro ⟨H, -⟩
      imodintro
      iapply (show _ ⊢ bigSep Finset.univ (St (W0 m)) from bigSep_mono fun c _ => h1 c)
      iexact H)
    (QY := fun c s => ∀ b ∈ ucRefs τ sig, s.mem (((c : Thread nD τ)).1, b) = WF m c b)
    (hfin := fun c s' => by
      unfold held
      iintro ⟨Hh, HSI⟩
      ihave Hp := (pointsTo_read_all (ucRefs τ sig) (fun b => (((c : Thread nD τ)).1, b)) (WF m c) s') $$ [Hh HSI]
      · isplitl [Hh] <;> iassumption
      icases Hp with ⟨%hb, HSI⟩
      imodintro
      isplitr; · ipureintro; exact hb
      iexact HSI)
    (hQ := fun s h hz => ⟨h, funext fun g => hz g (.inr (no_unscoped g.2))⟩)

end Cert.Proof.Region

end
-- ==== Proof.RefRun.lean ====
/-
  THE REFERENCE'S RUN, with its counters: every buffer of the program ends at the fold of its operations and every
  semaphore counter at zero; and the arguments are as they were.
-/
module

public import proofs.«01_k».proof.Proof.Gen.ReferenceIdeal.Run
public import Idealize.ShloMosaic.Lib.Pipeline.RegionsLoop
public import Idealize.ShloMosaic.Lib.Pipeline.Quiescent

@[expose] public section

noncomputable section

namespace Cert.Proof.RefRun

open Cert.ReferenceIdeal Cert.ReferenceIdeal.Gen Cert.ReferenceIdeal.Value

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

variable (m : (ℓ : Loc nD τ sig) → Buf (Elt F) ℓ)

/-- No kernel is called: nothing is admitted, no ticket is needed, no counter has a level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
theorem cellOf_inj : Function.Injective (Pipeline.cellOf (nD := nD) (τ := τ) (Pipeline.pin (pcfgs (F := F)) adm)) := fun k => k.1.elim0

/-- What a core carries beside its buffers: it owes nothing. -/
abbrev Rc (c : Dev nD) : sProp 𝕄 := iprop(∃ W, owes (c : Thread nD τ) (0 : CellTallies nD τ sig Unit) W)

/-- The condition's specification, that state framed through it. -/
theorem loop_cond : LoopCond (pcfgs (F := F)) defs₀ Variants.none loops Rc (main_while0_cond (F := F)) condOps bodyI (entryContents preI m) 2 := by
  intro k hk c bd
  refine BIBase.Entails.trans (Q := iprop((boundary (c : Thread nD τ) ∗ held (c : Thread nD τ) (ucRefs τ sig) (atTrip condOps bodyI (entryContents preI m) k c)) ∗ Rc c)) ?_
    (((sep_mono_left (Value.cond_spec m k hk c bd)).trans (wp_frame_r _ _ _)).trans (wp_mono _ _ _ fun v => ?_))
  · iintro ⟨Hb, Hh, HR⟩
    isplitl [Hb Hh]; · isplitl [Hb] <;> iassumption
    iexact HR
  · iintro ⟨⟨%hv, Hb, Hh⟩, HR⟩
    isplitr; · ipureintro; exact hv
    isplitl [Hb]; · iexact Hb
    isplitl [Hh] <;> iassumption

/-- The program's segments: the operations ahead of the loop, the loop, the operations after it. -/
def segs : List (CSeg (pcfgs (F := F)) adm defs₀ Variants.none L lv loops (tk (F := F))) :=
  segsOf _ _ _ _ _ _ _ _ Rc preI hpre (launchContents m)
    ++ loopSeg _ _ _ _ _ _ _ _ 0 (main_while0_cond (F := F)) (main_while0_body (F := F)) rfl condOps bodyI hbodyI
        (by rw [while0_body_chain]; rfl) 2 (entryContents preI m) Rc (loop_cond m)
      :: segsOf _ _ _ _ _ _ _ _ Rc postI hpost (fun c => after condOps (atTrip condOps bodyI (entryContents preI m) 2 c))

set_option maxRecDepth 100000 in
theorem main_run (c : Dev nD) : main (F := F) c = CSeg.runL (segs m) := by
  refine (main_chain c).trans ?_
  unfold CSeg.runL segs
  simp only [List.map_append, List.map_cons, segsOf_prog]
  rfl

/-- What every buffer ends holding. -/
abbrev RF (c : Dev nD) : Valuation τ sig (Elt F) := finalContents condOps preI bodyI postI 2 m c

abbrev St (V : Dev nD → Valuation τ sig (Elt F)) (c : Dev nD) : sProp 𝕄 := iprop(held (c : Thread nD τ) (ucRefs τ sig) (V c) ∗ Rc c)

theorem segs_chain : CSeg.Chains (St (launchContents m)) (segs m) (St (RF m)) := by
  unfold segs
  exact CSeg.Chains.append (segsOf_chains _ _ _ _ _ _ _ _ Rc preI hpre _) ⟨fun _ => .rfl, segsOf_chains _ _ _ _ _ _ _ _ Rc postI hpost _⟩

theorem no_unscoped : ∀ sm : SemLoc sig, sm.isScoped .tc = true := by decide

set_option backward.isDefEq.respectTransparency.types false in
/-- The run. -/
theorem run_ref (g : Dev nD → PrngReg) : θ_run defs (onTc (τ := τ) (main (F := F))) ⟨m, fun _ => 0, g⟩
    (fun r => (∀ (c : Dev nD), ∀ b ∈ ucRefs τ sig, r.2.mem ((c : Dev nD), b) = RF m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m g main (segs m)
    (fun c Q => by rw [main_run m c])
    (CSeg.pairwise_disjoint_of_T_empty _ fun s _ => Finset.eq_empty_of_isEmpty s.T)
    (O₀ := 0) (hL := fun _ _ => rfl) (G := fun _ => BI.emp) (u₀ := 1)
    (hu₀ := by
      iintro -
      imodintro
      isplitl []
      · rw [Finset.univ_eq_empty, BI.bigSep_empty]; iempintro
      · rw [BI.bigSep_emp_const]; iempintro)
    (T₀ := St (launchContents m)) (Tₙ := fun c => held (c : Thread nD τ) (ucRefs τ sig) (RF m c))
    (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = RF m c b)
    (hfin := fun c s' => by
      unfold held
      iintro ⟨Hh, HSI⟩
      ihave Hr := (pointsTo_read_all (ucRefs τ sig) (fun b => ((c : Dev nD), b)) (fun b => RF m c b) s') $$ [Hh HSI]
      · isplitl [Hh] <;> iassumption
      icases Hr with ⟨%h, HSI⟩
      imodintro
      isplitr; · ipureintro; exact h
      iexact HSI)
    (hQ := fun s h hz => ⟨h, funext fun g => hz g (.inr (no_unscoped g.2))⟩)

/-! ## The arguments -/

/-- The arguments of the program. -/
abbrev argRefs : List (Ref sig .tc) :=
  [main_arg0, main_arg1, main_arg2, main_arg3, main_arg4, main_arg5, main_arg6, main_arg7, main_arg8, main_arg9, main_arg10, main_arg11,
   main_arg12, main_arg13, main_arg14, main_arg15, main_arg16, main_arg17, main_arg18, main_arg19, main_arg20, main_arg21, main_arg22,
   main_arg23, main_arg24, main_arg25, main_arg26, main_arg27, main_arg28, main_arg29, main_arg30]

/-- A group of operation lists leaves the arguments as they were. -/
def Keeps (items : List (List (HloOp τ sig (Elt F)))) : Prop :=
  ∀ (V : Valuation τ sig (Elt F)), ∀ a ∈ argRefs, afterL items V (Proc.devRef .tc a) = V (Proc.devRef .tc a)
theorem Keeps.nil : Keeps ([] : List (List (HloOp τ sig (Elt F)))) := fun _ _ _ => rfl
theorem Keeps.cons {ops : List (HloOp τ sig (Elt F))} {rest : List (List (HloOp τ sig (Elt F)))} {W : List (Ref sig .tc)}
    (hw : ops.Forall fun op => op.writes ⊆ (W.map (Proc.devRef (τ := τ) .tc)).toFinset) (h : Keeps rest)
    (hW : (argRefs.all fun a => decide (a ∉ W)) = true := by decide +kernel) :
    Keeps (ops :: rest) := fun V a ha => by
  rw [afterL_cons, h _ a ha]
  exact after_of_writes_sub ops V hw (of_decide_eq_true (List.all_eq_true.mp hW a ha))

theorem keepsPre : Keeps (preI (F := F)) :=
  .cons hostOps0_writes (.cons hostOps0_1_writes (.cons hostOps0_2_writes (.cons hostOps0_3_writes (.cons hostOps0_4_writes (.cons
   hostOps0_5_writes (.cons hostOps0_6_writes (.cons hostOps0_7_writes (.cons hostOps0_8_writes (.cons hostOps0_9_writes (.cons
   hostOps0_10_writes (.cons hostOps0_11_writes (.cons hostOps0_12_writes (.cons hostOps0_13_writes (.cons hostOps0_14_writes (.cons
   hostOps0_15_writes (.cons hostOps0_16_writes (.cons hostOps0_17_writes (.cons hostOps0_18_writes (.cons hostOps0_19_writes (.cons
   hostOps0_20_writes (.cons hostOps0_21_writes (.cons hostOps0_22_writes (.cons hostOps0_23_writes (.cons hostOps0_24_writes (.cons
   hostOps0_25_writes (.cons hostOps0_26_writes (.cons hostOps0_27_writes (.cons hostOps0_28_writes (.cons hostOps0_29_writes (.cons
   hostOps0_30_writes (.cons hostOps0_31_writes (.cons hostOps0_32_writes (.cons hostOps0_33_writes (.cons hostOps0_34_writes (.cons
   hostOps0_35_writes (.cons hostOps0_36_writes (.cons hostOps0_37_writes (.cons hostOps0_38_writes (.cons hostOps0_39_writes (.cons
   hostOps0_40_writes (.cons hostOps0_41_writes (.cons hostOps0_42_writes (.cons hostOps0_43_writes (.cons hostOps0_44_writes (.cons
   hostOps0_45_writes (.cons hostOps0_46_writes (.nil)))))))))))))))))))))))))))))))))))))))))))))))
theorem keepsBody : Keeps (bodyI (F := F)) :=
  .cons while0Ops0_writes (.cons while0Ops0_1_writes (.cons while0Ops0_2_writes (.cons while0Ops0_3_writes (.cons while0Ops0_4_writes (.cons
   while0Ops0_5_writes (.nil))))))
/-- What the operations after the loop write. -/
abbrev hostOps0_47_W : List (Ref sig .tc) := [main_v936, main_v937, main_v938, main_v939, main_v940, main_v941, main_v942, main_v943, main_v944]
theorem hostOps0_47_writes : (hostOps0_47 : List (HloOp τ sig (Elt F))).Forall fun op => op.writes ⊆ (hostOps0_47_W.map (Proc.devRef (τ := τ) .tc)).toFinset :=
  StableHlo.forall_writes_sub_of_map rfl
theorem keepsPost : Keeps (postI (F := F)) :=
  .cons hostOps0_47_writes (.nil)
theorem keepsCond (V : Valuation τ sig (Elt F)) : ∀ a ∈ argRefs, after condOps V (Proc.devRef .tc a) = V (Proc.devRef .tc a) :=
  fun _ ha => after_of_writes_sub condOps V condOps_writes
    (of_decide_eq_true (List.all_eq_true.mp (show (argRefs.all fun a => decide (a ∉ condOps_W)) = true by decide +kernel) _ ha))

theorem RF_arg (c : Dev nD) (a : Ref sig .tc) (ha : a ∈ argRefs) : RF m c (Proc.devRef .tc a) = m ((c.tc : Thread nD τ).loc a) := by
  have hk : ∀ k, atTrip condOps bodyI (entryContents preI m) k c (Proc.devRef .tc a) = m ((c.tc : Thread nD τ).loc a) := fun k => by
    induction k with
    | zero => exact keepsPre _ a ha
    | succ k ih =>
      show afterL bodyI (after condOps (atTrip condOps bodyI (entryContents preI m) k c)) (Proc.devRef .tc a) = _
      rw [keepsBody _ a ha, keepsCond _ a ha, ih]
  show afterL postI (after condOps (atTrip condOps bodyI (entryContents preI m) 2 c)) (Proc.devRef .tc a) = _
  rw [keepsPost _ a ha, keepsCond _ a ha, hk]

end Cert.Proof.RefRun

end
-- ==== Proof.Frames.lean ====
/-
  THE TWO FRAMES: either program, run from any memory, ends with its arguments as they were and every semaphore counter
  at zero. Stated once for both as "every argument buffer"; the claims list the buffers one by one.
-/
module

public import proofs.«01_k».proof.Defs
public import proofs.«01_k».proof.Proof.RunMain
public import proofs.«01_k».proof.Proof.RefRun
public import Idealize.ShloMosaic.Lib.StableHlo.RunHlo

@[expose] public section

noncomputable section

namespace Cert.Proof.Frames

open Idealize.ShloMosaic Idealize.ShloMosaic.TcCoe Idealize.SL.Sem
open Idealize.ShloMosaic.StableHlo (afterL after afterL_cons afterL_nil devRef_mem_ucRefs atTrip)

/-! ## The kernel -/

section Kernel

open Cert.KernelIdeal Cert.KernelIdeal.Gen Cert.KernelIdeal.Gen.Cond Cert.Proof.Region

variable {F : FTy → Type} [FloatOps F] (m : (ℓ : Loc nD τ sig) → Buf (Elt F) ℓ)

/-- No argument is the result of a call. -/
theorem args_ne : ∀ a ∈ argRefs, Proc.devRef (τ := τ) .tc a ≠ Proc.devRef .tc main_v61
    ∧ Proc.devRef (τ := τ) .tc a ≠ Proc.devRef .tc main_v897 ∧ Proc.devRef (τ := τ) .tc a ≠ Proc.devRef .tc main_v924
    ∧ (Proc.devRef (τ := τ) .tc a).isScoped = false :=
  ListAll.forall_mem_of_all_decide (by decide +kernel)

theorem WF_arg (c : Dev nD) (a : Ref sig .tc) (ha : a ∈ argRefs) : WF m c (Proc.devRef .tc a) = m ((c.tc : Thread nD τ).loc a) := by
  obtain ⟨h0, h1, h2, -⟩ := args_ne a ha
  have hD : WD m c (Proc.devRef .tc a) = m ((c.tc : Thread nD τ).loc a) := by
    unfold WD WC' WC WB' WB WA' WA
    rw [keepsD _ a ha, past2_ne _ _ h2, keepsC _ a ha, past1_ne _ _ h1, keepsB _ a ha, past0_ne _ _ h0, keepsA _ a ha]
    rfl
  have hk : ∀ k, Wk m k c (Proc.devRef .tc a) = m ((c.tc : Thread nD τ).loc a) := fun k => by
    induction k with
    | zero => exact hD
    | succ k ih =>
      show afterL itemsL (after condK (Wk m k c)) (Proc.devRef .tc a) = _
      rw [keepsL _ a ha, keepsCond _ a ha, ih]
  unfold WF WE
  rw [keepsE _ a ha, keepsCond _ a ha, hk]

/-- The kernel's run, read at its arguments. -/
theorem kernel_args (g : Dev nD → PrngReg) : θ_run defs (onTc (τ := τ) (main (F := F))) ⟨m, fun _ => 0, g⟩
    (fun r => (∀ c : Dev nD, ∀ a ∈ argRefs, r.2.mem ((c.tc : Thread nD τ).loc a) = m ((c.tc : Thread nD τ).loc a)) ∧ r.2.sem = fun _ => 0) :=
  θ_run_mono (run_main m g) fun _ h => ⟨fun c a ha => (h.1 c _ (devRef_mem_ucRefs a (args_ne a ha).2.2.2)).trans (WF_arg m c a ha), h.2⟩

theorem quiescent_kernel : @Cert.quiescent_KernelIdeal Cert.KernelIdeal.Gen.facts := fun m g _ =>
  θ_run_mono (kernel_args m g) fun _ h => ⟨fun c => by
    have H := h.1 c
    repeat' apply And.intro
    all_goals exact H _ (by decide), h.2⟩

end Kernel

/-! ## The reference -/

section Reference

open Cert.ReferenceIdeal Cert.ReferenceIdeal.Gen Cert.Proof.RefRun

variable {F : FTy → Type} [FloatOps F] (m : (ℓ : Loc nD τ sig) → Buf (Elt F) ℓ)

theorem args_unscoped : ∀ a ∈ argRefs, (Proc.devRef (τ := τ) .tc a).isScoped = false :=
  ListAll.forall_mem_of_all_decide (by decide +kernel)

/-- The reference's run, read at its arguments. -/
theorem reference_args (g : Dev nD → PrngReg) : θ_run defs (onTc (τ := τ) (main (F := F))) ⟨m, fun _ => 0, g⟩
    (fun r => (∀ c : Dev nD, ∀ a ∈ argRefs, r.2.mem ((c.tc : Thread nD τ).loc a) = m ((c.tc : Thread nD τ).loc a)) ∧ r.2.sem = fun _ => 0) :=
  θ_run_mono (run_ref m g) fun _ h => ⟨fun c a ha => (h.1 c _ (devRef_mem_ucRefs a (args_unscoped a ha))).trans (RF_arg m c a ha), h.2⟩

theorem quiescent_reference : @Cert.quiescent_ReferenceIdeal Cert.ReferenceIdeal.Gen.facts := fun m g _ =>
  θ_run_mono (reference_args m g) fun _ h => ⟨fun c => by
    have H := h.1 c
    repeat' apply And.intro
    all_goals exact H _ (by decide), h.2⟩

end Reference

end Cert.Proof.Frames

end
-- ==== Proof.Lockstep.lean ====
/-
  Two programs of host operations run side by side. The kernel's program and the reference name their buffers
  differently, so their contents are compared PAIR BY PAIR: `Same V V' p` says that the two buffers of the pair `p`
  hold the same array, and `Agree L V V'` that every pair of the list `L` does. One operation on either side that
  computes the same function of paired operands adds its pair of results to the list (`Step`); a line of such
  operations adds the pairs of all of them (`Line.agree`). Which pairs hold after a line is a computation on
  numbers (`grow`), so a line of any length is closed by one decided equation.
-/
module

public import Idealize.ShloMosaic.Lib.StableHlo.Run
public import Idealize.ShloMosaic.Lib.Pipeline.Frame

@[expose] public section

noncomputable section

namespace Cert.Proof.Lockstep

open Idealize.ShloMosaic Idealize.ShloMosaic.TcCoe
open Idealize.ShloMosaic.StableHlo (after)

variable {τ τ' : Topo} {sig sig' : RefSig} {Val : EltTy → Type}

/-- A buffer of the first program beside one of the second. -/
abbrev Pair (sig sig' : RefSig) : Type := Ref sig .tc × Ref sig' .tc

/-- The two buffers of a pair hold the same array. -/
def Same (V : Valuation τ sig Val) (V' : Valuation τ' sig' Val) (p : Pair sig sig') : Prop :=
  HEq (V (Proc.devRef .tc p.1)) (V' (Proc.devRef .tc p.2))

/-- Every pair of the list holds the same array on the two sides. -/
def Agree (L : List (Pair sig sig')) (V : Valuation τ sig Val) (V' : Valuation τ' sig' Val) : Prop :=
  ∀ p ∈ L, Same V V' p

theorem Agree.mono {L L' : List (Pair sig sig')} {V : Valuation τ sig Val} {V' : Valuation τ' sig' Val}
    (h : Agree L V V') (hs : ∀ p ∈ L', p ∈ L) : Agree L' V V' := fun p hp => h p (hs p hp)

theorem Agree.cons {p : Pair sig sig'} {L : List (Pair sig sig')} {V : Valuation τ sig Val} {V' : Valuation τ' sig' Val}
    (hp : Same V V' p) (h : Agree L V V') : Agree (p :: L) V V' := fun q hq => by
  rcases List.mem_cons.mp hq with rfl | hq
  · exact hp
  · exact h q hq

/-! ### Pairs as numbers -/

/-- A memory space's number. -/
def spaceNum : Space → ℕ
  | .hbm => 0 | .vmem => 1 | .smem => 2 | .host => 3 | .shared => 4

theorem spaceNum_inj (a b : Space) (h : spaceNum a = spaceNum b) : a = b := by
  rcases a with ⟨⟨⟩ | ⟨⟩⟩ | ⟨⟩ | ⟨⟩ | ⟨⟩ <;> rcases b with ⟨⟨⟩ | ⟨⟩⟩ | ⟨⟩ | ⟨⟩ | ⟨⟩ <;>
    first | rfl | exact absurd h (by decide)

theorem spaceNum_lt (a : Space) : spaceNum a < 8 := by
  rcases a with ⟨⟨⟩ | ⟨⟩⟩ | ⟨⟩ | ⟨⟩ | ⟨⟩ <;> decide

/-- A reference's number: its place in its space's table, and the space. -/
def num {sig : RefSig} (r : Ref sig .tc) : ℕ := r.idx.val * 8 + spaceNum r.space

theorem num_inj {sig : RefSig} {r s : Ref sig .tc} (h : num r = num s) : r = s := by
  obtain ⟨sp, i, hi⟩ := r
  obtain ⟨sp', j, hj⟩ := s
  have h1 := spaceNum_lt sp
  have h2 := spaceNum_lt sp'
  simp only [num] at h
  have hs : sp = sp' := spaceNum_inj _ _ (by omega)
  subst hs
  have hij : i = j := Fin.ext (by omega)
  subst hij
  rfl

/-- A pair's two numbers. -/
def nums (p : Pair sig sig') : ℕ × ℕ := (num p.1, num p.2)

theorem nums_inj {p q : Pair sig sig'} (h : nums p = nums q) : p = q :=
  Prod.ext (num_inj (congrArg Prod.fst h)) (num_inj (congrArg Prod.snd h))

/-- Whether a pair of numbers is on the list. -/
def has (p : ℕ × ℕ) : List (ℕ × ℕ) → Bool
  | [] => false
  | q :: l => (Nat.beq p.1 q.1 && Nat.beq p.2 q.2) || has p l

theorem mem_of_has {p : ℕ × ℕ} : ∀ {l : List (ℕ × ℕ)}, has p l = true → p ∈ l
  | [], h => absurd h Bool.false_ne_true
  | q :: l, h => by
    simp only [has, Bool.or_eq_true, Bool.and_eq_true] at h
    rcases h with ⟨h1, h2⟩ | h
    · exact List.mem_cons.mpr (.inl (Prod.ext (Nat.eq_of_beq_eq_true h1) (Nat.eq_of_beq_eq_true h2)))
    · exact List.mem_cons_of_mem _ (mem_of_has h)

/-- The list without the pairs that share a buffer with `p`, which is about to be written. -/
def drop (p : ℕ × ℕ) : List (ℕ × ℕ) → List (ℕ × ℕ)
  | [] => []
  | q :: l => bif Nat.beq p.1 q.1 || Nat.beq p.2 q.2 then drop p l else q :: drop p l

theorem drop_mem {p q : ℕ × ℕ} : ∀ {l : List (ℕ × ℕ)}, q ∈ drop p l → q ∈ l ∧ p.1 ≠ q.1 ∧ p.2 ≠ q.2
  | [], h => absurd h List.not_mem_nil
  | a :: l, h => by
    unfold drop at h
    cases hb : (Nat.beq p.1 a.1 || Nat.beq p.2 a.2) with
    | true =>
      rw [hb, cond_true] at h
      exact ⟨List.mem_cons_of_mem _ (drop_mem h).1, (drop_mem h).2⟩
    | false =>
      rw [hb, cond_false] at h
      rcases List.mem_cons.mp h with rfl | h
      · rw [Bool.or_eq_false_iff] at hb
        exact ⟨List.mem_cons_self, Nat.ne_of_beq_eq_false hb.1, Nat.ne_of_beq_eq_false hb.2⟩
      · exact ⟨List.mem_cons_of_mem _ (drop_mem h).1, (drop_mem h).2⟩

/-- What one operation reads and writes, on both sides: the pairs of its operands and the pair of its results. -/
abbrev Entry (sig sig' : RefSig) : Type := List (Pair sig sig') × Pair sig sig'

/-- The pairs (as numbers) that hold after a line, from those before it; `none` where an operation reads a pair that
    is not known to hold. -/
def grow (l : List (ℕ × ℕ)) : List (Entry sig sig') → Option (List (ℕ × ℕ))
  | [] => some l
  | e :: es => bif e.1.all fun p => has (nums p) l then grow (nums e.2 :: drop (nums e.2) l) es else none

/-- Whether the pairs `L'` hold after the line when `L` do before it. -/
def carries (L L' : List (Pair sig sig')) (es : List (Entry sig sig')) : Bool :=
  match grow (L.map nums) es with
  | some l => L'.all fun p => has (nums p) l
  | none => false

/-! ### One operation on either side -/

/-- The two operations write one buffer each, those of `e.2`, and leave the same array there whenever the pairs
    `e.1` hold the same arrays. -/
structure Step (op : HloOp τ sig Val) (op' : HloOp τ' sig' Val) (e : Entry sig sig') : Prop where
  writes : op.writes = {Proc.devRef .tc e.2.1}
  writes' : op'.writes = {Proc.devRef .tc e.2.2}
  same : ∀ (V : Valuation τ sig Val) (V' : Valuation τ' sig' Val), Agree e.1 V V' → Same (op.result V) (op'.result V') e.2

/-- The pairs known, as numbers: every pair whose numbers are on the list holds. -/
def AgreeN (l : List (ℕ × ℕ)) (V : Valuation τ sig Val) (V' : Valuation τ' sig' Val) : Prop :=
  ∀ p : Pair sig sig', nums p ∈ l → Same V V' p

theorem agreeN_of_agree {L : List (Pair sig sig')} {V : Valuation τ sig Val} {V' : Valuation τ' sig' Val}
    (h : Agree L V V') : AgreeN (L.map nums) V V' := fun p hp => by
  obtain ⟨q, hq, he⟩ := List.mem_map.mp hp
  exact nums_inj he ▸ h q hq

theorem Step.agreeN {op : HloOp τ sig Val} {op' : HloOp τ' sig' Val} {e : Entry sig sig'} (s : Step op op' e)
    {l : List (ℕ × ℕ)} {V : Valuation τ sig Val} {V' : Valuation τ' sig' Val} (h : AgreeN l V V')
    (hr : (e.1.all fun p => has (nums p) l) = true) :
    AgreeN (nums e.2 :: drop (nums e.2) l) (op.result V) (op'.result V') := fun p hp => by
  rcases List.mem_cons.mp hp with he | hp
  · rw [nums_inj he]
    exact s.same V V' fun q hq => h q (mem_of_has (List.all_eq_true.mp hr q hq))
  · obtain ⟨hl, h1, h2⟩ := drop_mem hp
    have e1 : op.result V (Proc.devRef .tc p.1) = V (Proc.devRef .tc p.1) :=
      StableHlo.result_of_writes_ne op V _ _ s.writes fun h => h1 (congrArg num h).symm
    have e2 : op'.result V' (Proc.devRef .tc p.2) = V' (Proc.devRef .tc p.2) :=
      StableHlo.result_of_writes_ne op' V' _ _ s.writes' fun h => h2 (congrArg num h).symm
    unfold Same
    rw [e1, e2]
    exact h p hl

/-! ### A line of operations on either side -/

/-- Two lines of operations that correspond one by one, with what each pair of operations reads and writes. -/
inductive Line : List (HloOp τ sig Val) → List (HloOp τ' sig' Val) → List (Entry sig sig') → Prop
  | nil : Line [] [] []
  | cons {op : HloOp τ sig Val} {op' : HloOp τ' sig' Val} {e : Entry sig sig'} {ops : List (HloOp τ sig Val)}
      {ops' : List (HloOp τ' sig' Val)} {es : List (Entry sig sig')} (s : Step op op' e) (r : Line ops ops' es) :
      Line (op :: ops) (op' :: ops') (e :: es)

theorem Line.agreeN {ops : List (HloOp τ sig Val)} {ops' : List (HloOp τ' sig' Val)} {es : List (Entry sig sig')}
    (h : Line ops ops' es) : ∀ {l l' : List (ℕ × ℕ)} {V : Valuation τ sig Val} {V' : Valuation τ' sig' Val},
      AgreeN l V V' → grow l es = some l' → AgreeN l' (after ops V) (after ops' V') := by
  induction h with
  | nil => intro l l' V V' ha hg; cases hg; exact ha
  | cons s _ ih =>
    intro l l' V V' ha hg
    rename_i op op' e ops ops' es _
    unfold grow at hg
    cases hb : (e.1.all fun p => has (nums p) l) with
    | true => rw [hb, cond_true] at hg; exact ih (s.agreeN ha hb) hg
    | false => rw [hb, cond_false] at hg; cases hg

/-- The pairs `L'` hold after two corresponding lines when `L` do before them. -/
theorem Line.agree {ops : List (HloOp τ sig Val)} {ops' : List (HloOp τ' sig' Val)} {es : List (Entry sig sig')}
    (h : Line ops ops' es) {L L' : List (Pair sig sig')} (hc : carries L L' es = true)
    {V : Valuation τ sig Val} {V' : Valuation τ' sig' Val} (ha : Agree L V V') :
    Agree L' (after ops V) (after ops' V') := by
  unfold carries at hc
  split at hc
  · rename_i l hg
    intro p hp
    exact h.agreeN (agreeN_of_agree ha) hg p (mem_of_has (List.all_eq_true.mp hc p hp))
  · cases hc

/-- Two corresponding lines, whatever they read and write, that carry `L` to `L'`. -/
def Carry (L L' : List (Pair sig sig')) (ops : List (HloOp τ sig Val)) (ops' : List (HloOp τ' sig' Val)) : Prop :=
  ∀ (V : Valuation τ sig Val) (V' : Valuation τ' sig' Val), Agree L V V' → Agree L' (after ops V) (after ops' V')

theorem Carry.of {L L' : List (Pair sig sig')} {ops : List (HloOp τ sig Val)} {ops' : List (HloOp τ' sig' Val)}
    {es : List (Entry sig sig')} (h : Line ops ops' es) (hc : carries L L' es = true) : Carry L L' ops ops' :=
  fun _ _ ha => h.agree hc ha

theorem Carry.trans {L L' L'' : List (Pair sig sig')} {ops ops₂ : List (HloOp τ sig Val)} {ops' ops₂' : List (HloOp τ' sig' Val)}
    (h : Carry L L' ops ops') (h₂ : Carry L' L'' ops₂ ops₂') : Carry L L'' (ops ++ ops₂) (ops' ++ ops₂') := fun V V' ha => by
  rw [StableHlo.after_append, StableHlo.after_append]
  exact h₂ _ _ (h V V' ha)

/-- Whether a buffer's number is on the list. -/
def hasNum (n : ℕ) : List ℕ → Bool
  | [] => false
  | k :: l => Nat.beq n k || hasNum n l

theorem hasNum_of_mem {n : ℕ} : ∀ {l : List ℕ}, n ∈ l → hasNum n l = true
  | k :: l, h => by
    rcases List.mem_cons.mp h with rfl | h
    · simp [hasNum]
    · simp [hasNum, hasNum_of_mem h]

/-- No buffer of the first side of `L` is on `W`. -/
def apart (L : List (Pair sig sig')) (W : List (Ref sig .tc)) : Bool := L.all fun p => !hasNum (num p.1) (W.map num)

/-- No buffer of the second side of `L` is on `W`. -/
def apart' (L : List (Pair sig sig')) (W : List (Ref sig' .tc)) : Bool := L.all fun p => !hasNum (num p.2) (W.map num)

/-- A stretch on the first side alone, that writes none of the buffers of `L`. -/
theorem Agree.left {L : List (Pair sig sig')} {W : List (Ref sig .tc)} {ops : List (HloOp τ sig Val)}
    {V : Valuation τ sig Val} {V' : Valuation τ' sig' Val} (h : Agree L V V')
    (hW : ops.Forall fun op => op.writes ⊆ (W.map (Proc.devRef (τ := τ) .tc)).toFinset) (hd : apart L W = true) :
    Agree L (after ops V) V' := fun p hp => by
  have hr : p.1 ∉ W := fun hm => by
    have h1 := List.all_eq_true.mp hd p hp
    rw [hasNum_of_mem (List.mem_map_of_mem hm)] at h1
    exact Bool.noConfusion h1
  unfold Same
  rw [StableHlo.after_of_writes_sub ops V hW hr]
  exact h p hp

/-- A stretch on the second side alone, that writes none of the buffers of `L`. -/
theorem Agree.right {L : List (Pair sig sig')} {W : List (Ref sig' .tc)} {ops : List (HloOp τ' sig' Val)}
    {V : Valuation τ sig Val} {V' : Valuation τ' sig' Val} (h : Agree L V V')
    (hW : ops.Forall fun op => op.writes ⊆ (W.map (Proc.devRef (τ := τ') .tc)).toFinset) (hd : apart' L W = true) :
    Agree L V (after ops V') := fun p hp => by
  have hr : p.2 ∉ W := fun hm => by
    have h1 := List.all_eq_true.mp hd p hp
    rw [hasNum_of_mem (List.mem_map_of_mem hm)] at h1
    exact Bool.noConfusion h1
  unfold Same
  rw [StableHlo.after_of_writes_sub ops V' hW hr]
  exact h p hp

/-- One buffer of the first side changed, none of `L`. -/
theorem Agree.update {L : List (Pair sig sig')} {r : Ref sig .tc} {v : (Proc.devRef (τ := τ) .tc r).ty.Contents Val}
    {V : Valuation τ sig Val} {V' : Valuation τ' sig' Val} (h : Agree L V V') (hd : apart L [r] = true) :
    Agree L (Function.update V (Proc.devRef .tc r) v) V' := fun p hp => by
  have hr : p.1 ≠ r := fun hm => by
    have h1 := List.all_eq_true.mp hd p hp
    rw [hm, hasNum_of_mem (by simp)] at h1
    exact Bool.noConfusion h1
  unfold Same
  rw [Function.update_of_ne fun e => hr (Proc.devRef_injective _ e)]
  exact h p hp

/-! ### The builders -/

section Builders

variable {x y a b c : Ref sig .tc} {x' y' a' b' c' : Ref sig' .tc}

theorem heq_app {α α' β β' : Type} (hα : α = α') (hβ : β = β') {f : α → β} {f' : α' → β'} (hf : HEq f f')
    {u : α} {u' : α'} (hu : HEq u u') : HEq (f u) (f' u') := by
  subst hα; subst hβ; cases hf; cases hu; rfl

theorem contents_of {T : BufTy} {r : Ref sig .tc} (h : r.ty = T) : r.ty.Contents Val = T.Contents Val :=
  congrArg (fun U : BufTy => U.Contents Val) h

/-- In the lemmas below `T…` are the types of the buffers written out, the same on the two sides, and `g` the operation's
    function over them. -/
theorem step_nullary {T : BufTy} {v : y.ty.Contents Val} {v' : y'.ty.Contents Val} {hy hy'} {g : T.Contents Val}
    (_hY : y.ty = T) (hv : HEq v g) (hv' : HEq v' g) :
    Step (StableHlo.nullary (τ := τ) y v hy) (StableHlo.nullary (τ := τ') y' v' hy') ([], (y, y')) where
  writes := rfl
  writes' := rfl
  same V V' _ := by
    unfold Same
    rw [StableHlo.nullary_result, StableHlo.nullary_result]
    exact hv.trans hv'.symm

theorem step_unary {Tx Ty : BufTy} {f : x.ty.Contents Val → y.ty.Contents Val} {f' : x'.ty.Contents Val → y'.ty.Contents Val}
    {hx hy hx' hy'} {g : Tx.Contents Val → Ty.Contents Val} (hX : x.ty = Tx) (hY : y.ty = Ty) (hX' : x'.ty = Tx)
    (hY' : y'.ty = Ty) (hf : HEq f g) (hf' : HEq f' g) :
    Step (StableHlo.unary (τ := τ) x y f hx hy) (StableHlo.unary (τ := τ') x' y' f' hx' hy') ([(x, x')], (y, y')) where
  writes := rfl
  writes' := rfl
  same V V' h := by
    unfold Same
    rw [StableHlo.unary_result, StableHlo.unary_result]
    exact heq_app ((contents_of hX).trans (contents_of hX').symm) ((contents_of hY).trans (contents_of hY').symm)
      (hf.trans hf'.symm) (h (x, x') List.mem_cons_self)

theorem step_binary {Ta Tb Ty : BufTy} {f : a.ty.Contents Val → b.ty.Contents Val → y.ty.Contents Val}
    {f' : a'.ty.Contents Val → b'.ty.Contents Val → y'.ty.Contents Val} {ha hb hy ha' hb' hy'}
    {g : Ta.Contents Val → Tb.Contents Val → Ty.Contents Val} (hA : a.ty = Ta) (hB : b.ty = Tb) (hY : y.ty = Ty)
    (hA' : a'.ty = Ta) (hB' : b'.ty = Tb) (hY' : y'.ty = Ty) (hf : HEq f g) (hf' : HEq f' g) :
    Step (StableHlo.binary (τ := τ) a b y f ha hb hy) (StableHlo.binary (τ := τ') a' b' y' f' ha' hb' hy')
      ([(a, a'), (b, b')], (y, y')) where
  writes := rfl
  writes' := rfl
  same V V' h := by
    unfold Same
    rw [StableHlo.binary_result, StableHlo.binary_result]
    have eA := (contents_of (Val := Val) hA).trans (contents_of hA').symm
    have eB := (contents_of (Val := Val) hB).trans (contents_of hB').symm
    have eY := (contents_of (Val := Val) hY).trans (contents_of hY').symm
    exact heq_app eB eY (heq_app eA (by rw [eB, eY]) (hf.trans hf'.symm) (h (a, a') List.mem_cons_self))
      (h (b, b') (List.mem_cons_of_mem _ List.mem_cons_self))

theorem step_ternary {Tc Ta Tb Ty : BufTy} {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    {g : Tc.Contents Val → Ta.Contents Val → Tb.Contents Val → Ty.Contents Val}
    (hC : c.ty = Tc) (hA : a.ty = Ta) (hB : b.ty = Tb) (hY : y.ty = Ty)
    (hC' : c'.ty = Tc) (hA' : a'.ty = Ta) (hB' : b'.ty = Tb) (hY' : y'.ty = Ty) (hf : HEq f g) (hf' : HEq f' g) :
    Step (StableHlo.ternary (τ := τ) c a b y f hc ha hb hy) (StableHlo.ternary (τ := τ') c' a' b' y' f' hc' ha' hb' hy')
      ([(c, c'), (a, a'), (b, b')], (y, y')) where
  writes := rfl
  writes' := rfl
  same V V' h := by
    unfold Same
    rw [StableHlo.ternary_result, StableHlo.ternary_result]
    have eC := (contents_of (Val := Val) hC).trans (contents_of hC').symm
    have eA := (contents_of (Val := Val) hA).trans (contents_of hA').symm
    have eB := (contents_of (Val := Val) hB).trans (contents_of hB').symm
    have eY := (contents_of (Val := Val) hY).trans (contents_of hY').symm
    exact heq_app eB eY
      (heq_app eA (by rw [eB, eY])
        (heq_app eC (by rw [eA, eB, eY]) (hf.trans hf'.symm) (h (c, c') List.mem_cons_self))
        (h (a, a') (List.mem_cons_of_mem _ List.mem_cons_self)))
      (h (b, b') (List.mem_cons_of_mem _ (List.mem_cons_of_mem _ List.mem_cons_self)))

theorem reshape_heq {T U T' U' : BufTy} (hT : T = T') (hU : U = U') (he : T.elt = U.elt) (hn : T.shape.ShapeCasts U.shape)
    (he' : T'.elt = U'.elt) (hn' : T'.shape.ShapeCasts U'.shape) {u : T.Contents Val} {u' : T'.Contents Val} (h : HEq u u') :
    HEq (show U.Contents Val from fun i => he ▸ shapeCast U.shape u hn i)
      (show U'.Contents Val from fun i => he' ▸ shapeCast U'.shape u' hn' i) := by
  subst hT; subst hU; cases h; rfl

theorem step_reshape {Tx Ty : BufTy} {he : x.ty.elt = y.ty.elt} {hn : x.ty.shape.ShapeCasts y.ty.shape}
    {he' : x'.ty.elt = y'.ty.elt} {hn' : x'.ty.shape.ShapeCasts y'.ty.shape} {hx hy hx' hy'}
    (hX : x.ty = Tx) (hY : y.ty = Ty) (hX' : x'.ty = Tx) (hY' : y'.ty = Ty) :
    Step (StableHlo.reshape (τ := τ) (Val := Val) x y he hn hx hy) (StableHlo.reshape (τ := τ') (Val := Val) x' y' he' hn' hx' hy')
      ([(x, x')], (y, y')) where
  writes := rfl
  writes' := rfl
  same V V' h := by
    unfold Same
    rw [StableHlo.reshape_result, StableHlo.reshape_result]
    exact reshape_heq (hX.trans hX'.symm) (hY.trans hY'.symm) he hn he' hn' (h (x, x') List.mem_cons_self)

/-- Three operands of a concatenation, each of its own type. -/
theorem step_nary3 {f : ((k : Fin 3) → (![a, b, c] k).ty.Contents Val) → y.ty.Contents Val}
    {f' : ((k : Fin 3) → (![a', b', c'] k).ty.Contents Val) → y'.ty.Contents Val} {hxs hy hxs' hy'}
    (hf : ∀ u u', HEq (u 0) (u' 0) → HEq (u 1) (u' 1) → HEq (u 2) (u' 2) → HEq (f u) (f' u')) :
    Step (StableHlo.nary (τ := τ) ![a, b, c] y f hxs hy) (StableHlo.nary (τ := τ') ![a', b', c'] y' f' hxs' hy')
      ([(a, a'), (b, b'), (c, c')], (y, y')) where
  writes := rfl
  writes' := rfl
  same V V' h := by
    unfold Same
    rw [StableHlo.nary_result, StableHlo.nary_result]
    exact hf _ _ (h (a, a') List.mem_cons_self) (h (b, b') (List.mem_cons_of_mem _ List.mem_cons_self))
      (h (c, c') (List.mem_cons_of_mem _ (List.mem_cons_of_mem _ List.mem_cons_self)))

/-- The same three arrays put end to end. -/
theorem concat3_same {α : Type} {S s₀ s₁ s₂ : Shape} {d : Fin S.rank} {u₀ u₀' : s₀.Idx → α} {u₁ u₁' : s₁.Idx → α}
    {u₂ u₂' : s₂.Idx → α} {hc hc'} (h₀ : HEq u₀ u₀') (h₁ : HEq u₁ u₁') (h₂ : HEq u₂ u₂') :
    HEq (concatenate S d [⟨s₀, u₀⟩, ⟨s₁, u₁⟩, ⟨s₂, u₂⟩] hc) (concatenate S d [⟨s₀, u₀'⟩, ⟨s₁, u₁'⟩, ⟨s₂, u₂'⟩] hc') := by
  cases h₀; cases h₁; cases h₂; rfl

end Builders

/-! ### The builders of a module-local function, over typed references -/

section Typed

variable {T Tx Ta Tb Tc Ty : BufTy}

theorem ofBuf_same {x : StableHlo.TRef sig Tx} {x' : StableHlo.TRef sig' Tx} {u : x.ref.ty.Contents Val}
    {u' : x'.ref.ty.Contents Val} (h : HEq u u') : x.ofBuf u = x'.ofBuf u' :=
  eq_of_heq ((cast_heq _ _).trans (h.trans (cast_heq _ _).symm))

theorem toBuf_same {y : StableHlo.TRef sig Ty} {y' : StableHlo.TRef sig' Ty} {v v' : Ty.Contents Val} (h : v = v') :
    HEq (y.toBuf v) (y'.toBuf v') := by
  subst h
  exact (cast_heq _ _).trans (cast_heq _ _).symm

theorem tstep_nullary (y : StableHlo.TRef sig Ty) (y' : StableHlo.TRef sig' Ty) (v : Ty.Contents Val) :
    Step (StableHlo.TRef.nullary (τ := τ) y v) (StableHlo.TRef.nullary (τ := τ') y' v) ([], (y.ref, y'.ref)) where
  writes := rfl
  writes' := rfl
  same V V' _ := by
    unfold Same
    rw [StableHlo.nullary_result, StableHlo.nullary_result]
    exact toBuf_same rfl

theorem tstep_unary (x : StableHlo.TRef sig Tx) (y : StableHlo.TRef sig Ty) (x' : StableHlo.TRef sig' Tx)
    (y' : StableHlo.TRef sig' Ty) (f : Tx.Contents Val → Ty.Contents Val) :
    Step (StableHlo.TRef.unary (τ := τ) x y f) (StableHlo.TRef.unary (τ := τ') x' y' f) ([(x.ref, x'.ref)], (y.ref, y'.ref)) where
  writes := rfl
  writes' := rfl
  same V V' h := by
    unfold Same
    rw [StableHlo.unary_result, StableHlo.unary_result]
    exact toBuf_same (congrArg f (ofBuf_same (h (x.ref, x'.ref) List.mem_cons_self)))

theorem tstep_binary (a : StableHlo.TRef sig Ta) (b : StableHlo.TRef sig Tb) (y : StableHlo.TRef sig Ty)
    (a' : StableHlo.TRef sig' Ta) (b' : StableHlo.TRef sig' Tb) (y' : StableHlo.TRef sig' Ty)
    (f : Ta.Contents Val → Tb.Contents Val → Ty.Contents Val) :
    Step (StableHlo.TRef.binary (τ := τ) a b y f) (StableHlo.TRef.binary (τ := τ') a' b' y' f)
      ([(a.ref, a'.ref), (b.ref, b'.ref)], (y.ref, y'.ref)) where
  writes := rfl
  writes' := rfl
  same V V' h := by
    unfold Same
    rw [StableHlo.binary_result, StableHlo.binary_result]
    exact toBuf_same (congrArg₂ f (ofBuf_same (h (a.ref, a'.ref) List.mem_cons_self))
      (ofBuf_same (h (b.ref, b'.ref) (List.mem_cons_of_mem _ List.mem_cons_self))))

theorem tstep_ternary (c : StableHlo.TRef sig Tc) (a : StableHlo.TRef sig Ta) (b : StableHlo.TRef sig Tb)
    (y : StableHlo.TRef sig Ty) (c' : StableHlo.TRef sig' Tc) (a' : StableHlo.TRef sig' Ta) (b' : StableHlo.TRef sig' Tb)
    (y' : StableHlo.TRef sig' Ty) (f : Tc.Contents Val → Ta.Contents Val → Tb.Contents Val → Ty.Contents Val) :
    Step (StableHlo.TRef.ternary (τ := τ) c a b y f) (StableHlo.TRef.ternary (τ := τ') c' a' b' y' f)
      ([(c.ref, c'.ref), (a.ref, a'.ref), (b.ref, b'.ref)], (y.ref, y'.ref)) where
  writes := rfl
  writes' := rfl
  same V V' h := by
    unfold Same
    rw [StableHlo.ternary_result, StableHlo.ternary_result]
    rw [ofBuf_same (x := c) (x' := c') (h (c.ref, c'.ref) List.mem_cons_self),
      ofBuf_same (x := a) (x' := a') (h (a.ref, a'.ref) (List.mem_cons_of_mem _ List.mem_cons_self)),
      ofBuf_same (x := b) (x' := b') (h (b.ref, b'.ref) (List.mem_cons_of_mem _ (List.mem_cons_of_mem _ List.mem_cons_self)))]
    exact toBuf_same rfl

theorem tstep_reshape (x : StableHlo.TRef sig Tx) (y : StableHlo.TRef sig Ty) (x' : StableHlo.TRef sig' Tx)
    (y' : StableHlo.TRef sig' Ty) (he : Tx.elt = Ty.elt) (hn : Tx.shape.ShapeCasts Ty.shape) :
    Step (StableHlo.TRef.reshape (τ := τ) (Val := Val) x y he hn) (StableHlo.TRef.reshape (τ := τ') (Val := Val) x' y' he hn)
      ([(x.ref, x'.ref)], (y.ref, y'.ref)) :=
  step_reshape (Tx := Tx) (Ty := Ty) x.ty_eq y.ty_eq x'.ty_eq y'.ty_eq

/-- A dynamic slice: its operand and its three start indices. -/
theorem tstep_unaryIndexed3 (a : StableHlo.TRef sig Ta) (i j k : StableHlo.TRef sig T) (y : StableHlo.TRef sig Ty)
    (a' : StableHlo.TRef sig' Ta) (i' j' k' : StableHlo.TRef sig' T) (y' : StableHlo.TRef sig' Ty)
    (f : Ta.Contents Val → (Fin 3 → T.Contents Val) → Ty.Contents Val) :
    Step (StableHlo.TRef.unaryIndexed (τ := τ) a ![i, j, k] y f) (StableHlo.TRef.unaryIndexed (τ := τ') a' ![i', j', k'] y' f)
      ([(a.ref, a'.ref), (i.ref, i'.ref), (j.ref, j'.ref), (k.ref, k'.ref)], (y.ref, y'.ref)) where
  writes := rfl
  writes' := rfl
  same V V' h := by
    unfold Same
    rw [StableHlo.unaryIndexed_result, StableHlo.unaryIndexed_result]
    refine toBuf_same (congrArg₂ f (ofBuf_same (h (a.ref, a'.ref) List.mem_cons_self)) (funext fun q => ?_))
    fin_cases q
    · exact ofBuf_same (x := i) (x' := i') (h (i.ref, i'.ref) (by simp))
    · exact ofBuf_same (x := j) (x' := j') (h (j.ref, j'.ref) (by simp))
    · exact ofBuf_same (x := k) (x' := k') (h (k.ref, k'.ref) (by simp))

/-- A dynamic update of a slice: the two operands and the three start indices. -/
theorem tstep_binaryIndexed3 (a : StableHlo.TRef sig Ta) (b : StableHlo.TRef sig Tb) (i j k : StableHlo.TRef sig T)
    (y : StableHlo.TRef sig Ty) (a' : StableHlo.TRef sig' Ta) (b' : StableHlo.TRef sig' Tb) (i' j' k' : StableHlo.TRef sig' T)
    (y' : StableHlo.TRef sig' Ty) (f : Ta.Contents Val → Tb.Contents Val → (Fin 3 → T.Contents Val) → Ty.Contents Val) :
    Step (StableHlo.TRef.binaryIndexed (τ := τ) a b ![i, j, k] y f)
      (StableHlo.TRef.binaryIndexed (τ := τ') a' b' ![i', j', k'] y' f)
      ([(a.ref, a'.ref), (b.ref, b'.ref), (i.ref, i'.ref), (j.ref, j'.ref), (k.ref, k'.ref)], (y.ref, y'.ref)) where
  writes := rfl
  writes' := rfl
  same V V' h := by
    unfold Same
    rw [StableHlo.binaryIndexed_result, StableHlo.binaryIndexed_result]
    rw [ofBuf_same (x := a) (x' := a') (h (a.ref, a'.ref) (by simp)), ofBuf_same (x := b) (x' := b') (h (b.ref, b'.ref) (by simp))]
    refine toBuf_same (congrArg (f _ _) (funext fun q => ?_))
    fin_cases q
    · exact ofBuf_same (x := i) (x' := i') (h (i.ref, i'.ref) (by simp))
    · exact ofBuf_same (x := j) (x' := j') (h (j.ref, j'.ref) (by simp))
    · exact ofBuf_same (x := k) (x' := k') (h (k.ref, k'.ref) (by simp))

end Typed

end Cert.Proof.Lockstep

end
-- ==== Proof.Pairs.lean ====
module

public import proofs.«01_k».proof.Proof.Lockstep
public import proofs.«01_k».proof.Proof.Gen.KernelIdeal.Launch
public import proofs.«01_k».proof.Proof.Gen.ReferenceIdeal.Run

/-! # The buffers that correspond

For each stretch of operations the two programs have in common, the pairs of buffers (the kernel's, the reference's) that
hold the same array before it, as far as anything later reads them. -/

@[expose] public section

namespace Cert.Proof.Pairs

open Idealize.ShloMosaic Cert.Proof.Lockstep

/-- Pairs of a buffer of the kernel and one of the reference. -/
abbrev Ps : Type := List (Pair KernelIdeal.sig ReferenceIdeal.sig)

/-- Ahead of the opening stretch, up to the operands of the first product. -/
abbrev preA : Ps :=
  [(KernelIdeal.main_arg0, ReferenceIdeal.main_arg0), (KernelIdeal.main_arg1, ReferenceIdeal.main_arg1),
   (KernelIdeal.main_arg2, ReferenceIdeal.main_arg2), (KernelIdeal.main_arg3, ReferenceIdeal.main_arg3),
   (KernelIdeal.main_arg4, ReferenceIdeal.main_arg4), (KernelIdeal.main_arg5, ReferenceIdeal.main_arg5),
   (KernelIdeal.main_arg6, ReferenceIdeal.main_arg6), (KernelIdeal.main_arg7, ReferenceIdeal.main_arg7),
   (KernelIdeal.main_arg8, ReferenceIdeal.main_arg8), (KernelIdeal.main_arg9, ReferenceIdeal.main_arg9),
   (KernelIdeal.main_arg10, ReferenceIdeal.main_arg10), (KernelIdeal.main_arg11, ReferenceIdeal.main_arg11),
   (KernelIdeal.main_arg12, ReferenceIdeal.main_arg12), (KernelIdeal.main_arg13, ReferenceIdeal.main_arg13),
   (KernelIdeal.main_arg14, ReferenceIdeal.main_arg14), (KernelIdeal.main_arg15, ReferenceIdeal.main_arg15),
   (KernelIdeal.main_arg16, ReferenceIdeal.main_arg16), (KernelIdeal.main_arg17, ReferenceIdeal.main_arg17),
   (KernelIdeal.main_arg18, ReferenceIdeal.main_arg18), (KernelIdeal.main_arg19, ReferenceIdeal.main_arg19),
   (KernelIdeal.main_arg20, ReferenceIdeal.main_arg20), (KernelIdeal.main_arg21, ReferenceIdeal.main_arg21),
   (KernelIdeal.main_arg22, ReferenceIdeal.main_arg22), (KernelIdeal.main_arg23, ReferenceIdeal.main_arg23),
   (KernelIdeal.main_arg24, ReferenceIdeal.main_arg24), (KernelIdeal.main_arg25, ReferenceIdeal.main_arg25),
   (KernelIdeal.main_arg26, ReferenceIdeal.main_arg26), (KernelIdeal.main_arg27, ReferenceIdeal.main_arg27),
   (KernelIdeal.main_arg28, ReferenceIdeal.main_arg28), (KernelIdeal.main_arg29, ReferenceIdeal.main_arg29),
   (KernelIdeal.main_arg30, ReferenceIdeal.main_arg30)]

/-- Ahead of what follows the first product: the splitting of its columns. -/
abbrev preB1 : Ps :=
  [(KernelIdeal.main_arg0, ReferenceIdeal.main_arg0), (KernelIdeal.main_arg6, ReferenceIdeal.main_arg6),
   (KernelIdeal.main_arg7, ReferenceIdeal.main_arg7), (KernelIdeal.main_v4, ReferenceIdeal.main_v4),
   (KernelIdeal.main_v5, ReferenceIdeal.main_v5), (KernelIdeal.main_v6, ReferenceIdeal.main_v6),
   (KernelIdeal.main_v7, ReferenceIdeal.main_v7), (KernelIdeal.main_v8, ReferenceIdeal.main_v8),
   (KernelIdeal.main_v9, ReferenceIdeal.main_v9), (KernelIdeal.main_v10, ReferenceIdeal.main_v10),
   (KernelIdeal.main_v11, ReferenceIdeal.main_v11), (KernelIdeal.main_v12, ReferenceIdeal.main_v12),
   (KernelIdeal.main_v13, ReferenceIdeal.main_v13), (KernelIdeal.main_v14, ReferenceIdeal.main_v14),
   (KernelIdeal.main_v15, ReferenceIdeal.main_v15), (KernelIdeal.main_v16, ReferenceIdeal.main_v16),
   (KernelIdeal.main_v17, ReferenceIdeal.main_v17), (KernelIdeal.main_v18, ReferenceIdeal.main_v18),
   (KernelIdeal.main_v19, ReferenceIdeal.main_v19), (KernelIdeal.main_v20, ReferenceIdeal.main_v20),
   (KernelIdeal.main_v21, ReferenceIdeal.main_v21), (KernelIdeal.main_v22, ReferenceIdeal.main_v22),
   (KernelIdeal.main_v23, ReferenceIdeal.main_v23), (KernelIdeal.main_v24, ReferenceIdeal.main_v24),
   (KernelIdeal.main_v25, ReferenceIdeal.main_v25), (KernelIdeal.main_v26, ReferenceIdeal.main_v26),
   (KernelIdeal.main_v35, ReferenceIdeal.main_v35), (KernelIdeal.main_v36, ReferenceIdeal.main_v36),
   (KernelIdeal.main_v37, ReferenceIdeal.main_v37), (KernelIdeal.main_v38, ReferenceIdeal.main_v38),
   (KernelIdeal.main_v63, ReferenceIdeal.main_v65)]

/-- Ahead of the first calls of the attention. -/
abbrev preB2 : Ps :=
  [(KernelIdeal.main_arg0, ReferenceIdeal.main_arg0), (KernelIdeal.main_arg7, ReferenceIdeal.main_arg7),
   (KernelIdeal.main_v11, ReferenceIdeal.main_v11), (KernelIdeal.main_v12, ReferenceIdeal.main_v12),
   (KernelIdeal.main_v13, ReferenceIdeal.main_v13), (KernelIdeal.main_v14, ReferenceIdeal.main_v14),
   (KernelIdeal.main_v15, ReferenceIdeal.main_v15), (KernelIdeal.main_v16, ReferenceIdeal.main_v16),
   (KernelIdeal.main_v17, ReferenceIdeal.main_v17), (KernelIdeal.main_v18, ReferenceIdeal.main_v18),
   (KernelIdeal.main_v19, ReferenceIdeal.main_v19), (KernelIdeal.main_v20, ReferenceIdeal.main_v20),
   (KernelIdeal.main_v21, ReferenceIdeal.main_v21), (KernelIdeal.main_v22, ReferenceIdeal.main_v22),
   (KernelIdeal.main_v23, ReferenceIdeal.main_v23), (KernelIdeal.main_v26, ReferenceIdeal.main_v26),
   (KernelIdeal.main_v35, ReferenceIdeal.main_v35), (KernelIdeal.main_v36, ReferenceIdeal.main_v36),
   (KernelIdeal.main_v37, ReferenceIdeal.main_v37), (KernelIdeal.main_v38, ReferenceIdeal.main_v38),
   (KernelIdeal.main_v72, ReferenceIdeal.main_v74), (KernelIdeal.main_v86, ReferenceIdeal.main_v88),
   (KernelIdeal.main_v102, ReferenceIdeal.main_v104), (KernelIdeal.main_v118, ReferenceIdeal.main_v120),
   (KernelIdeal.main_v125, ReferenceIdeal.main_v127), (KernelIdeal.main_v126, ReferenceIdeal.main_v128),
   (KernelIdeal.main_v127, ReferenceIdeal.main_v129), (KernelIdeal.main_v128, ReferenceIdeal.main_v130),
   (KernelIdeal.main_v129, ReferenceIdeal.main_v131), (KernelIdeal.main_v132, ReferenceIdeal.main_v134),
   (KernelIdeal.main_v148, ReferenceIdeal.main_v150), (KernelIdeal.main_v199, ReferenceIdeal.main_v201),
   (KernelIdeal.main_v214, ReferenceIdeal.main_v216), (KernelIdeal.main_v260, ReferenceIdeal.main_v262),
   (KernelIdeal.main_v268, ReferenceIdeal.main_v270), (KernelIdeal.main_c_34, ReferenceIdeal.main_c_33)]

/-- Ahead of the middle calls of the attention. -/
abbrev preB3 : Ps :=
  [(KernelIdeal.main_arg0, ReferenceIdeal.main_arg0), (KernelIdeal.main_v11, ReferenceIdeal.main_v11),
   (KernelIdeal.main_v12, ReferenceIdeal.main_v12), (KernelIdeal.main_v13, ReferenceIdeal.main_v13),
   (KernelIdeal.main_v14, ReferenceIdeal.main_v14), (KernelIdeal.main_v15, ReferenceIdeal.main_v15),
   (KernelIdeal.main_v16, ReferenceIdeal.main_v16), (KernelIdeal.main_v17, ReferenceIdeal.main_v17),
   (KernelIdeal.main_v18, ReferenceIdeal.main_v18), (KernelIdeal.main_v19, ReferenceIdeal.main_v19),
   (KernelIdeal.main_v20, ReferenceIdeal.main_v20), (KernelIdeal.main_v21, ReferenceIdeal.main_v21),
   (KernelIdeal.main_v22, ReferenceIdeal.main_v22), (KernelIdeal.main_v23, ReferenceIdeal.main_v23),
   (KernelIdeal.main_v35, ReferenceIdeal.main_v35), (KernelIdeal.main_v36, ReferenceIdeal.main_v36),
   (KernelIdeal.main_v37, ReferenceIdeal.main_v37), (KernelIdeal.main_v38, ReferenceIdeal.main_v38),
   (KernelIdeal.main_v72, ReferenceIdeal.main_v74), (KernelIdeal.main_v86, ReferenceIdeal.main_v88),
   (KernelIdeal.main_v102, ReferenceIdeal.main_v104), (KernelIdeal.main_v125, ReferenceIdeal.main_v127),
   (KernelIdeal.main_v126, ReferenceIdeal.main_v128), (KernelIdeal.main_v127, ReferenceIdeal.main_v129),
   (KernelIdeal.main_v128, ReferenceIdeal.main_v130), (KernelIdeal.main_v132, ReferenceIdeal.main_v134),
   (KernelIdeal.main_v271, ReferenceIdeal.main_v273), (KernelIdeal.main_v277, ReferenceIdeal.main_v279),
   (KernelIdeal.main_v281, ReferenceIdeal.main_v283), (KernelIdeal.main_v284, ReferenceIdeal.main_v286),
   (KernelIdeal.main_v286, ReferenceIdeal.main_v288), (KernelIdeal.main_v288, ReferenceIdeal.main_v290),
   (KernelIdeal.main_v289, ReferenceIdeal.main_v291), (KernelIdeal.main_v352, ReferenceIdeal.main_v354),
   (KernelIdeal.main_v356, ReferenceIdeal.main_v358), (KernelIdeal.main_v378, ReferenceIdeal.main_v380),
   (KernelIdeal.main_c_64, ReferenceIdeal.main_c_63)]

/-- Ahead of the last calls of the attention. -/
abbrev preB4 : Ps :=
  [(KernelIdeal.main_arg0, ReferenceIdeal.main_arg0), (KernelIdeal.main_v11, ReferenceIdeal.main_v11),
   (KernelIdeal.main_v12, ReferenceIdeal.main_v12), (KernelIdeal.main_v13, ReferenceIdeal.main_v13),
   (KernelIdeal.main_v14, ReferenceIdeal.main_v14), (KernelIdeal.main_v15, ReferenceIdeal.main_v15),
   (KernelIdeal.main_v16, ReferenceIdeal.main_v16), (KernelIdeal.main_v17, ReferenceIdeal.main_v17),
   (KernelIdeal.main_v18, ReferenceIdeal.main_v18), (KernelIdeal.main_v19, ReferenceIdeal.main_v19),
   (KernelIdeal.main_v20, ReferenceIdeal.main_v20), (KernelIdeal.main_v21, ReferenceIdeal.main_v21),
   (KernelIdeal.main_v22, ReferenceIdeal.main_v22), (KernelIdeal.main_v23, ReferenceIdeal.main_v23),
   (KernelIdeal.main_v35, ReferenceIdeal.main_v35), (KernelIdeal.main_v36, ReferenceIdeal.main_v36),
   (KernelIdeal.main_v37, ReferenceIdeal.main_v37), (KernelIdeal.main_v38, ReferenceIdeal.main_v38),
   (KernelIdeal.main_v72, ReferenceIdeal.main_v74), (KernelIdeal.main_v86, ReferenceIdeal.main_v88),
   (KernelIdeal.main_v102, ReferenceIdeal.main_v104), (KernelIdeal.main_v125, ReferenceIdeal.main_v127),
   (KernelIdeal.main_v126, ReferenceIdeal.main_v128), (KernelIdeal.main_v127, ReferenceIdeal.main_v129),
   (KernelIdeal.main_v128, ReferenceIdeal.main_v130), (KernelIdeal.main_v132, ReferenceIdeal.main_v134),
   (KernelIdeal.main_v281, ReferenceIdeal.main_v283), (KernelIdeal.main_v284, ReferenceIdeal.main_v286),
   (KernelIdeal.main_v286, ReferenceIdeal.main_v288), (KernelIdeal.main_v288, ReferenceIdeal.main_v290),
   (KernelIdeal.main_v289, ReferenceIdeal.main_v291), (KernelIdeal.main_v352, ReferenceIdeal.main_v354),
   (KernelIdeal.main_v453, ReferenceIdeal.main_v455), (KernelIdeal.main_v456, ReferenceIdeal.main_v458),
   (KernelIdeal.main_v467, ReferenceIdeal.main_v469), (KernelIdeal.main_v468, ReferenceIdeal.main_v470),
   (KernelIdeal.main_v470, ReferenceIdeal.main_v472), (KernelIdeal.main_v472, ReferenceIdeal.main_v474),
   (KernelIdeal.main_v487, ReferenceIdeal.main_v489), (KernelIdeal.main_v489, ReferenceIdeal.main_v491)]

/-- Ahead of the longest stretch, from the attention to the convolution. -/
abbrev preB5 : Ps :=
  [(KernelIdeal.main_arg0, ReferenceIdeal.main_arg0), (KernelIdeal.main_v11, ReferenceIdeal.main_v11),
   (KernelIdeal.main_v12, ReferenceIdeal.main_v12), (KernelIdeal.main_v13, ReferenceIdeal.main_v13),
   (KernelIdeal.main_v14, ReferenceIdeal.main_v14), (KernelIdeal.main_v15, ReferenceIdeal.main_v15),
   (KernelIdeal.main_v16, ReferenceIdeal.main_v16), (KernelIdeal.main_v17, ReferenceIdeal.main_v17),
   (KernelIdeal.main_v18, ReferenceIdeal.main_v18), (KernelIdeal.main_v19, ReferenceIdeal.main_v19),
   (KernelIdeal.main_v20, ReferenceIdeal.main_v20), (KernelIdeal.main_v21, ReferenceIdeal.main_v21),
   (KernelIdeal.main_v22, ReferenceIdeal.main_v22), (KernelIdeal.main_v23, ReferenceIdeal.main_v23),
   (KernelIdeal.main_v35, ReferenceIdeal.main_v35), (KernelIdeal.main_v36, ReferenceIdeal.main_v36),
   (KernelIdeal.main_v37, ReferenceIdeal.main_v37), (KernelIdeal.main_v38, ReferenceIdeal.main_v38),
   (KernelIdeal.main_v72, ReferenceIdeal.main_v74), (KernelIdeal.main_v102, ReferenceIdeal.main_v104),
   (KernelIdeal.main_v125, ReferenceIdeal.main_v127), (KernelIdeal.main_v126, ReferenceIdeal.main_v128),
   (KernelIdeal.main_v127, ReferenceIdeal.main_v129), (KernelIdeal.main_v128, ReferenceIdeal.main_v130),
   (KernelIdeal.main_v281, ReferenceIdeal.main_v283), (KernelIdeal.main_v288, ReferenceIdeal.main_v290),
   (KernelIdeal.main_v352, ReferenceIdeal.main_v354), (KernelIdeal.main_v529, ReferenceIdeal.main_v531),
   (KernelIdeal.main_v591, ReferenceIdeal.main_v593), (KernelIdeal.main_v596, ReferenceIdeal.main_v598)]

/-- Ahead of the end of the convolution, up to the operands of the second product. -/
abbrev preB6 : Ps :=
  [(KernelIdeal.main_arg0, ReferenceIdeal.main_arg0), (KernelIdeal.main_v15, ReferenceIdeal.main_v15),
   (KernelIdeal.main_v16, ReferenceIdeal.main_v16), (KernelIdeal.main_v17, ReferenceIdeal.main_v17),
   (KernelIdeal.main_v18, ReferenceIdeal.main_v18), (KernelIdeal.main_v19, ReferenceIdeal.main_v19),
   (KernelIdeal.main_v20, ReferenceIdeal.main_v20), (KernelIdeal.main_v21, ReferenceIdeal.main_v21),
   (KernelIdeal.main_v22, ReferenceIdeal.main_v22), (KernelIdeal.main_v35, ReferenceIdeal.main_v35),
   (KernelIdeal.main_v36, ReferenceIdeal.main_v36), (KernelIdeal.main_v37, ReferenceIdeal.main_v37),
   (KernelIdeal.main_v38, ReferenceIdeal.main_v38), (KernelIdeal.main_v612, ReferenceIdeal.main_v614),
   (KernelIdeal.main_v613, ReferenceIdeal.main_v615), (KernelIdeal.main_v616, ReferenceIdeal.main_v618),
   (KernelIdeal.main_v619, ReferenceIdeal.main_v621), (KernelIdeal.main_v629, ReferenceIdeal.main_v631),
   (KernelIdeal.main_v874, ReferenceIdeal.main_v876)]

/-- Ahead of what follows the second product, up to the input of the expert layer. -/
abbrev preC : Ps :=
  [(KernelIdeal.main_arg0, ReferenceIdeal.main_arg0), (KernelIdeal.main_v18, ReferenceIdeal.main_v18),
   (KernelIdeal.main_v19, ReferenceIdeal.main_v19), (KernelIdeal.main_v20, ReferenceIdeal.main_v20),
   (KernelIdeal.main_v21, ReferenceIdeal.main_v21), (KernelIdeal.main_v22, ReferenceIdeal.main_v22),
   (KernelIdeal.main_v35, ReferenceIdeal.main_v35), (KernelIdeal.main_v36, ReferenceIdeal.main_v36),
   (KernelIdeal.main_v37, ReferenceIdeal.main_v37), (KernelIdeal.main_v38, ReferenceIdeal.main_v38),
   (KernelIdeal.main_v612, ReferenceIdeal.main_v614), (KernelIdeal.main_v616, ReferenceIdeal.main_v618),
   (KernelIdeal.main_v619, ReferenceIdeal.main_v621), (KernelIdeal.main_v876, ReferenceIdeal.main_v878),
   (KernelIdeal.main_v898, ReferenceIdeal.main_v902)]

/-- Ahead of the rows of the expert layer laid out by blocks. -/
abbrev preD0 : Ps :=
  [(KernelIdeal.main_v20, ReferenceIdeal.main_v20), (KernelIdeal.main_v21, ReferenceIdeal.main_v21),
   (KernelIdeal.main_v22, ReferenceIdeal.main_v22), (KernelIdeal.main_v38, ReferenceIdeal.main_v38),
   (KernelIdeal.main_v612, ReferenceIdeal.main_v614), (KernelIdeal.main_v616, ReferenceIdeal.main_v618),
   (KernelIdeal.main_v619, ReferenceIdeal.main_v621), (KernelIdeal.main_v876, ReferenceIdeal.main_v878),
   (KernelIdeal.main_v901, ReferenceIdeal.main_v905), (KernelIdeal.main_v921, ReferenceIdeal.main_v932)]

/-- Ahead of the first operations ahead of the loop. -/
abbrev preD1 : Ps :=
  [(KernelIdeal.main_v20, ReferenceIdeal.main_v20), (KernelIdeal.main_v21, ReferenceIdeal.main_v21),
   (KernelIdeal.main_v22, ReferenceIdeal.main_v22), (KernelIdeal.main_v38, ReferenceIdeal.main_v38),
   (KernelIdeal.main_v612, ReferenceIdeal.main_v614), (KernelIdeal.main_v616, ReferenceIdeal.main_v618),
   (KernelIdeal.main_v619, ReferenceIdeal.main_v621), (KernelIdeal.main_v876, ReferenceIdeal.main_v878),
   (KernelIdeal.main_v901, ReferenceIdeal.main_v905), (KernelIdeal.main_v925, ReferenceIdeal.main_v933)]

/-- Ahead of the last operations ahead of the loop. -/
abbrev preD2 : Ps :=
  [(KernelIdeal.main_v20, ReferenceIdeal.main_v20), (KernelIdeal.main_v21, ReferenceIdeal.main_v21),
   (KernelIdeal.main_v22, ReferenceIdeal.main_v22), (KernelIdeal.main_v38, ReferenceIdeal.main_v38),
   (KernelIdeal.main_v612, ReferenceIdeal.main_v614), (KernelIdeal.main_v616, ReferenceIdeal.main_v618),
   (KernelIdeal.main_v619, ReferenceIdeal.main_v621), (KernelIdeal.main_v876, ReferenceIdeal.main_v878),
   (KernelIdeal.main_v901, ReferenceIdeal.main_v905), (KernelIdeal.main_v927, ReferenceIdeal.main_v934),
   (KernelIdeal.main_v928_0, ReferenceIdeal.main_v935_0), (KernelIdeal.main_c_145, ReferenceIdeal.main_c_143)]

/-- Ahead of the slice of rows a trip takes. -/
abbrev preE0 : Ps :=
  [(KernelIdeal.main_v38, ReferenceIdeal.main_v38), (KernelIdeal.main_v612, ReferenceIdeal.main_v614),
   (KernelIdeal.main_v616, ReferenceIdeal.main_v618), (KernelIdeal.main_v619, ReferenceIdeal.main_v621),
   (KernelIdeal.main_v876, ReferenceIdeal.main_v878), (KernelIdeal.main_v901, ReferenceIdeal.main_v905),
   (KernelIdeal.main_v928_0, ReferenceIdeal.main_v935_0), (KernelIdeal.main_v928_2, ReferenceIdeal.main_v935_2),
   (KernelIdeal.main_v928_3, ReferenceIdeal.main_v935_3), (KernelIdeal.main_v928_4, ReferenceIdeal.main_v935_4),
   (KernelIdeal.main_v928_5, ReferenceIdeal.main_v935_5), (KernelIdeal.main_v928_6, ReferenceIdeal.main_v935_6)]

/-- Ahead of what follows the product of a trip. -/
abbrev preE1 : Ps :=
  [(KernelIdeal.main_v38, ReferenceIdeal.main_v38), (KernelIdeal.main_v612, ReferenceIdeal.main_v614),
   (KernelIdeal.main_v616, ReferenceIdeal.main_v618), (KernelIdeal.main_v619, ReferenceIdeal.main_v621),
   (KernelIdeal.main_v876, ReferenceIdeal.main_v878), (KernelIdeal.main_v901, ReferenceIdeal.main_v905),
   (KernelIdeal.main_v928_0, ReferenceIdeal.main_v935_0), (KernelIdeal.main_v928_2, ReferenceIdeal.main_v935_2),
   (KernelIdeal.main_v928_3, ReferenceIdeal.main_v935_3), (KernelIdeal.main_v928_4, ReferenceIdeal.main_v935_4),
   (KernelIdeal.main_v928_5, ReferenceIdeal.main_v935_5), (KernelIdeal.main_v928_6, ReferenceIdeal.main_v935_6),
   (KernelIdeal.main_while0b_v938, ReferenceIdeal.main_while0b_v945),
   (KernelIdeal.main_while0b_v939, ReferenceIdeal.main_while0b_v946)]

/-- Ahead of what follows the loop. -/
abbrev preF : Ps :=
  [(KernelIdeal.main_v38, ReferenceIdeal.main_v38), (KernelIdeal.main_v612, ReferenceIdeal.main_v614),
   (KernelIdeal.main_v616, ReferenceIdeal.main_v618), (KernelIdeal.main_v619, ReferenceIdeal.main_v621),
   (KernelIdeal.main_v876, ReferenceIdeal.main_v878), (KernelIdeal.main_v901, ReferenceIdeal.main_v905),
   (KernelIdeal.main_v928_6, ReferenceIdeal.main_v935_6)]

/-- After the opening stretch, up to the operands of the first product. -/
abbrev postA : Ps :=
  [(KernelIdeal.main_arg0, ReferenceIdeal.main_arg0), (KernelIdeal.main_arg6, ReferenceIdeal.main_arg6),
   (KernelIdeal.main_arg7, ReferenceIdeal.main_arg7), (KernelIdeal.main_v3, ReferenceIdeal.main_v3),
   (KernelIdeal.main_v4, ReferenceIdeal.main_v4), (KernelIdeal.main_v5, ReferenceIdeal.main_v5),
   (KernelIdeal.main_v6, ReferenceIdeal.main_v6), (KernelIdeal.main_v7, ReferenceIdeal.main_v7),
   (KernelIdeal.main_v8, ReferenceIdeal.main_v8), (KernelIdeal.main_v9, ReferenceIdeal.main_v9),
   (KernelIdeal.main_v10, ReferenceIdeal.main_v10), (KernelIdeal.main_v11, ReferenceIdeal.main_v11),
   (KernelIdeal.main_v12, ReferenceIdeal.main_v12), (KernelIdeal.main_v13, ReferenceIdeal.main_v13),
   (KernelIdeal.main_v14, ReferenceIdeal.main_v14), (KernelIdeal.main_v15, ReferenceIdeal.main_v15),
   (KernelIdeal.main_v16, ReferenceIdeal.main_v16), (KernelIdeal.main_v17, ReferenceIdeal.main_v17),
   (KernelIdeal.main_v18, ReferenceIdeal.main_v18), (KernelIdeal.main_v19, ReferenceIdeal.main_v19),
   (KernelIdeal.main_v20, ReferenceIdeal.main_v20), (KernelIdeal.main_v21, ReferenceIdeal.main_v21),
   (KernelIdeal.main_v22, ReferenceIdeal.main_v22), (KernelIdeal.main_v23, ReferenceIdeal.main_v23),
   (KernelIdeal.main_v24, ReferenceIdeal.main_v24), (KernelIdeal.main_v25, ReferenceIdeal.main_v25),
   (KernelIdeal.main_v26, ReferenceIdeal.main_v26), (KernelIdeal.main_v35, ReferenceIdeal.main_v35),
   (KernelIdeal.main_v36, ReferenceIdeal.main_v36), (KernelIdeal.main_v37, ReferenceIdeal.main_v37),
   (KernelIdeal.main_v38, ReferenceIdeal.main_v38), (KernelIdeal.main_v57, ReferenceIdeal.main_v57)]

/-- After the end of the convolution, up to the operands of the second product. -/
abbrev postB6 : Ps :=
  [(KernelIdeal.main_arg0, ReferenceIdeal.main_arg0), (KernelIdeal.main_v17, ReferenceIdeal.main_v17),
   (KernelIdeal.main_v18, ReferenceIdeal.main_v18), (KernelIdeal.main_v19, ReferenceIdeal.main_v19),
   (KernelIdeal.main_v20, ReferenceIdeal.main_v20), (KernelIdeal.main_v21, ReferenceIdeal.main_v21),
   (KernelIdeal.main_v22, ReferenceIdeal.main_v22), (KernelIdeal.main_v35, ReferenceIdeal.main_v35),
   (KernelIdeal.main_v36, ReferenceIdeal.main_v36), (KernelIdeal.main_v37, ReferenceIdeal.main_v37),
   (KernelIdeal.main_v38, ReferenceIdeal.main_v38), (KernelIdeal.main_v612, ReferenceIdeal.main_v614),
   (KernelIdeal.main_v616, ReferenceIdeal.main_v618), (KernelIdeal.main_v619, ReferenceIdeal.main_v621),
   (KernelIdeal.main_v876, ReferenceIdeal.main_v878), (KernelIdeal.main_v893, ReferenceIdeal.main_v895)]

/-- After what follows the second product, up to the input of the expert layer. -/
abbrev postC : Ps :=
  [(KernelIdeal.main_v19, ReferenceIdeal.main_v19), (KernelIdeal.main_v20, ReferenceIdeal.main_v20),
   (KernelIdeal.main_v21, ReferenceIdeal.main_v21), (KernelIdeal.main_v22, ReferenceIdeal.main_v22),
   (KernelIdeal.main_v38, ReferenceIdeal.main_v38), (KernelIdeal.main_v612, ReferenceIdeal.main_v614),
   (KernelIdeal.main_v616, ReferenceIdeal.main_v618), (KernelIdeal.main_v619, ReferenceIdeal.main_v621),
   (KernelIdeal.main_v876, ReferenceIdeal.main_v878), (KernelIdeal.main_v901, ReferenceIdeal.main_v905),
   (KernelIdeal.main_v921, ReferenceIdeal.main_v925)]

/-- After the slice of rows a trip takes. -/
abbrev postE0 : Ps :=
  [(KernelIdeal.main_v38, ReferenceIdeal.main_v38), (KernelIdeal.main_v612, ReferenceIdeal.main_v614),
   (KernelIdeal.main_v616, ReferenceIdeal.main_v618), (KernelIdeal.main_v619, ReferenceIdeal.main_v621),
   (KernelIdeal.main_v876, ReferenceIdeal.main_v878), (KernelIdeal.main_v901, ReferenceIdeal.main_v905),
   (KernelIdeal.main_v928_0, ReferenceIdeal.main_v935_0), (KernelIdeal.main_v928_2, ReferenceIdeal.main_v935_2),
   (KernelIdeal.main_v928_3, ReferenceIdeal.main_v935_3), (KernelIdeal.main_v928_4, ReferenceIdeal.main_v935_4),
   (KernelIdeal.main_v928_5, ReferenceIdeal.main_v935_5), (KernelIdeal.main_v928_6, ReferenceIdeal.main_v935_6),
   (KernelIdeal.main_while0b_v938, ReferenceIdeal.main_while0b_v945)]

/-- After what follows the loop. -/
abbrev postF : Ps :=
  [(KernelIdeal.main_v933, ReferenceIdeal.main_v940), (KernelIdeal.main_v934, ReferenceIdeal.main_v941),
   (KernelIdeal.main_v935, ReferenceIdeal.main_v942), (KernelIdeal.main_v936, ReferenceIdeal.main_v943),
   (KernelIdeal.main_v937, ReferenceIdeal.main_v944)]

end Cert.Proof.Pairs
-- ==== Proof.LineA.lean ====
module

public import proofs.«01_k».proof.Proof.Pairs

/-! # The opening stretch and the one after the second product -/

@[expose] public section

set_option maxRecDepth 8056

noncomputable section

namespace Cert.Proof.Pairs

open Idealize.ShloMosaic Idealize.ShloMosaic.TcCoe Cert.Proof.Lockstep

variable {F : FTy → Type} [FloatOps F]

/-- The opening stretch, up to the operands of the first product: the kernel's operations there. -/
abbrev kerA : List (HloOp KernelIdeal.τ KernelIdeal.sig (Elt F)) :=
  KernelIdeal.Gen.hostOps0 ++ (KernelIdeal.Gen.hostOps0_1 ++ ((KernelIdeal.Gen.hostOps0_2.take 34)))

/-- The same stretch of the reference. -/
abbrev refA : List (HloOp ReferenceIdeal.τ ReferenceIdeal.sig (Elt F)) :=
  ReferenceIdeal.Gen.hostOps0 ++ (ReferenceIdeal.Gen.hostOps0_1 ++ ((ReferenceIdeal.Gen.hostOps0_2.take 34)))

/-- What follows the second product, up to the input of the expert layer: the kernel's operations there. -/
abbrev kerC : List (HloOp KernelIdeal.τ KernelIdeal.sig (Elt F)) :=
  ((KernelIdeal.Gen.hostOps2.drop 1).take 27)

/-- The same stretch of the reference. -/
abbrev refC : List (HloOp ReferenceIdeal.τ ReferenceIdeal.sig (Elt F)) :=
  ((ReferenceIdeal.Gen.hostOps0_44.drop 28).take 27)

set_option maxHeartbeats 40000000 in
/-- The pairs that hold ahead of each stretch carry over to those that hold after it. -/
theorem carryA :
      Carry preA postA (kerA (F := F)) refA ∧
      Carry preC postC (kerC (F := F)) refC := by
  refine ⟨?_, ?_⟩ <;>
  · apply Carry.of
    · repeat (first | exact Line.nil | (apply Line.cons; first
        | ((with_reducible apply step_nullary); (conv_lhs => whnf); exact HEq.rfl; exact HEq.rfl)
        | ((with_reducible apply step_unary); (conv_lhs => whnf); (conv_lhs => whnf); rfl; rfl; exact HEq.rfl; exact HEq.rfl)
        | ((with_reducible apply step_binary); (conv_lhs => whnf); (conv_lhs => whnf); (conv_lhs => whnf); rfl; rfl; rfl
           exact HEq.rfl; exact HEq.rfl)
        | ((with_reducible apply step_ternary); (conv_lhs => whnf); (conv_lhs => whnf); (conv_lhs => whnf); (conv_lhs => whnf)
           rfl; rfl; rfl; rfl; exact HEq.rfl; exact HEq.rfl)
        | ((with_reducible apply step_nary3); (intro u u' h0 h1 h2); exact concat3_same h0 h1 h2)
        | ((with_reducible apply step_reshape); (conv_lhs => whnf); (conv_lhs => whnf); rfl; rfl)
        | exact tstep_nullary _ _ _
        | exact tstep_unary _ _ _ _ _
        | exact tstep_binary _ _ _ _ _ _ _
        | exact tstep_ternary _ _ _ _ _ _ _ _ _
        | exact tstep_reshape _ _ _ _ _ _
        | exact tstep_unaryIndexed3 _ _ _ _ _ _ _ _ _ _ _
        | exact tstep_binaryIndexed3 _ _ _ _ _ _ _ _ _ _ _ _ _))
    · decide +kernel

end Cert.Proof.Pairs

end
-- ==== Proof.LineB1.lean ====
module

public import proofs.«01_k».proof.Proof.Pairs

/-! # The stretch after the first product -/

@[expose] public section

set_option maxRecDepth 8056

noncomputable section

namespace Cert.Proof.Pairs

open Idealize.ShloMosaic Idealize.ShloMosaic.TcCoe Cert.Proof.Lockstep

variable {F : FTy → Type} [FloatOps F]

/-- What follows the first product: the splitting of its columns: the kernel's operations there. -/
abbrev kerB1 : List (HloOp KernelIdeal.τ KernelIdeal.sig (Elt F)) :=
  (KernelIdeal.Gen.hostOps1.drop 2)

/-- The same stretch of the reference. -/
abbrev refB1 : List (HloOp ReferenceIdeal.τ ReferenceIdeal.sig (Elt F)) :=
  (ReferenceIdeal.Gen.hostOps0_2.drop 42)

set_option maxHeartbeats 40000000 in
/-- The pairs that hold ahead of each stretch carry over to those that hold after it. -/
theorem carryB1 :
      Carry preB1 preB2 (kerB1 (F := F)) refB1 := by
  apply Carry.of
  · repeat (first | exact Line.nil | (apply Line.cons; first
      | ((with_reducible apply step_nullary); (conv_lhs => whnf); exact HEq.rfl; exact HEq.rfl)
      | ((with_reducible apply step_unary); (conv_lhs => whnf); (conv_lhs => whnf); rfl; rfl; exact HEq.rfl; exact HEq.rfl)
      | ((with_reducible apply step_binary); (conv_lhs => whnf); (conv_lhs => whnf); (conv_lhs => whnf); rfl; rfl; rfl
         exact HEq.rfl; exact HEq.rfl)
      | ((with_reducible apply step_ternary); (conv_lhs => whnf); (conv_lhs => whnf); (conv_lhs => whnf); (conv_lhs => whnf)
         rfl; rfl; rfl; rfl; exact HEq.rfl; exact HEq.rfl)
      | ((with_reducible apply step_nary3); (intro u u' h0 h1 h2); exact concat3_same h0 h1 h2)
      | ((with_reducible apply step_reshape); (conv_lhs => whnf); (conv_lhs => whnf); rfl; rfl)
      | exact tstep_nullary _ _ _
      | exact tstep_unary _ _ _ _ _
      | exact tstep_binary _ _ _ _ _ _ _
      | exact tstep_ternary _ _ _ _ _ _ _ _ _
      | exact tstep_reshape _ _ _ _ _ _
      | exact tstep_unaryIndexed3 _ _ _ _ _ _ _ _ _ _ _
      | exact tstep_binaryIndexed3 _ _ _ _ _ _ _ _ _ _ _ _ _))
  · decide +kernel

end Cert.Proof.Pairs

end
-- ==== Proof.LineB2.lean ====
module

public import proofs.«01_k».proof.Proof.Pairs

/-! # The first calls of the attention -/

@[expose] public section

set_option maxRecDepth 8056

noncomputable section

namespace Cert.Proof.Pairs

open Idealize.ShloMosaic Idealize.ShloMosaic.TcCoe Cert.Proof.Lockstep

variable {F : FTy → Type} [FloatOps F]

/-- The first calls of the attention: the kernel's operations there. -/
abbrev kerB2 : List (HloOp KernelIdeal.τ KernelIdeal.sig (Elt F)) :=
  KernelIdeal.Gen.hostOps1_1 ++ (KernelIdeal.Gen.hostOps1_2 ++ (KernelIdeal.Gen.hostOps1_3 ++ (KernelIdeal.Gen.hostOps1_4 ++ (KernelIdeal.Gen.hostOps1_5 ++ (KernelIdeal.Gen.hostOps1_6 ++ (KernelIdeal.Gen.hostOps1_7 ++ (KernelIdeal.Gen.hostOps1_8 ++ (KernelIdeal.Gen.hostOps1_9 ++ (KernelIdeal.Gen.hostOps1_10 ++ (KernelIdeal.Gen.hostOps1_11 ++ (KernelIdeal.Gen.hostOps1_12 ++ (KernelIdeal.Gen.hostOps1_13 ++ KernelIdeal.Gen.hostOps1_14))))))))))))

/-- The same stretch of the reference. -/
abbrev refB2 : List (HloOp ReferenceIdeal.τ ReferenceIdeal.sig (Elt F)) :=
  ReferenceIdeal.Gen.hostOps0_3 ++ (ReferenceIdeal.Gen.hostOps0_4 ++ (ReferenceIdeal.Gen.hostOps0_5 ++ (ReferenceIdeal.Gen.hostOps0_6 ++ (ReferenceIdeal.Gen.hostOps0_7 ++ (ReferenceIdeal.Gen.hostOps0_8 ++ (ReferenceIdeal.Gen.hostOps0_9 ++ (ReferenceIdeal.Gen.hostOps0_10 ++ (ReferenceIdeal.Gen.hostOps0_11 ++ (ReferenceIdeal.Gen.hostOps0_12 ++ (ReferenceIdeal.Gen.hostOps0_13 ++ (ReferenceIdeal.Gen.hostOps0_14 ++ (ReferenceIdeal.Gen.hostOps0_15 ++ ReferenceIdeal.Gen.hostOps0_16))))))))))))

set_option maxHeartbeats 40000000 in
/-- The pairs that hold ahead of each stretch carry over to those that hold after it. -/
theorem carryB2 :
      Carry preB2 preB3 (kerB2 (F := F)) refB2 := by
  apply Carry.of
  · repeat (first | exact Line.nil | (apply Line.cons; first
      | ((with_reducible apply step_nullary); (conv_lhs => whnf); exact HEq.rfl; exact HEq.rfl)
      | ((with_reducible apply step_unary); (conv_lhs => whnf); (conv_lhs => whnf); rfl; rfl; exact HEq.rfl; exact HEq.rfl)
      | ((with_reducible apply step_binary); (conv_lhs => whnf); (conv_lhs => whnf); (conv_lhs => whnf); rfl; rfl; rfl
         exact HEq.rfl; exact HEq.rfl)
      | ((with_reducible apply step_ternary); (conv_lhs => whnf); (conv_lhs => whnf); (conv_lhs => whnf); (conv_lhs => whnf)
         rfl; rfl; rfl; rfl; exact HEq.rfl; exact HEq.rfl)
      | ((with_reducible apply step_nary3); (intro u u' h0 h1 h2); exact concat3_same h0 h1 h2)
      | ((with_reducible apply step_reshape); (conv_lhs => whnf); (conv_lhs => whnf); rfl; rfl)
      | exact tstep_nullary _ _ _
      | exact tstep_unary _ _ _ _ _
      | exact tstep_binary _ _ _ _ _ _ _
      | exact tstep_ternary _ _ _ _ _ _ _ _ _
      | exact tstep_reshape _ _ _ _ _ _
      | exact tstep_unaryIndexed3 _ _ _ _ _ _ _ _ _ _ _
      | exact tstep_binaryIndexed3 _ _ _ _ _ _ _ _ _ _ _ _ _))
  · decide +kernel

end Cert.Proof.Pairs

end
-- ==== Proof.LineB3.lean ====
module

public import proofs.«01_k».proof.Proof.Pairs

/-! # The middle calls of the attention -/

@[expose] public section

set_option maxRecDepth 8056

noncomputable section

namespace Cert.Proof.Pairs

open Idealize.ShloMosaic Idealize.ShloMosaic.TcCoe Cert.Proof.Lockstep

variable {F : FTy → Type} [FloatOps F]

/-- The middle calls of the attention: the kernel's operations there. -/
abbrev kerB3 : List (HloOp KernelIdeal.τ KernelIdeal.sig (Elt F)) :=
  KernelIdeal.Gen.hostOps1_15 ++ (KernelIdeal.Gen.hostOps1_16 ++ (KernelIdeal.Gen.hostOps1_17 ++ (KernelIdeal.Gen.hostOps1_18 ++ (KernelIdeal.Gen.hostOps1_19 ++ KernelIdeal.Gen.hostOps1_20))))

/-- The same stretch of the reference. -/
abbrev refB3 : List (HloOp ReferenceIdeal.τ ReferenceIdeal.sig (Elt F)) :=
  ReferenceIdeal.Gen.hostOps0_17 ++ (ReferenceIdeal.Gen.hostOps0_18 ++ (ReferenceIdeal.Gen.hostOps0_19 ++ (ReferenceIdeal.Gen.hostOps0_20 ++ (ReferenceIdeal.Gen.hostOps0_21 ++ ReferenceIdeal.Gen.hostOps0_22))))

set_option maxHeartbeats 40000000 in
/-- The pairs that hold ahead of each stretch carry over to those that hold after it. -/
theorem carryB3 :
      Carry preB3 preB4 (kerB3 (F := F)) refB3 := by
  apply Carry.of
  · repeat (first | exact Line.nil | (apply Line.cons; first
      | ((with_reducible apply step_nullary); (conv_lhs => whnf); exact HEq.rfl; exact HEq.rfl)
      | ((with_reducible apply step_unary); (conv_lhs => whnf); (conv_lhs => whnf); rfl; rfl; exact HEq.rfl; exact HEq.rfl)
      | ((with_reducible apply step_binary); (conv_lhs => whnf); (conv_lhs => whnf); (conv_lhs => whnf); rfl; rfl; rfl
         exact HEq.rfl; exact HEq.rfl)
      | ((with_reducible apply step_ternary); (conv_lhs => whnf); (conv_lhs => whnf); (conv_lhs => whnf); (conv_lhs => whnf)
         rfl; rfl; rfl; rfl; exact HEq.rfl; exact HEq.rfl)
      | ((with_reducible apply step_nary3); (intro u u' h0 h1 h2); exact concat3_same h0 h1 h2)
      | ((with_reducible apply step_reshape); (conv_lhs => whnf); (conv_lhs => whnf); rfl; rfl)
      | exact tstep_nullary _ _ _
      | exact tstep_unary _ _ _ _ _
      | exact tstep_binary _ _ _ _ _ _ _
      | exact tstep_ternary _ _ _ _ _ _ _ _ _
      | exact tstep_reshape _ _ _ _ _ _
      | exact tstep_unaryIndexed3 _ _ _ _ _ _ _ _ _ _ _
      | exact tstep_binaryIndexed3 _ _ _ _ _ _ _ _ _ _ _ _ _))
  · decide +kernel

end Cert.Proof.Pairs

end
-- ==== Proof.LineB4.lean ====
module

public import proofs.«01_k».proof.Proof.Pairs

/-! # The last calls of the attention -/

@[expose] public section

set_option maxRecDepth 8056

noncomputable section

namespace Cert.Proof.Pairs

open Idealize.ShloMosaic Idealize.ShloMosaic.TcCoe Cert.Proof.Lockstep

variable {F : FTy → Type} [FloatOps F]

/-- The last calls of the attention: the kernel's operations there. -/
abbrev kerB4 : List (HloOp KernelIdeal.τ KernelIdeal.sig (Elt F)) :=
  KernelIdeal.Gen.hostOps1_21 ++ (KernelIdeal.Gen.hostOps1_22 ++ (KernelIdeal.Gen.hostOps1_23 ++ (KernelIdeal.Gen.hostOps1_24 ++ (KernelIdeal.Gen.hostOps1_25 ++ (KernelIdeal.Gen.hostOps1_26 ++ (KernelIdeal.Gen.hostOps1_27 ++ (KernelIdeal.Gen.hostOps1_28 ++ (KernelIdeal.Gen.hostOps1_29 ++ (KernelIdeal.Gen.hostOps1_30 ++ (KernelIdeal.Gen.hostOps1_31 ++ (KernelIdeal.Gen.hostOps1_32 ++ (KernelIdeal.Gen.hostOps1_33 ++ (KernelIdeal.Gen.hostOps1_34 ++ (KernelIdeal.Gen.hostOps1_35 ++ (KernelIdeal.Gen.hostOps1_36 ++ (KernelIdeal.Gen.hostOps1_37 ++ (KernelIdeal.Gen.hostOps1_38 ++ KernelIdeal.Gen.hostOps1_39)))))))))))))))))

/-- The same stretch of the reference. -/
abbrev refB4 : List (HloOp ReferenceIdeal.τ ReferenceIdeal.sig (Elt F)) :=
  ReferenceIdeal.Gen.hostOps0_23 ++ (ReferenceIdeal.Gen.hostOps0_24 ++ (ReferenceIdeal.Gen.hostOps0_25 ++ (ReferenceIdeal.Gen.hostOps0_26 ++ (ReferenceIdeal.Gen.hostOps0_27 ++ (ReferenceIdeal.Gen.hostOps0_28 ++ (ReferenceIdeal.Gen.hostOps0_29 ++ (ReferenceIdeal.Gen.hostOps0_30 ++ (ReferenceIdeal.Gen.hostOps0_31 ++ (ReferenceIdeal.Gen.hostOps0_32 ++ (ReferenceIdeal.Gen.hostOps0_33 ++ (ReferenceIdeal.Gen.hostOps0_34 ++ (ReferenceIdeal.Gen.hostOps0_35 ++ (ReferenceIdeal.Gen.hostOps0_36 ++ (ReferenceIdeal.Gen.hostOps0_37 ++ (ReferenceIdeal.Gen.hostOps0_38 ++ (ReferenceIdeal.Gen.hostOps0_39 ++ (ReferenceIdeal.Gen.hostOps0_40 ++ ReferenceIdeal.Gen.hostOps0_41)))))))))))))))))

set_option maxHeartbeats 40000000 in
/-- The pairs that hold ahead of each stretch carry over to those that hold after it. -/
theorem carryB4 :
      Carry preB4 preB5 (kerB4 (F := F)) refB4 := by
  apply Carry.of
  · repeat (first | exact Line.nil | (apply Line.cons; first
      | ((with_reducible apply step_nullary); (conv_lhs => whnf); exact HEq.rfl; exact HEq.rfl)
      | ((with_reducible apply step_unary); (conv_lhs => whnf); (conv_lhs => whnf); rfl; rfl; exact HEq.rfl; exact HEq.rfl)
      | ((with_reducible apply step_binary); (conv_lhs => whnf); (conv_lhs => whnf); (conv_lhs => whnf); rfl; rfl; rfl
         exact HEq.rfl; exact HEq.rfl)
      | ((with_reducible apply step_ternary); (conv_lhs => whnf); (conv_lhs => whnf); (conv_lhs => whnf); (conv_lhs => whnf)
         rfl; rfl; rfl; rfl; exact HEq.rfl; exact HEq.rfl)
      | ((with_reducible apply step_nary3); (intro u u' h0 h1 h2); exact concat3_same h0 h1 h2)
      | ((with_reducible apply step_reshape); (conv_lhs => whnf); (conv_lhs => whnf); rfl; rfl)
      | exact tstep_nullary _ _ _
      | exact tstep_unary _ _ _ _ _
      | exact tstep_binary _ _ _ _ _ _ _
      | exact tstep_ternary _ _ _ _ _ _ _ _ _
      | exact tstep_reshape _ _ _ _ _ _
      | exact tstep_unaryIndexed3 _ _ _ _ _ _ _ _ _ _ _
      | exact tstep_binaryIndexed3 _ _ _ _ _ _ _ _ _ _ _ _ _))
  · decide +kernel

end Cert.Proof.Pairs

end
-- ==== Proof.LineB5.lean ====
module

public import proofs.«01_k».proof.Proof.Pairs

/-! # The longest stretch -/

@[expose] public section

set_option maxRecDepth 8056

noncomputable section

namespace Cert.Proof.Pairs

open Idealize.ShloMosaic Idealize.ShloMosaic.TcCoe Cert.Proof.Lockstep

variable {F : FTy → Type} [FloatOps F]

/-- The longest stretch, from the attention to the convolution: the kernel's operations there. -/
abbrev kerB5 : List (HloOp KernelIdeal.τ KernelIdeal.sig (Elt F)) :=
  KernelIdeal.Gen.hostOps1_40

/-- The same stretch of the reference. -/
abbrev refB5 : List (HloOp ReferenceIdeal.τ ReferenceIdeal.sig (Elt F)) :=
  ReferenceIdeal.Gen.hostOps0_42

set_option maxHeartbeats 40000000 in
/-- The pairs that hold ahead of each stretch carry over to those that hold after it. -/
theorem carryB5 :
      Carry preB5 preB6 (kerB5 (F := F)) refB5 := by
  apply Carry.of
  · repeat (first | exact Line.nil | (apply Line.cons; first
      | ((with_reducible apply step_nullary); (conv_lhs => whnf); exact HEq.rfl; exact HEq.rfl)
      | ((with_reducible apply step_unary); (conv_lhs => whnf); (conv_lhs => whnf); rfl; rfl; exact HEq.rfl; exact HEq.rfl)
      | ((with_reducible apply step_binary); (conv_lhs => whnf); (conv_lhs => whnf); (conv_lhs => whnf); rfl; rfl; rfl
         exact HEq.rfl; exact HEq.rfl)
      | ((with_reducible apply step_ternary); (conv_lhs => whnf); (conv_lhs => whnf); (conv_lhs => whnf); (conv_lhs => whnf)
         rfl; rfl; rfl; rfl; exact HEq.rfl; exact HEq.rfl)
      | ((with_reducible apply step_nary3); (intro u u' h0 h1 h2); exact concat3_same h0 h1 h2)
      | ((with_reducible apply step_reshape); (conv_lhs => whnf); (conv_lhs => whnf); rfl; rfl)
      | exact tstep_nullary _ _ _
      | exact tstep_unary _ _ _ _ _
      | exact tstep_binary _ _ _ _ _ _ _
      | exact tstep_ternary _ _ _ _ _ _ _ _ _
      | exact tstep_reshape _ _ _ _ _ _
      | exact tstep_unaryIndexed3 _ _ _ _ _ _ _ _ _ _ _
      | exact tstep_binaryIndexed3 _ _ _ _ _ _ _ _ _ _ _ _ _))
  · decide +kernel

end Cert.Proof.Pairs

end
-- ==== Proof.LineB6.lean ====
module

public import proofs.«01_k».proof.Proof.Pairs

/-! # The convolution's end, the way into the loop and the way out -/

@[expose] public section

set_option maxRecDepth 8056

noncomputable section

namespace Cert.Proof.Pairs

open Idealize.ShloMosaic Idealize.ShloMosaic.TcCoe Cert.Proof.Lockstep

variable {F : FTy → Type} [FloatOps F]

/-- The end of the convolution, up to the operands of the second product: the kernel's operations there. -/
abbrev kerB6 : List (HloOp KernelIdeal.τ KernelIdeal.sig (Elt F)) :=
  KernelIdeal.Gen.hostOps1_41 ++ ((KernelIdeal.Gen.hostOps1_42.take 21))

/-- The same stretch of the reference. -/
abbrev refB6 : List (HloOp ReferenceIdeal.τ ReferenceIdeal.sig (Elt F)) :=
  ReferenceIdeal.Gen.hostOps0_43 ++ ((ReferenceIdeal.Gen.hostOps0_44.take 21))

/-- The rows of the expert layer laid out by blocks: the kernel's operations there. -/
abbrev kerD0 : List (HloOp KernelIdeal.τ KernelIdeal.sig (Elt F)) :=
  (KernelIdeal.Gen.hostOps3.take 1)

/-- The same stretch of the reference. -/
abbrev refD0 : List (HloOp ReferenceIdeal.τ ReferenceIdeal.sig (Elt F)) :=
  (ReferenceIdeal.Gen.hostOps0_46.take 1)

/-- The first operations ahead of the loop: the kernel's operations there. -/
abbrev kerD1 : List (HloOp KernelIdeal.τ KernelIdeal.sig (Elt F)) :=
  ((KernelIdeal.Gen.hostOps3.drop 2).take 4)

/-- The same stretch of the reference. -/
abbrev refD1 : List (HloOp ReferenceIdeal.τ ReferenceIdeal.sig (Elt F)) :=
  ((ReferenceIdeal.Gen.hostOps0_46.drop 1).take 4)

/-- The last operations ahead of the loop: the kernel's operations there. -/
abbrev kerD2 : List (HloOp KernelIdeal.τ KernelIdeal.sig (Elt F)) :=
  (KernelIdeal.Gen.hostOps3.drop 7)

/-- The same stretch of the reference. -/
abbrev refD2 : List (HloOp ReferenceIdeal.τ ReferenceIdeal.sig (Elt F)) :=
  (ReferenceIdeal.Gen.hostOps0_46.drop 6)

/-- What follows the loop: the kernel's operations there. -/
abbrev kerF : List (HloOp KernelIdeal.τ KernelIdeal.sig (Elt F)) :=
  KernelIdeal.Gen.hostOps3_1

/-- The same stretch of the reference. -/
abbrev refF : List (HloOp ReferenceIdeal.τ ReferenceIdeal.sig (Elt F)) :=
  ReferenceIdeal.Gen.hostOps0_47

set_option maxHeartbeats 40000000 in
/-- The pairs that hold ahead of each stretch carry over to those that hold after it. -/
theorem carryB6 :
      Carry preB6 postB6 (kerB6 (F := F)) refB6 ∧
      Carry preD0 preD1 (kerD0 (F := F)) refD0 ∧
      Carry preD1 preD2 (kerD1 (F := F)) refD1 ∧
      Carry preD2 preE0 (kerD2 (F := F)) refD2 ∧
      Carry preF postF (kerF (F := F)) refF := by
  refine ⟨?_, ?_, ?_, ?_, ?_⟩ <;>
  · apply Carry.of
    · repeat (first | exact Line.nil | (apply Line.cons; first
        | ((with_reducible apply step_nullary); (conv_lhs => whnf); exact HEq.rfl; exact HEq.rfl)
        | ((with_reducible apply step_unary); (conv_lhs => whnf); (conv_lhs => whnf); rfl; rfl; exact HEq.rfl; exact HEq.rfl)
        | ((with_reducible apply step_binary); (conv_lhs => whnf); (conv_lhs => whnf); (conv_lhs => whnf); rfl; rfl; rfl
           exact HEq.rfl; exact HEq.rfl)
        | ((with_reducible apply step_ternary); (conv_lhs => whnf); (conv_lhs => whnf); (conv_lhs => whnf); (conv_lhs => whnf)
           rfl; rfl; rfl; rfl; exact HEq.rfl; exact HEq.rfl)
        | ((with_reducible apply step_nary3); (intro u u' h0 h1 h2); exact concat3_same h0 h1 h2)
        | ((with_reducible apply step_reshape); (conv_lhs => whnf); (conv_lhs => whnf); rfl; rfl)
        | exact tstep_nullary _ _ _
        | exact tstep_unary _ _ _ _ _
        | exact tstep_binary _ _ _ _ _ _ _
        | exact tstep_ternary _ _ _ _ _ _ _ _ _
        | exact tstep_reshape _ _ _ _ _ _
        | exact tstep_unaryIndexed3 _ _ _ _ _ _ _ _ _ _ _
        | exact tstep_binaryIndexed3 _ _ _ _ _ _ _ _ _ _ _ _ _))
    · decide +kernel

end Cert.Proof.Pairs

end
-- ==== Proof.LineE.lean ====
module

public import proofs.«01_k».proof.Proof.Pairs

/-! # One trip of the loop -/

@[expose] public section

set_option maxRecDepth 8056

noncomputable section

namespace Cert.Proof.Pairs

open Idealize.ShloMosaic Idealize.ShloMosaic.TcCoe Cert.Proof.Lockstep

variable {F : FTy → Type} [FloatOps F]

/-- The slice of rows a trip takes: the kernel's operations there. -/
abbrev kerE0 : List (HloOp KernelIdeal.τ KernelIdeal.sig (Elt F)) :=
  KernelIdeal.Gen.while0Ops0

/-- The same stretch of the reference. -/
abbrev refE0 : List (HloOp ReferenceIdeal.τ ReferenceIdeal.sig (Elt F)) :=
  ReferenceIdeal.Gen.while0Ops0

/-- What follows the product of a trip: the kernel's operations there. -/
abbrev kerE1 : List (HloOp KernelIdeal.τ KernelIdeal.sig (Elt F)) :=
  KernelIdeal.Gen.while0Ops0_2 ++ (KernelIdeal.Gen.while0Ops0_3 ++ (KernelIdeal.Gen.while0Ops0_4 ++ (KernelIdeal.Gen.while0Ops0_5 ++ KernelIdeal.Gen.while0Ops0_6)))

/-- The same stretch of the reference. -/
abbrev refE1 : List (HloOp ReferenceIdeal.τ ReferenceIdeal.sig (Elt F)) :=
  (ReferenceIdeal.Gen.while0Ops0_1.drop 1) ++ (ReferenceIdeal.Gen.while0Ops0_2 ++ (ReferenceIdeal.Gen.while0Ops0_3 ++ (ReferenceIdeal.Gen.while0Ops0_4 ++ ReferenceIdeal.Gen.while0Ops0_5)))

set_option maxHeartbeats 40000000 in
/-- The pairs that hold ahead of each stretch carry over to those that hold after it. -/
theorem carryE :
      Carry preE0 postE0 (kerE0 (F := F)) refE0 ∧
      Carry preE1 preE0 (kerE1 (F := F)) refE1 := by
  refine ⟨?_, ?_⟩ <;>
  · apply Carry.of
    · repeat (first | exact Line.nil | (apply Line.cons; first
        | ((with_reducible apply step_nullary); (conv_lhs => whnf); exact HEq.rfl; exact HEq.rfl)
        | ((with_reducible apply step_unary); (conv_lhs => whnf); (conv_lhs => whnf); rfl; rfl; exact HEq.rfl; exact HEq.rfl)
        | ((with_reducible apply step_binary); (conv_lhs => whnf); (conv_lhs => whnf); (conv_lhs => whnf); rfl; rfl; rfl
           exact HEq.rfl; exact HEq.rfl)
        | ((with_reducible apply step_ternary); (conv_lhs => whnf); (conv_lhs => whnf); (conv_lhs => whnf); (conv_lhs => whnf)
           rfl; rfl; rfl; rfl; exact HEq.rfl; exact HEq.rfl)
        | ((with_reducible apply step_nary3); (intro u u' h0 h1 h2); exact concat3_same h0 h1 h2)
        | ((with_reducible apply step_reshape); (conv_lhs => whnf); (conv_lhs => whnf); rfl; rfl)
        | exact tstep_nullary _ _ _
        | exact tstep_unary _ _ _ _ _
        | exact tstep_binary _ _ _ _ _ _ _
        | exact tstep_ternary _ _ _ _ _ _ _ _ _
        | exact tstep_reshape _ _ _ _ _ _
        | exact tstep_unaryIndexed3 _ _ _ _ _ _ _ _ _ _ _
        | exact tstep_binaryIndexed3 _ _ _ _ _ _ _ _ _ _ _ _ _))
    · decide +kernel

end Cert.Proof.Pairs

end
-- ==== Proof.SeamsKer.lean ====
/-
  THE SEAMS, THE KERNEL'S SIDE: the operations it has where the two programs differ, where they sit in its own lists, and what they
  leave. Around each call it flattens the rows, pads and rounds the weight, calls, and lays the product out again.
-/
module

public import proofs.«01_k».proof.Proof.Gen.KernelIdeal.Launch

@[expose] public section

noncomputable section

namespace Cert.Proof.Seams.Ker

open Cert.KernelIdeal Cert.KernelIdeal.Gen

open Idealize.ShloMosaic
open Idealize.ShloMosaic.TcCoe
open Idealize.ShloMosaic.StableHlo (after after_cons after_nil)

variable {F : FTy → Type} [FloatOps F]

/-- Ahead of the first call. -/
abbrev in0 : List (HloOp τ sig (Elt F)) :=
  [ StableHlo.reshape main_v57 main_v58 (rfl : (.f32 : EltTy) = .f32) shapeCasts_S128x4x1024_S512x1024,
    StableHlo.nullary main_c (constantI S_ 32 0#32),
    StableHlo.unary main_c main_call1_v0 ((sitofp .f32) : (⟨S_, .i32⟩ : BufTy).Contents (Elt F) → (⟨S_, .f32⟩ : BufTy).Contents (Elt F)),
    StableHlo.binary main_v3 main_call1_v0 main_v59 ((fun x v => pad S1024x2432 ![0, 0] ![0, 104] ![0, 0] x v pads_S1024x2328_S1024x2432_000_01040 h_S_) : (⟨S1024x2328, .f32⟩ : BufTy).Contents (Elt F) → (⟨S_, .f32⟩ : BufTy).Contents (Elt F) → (⟨S1024x2432, .f32⟩ : BufTy).Contents (Elt F)),
    StableHlo.unary main_v59 main_v60 ((truncf .bf16 · bitsLt_bf16_f32) : (⟨S1024x2432, .f32⟩ : BufTy).Contents (Elt F) → (⟨S1024x2432, .bf16⟩ : BufTy).Contents (Elt F)) ]
abbrev in0_W : List (Ref sig .tc) := [main_v58, main_c, main_call1_v0, main_v59, main_v60]
theorem in0_writes : (in0 : List (HloOp τ sig (Elt F))).Forall fun op => op.writes ⊆ (in0_W.map (Proc.devRef (τ := τ) .tc)).toFinset :=
  StableHlo.forall_writes_sub_of_map rfl
/-- After it. -/
abbrev out0 : List (HloOp τ sig (Elt F)) :=
  [ StableHlo.unary main_v61 main_v62 ((extractStridedSlice S512x2328 ![0, 0] · slices_S512x2432_S512x2328_0_0) : (⟨S512x2432, .f32⟩ : BufTy).Contents (Elt F) → (⟨S512x2328, .f32⟩ : BufTy).Contents (Elt F)),
    StableHlo.reshape main_v62 main_v63 (rfl : (.f32 : EltTy) = .f32) shapeCasts_S512x2328_S128x4x2328 ]
abbrev out0_W : List (Ref sig .tc) := [main_v62, main_v63]
theorem out0_writes : (out0 : List (HloOp τ sig (Elt F))).Forall fun op => op.writes ⊆ (out0_W.map (Proc.devRef (τ := τ) .tc)).toFinset :=
  StableHlo.forall_writes_sub_of_map rfl
/-- Ahead of the second call. -/
abbrev in1 : List (HloOp τ sig (Elt F)) :=
  [ StableHlo.reshape main_v893 main_v894 (rfl : (.f32 : EltTy) = .f32) shapeCasts_S128x4x1024_S512x1024,
    StableHlo.nullary main_c_138 (constantI S_ 32 0#32),
    StableHlo.unary main_c_138 main_call23_v0 ((sitofp .f32) : (⟨S_, .i32⟩ : BufTy).Contents (Elt F) → (⟨S_, .f32⟩ : BufTy).Contents (Elt F)),
    StableHlo.binary main_v17 main_call23_v0 main_v895 ((fun x v => pad S1024x1024 ![0, 0] ![0, 0] ![0, 0] x v pads_S1024x1024_S1024x1024_000_000 h_S_) : (⟨S1024x1024, .f32⟩ : BufTy).Contents (Elt F) → (⟨S_, .f32⟩ : BufTy).Contents (Elt F) → (⟨S1024x1024, .f32⟩ : BufTy).Contents (Elt F)),
    StableHlo.unary main_v895 main_v896 ((truncf .bf16 · bitsLt_bf16_f32) : (⟨S1024x1024, .f32⟩ : BufTy).Contents (Elt F) → (⟨S1024x1024, .bf16⟩ : BufTy).Contents (Elt F)) ]
abbrev in1_W : List (Ref sig .tc) := [main_v894, main_c_138, main_call23_v0, main_v895, main_v896]
theorem in1_writes : (in1 : List (HloOp τ sig (Elt F))).Forall fun op => op.writes ⊆ (in1_W.map (Proc.devRef (τ := τ) .tc)).toFinset :=
  StableHlo.forall_writes_sub_of_map rfl
/-- After it. -/
abbrev out1 : List (HloOp τ sig (Elt F)) :=
  [ StableHlo.reshape main_v897 main_v898 (rfl : (.f32 : EltTy) = .f32) shapeCasts_S512x1024_S128x4x1024 ]
abbrev out1_W : List (Ref sig .tc) := [main_v898]
theorem out1_writes : (out1 : List (HloOp τ sig (Elt F))).Forall fun op => op.writes ⊆ (out1_W.map (Proc.devRef (τ := τ) .tc)).toFinset :=
  StableHlo.forall_writes_sub_of_map rfl
/-- Ahead of the third call. -/
abbrev in2 : List (HloOp τ sig (Elt F)) :=
  [ StableHlo.nullary main_c_143 (constantI S_ 32 0#32),
    StableHlo.unary main_c_143 main_call24_v0 ((sitofp .f32) : (⟨S_, .i32⟩ : BufTy).Contents (Elt F) → (⟨S_, .f32⟩ : BufTy).Contents (Elt F)),
    StableHlo.binary main_v19 main_call24_v0 main_v922 ((fun x v => pad S1024x2048 ![0, 0] ![0, 0] ![0, 0] x v pads_S1024x2048_S1024x2048_000_000 h_S_) : (⟨S1024x2048, .f32⟩ : BufTy).Contents (Elt F) → (⟨S_, .f32⟩ : BufTy).Contents (Elt F) → (⟨S1024x2048, .f32⟩ : BufTy).Contents (Elt F)),
    StableHlo.unary main_v922 main_v923 ((truncf .bf16 · bitsLt_bf16_f32) : (⟨S1024x2048, .f32⟩ : BufTy).Contents (Elt F) → (⟨S1024x2048, .bf16⟩ : BufTy).Contents (Elt F)) ]
abbrev in2_W : List (Ref sig .tc) := [main_c_143, main_call24_v0, main_v922, main_v923]
theorem in2_writes : (in2 : List (HloOp τ sig (Elt F))).Forall fun op => op.writes ⊆ (in2_W.map (Proc.devRef (τ := τ) .tc)).toFinset :=
  StableHlo.forall_writes_sub_of_map rfl
/-- After it. -/
abbrev out2 : List (HloOp τ sig (Elt F)) :=
  [ StableHlo.reshape main_v924 main_v926 (rfl : (.f32 : EltTy) = .f32) shapeCasts_S512x2048_S2x256x2048 ]
abbrev out2_W : List (Ref sig .tc) := [main_v926]
theorem out2_writes : (out2 : List (HloOp τ sig (Elt F))).Forall fun op => op.writes ⊆ (out2_W.map (Proc.devRef (τ := τ) .tc)).toFinset :=
  StableHlo.forall_writes_sub_of_map rfl
/-- The third product carried into the loop. -/
abbrev car2 : List (HloOp τ sig (Elt F)) :=
  [ StableHlo.unary main_v926 main_v928_1 ((id) : (⟨S2x256x2048, .f32⟩ : BufTy).Contents (Elt F) → (⟨S2x256x2048, .f32⟩ : BufTy).Contents (Elt F)) ]
abbrev car2_W : List (Ref sig .tc) := [main_v928_1]
theorem car2_writes : (car2 : List (HloOp τ sig (Elt F))).Forall fun op => op.writes ⊆ (car2_W.map (Proc.devRef (τ := τ) .tc)).toFinset :=
  StableHlo.forall_writes_sub_of_map rfl
/-! Where these lists sit in the program's own. -/

theorem in0_eq : ((hostOps0_2.drop 34) ++ (hostOps0_3 ++ hostOps0_4) : List (HloOp τ sig (Elt F))) = in0 := rfl
theorem out0_eq : (hostOps1.take 2 : List (HloOp τ sig (Elt F))) = out0 := rfl
theorem in1_eq : ((hostOps1_42.drop 21) ++ (hostOps1_43 ++ hostOps1_44) : List (HloOp τ sig (Elt F))) = in1 := rfl
theorem out1_eq : (hostOps2.take 1 : List (HloOp τ sig (Elt F))) = out1 := rfl
theorem in2_eq : ((hostOps2.drop 28) ++ (hostOps2_1 ++ hostOps2_2) : List (HloOp τ sig (Elt F))) = in2 := rfl
theorem hostOps3_eq : (hostOps3 : List (HloOp τ sig (Elt F))) = hostOps3.take 1 ++ (out2 ++ ((hostOps3.drop 2).take 4 ++ (car2 ++ hostOps3.drop 7))) := rfl

/-! What they leave. -/

theorem in0_rows (V : Valuation τ sig (Elt F)) : after in0 V (Proc.devRef .tc main_v58)
    = shapeCast S512x1024 (V (Proc.devRef .tc main_v57)) shapeCasts_S128x4x1024_S512x1024 := by
  after_results
  rfl
theorem in0_weight (V : Valuation τ sig (Elt F)) : after in0 V (Proc.devRef .tc main_v60)
    = truncf .bf16 (pad S1024x2432 ![0, 0] ![0, 104] ![0, 0] (V (Proc.devRef .tc main_v3)) (sitofp .f32 (constantI S_ 32 0#32))
        pads_S1024x2328_S1024x2432_000_01040 h_S_) bitsLt_bf16_f32 := by
  after_results
theorem out0_res (V : Valuation τ sig (Elt F)) : after out0 V (Proc.devRef .tc main_v63)
    = shapeCast S128x4x2328 (extractStridedSlice S512x2328 ![0, 0] (V (Proc.devRef .tc main_v61)) slices_S512x2432_S512x2328_0_0)
        shapeCasts_S512x2328_S128x4x2328 := by
  after_results
  rfl
theorem in1_rows (V : Valuation τ sig (Elt F)) : after in1 V (Proc.devRef .tc main_v894)
    = shapeCast S512x1024 (V (Proc.devRef .tc main_v893)) shapeCasts_S128x4x1024_S512x1024 := by
  after_results
  rfl
theorem in1_weight (V : Valuation τ sig (Elt F)) : after in1 V (Proc.devRef .tc main_v896)
    = truncf .bf16 (pad S1024x1024 ![0, 0] ![0, 0] ![0, 0] (V (Proc.devRef .tc main_v17)) (sitofp .f32 (constantI S_ 32 0#32))
        pads_S1024x1024_S1024x1024_000_000 h_S_) bitsLt_bf16_f32 := by
  after_results
theorem out1_res (V : Valuation τ sig (Elt F)) : after out1 V (Proc.devRef .tc main_v898)
    = shapeCast S128x4x1024 (V (Proc.devRef .tc main_v897)) shapeCasts_S512x1024_S128x4x1024 := by
  after_results
  rfl
theorem in2_rows (V : Valuation τ sig (Elt F)) : after in2 V (Proc.devRef .tc main_v921) = V (Proc.devRef .tc main_v921) := by
  after_results
theorem in2_weight (V : Valuation τ sig (Elt F)) : after in2 V (Proc.devRef .tc main_v923)
    = truncf .bf16 (pad S1024x2048 ![0, 0] ![0, 0] ![0, 0] (V (Proc.devRef .tc main_v19)) (sitofp .f32 (constantI S_ 32 0#32))
        pads_S1024x2048_S1024x2048_000_000 h_S_) bitsLt_bf16_f32 := by
  after_results
theorem loop_res (V : Valuation τ sig (Elt F)) : after hostOps3 V (Proc.devRef .tc main_v928_1)
    = shapeCast S2x256x2048 (V (Proc.devRef .tc main_v924)) shapeCasts_S512x2048_S2x256x2048 := by
  after_results
  rfl
/-- The start of a trip's slice: the counter's row of blocks, from the first row and column. -/
abbrev start (V : Valuation τ sig (Elt F)) : Fin 3 → Int :=
  fun k => ((![V (Proc.devRef .tc main_v928_5), constantI S_ 32 0#32, constantI S_ 32 0#32] : Fin 3 → IVec S_ 32) k (Shape.Idx.first h_S_)).toInt
theorem slice_res (V : Valuation τ sig (Elt F)) : after while0Ops0_1 V (Proc.devRef .tc main_while0b_v939)
    = shapeCast S256x2048 (Host.dynamicSlice S1x256x2048 (V (Proc.devRef .tc main_v928_1)) (start V) sliceFits_S2x256x2048_S1x256x2048)
        shapeCasts_S1x256x2048_S256x2048 := by
  have skip : ∀ (W : Valuation τ sig (Elt F)) (r : Ref sig .tc), r ≠ main_while0b_call26_c → (StableHlo.TRef.nullary (τ := τ) (Val := Elt F) (.of main_while0b_call26_c : StableHlo.TRef sig ⟨S_, .i32⟩) (constantI S_ 32 0#32)).result W (Proc.devRef .tc r) = W (Proc.devRef .tc r) :=
    fun W r h => StableHlo.nullary_result_ne _ _ _ W h
  have skip' : ∀ (W : Valuation τ sig (Elt F)) (r : Ref sig .tc), r ≠ main_while0b_call26_c_0 → (StableHlo.TRef.nullary (τ := τ) (Val := Elt F) (.of main_while0b_call26_c_0 : StableHlo.TRef sig ⟨S_, .i32⟩) (constantI S_ 32 0#32)).result W (Proc.devRef .tc r) = W (Proc.devRef .tc r) :=
    fun W r h => StableHlo.nullary_result_ne _ _ _ W h
  have zero : ∀ W : Valuation τ sig (Elt F), (StableHlo.TRef.nullary (τ := τ) (Val := Elt F) (.of main_while0b_call26_c : StableHlo.TRef sig ⟨S_, .i32⟩) (constantI S_ 32 0#32)).result W (Proc.devRef .tc main_while0b_call26_c) = (constantI S_ 32 0#32 : IVec S_ 32) :=
    fun W => StableHlo.nullary_result _ _ _ W
  have zero' : ∀ W : Valuation τ sig (Elt F), (StableHlo.TRef.nullary (τ := τ) (Val := Elt F) (.of main_while0b_call26_c_0 : StableHlo.TRef sig ⟨S_, .i32⟩) (constantI S_ 32 0#32)).result W (Proc.devRef .tc main_while0b_call26_c_0) = (constantI S_ 32 0#32 : IVec S_ 32) :=
    fun W => StableHlo.nullary_result _ _ _ W
  simp only [after_cons, after_nil]
  rw [StableHlo.reshape_result, StableHlo.unaryIndexed_result]
  refine congrArg (fun w => shapeCast S256x2048 w shapeCasts_S1x256x2048_S256x2048)
    (congrArg₂ (fun x s => Host.dynamicSlice S1x256x2048 x s sliceFits_S2x256x2048_S1x256x2048) ?_ (funext fun k => ?_))
  · exact (skip' _ main_v928_1 (by decide)).trans (skip _ main_v928_1 (by decide))
  · fin_cases k
    · exact congrArg (fun w : IVec S_ 32 => (w (Shape.Idx.first h_S_)).toInt)
        ((skip' _ main_v928_5 (by decide)).trans (skip _ main_v928_5 (by decide)))
    · exact congrArg (fun w : IVec S_ 32 => (w (Shape.Idx.first h_S_)).toInt)
        ((skip' _ main_while0b_call26_c (by decide)).trans (zero _))
    · exact congrArg (fun w : IVec S_ 32 => (w (Shape.Idx.first h_S_)).toInt) (zero' _)

end Cert.Proof.Seams.Ker

end
-- ==== Proof.SeamsRef.lean ====
/-
  THE SEAMS, THE REFERENCE'S SIDE: the operations it has where the two programs differ, where they sit in its own lists, and what they
  leave. Each product is one operation.
-/
module

public import proofs.«01_k».proof.Proof.Gen.ReferenceIdeal.Run

@[expose] public section

noncomputable section

namespace Cert.Proof.Seams.Rf

open Cert.ReferenceIdeal Cert.ReferenceIdeal.Gen

open Idealize.ShloMosaic
open Idealize.ShloMosaic.TcCoe
open Idealize.ShloMosaic.StableHlo (after after_cons after_nil)

variable {F : FTy → Type} [FloatOps F]

/-- The scalars nobody reads, ahead of the first product. -/
abbrev spare : List (HloOp τ sig (Elt F)) := (hostOps0_2.drop 34).take 7
abbrev spare_W : List (Ref sig .tc) := [main_v58, main_v59, main_v60, main_v61, main_v62, main_v63, main_v64]
theorem spare_writes : (spare : List (HloOp τ sig (Elt F))).Forall fun op => op.writes ⊆ (spare_W.map (Proc.devRef (τ := τ) .tc)).toFinset :=
  StableHlo.forall_writes_sub_of_map rfl
/-- The first product. -/
abbrev prod0 : List (HloOp τ sig (Elt F)) :=
  [ StableHlo.binary main_v57 main_v3 main_v65 ((fun l r => Host.dotGeneral dot_S128x4x1024_S1024x2328_S128x4x2328_2_0_01_1_n_n none l r) : (⟨S128x4x1024, .f32⟩ : BufTy).Contents (Elt F) → (⟨S1024x2328, .f32⟩ : BufTy).Contents (Elt F) → (⟨S128x4x2328, .f32⟩ : BufTy).Contents (Elt F)) ]
abbrev prod0_W : List (Ref sig .tc) := [main_v65]
theorem prod0_writes : (prod0 : List (HloOp τ sig (Elt F))).Forall fun op => op.writes ⊆ (prod0_W.map (Proc.devRef (τ := τ) .tc)).toFinset :=
  StableHlo.forall_writes_sub_of_map rfl
/-- The scalars nobody reads, ahead of the second product. -/
abbrev spare1 : List (HloOp τ sig (Elt F)) := (hostOps0_44.drop 21).take 6
abbrev spare1_W : List (Ref sig .tc) := [main_v896, main_v897, main_v898, main_v899, main_v900, main_v901]
theorem spare1_writes : (spare1 : List (HloOp τ sig (Elt F))).Forall fun op => op.writes ⊆ (spare1_W.map (Proc.devRef (τ := τ) .tc)).toFinset :=
  StableHlo.forall_writes_sub_of_map rfl
/-- The second product. -/
abbrev prod1 : List (HloOp τ sig (Elt F)) :=
  [ StableHlo.binary main_v895 main_v17 main_v902 ((fun l r => Host.dotGeneral dot_S128x4x1024_S1024x1024_S128x4x1024_2_0_01_1_n_n none l r) : (⟨S128x4x1024, .f32⟩ : BufTy).Contents (Elt F) → (⟨S1024x1024, .f32⟩ : BufTy).Contents (Elt F) → (⟨S128x4x1024, .f32⟩ : BufTy).Contents (Elt F)) ]
abbrev prod1_W : List (Ref sig .tc) := [main_v902]
theorem prod1_writes : (prod1 : List (HloOp τ sig (Elt F))).Forall fun op => op.writes ⊆ (prod1_W.map (Proc.devRef (τ := τ) .tc)).toFinset :=
  StableHlo.forall_writes_sub_of_map rfl
/-- The scalars nobody reads, ahead of the expert layer. -/
abbrev spare2 : List (HloOp τ sig (Elt F)) := (hostOps0_44.drop 55).take 6
abbrev spare2_W : List (Ref sig .tc) := [main_v926, main_v927, main_v928, main_v929, main_v930, main_v931]
theorem spare2_writes : (spare2 : List (HloOp τ sig (Elt F))).Forall fun op => op.writes ⊆ (spare2_W.map (Proc.devRef (τ := τ) .tc)).toFinset :=
  StableHlo.forall_writes_sub_of_map rfl
/-- The rows of the expert layer, padded by nothing. -/
abbrev rows2 : List (HloOp τ sig (Elt F)) :=
  [ StableHlo.nullary main_c_141 (constantI S_ 32 0#32),
    StableHlo.unary main_c_141 main_call22_v0 ((sitofp .f32) : (⟨S_, .i32⟩ : BufTy).Contents (Elt F) → (⟨S_, .f32⟩ : BufTy).Contents (Elt F)),
    StableHlo.binary main_v925 main_call22_v0 main_v932 ((fun x v => pad S512x1024 ![0, 0] ![0, 0] ![0, 0] x v pads_S512x1024_S512x1024_000_000 h_S_) : (⟨S512x1024, .f32⟩ : BufTy).Contents (Elt F) → (⟨S_, .f32⟩ : BufTy).Contents (Elt F) → (⟨S512x1024, .f32⟩ : BufTy).Contents (Elt F)) ]
abbrev rows2_W : List (Ref sig .tc) := [main_c_141, main_call22_v0, main_v932]
theorem rows2_writes : (rows2 : List (HloOp τ sig (Elt F))).Forall fun op => op.writes ⊆ (rows2_W.map (Proc.devRef (τ := τ) .tc)).toFinset :=
  StableHlo.forall_writes_sub_of_map rfl
/-- The query weight carried into the loop. -/
abbrev car2 : List (HloOp τ sig (Elt F)) :=
  [ StableHlo.unary main_v19 main_v935_1 ((id) : (⟨S1024x2048, .f32⟩ : BufTy).Contents (Elt F) → (⟨S1024x2048, .f32⟩ : BufTy).Contents (Elt F)) ]
abbrev car2_W : List (Ref sig .tc) := [main_v935_1]
theorem car2_writes : (car2 : List (HloOp τ sig (Elt F))).Forall fun op => op.writes ⊆ (car2_W.map (Proc.devRef (τ := τ) .tc)).toFinset :=
  StableHlo.forall_writes_sub_of_map rfl
/-- A trip's product. -/
abbrev prod2 : List (HloOp τ sig (Elt F)) :=
  [ StableHlo.binary main_while0b_v945 main_v935_1 main_while0b_v946 ((fun l r => Host.dotGeneral dot_S256x1024_S1024x2048_S256x2048_1_0_0_1_n_n none l r) : (⟨S256x1024, .f32⟩ : BufTy).Contents (Elt F) → (⟨S1024x2048, .f32⟩ : BufTy).Contents (Elt F) → (⟨S256x2048, .f32⟩ : BufTy).Contents (Elt F)) ]
abbrev prod2_W : List (Ref sig .tc) := [main_while0b_v946]
theorem prod2_writes : (prod2 : List (HloOp τ sig (Elt F))).Forall fun op => op.writes ⊆ (prod2_W.map (Proc.devRef (τ := τ) .tc)).toFinset :=
  StableHlo.forall_writes_sub_of_map rfl

/-! Where these lists sit in the program's own. -/

theorem prod0_eq : ((hostOps0_2.drop 41).take 1 : List (HloOp τ sig (Elt F))) = prod0 := rfl
theorem prod1_eq : ((hostOps0_44.drop 27).take 1 : List (HloOp τ sig (Elt F))) = prod1 := rfl
theorem rows2_eq : ((hostOps0_44.drop 61) ++ hostOps0_45 : List (HloOp τ sig (Elt F))) = rows2 := rfl
theorem prod2_eq : (while0Ops0_1.take 1 : List (HloOp τ sig (Elt F))) = prod2 := rfl
theorem hostOps0_46_eq : (hostOps0_46 : List (HloOp τ sig (Elt F))) = hostOps0_46.take 1 ++ ((hostOps0_46.drop 1).take 4 ++ (car2 ++ hostOps0_46.drop 6)) := rfl

/-! What they leave. -/

theorem prod0_res (V : Valuation τ sig (Elt F)) : after prod0 V (Proc.devRef .tc main_v65)
    = Host.dotGeneral dot_S128x4x1024_S1024x2328_S128x4x2328_2_0_01_1_n_n none (V (Proc.devRef .tc main_v57)) (V (Proc.devRef .tc main_v3)) := by
  after_results
theorem prod1_res (V : Valuation τ sig (Elt F)) : after prod1 V (Proc.devRef .tc main_v902)
    = Host.dotGeneral dot_S128x4x1024_S1024x1024_S128x4x1024_2_0_01_1_n_n none (V (Proc.devRef .tc main_v895)) (V (Proc.devRef .tc main_v17)) := by
  after_results
theorem rows2_res (V : Valuation τ sig (Elt F)) : after rows2 V (Proc.devRef .tc main_v932)
    = pad S512x1024 ![0, 0] ![0, 0] ![0, 0] (V (Proc.devRef .tc main_v925)) (sitofp .f32 (constantI S_ 32 0#32)) pads_S512x1024_S512x1024_000_000 h_S_ := by
  after_results
theorem rows2_weight (V : Valuation τ sig (Elt F)) : after rows2 V (Proc.devRef .tc main_v19) = V (Proc.devRef .tc main_v19) := by
  after_results
theorem loop_rows (V : Valuation τ sig (Elt F)) : after hostOps0_46 V (Proc.devRef .tc main_v935_0)
    = shapeCast S2x256x1024 (V (Proc.devRef .tc main_v932)) shapeCasts_S512x1024_S2x256x1024 := by
  after_results
  rfl
theorem loop_weight (V : Valuation τ sig (Elt F)) : after hostOps0_46 V (Proc.devRef .tc main_v935_1) = V (Proc.devRef .tc main_v19) := by
  after_results
  rfl
/-- The start of a trip's slice. -/
abbrev start (V : Valuation τ sig (Elt F)) : Fin 3 → Int :=
  fun k => ((![V (Proc.devRef .tc main_v935_5), constantI S_ 32 0#32, constantI S_ 32 0#32] : Fin 3 → IVec S_ 32) k (Shape.Idx.first h_S_)).toInt
theorem slice_res (V : Valuation τ sig (Elt F)) : after while0Ops0 V (Proc.devRef .tc main_while0b_v945)
    = shapeCast S256x1024 (Host.dynamicSlice S1x256x1024 (V (Proc.devRef .tc main_v935_0)) (start V) sliceFits_S2x256x1024_S1x256x1024)
        shapeCasts_S1x256x1024_S256x1024 := by
  have skip : ∀ (W : Valuation τ sig (Elt F)) (r : Ref sig .tc), r ≠ main_while0b_call23_c → (StableHlo.TRef.nullary (τ := τ) (Val := Elt F) (.of main_while0b_call23_c : StableHlo.TRef sig ⟨S_, .i32⟩) (constantI S_ 32 0#32)).result W (Proc.devRef .tc r) = W (Proc.devRef .tc r) :=
    fun W r h => StableHlo.nullary_result_ne _ _ _ W h
  have skip' : ∀ (W : Valuation τ sig (Elt F)) (r : Ref sig .tc), r ≠ main_while0b_call23_c_0 → (StableHlo.TRef.nullary (τ := τ) (Val := Elt F) (.of main_while0b_call23_c_0 : StableHlo.TRef sig ⟨S_, .i32⟩) (constantI S_ 32 0#32)).result W (Proc.devRef .tc r) = W (Proc.devRef .tc r) :=
    fun W r h => StableHlo.nullary_result_ne _ _ _ W h
  have zero : ∀ W : Valuation τ sig (Elt F), (StableHlo.TRef.nullary (τ := τ) (Val := Elt F) (.of main_while0b_call23_c : StableHlo.TRef sig ⟨S_, .i32⟩) (constantI S_ 32 0#32)).result W (Proc.devRef .tc main_while0b_call23_c) = (constantI S_ 32 0#32 : IVec S_ 32) :=
    fun W => StableHlo.nullary_result _ _ _ W
  have zero' : ∀ W : Valuation τ sig (Elt F), (StableHlo.TRef.nullary (τ := τ) (Val := Elt F) (.of main_while0b_call23_c_0 : StableHlo.TRef sig ⟨S_, .i32⟩) (constantI S_ 32 0#32)).result W (Proc.devRef .tc main_while0b_call23_c_0) = (constantI S_ 32 0#32 : IVec S_ 32) :=
    fun W => StableHlo.nullary_result _ _ _ W
  simp only [after_cons, after_nil]
  rw [StableHlo.reshape_result, StableHlo.unaryIndexed_result]
  refine congrArg (fun w => shapeCast S256x1024 w shapeCasts_S1x256x1024_S256x1024)
    (congrArg₂ (fun x s => Host.dynamicSlice S1x256x1024 x s sliceFits_S2x256x1024_S1x256x1024) ?_ (funext fun k => ?_))
  · exact (skip' _ main_v935_0 (by decide)).trans (skip _ main_v935_0 (by decide))
  · fin_cases k
    · exact congrArg (fun w : IVec S_ 32 => (w (Shape.Idx.first h_S_)).toInt)
        ((skip' _ main_v935_5 (by decide)).trans (skip _ main_v935_5 (by decide)))
    · exact congrArg (fun w : IVec S_ 32 => (w (Shape.Idx.first h_S_)).toInt)
        ((skip' _ main_while0b_call23_c (by decide)).trans (zero _))
    · exact congrArg (fun w : IVec S_ 32 => (w (Shape.Idx.first h_S_)).toInt) (zero' _)
theorem prod2_res (V : Valuation τ sig (Elt F)) : after prod2 V (Proc.devRef .tc main_while0b_v946)
    = Host.dotGeneral dot_S256x1024_S1024x2048_S256x2048_1_0_0_1_n_n none (V (Proc.devRef .tc main_while0b_v945)) (V (Proc.devRef .tc main_v935_1)) := by
  after_results

end Cert.Proof.Seams.Rf

end
-- ==== Proof.Cuts.lean ====
/-
  THE CUTS: either program's lists of operations, cut where the two programs start and stop to do the same.
-/
module

public import proofs.«01_k».proof.Proof.LineA
public import proofs.«01_k».proof.Proof.LineB1
public import proofs.«01_k».proof.Proof.LineB2
public import proofs.«01_k».proof.Proof.LineB3
public import proofs.«01_k».proof.Proof.LineB4
public import proofs.«01_k».proof.Proof.LineB5
public import proofs.«01_k».proof.Proof.LineB6
public import proofs.«01_k».proof.Proof.LineE
public import proofs.«01_k».proof.Proof.SeamsKer
public import proofs.«01_k».proof.Proof.SeamsRef
public import proofs.«01_k».proof.Proof.Items

@[expose] public section

noncomputable section

namespace Cert.Proof.Cuts

open Idealize.ShloMosaic Idealize.ShloMosaic.TcCoe Cert.Proof.Pairs Cert.Proof.Seams
open Idealize.ShloMosaic.StableHlo (after afterL afterL_cons afterL_nil after_append)

section General

variable {τ : Topo} {sig : RefSig} {F : FTy → Type}

theorem after_cut (n : ℕ) (l : List (HloOp τ sig (Elt F))) (V : Valuation τ sig (Elt F)) : after l V = after (l.drop n) (after (l.take n) V) := by
  rw [← after_append, List.take_append_drop]

theorem after_cut' (n k : ℕ) (l : List (HloOp τ sig (Elt F))) (V : Valuation τ sig (Elt F)) :
    after (l.drop n) V = after (l.drop (n + k)) (after ((l.drop n).take k) V) := by
  rw [after_cut k (l.drop n) V, List.drop_drop]

/-- Lists put end to end, nothing added after the last. -/
def cat : List (List (HloOp τ sig (Elt F))) → List (HloOp τ sig (Elt F))
  | [] => []
  | [a] => a
  | a :: b :: ls => a ++ cat (b :: ls)

theorem after_cat : ∀ (ls : List (List (HloOp τ sig (Elt F)))) (V : Valuation τ sig (Elt F)), after (cat ls) V = afterL ls V
  | [], _ => rfl
  | [_], _ => rfl
  | a :: b :: ls, V => by
    rw [afterL_cons, ← after_cat (b :: ls)]
    exact after_append ..

end General

variable {F : FTy → Type} [FloatOps F]

/-! ## The kernel's -/

section Kernel

open Cert.KernelIdeal Cert.KernelIdeal.Gen Cert.Proof.Region

variable (V : Valuation τ sig (Elt F))

theorem ker_A : afterL itemsA V = after Ker.in0 (after kerA V) := by
  rw [← Ker.in0_eq,
    show (kerA : List (HloOp τ sig (Elt F))) = cat [hostOps0, hostOps0_1, hostOps0_2.take 34] from rfl,
    show (hostOps0_2.drop 34 ++ (hostOps0_3 ++ hostOps0_4) : List (HloOp τ sig (Elt F))) = cat [hostOps0_2.drop 34, hostOps0_3, hostOps0_4] from rfl,
    after_cat, after_cat]
  simp only [afterL_cons, afterL_nil]
  rw [← after_cut 34]

theorem ker_B : afterL itemsB V
    = after Ker.in1 (after kerB6 (after kerB5 (after kerB4 (after kerB3 (after kerB2 (after kerB1 (after Ker.out0 V))))))) := by
  rw [← Ker.in1_eq, ← Ker.out0_eq,
    show (hostOps1_42.drop 21 ++ (hostOps1_43 ++ hostOps1_44) : List (HloOp τ sig (Elt F))) = cat [hostOps1_42.drop 21, hostOps1_43, hostOps1_44] from rfl,
    show (kerB6 : List (HloOp τ sig (Elt F))) = cat [hostOps1_41, hostOps1_42.take 21] from rfl,
    show (kerB4 : List (HloOp τ sig (Elt F))) = cat [hostOps1_21, hostOps1_22, hostOps1_23, hostOps1_24, hostOps1_25, hostOps1_26,
      hostOps1_27, hostOps1_28, hostOps1_29, hostOps1_30, hostOps1_31, hostOps1_32, hostOps1_33, hostOps1_34, hostOps1_35, hostOps1_36,
      hostOps1_37, hostOps1_38, hostOps1_39] from rfl,
    show (kerB3 : List (HloOp τ sig (Elt F))) = cat [hostOps1_15, hostOps1_16, hostOps1_17, hostOps1_18, hostOps1_19, hostOps1_20] from rfl,
    show (kerB2 : List (HloOp τ sig (Elt F))) = cat [hostOps1_1, hostOps1_2, hostOps1_3, hostOps1_4, hostOps1_5, hostOps1_6, hostOps1_7,
      hostOps1_8, hostOps1_9, hostOps1_10, hostOps1_11, hostOps1_12, hostOps1_13, hostOps1_14] from rfl]
  simp only [after_cat, afterL_cons, afterL_nil]
  rw [← after_cut 2, ← after_cut 21]

theorem ker_C : afterL itemsC V = after Ker.in2 (after kerC (after Ker.out1 V)) := by
  rw [← Ker.in2_eq, ← Ker.out1_eq,
    show (hostOps2.drop 28 ++ (hostOps2_1 ++ hostOps2_2) : List (HloOp τ sig (Elt F))) = cat [hostOps2.drop 28, hostOps2_1, hostOps2_2] from rfl,
    after_cat]
  simp only [afterL_cons, afterL_nil]
  rw [show after (hostOps2.drop 28) (after kerC (after (hostOps2.take 1) V)) = after hostOps2 V by
    rw [after_cut 1 hostOps2 V]; exact (after_cut' 1 27 hostOps2 _).symm]

theorem ker_D : after hostOps3 V = after kerD2 (after Ker.car2 (after kerD1 (after Ker.out2 (after kerD0 V)))) := by
  conv_lhs => rw [Ker.hostOps3_eq]
  rw [after_append, after_append, after_append, after_append]

theorem ker_E : afterL itemsL V = after kerE1 (after while0Ops0_1 (after kerE0 V)) := by
  rw [show (kerE1 : List (HloOp τ sig (Elt F))) = cat [while0Ops0_2, while0Ops0_3, while0Ops0_4, while0Ops0_5, while0Ops0_6] from rfl, after_cat]
  simp only [afterL_cons, afterL_nil]

end Kernel

/-! ## The reference's -/

section Reference

open Cert.ReferenceIdeal Cert.ReferenceIdeal.Gen Cert.ReferenceIdeal.Value

variable (V : Valuation τ sig (Elt F))

theorem ref_02 : after hostOps0_2 V = after refB1 (after Rf.prod0 (after Rf.spare (after (hostOps0_2.take 34) V))) := by
  rw [← Rf.prod0_eq, after_cut 34 hostOps0_2 V]
  exact (after_cut' 34 7 hostOps0_2 _).trans (after_cut' 41 1 hostOps0_2 _)

theorem ref_44 : after hostOps0_44 V = after (hostOps0_44.drop 61) (after Rf.spare2 (after refC (after Rf.prod1 (after Rf.spare1 (after (hostOps0_44.take 21) V))))) := by
  rw [← Rf.prod1_eq, after_cut 21 hostOps0_44 V]
  exact (after_cut' 21 6 hostOps0_44 _).trans ((after_cut' 27 1 hostOps0_44 _).trans ((after_cut' 28 27 hostOps0_44 _).trans (after_cut' 55 6 hostOps0_44 _)))

/-- From the launch to the loop, but for the last list. -/
theorem ref_pre : afterL preI V
    = after hostOps0_46 (after Rf.rows2 (after Rf.spare2 (after refC (after Rf.prod1 (after Rf.spare1 (after refB6 (after refB5 (after refB4
        (after refB3 (after refB2 (after refB1 (after Rf.prod0 (after Rf.spare (after refA V)))))))))))))) := by
  rw [← Rf.rows2_eq,
    show (refA : List (HloOp τ sig (Elt F))) = cat [hostOps0, hostOps0_1, hostOps0_2.take 34] from rfl,
    show (hostOps0_44.drop 61 ++ hostOps0_45 : List (HloOp τ sig (Elt F))) = cat [hostOps0_44.drop 61, hostOps0_45] from rfl,
    show (refB6 : List (HloOp τ sig (Elt F))) = cat [hostOps0_43, hostOps0_44.take 21] from rfl,
    show (refB4 : List (HloOp τ sig (Elt F))) = cat [hostOps0_23, hostOps0_24, hostOps0_25, hostOps0_26, hostOps0_27, hostOps0_28,
      hostOps0_29, hostOps0_30, hostOps0_31, hostOps0_32, hostOps0_33, hostOps0_34, hostOps0_35, hostOps0_36, hostOps0_37, hostOps0_38,
      hostOps0_39, hostOps0_40, hostOps0_41] from rfl,
    show (refB3 : List (HloOp τ sig (Elt F))) = cat [hostOps0_17, hostOps0_18, hostOps0_19, hostOps0_20, hostOps0_21, hostOps0_22] from rfl,
    show (refB2 : List (HloOp τ sig (Elt F))) = cat [hostOps0_3, hostOps0_4, hostOps0_5, hostOps0_6, hostOps0_7, hostOps0_8, hostOps0_9,
      hostOps0_10, hostOps0_11, hostOps0_12, hostOps0_13, hostOps0_14, hostOps0_15, hostOps0_16] from rfl]
  simp only [after_cat, afterL_cons, afterL_nil]
  rw [← ref_44, ← ref_02]

theorem ref_D : after hostOps0_46 V = after refD2 (after Rf.car2 (after refD1 (after refD0 V))) := by
  conv_lhs => rw [Rf.hostOps0_46_eq]
  rw [after_append, after_append, after_append]

theorem ref_E : afterL bodyI V = after refE1 (after Rf.prod2 (after refE0 V)) := by
  rw [← Rf.prod2_eq,
    show (refE1 : List (HloOp τ sig (Elt F))) = cat [while0Ops0_1.drop 1, while0Ops0_2, while0Ops0_3, while0Ops0_4, while0Ops0_5] from rfl, after_cat]
  simp only [afterL_cons, afterL_nil]
  rw [← after_cut 1]

end Reference

end Cert.Proof.Cuts

end
-- ==== Proof.Products.lean ====
/-
  THE THREE MATRIX PRODUCTS over the extended reals: a product of row blocks laid flat, its weight padded with zero
  columns, cut back to the true width and laid out again, is the product the reference writes.
-/
module

public import proofs.«01_k».proof.KernelIdeal
public import proofs.«01_k».proof.ReferenceIdeal
public import Idealize.ShloMosaic.Lib.MatmulPlain
public import Idealize.ShloMosaic.Lib.KernelVsHost
public import Idealize.ShloMosaic.Lib.Pipeline.Value

@[expose] public section

noncomputable section

namespace Cert.Proof.Products

open Idealize.ShloMosaic Idealize.ShloMosaic.ValueIdx
open scoped BigOperators

/-- Rows of `K` numbers on two leading axes, times a `K` by `N` matrix. -/
def rows3 (a b K N : ℕ) : DotDims ⟨3, ![a, b, K]⟩ ⟨2, ![K, N]⟩ ⟨3, ![a, b, N]⟩ where
  lhsContracting := [2]
  rhsContracting := [0]
  lhsNonContracting := [0, 1]
  rhsNonContracting := [1]
  lhsBatch := []
  rhsBatch := []
  wf := ⟨rfl, by simp, rfl, by simp, by simp, by simp,
    (by decide : (([] ++ [0, 1] ++ [2] : List (Fin 3))).Perm (List.finRange 3)),
    (by decide : (([] ++ [1] ++ [0] : List (Fin 2))).Perm (List.finRange 2)),
    rfl, by show 0 < 3; decide, fun a => by fin_cases a <;> rfl⟩

theorem rows3_contr_rank (a b K N : ℕ) : (rows3 a b K N).contr.rank = 1 := rfl
theorem rows3_contr_size (a b K N : ℕ) :
    (rows3 a b K N).contr.size ⟨0, by rw [rows3_contr_rank]; exact Nat.one_pos⟩ = K := rfl

/-- It reads, at row (p, q) and column n, the sum over the `K` contracted positions. -/
theorem rows3_apply {a b K N : ℕ} (x : FVec Ideal ⟨3, ![a, b, K]⟩ .f32) (w : FVec Ideal ⟨2, ![K, N]⟩ .f32)
    (p : Fin a) (q : Fin b) (n : Fin N) :
    Host.dotGeneral (F := Ideal) (rows3 a b K N) none x w (ix3 p q n) = ∑ k : Fin K, x (ix3 p q k) * w (ix2 k n) := by
  show FloatOps.dotGeneral (rows3 a b K N) none _ x w (ix3 p q n) = _
  rw [Ideal.dotGeneral_apply, ← Equiv.sum_comp (contrEquiv1 _ K (rows3_contr_rank a b K N) (rows3_contr_size a b K N)).symm]
  refine Finset.sum_congr rfl fun k _ => ?_
  have hk := contrEquiv1_symm_val _ K (rows3_contr_rank a b K N) (rows3_contr_size a b K N) k
  refine congrArg₂ (· * ·) (congrArg x ?_) (congrArg w ?_)
  · funext i; apply Fin.ext
    match i with
    | ⟨0, _⟩ => rfl
    | ⟨1, _⟩ => rfl
    | ⟨2, _⟩ => exact hk
  · funext i; apply Fin.ext
    match i with
    | ⟨0, _⟩ => exact hk
    | ⟨1, _⟩ => rfl

/-- A flat product into the zero array reads, at row r and column n, the same kind of sum; the narrowed formats change no
    entry. -/
theorem flat_apply {M K N : ℕ} (hb : FTy.bf16.bits < FTy.f32.bits) (x : FVec Ideal ⟨2, ![M, K]⟩ .f32) (w : FVec Ideal ⟨2, ![K, N]⟩ .bf16)
    (r : Fin M) (n : Fin N) :
    matmul (F := Ideal) (DotDims.plain M K N) none (truncf .bf16 x hb) w (constant ⟨2, ![M, N]⟩ .f32 0x00000000#32) (ix2 r n)
      = ∑ k : Fin K, x (ix2 r k) * w (ix2 k n) := by
  show FloatOps.matmul (DotDims.plain M K N) none (truncf .bf16 x hb) w (constant ⟨2, ![M, N]⟩ .f32 0x00000000#32) (ix2 r n) = _
  rw [Ideal.matmul_plain_apply]
  show Ideal.ofBits .f32 0x00000000#32 + _ = _
  rw [Ideal.ofBits_zero_f32, zero_add]
  rfl

/-- A weight with columns added at its right reads as itself at its own columns. -/
theorem padCols_apply {K N N' p : ℕ} (w : FVec Ideal ⟨2, ![K, N]⟩ .f32) (z : FVec Ideal ⟨0, ![]⟩ .f32)
    (h : (⟨2, ![K, N]⟩ : Shape).Pads ![0, 0] ![0, p] ![0, 0] ⟨2, ![K, N']⟩) (hu : 0 < (⟨0, ![]⟩ : Shape).numel)
    (k : Fin K) (n : Fin N) (n' : Fin N') (hn : n'.val = n.val) :
    pad ⟨2, ![K, N']⟩ ![0, 0] ![0, p] ![0, 0] w z h hu (ix2 k n') = w (ix2 k n) :=
  pad_apply_of_inside _ _ _ w z h hu _ _ fun a => by
    match a with
    | ⟨0, _⟩ => show k.val = 0 + k.val * 1; omega
    | ⟨1, _⟩ => show n'.val = 0 + n.val * 1; omega

/-- Rows on two leading axes laid flat. -/
theorem flatten_apply {α : Type} {a b K M : ℕ} (x : (⟨3, ![a, b, K]⟩ : Shape).Idx → α)
    (h : (⟨3, ![a, b, K]⟩ : Shape).ShapeCasts ⟨2, ![M, K]⟩) (p : Fin a) (q : Fin b) (r : Fin M) (k : Fin K)
    (hr : r.val = p.val * b + q.val) : shapeCast ⟨2, ![M, K]⟩ x h (ix2 r k) = x (ix3 p q k) :=
  shapeCast_apply x h _ _ (by
    rw [Shape.rowMajor_val_three, Shape.rowMajor_val_two]
    show (p.val * b + q.val) * K + k.val = r.val * K + k.val
    rw [hr])

/-- Flat rows laid out again on two leading axes. -/
theorem unflatten_apply {α : Type} {a b K M : ℕ} (x : (⟨2, ![M, K]⟩ : Shape).Idx → α)
    (h : (⟨2, ![M, K]⟩ : Shape).ShapeCasts ⟨3, ![a, b, K]⟩) (p : Fin a) (q : Fin b) (r : Fin M) (k : Fin K)
    (hr : r.val = p.val * b + q.val) : shapeCast ⟨3, ![a, b, K]⟩ x h (ix3 p q k) = x (ix2 r k) :=
  shapeCast_apply x h _ _ (by
    rw [Shape.rowMajor_val_three, Shape.rowMajor_val_two]
    show r.val * K + k.val = (p.val * b + q.val) * K + k.val
    rw [hr])

/-- THE FLAT PRODUCT: rows laid flat, times the padded weight, is at the weight's own columns the product of the rows. -/
theorem flat_eq_rows {a b K N N' M p : ℕ} (hb : FTy.bf16.bits < FTy.f32.bits) (x : FVec Ideal ⟨3, ![a, b, K]⟩ .f32) (w : FVec Ideal ⟨2, ![K, N]⟩ .f32)
    (z : FVec Ideal ⟨0, ![]⟩ .f32) (hx : (⟨3, ![a, b, K]⟩ : Shape).ShapeCasts ⟨2, ![M, K]⟩)
    (h : (⟨2, ![K, N]⟩ : Shape).Pads ![0, 0] ![0, p] ![0, 0] ⟨2, ![K, N']⟩) (hu : 0 < (⟨0, ![]⟩ : Shape).numel)
    (i : Fin a) (j : Fin b) (r : Fin M) (hr : r.val = i.val * b + j.val) (n : Fin N) (n' : Fin N') (hn : n'.val = n.val) :
    matmul (F := Ideal) (DotDims.plain M K N') none (truncf .bf16 (shapeCast ⟨2, ![M, K]⟩ x hx) hb)
        (truncf .bf16 (pad ⟨2, ![K, N']⟩ ![0, 0] ![0, p] ![0, 0] w z h hu) hb) (constant ⟨2, ![M, N']⟩ .f32 0x00000000#32) (ix2 r n')
      = Host.dotGeneral (F := Ideal) (rows3 a b K N) none x w (ix3 i j n) := by
  rw [flat_apply, rows3_apply]
  refine Finset.sum_congr rfl fun k _ => ?_
  rw [flatten_apply x hx i j r k hr]
  exact congrArg (x (ix3 i j k) * ·) (padCols_apply w z h hu k n n' hn)

/-- The array of no added entries is the array itself. -/
theorem pad_none {K N : ℕ} (w : FVec Ideal ⟨2, ![K, N]⟩ .f32) (z : FVec Ideal ⟨0, ![]⟩ .f32)
    (h : (⟨2, ![K, N]⟩ : Shape).Pads ![0, 0] ![0, 0] ![0, 0] ⟨2, ![K, N]⟩) (hu : 0 < (⟨0, ![]⟩ : Shape).numel) :
    pad ⟨2, ![K, N]⟩ ![0, 0] ![0, 0] ![0, 0] w z h hu = w := funext fun i => by
  obtain ⟨k, n, rfl⟩ : ∃ (k : Fin K) (n : Fin N), i = ix2 k n := ⟨i 0, i 1, eq_ix2 i⟩
  exact padCols_apply w z h hu _ _ _ rfl

/-- The input projection: the flat product against the padded weight, its added columns cut off, laid out again. -/
theorem in_proj {a b K N N' M p : ℕ} (hb : FTy.bf16.bits < FTy.f32.bits) (hM : M = a * b) (hN : N ≤ N') (x : FVec Ideal ⟨3, ![a, b, K]⟩ .f32) (w : FVec Ideal ⟨2, ![K, N]⟩ .f32)
    (z : FVec Ideal ⟨0, ![]⟩ .f32) (hx : (⟨3, ![a, b, K]⟩ : Shape).ShapeCasts ⟨2, ![M, K]⟩)
    (h : (⟨2, ![K, N]⟩ : Shape).Pads ![0, 0] ![0, p] ![0, 0] ⟨2, ![K, N']⟩) (hu : 0 < (⟨0, ![]⟩ : Shape).numel)
    (hs : (⟨2, ![M, N']⟩ : Shape).Slices ![0, 0] ⟨2, ![M, N]⟩) (ho : (⟨2, ![M, N]⟩ : Shape).ShapeCasts ⟨3, ![a, b, N]⟩) :
    shapeCast ⟨3, ![a, b, N]⟩ (extractStridedSlice ⟨2, ![M, N]⟩ ![0, 0]
      (matmul (F := Ideal) (DotDims.plain M K N') none (truncf .bf16 (shapeCast ⟨2, ![M, K]⟩ x hx) hb)
        (truncf .bf16 (pad ⟨2, ![K, N']⟩ ![0, 0] ![0, p] ![0, 0] w z h hu) hb) (constant ⟨2, ![M, N']⟩ .f32 0x00000000#32)) hs) ho
      = Host.dotGeneral (F := Ideal) (rows3 a b K N) none x w := funext fun i => by
  obtain ⟨u, v, n, rfl⟩ : ∃ (u : Fin a) (v : Fin b) (n : Fin N), i = ix3 u v n := ⟨i 0, i 1, i 2, eq_ix3 i⟩
  have h0 : u.val < a := u.isLt
  have hr : u.val * b + v.val < M := by
    rw [hM]
    calc u.val * b + v.val < u.val * b + b := by omega
      _ = (u.val + 1) * b := by ring
      _ ≤ a * b := Nat.mul_le_mul_right _ h0
  rw [unflatten_apply _ ho u v ⟨_, hr⟩ n rfl, ← flat_eq_rows hb x w z hx h hu u v ⟨_, hr⟩ rfl n ⟨n.val, by omega⟩ rfl]
  unfold extractStridedSlice
  refine congrArg (matmul (F := Ideal) _ _ _ _ _) (funext fun c => Fin.ext ?_)
  match c with
  | ⟨0, _⟩ => exact Nat.zero_add _
  | ⟨1, _⟩ => exact Nat.zero_add _

/-- The output projection: the same with no columns added. -/
theorem out_proj {a b K N M : ℕ} (hb : FTy.bf16.bits < FTy.f32.bits) (hM : M = a * b) (x : FVec Ideal ⟨3, ![a, b, K]⟩ .f32) (w : FVec Ideal ⟨2, ![K, N]⟩ .f32)
    (z : FVec Ideal ⟨0, ![]⟩ .f32) (hx : (⟨3, ![a, b, K]⟩ : Shape).ShapeCasts ⟨2, ![M, K]⟩)
    (h : (⟨2, ![K, N]⟩ : Shape).Pads ![0, 0] ![0, 0] ![0, 0] ⟨2, ![K, N]⟩) (hu : 0 < (⟨0, ![]⟩ : Shape).numel)
    (ho : (⟨2, ![M, N]⟩ : Shape).ShapeCasts ⟨3, ![a, b, N]⟩) :
    shapeCast ⟨3, ![a, b, N]⟩ (matmul (F := Ideal) (DotDims.plain M K N) none (truncf .bf16 (shapeCast ⟨2, ![M, K]⟩ x hx) hb)
        (truncf .bf16 (pad ⟨2, ![K, N]⟩ ![0, 0] ![0, 0] ![0, 0] w z h hu) hb) (constant ⟨2, ![M, N]⟩ .f32 0x00000000#32)) ho
      = Host.dotGeneral (F := Ideal) (rows3 a b K N) none x w := by
  have hs : (⟨2, ![M, N]⟩ : Shape).Slices ![0, 0] ⟨2, ![M, N]⟩ :=
    ⟨rfl, fun c => by fin_cases c <;> exact (Nat.zero_add _).le⟩
  rw [← in_proj hb hM le_rfl x w z hx h hu hs ho]
  refine congrArg (fun y => shapeCast ⟨3, ![a, b, N]⟩ y ho) (funext fun i => ?_)
  unfold extractStridedSlice
  refine congrArg (matmul (F := Ideal) _ _ _ _ _) (funext fun c => Fin.ext ?_)
  match c with
  | ⟨0, _⟩ => exact (Nat.zero_add _).symm
  | ⟨1, _⟩ => exact (Nat.zero_add _).symm

/-- One block of rows of a stack, taken at a start that is clamped into it. -/
theorem block_apply {α : Type} {a b K : ℕ} (x : (⟨3, ![a, b, K]⟩ : Shape).Idx → α) (st : Fin 3 → Int) (h1 : st 1 = 0) (h2 : st 2 = 0)
    (hs : (⟨3, ![a, b, K]⟩ : Shape).Slices (fun _ => 0) ⟨3, ![1, b, K]⟩)
    (hc : (⟨3, ![1, b, K]⟩ : Shape).ShapeCasts ⟨2, ![b, K]⟩) (p : Fin a) (hp : (p.val : Int) = min (max (st 0) 0) ((a - 1 : ℕ) : Int))
    (r : Fin b) (k : Fin K) :
    shapeCast ⟨2, ![b, K]⟩ (Host.dynamicSlice ⟨3, ![1, b, K]⟩ x st hs) hc (ix2 r k) = x (ix3 p r k) := by
  rw [flatten_apply _ hc (0 : Fin 1) r r k (by simp)]
  unfold Host.dynamicSlice extractStridedSlice
  refine congrArg x (funext fun c => Fin.ext ?_)
  match c with
  | ⟨0, _⟩ =>
    show (min (max (st 0) 0) ((a - 1 : ℕ) : Int)).toNat + 0 = p.val
    rw [← hp]; simp
  | ⟨1, _⟩ =>
    show (min (max (st 1) 0) ((b - b : ℕ) : Int)).toNat + r.val = r.val
    rw [h1]; simp
  | ⟨2, _⟩ =>
    show (min (max (st 2) 0) ((K - K : ℕ) : Int)).toNat + k.val = k.val
    rw [h2]; simp

/-- A plain product on the host, read at an entry. -/
theorem plain_apply {M K N : ℕ} (x : FVec Ideal ⟨2, ![M, K]⟩ .f32) (w : FVec Ideal ⟨2, ![K, N]⟩ .f32) (r : Fin M) (n : Fin N) :
    Host.dotGeneral (F := Ideal) (DotDims.plain M K N) none x w (ix2 r n) = ∑ k : Fin K, x (ix2 r k) * w (ix2 k n) := by
  rw [← matmul_zero_eq_dotGeneral]
  show FloatOps.matmul (DotDims.plain M K N) none x w (constant ⟨2, ![M, N]⟩ .f32 0x00000000#32) (ix2 r n) = _
  rw [Ideal.matmul_plain_apply]
  show Ideal.ofBits .f32 0x00000000#32 + _ = _
  rw [Ideal.ofBits_zero_f32, zero_add]

/-- THE QUERY PRODUCT, BLOCK BY BLOCK: a block of rows of the product of all rows is the product of that block of rows. -/
theorem block_prod {a b K N : ℕ} (ha : 0 < a) (y : FVec Ideal ⟨3, ![a, b, N]⟩ .f32) (x : FVec Ideal ⟨3, ![a, b, K]⟩ .f32) (w : FVec Ideal ⟨2, ![K, N]⟩ .f32)
    (hy : y = Host.dotGeneral (F := Ideal) (rows3 a b K N) none x w) (st st' : Fin 3 → Int) (h0 : st 0 = st' 0)
    (h1 : st 1 = 0) (h2 : st 2 = 0) (h1' : st' 1 = 0) (h2' : st' 2 = 0)
    (hs : (⟨3, ![a, b, N]⟩ : Shape).Slices (fun _ => 0) ⟨3, ![1, b, N]⟩) (hc : (⟨3, ![1, b, N]⟩ : Shape).ShapeCasts ⟨2, ![b, N]⟩)
    (hs' : (⟨3, ![a, b, K]⟩ : Shape).Slices (fun _ => 0) ⟨3, ![1, b, K]⟩) (hc' : (⟨3, ![1, b, K]⟩ : Shape).ShapeCasts ⟨2, ![b, K]⟩) :
    shapeCast ⟨2, ![b, N]⟩ (Host.dynamicSlice ⟨3, ![1, b, N]⟩ y st hs) hc
      = Host.dotGeneral (F := Ideal) (DotDims.plain b K N) none
          (shapeCast ⟨2, ![b, K]⟩ (Host.dynamicSlice ⟨3, ![1, b, K]⟩ x st' hs') hc') w := funext fun i => by
  obtain ⟨r, n, rfl⟩ : ∃ (r : Fin b) (n : Fin N), i = ix2 r n := ⟨i 0, i 1, eq_ix2 i⟩
  obtain ⟨p, hp⟩ : ∃ p : Fin a, (p.val : Int) = min (max (st 0) 0) ((a - 1 : ℕ) : Int) :=
    ⟨⟨(min (max (st 0) 0) ((a - 1 : ℕ) : Int)).toNat, by omega⟩, by
      show ((min (max (st 0) 0) ((a - 1 : ℕ) : Int)).toNat : Int) = _
      omega⟩
  rw [block_apply y st h1 h2 hs hc p hp, hy, rows3_apply, plain_apply]
  refine Finset.sum_congr rfl fun k _ => ?_
  rw [block_apply x st' h1' h2' hs' hc' p (by rw [← h0]; exact hp)]

/-- The query product: flat rows times the weight, laid out in blocks of rows, is the product of the blocks. -/
theorem query {a b K N M : ℕ} (hb : FTy.bf16.bits < FTy.f32.bits) (hM : M = a * b) (x : FVec Ideal ⟨2, ![M, K]⟩ .f32) (w : FVec Ideal ⟨2, ![K, N]⟩ .f32)
    (z : FVec Ideal ⟨0, ![]⟩ .f32) (hx : (⟨2, ![M, K]⟩ : Shape).ShapeCasts ⟨3, ![a, b, K]⟩)
    (h : (⟨2, ![K, N]⟩ : Shape).Pads ![0, 0] ![0, 0] ![0, 0] ⟨2, ![K, N]⟩) (hu : 0 < (⟨0, ![]⟩ : Shape).numel)
    (ho : (⟨2, ![M, N]⟩ : Shape).ShapeCasts ⟨3, ![a, b, N]⟩) :
    shapeCast ⟨3, ![a, b, N]⟩ (matmul (F := Ideal) (DotDims.plain M K N) none (truncf .bf16 x hb)
        (truncf .bf16 (pad ⟨2, ![K, N]⟩ ![0, 0] ![0, 0] ![0, 0] w z h hu) hb) (constant ⟨2, ![M, N]⟩ .f32 0x00000000#32)) ho
      = Host.dotGeneral (F := Ideal) (rows3 a b K N) none (shapeCast ⟨3, ![a, b, K]⟩ x hx) w := by
  have hx' : (⟨3, ![a, b, K]⟩ : Shape).ShapeCasts ⟨2, ![M, K]⟩ := Eq.symm hx
  rw [← out_proj hb hM (shapeCast ⟨3, ![a, b, K]⟩ x hx) w z hx' h hu ho, shapeCast_shapeCast]

end Cert.Proof.Products

end
-- ==== Proof.Joins.lean ====
/-
  AROUND THE CALLS: what the two programs agree on before a product, they agree on after it, and on the product too. The kernel's
  side flattens, pads, rounds, calls and lays out again; the reference's side multiplies.
-/
module

public import proofs.«01_k».proof.Proof.Cuts
public import proofs.«01_k».proof.Proof.Products
public import proofs.«01_k».proof.Proof.Calls

@[expose] public section

noncomputable section

namespace Cert.Proof.Joins

open Idealize.ShloMosaic Idealize.ShloMosaic.TcCoe Cert.Proof.Lockstep Cert.Proof.Pairs Cert.Proof.Seams Cert.Proof.Region
open Idealize.ShloMosaic.StableHlo (after after_of_writes_sub)

/-- The contents of the kernel's references, and of the reference's, over the extended reals. -/
abbrev VK := Valuation Cert.KernelIdeal.τ Cert.KernelIdeal.sig (Elt Ideal)
abbrev VR := Valuation Cert.ReferenceIdeal.τ Cert.ReferenceIdeal.sig (Elt Ideal)

/-- One list of pairs lies within another, decided on the numbers. -/
def within {sig sig' : RefSig} (L' L : List (Pair sig sig')) : Bool := L'.all fun p => has (nums p) (L.map nums)
theorem sub_of {sig sig' : RefSig} {L' L : List (Pair sig sig')} (h : within L' L = true) : ∀ p ∈ L', p ∈ L := fun p hp => by
  obtain ⟨q, hq, he⟩ := List.mem_map.mp (mem_of_has (List.all_eq_true.mp h p hp))
  rwa [← nums_inj he]
theorem mem_of {sig sig' : RefSig} {p : Pair sig sig'} {L : List (Pair sig sig')} (h : within [p] L = true) : p ∈ L :=
  sub_of h p List.mem_cons_self

variable {V : VK} {V' : VR}

/-! ## The input projection -/

section First

open Cert.KernelIdeal Cert.KernelIdeal.Gen

/-- The weight as call 0 takes it: padded with columns, and rounded. -/
abbrev wide0 (w : FVec Ideal S1024x2328 .f32) : FVec Ideal S1024x2432 .bf16 :=
  truncf (F := Ideal) .bf16 (pad S1024x2432 ![0, 0] ![0, 104] ![0, 0] w (sitofp (F := Ideal) .f32 (constantI S_ 32 0#32)) pads_S1024x2328_S1024x2432_000_01040 h_S_) bitsLt_bf16_f32

/-- The added columns cut off, and the rows laid out again. -/
abbrev lay0 (y : FVec Ideal S512x2432 .f32) : FVec Ideal S128x4x2328 .f32 :=
  shapeCast S128x4x2328 (extractStridedSlice S512x2328 ![0, 0] y slices_S512x2432_S512x2328_0_0) shapeCasts_S512x2328_S128x4x2328

theorem first_out (V : VK) (y : FVec Ideal S512x2432 .f32) (h : V (Proc.devRef .tc main_v61) = y) :
    after Ker.out0 V (Proc.devRef .tc main_v63) = lay0 y := by
  rw [Ker.out0_res V, h]

theorem first (h : Agree postA V V') :
    Agree preB1 (after Ker.out0 (past0 (after Ker.in0 V))) (after Rf.prod0 (after Rf.spare V')) := by
  have hx : (V (Proc.devRef .tc main_v57) : FVec Ideal S128x4x1024 .f32) = V' (Proc.devRef .tc Cert.ReferenceIdeal.main_v57) :=
    @eq_of_heq (FVec Ideal S128x4x1024 .f32) _ _ (h (main_v57, Cert.ReferenceIdeal.main_v57) (mem_of (by decide +kernel)))
  have hw : (V (Proc.devRef .tc main_v3) : FVec Ideal S1024x2328 .f32) = V' (Proc.devRef .tc Cert.ReferenceIdeal.main_v3) :=
    @eq_of_heq (FVec Ideal S1024x2328 .f32) _ _ (h (main_v3, Cert.ReferenceIdeal.main_v3) (mem_of (by decide +kernel)))
  have hx' : after Rf.spare V' (Proc.devRef .tc Cert.ReferenceIdeal.main_v57) = V' (Proc.devRef .tc Cert.ReferenceIdeal.main_v57) :=
    after_of_writes_sub _ V' Rf.spare_writes (by decide)
  have hw' : after Rf.spare V' (Proc.devRef .tc Cert.ReferenceIdeal.main_v3) = V' (Proc.devRef .tc Cert.ReferenceIdeal.main_v3) :=
    after_of_writes_sub _ V' Rf.spare_writes (by decide)
  have hy : past0 (after Ker.in0 V) (Proc.devRef .tc main_v61)
      = mm0 (F := Ideal) (shapeCast S512x1024 (V (Proc.devRef .tc main_v57)) shapeCasts_S128x4x1024_S512x1024) (wide0 (V (Proc.devRef .tc main_v3))) := by
    refine (Function.update_self (Proc.devRef (τ := τ) .tc main_v61) _ _).trans ?_
    exact congr (congrArg (mm0 (F := Ideal)) (Ker.in0_rows V)) (Ker.in0_weight V)
  have hp : Same (after Ker.out0 (past0 (after Ker.in0 V))) (after Rf.prod0 (after Rf.spare V')) (main_v63, Cert.ReferenceIdeal.main_v65) := by
    refine @heq_of_eq (FVec Ideal S128x4x2328 .f32) _ _ ((first_out _ _ hy).trans ?_)
    refine (Products.in_proj (a := 128) (b := 4) (K := 1024) (N := 2328) (N' := 2432) (M := 512) (p := 104) bitsLt_bf16_f32 rfl (by decide) (V (Proc.devRef .tc main_v57)) (V (Proc.devRef .tc main_v3)) _ _ _ _ _ _).trans ?_
    refine (congrArg₂ (Host.dotGeneral (F := Ideal) (φ₁ := .f32) (φ₂ := .f32) (Products.rows3 128 4 1024 2328) none) (hx.trans hx'.symm) (hw.trans hw'.symm)).trans ?_
    exact (Rf.prod0_res _).symm
  have hr : Agree postA (after Ker.out0 (past0 (after Ker.in0 V))) (after Rf.prod0 (after Rf.spare V')) :=
    ((((h.left Ker.in0_writes (by decide +kernel)).update (by decide +kernel)).left Ker.out0_writes (by decide +kernel)).right
      Rf.spare_writes (by decide +kernel)).right Rf.prod0_writes (by decide +kernel)
  exact (Agree.cons hp hr).mono (sub_of (by decide +kernel))

end First

/-! ## The output projection -/

section Second

open Cert.KernelIdeal Cert.KernelIdeal.Gen

/-- The weight as call 1 takes it: padded with columns, and rounded. -/
abbrev wide1 (w : FVec Ideal S1024x1024 .f32) : FVec Ideal S1024x1024 .bf16 :=
  truncf (F := Ideal) .bf16 (pad S1024x1024 ![0, 0] ![0, 0] ![0, 0] w (sitofp (F := Ideal) .f32 (constantI S_ 32 0#32)) pads_S1024x1024_S1024x1024_000_000 h_S_) bitsLt_bf16_f32

theorem second (h : Agree postB6 V V') :
    Agree preC (after Ker.out1 (past1 (after Ker.in1 V))) (after Rf.prod1 (after Rf.spare1 V')) := by
  have hx : (V (Proc.devRef .tc main_v893) : FVec Ideal S128x4x1024 .f32) = V' (Proc.devRef .tc Cert.ReferenceIdeal.main_v895) :=
    @eq_of_heq (FVec Ideal S128x4x1024 .f32) _ _ (h (main_v893, Cert.ReferenceIdeal.main_v895) (mem_of (by decide +kernel)))
  have hw : (V (Proc.devRef .tc main_v17) : FVec Ideal S1024x1024 .f32) = V' (Proc.devRef .tc Cert.ReferenceIdeal.main_v17) :=
    @eq_of_heq (FVec Ideal S1024x1024 .f32) _ _ (h (main_v17, Cert.ReferenceIdeal.main_v17) (mem_of (by decide +kernel)))
  have hx' : after Rf.spare1 V' (Proc.devRef .tc Cert.ReferenceIdeal.main_v895) = V' (Proc.devRef .tc Cert.ReferenceIdeal.main_v895) :=
    after_of_writes_sub _ V' Rf.spare1_writes (by decide)
  have hw' : after Rf.spare1 V' (Proc.devRef .tc Cert.ReferenceIdeal.main_v17) = V' (Proc.devRef .tc Cert.ReferenceIdeal.main_v17) :=
    after_of_writes_sub _ V' Rf.spare1_writes (by decide)
  have hy : past1 (after Ker.in1 V) (Proc.devRef .tc main_v897)
      = mm1 (F := Ideal) (shapeCast S512x1024 (V (Proc.devRef .tc main_v893)) shapeCasts_S128x4x1024_S512x1024) (wide1 (V (Proc.devRef .tc main_v17))) := by
    refine (Function.update_self (Proc.devRef (τ := τ) .tc main_v897) _ _).trans ?_
    exact congr (congrArg (mm1 (F := Ideal)) (Ker.in1_rows V)) (Ker.in1_weight V)
  have hp : Same (after Ker.out1 (past1 (after Ker.in1 V))) (after Rf.prod1 (after Rf.spare1 V')) (main_v898, Cert.ReferenceIdeal.main_v902) := by
    refine @heq_of_eq (FVec Ideal S128x4x1024 .f32) _ _ ((Ker.out1_res _).trans ?_)
    refine (congrArg (fun y : FVec Ideal S512x1024 .f32 => shapeCast S128x4x1024 y shapeCasts_S512x1024_S128x4x1024) hy).trans ?_
    refine (Products.out_proj (a := 128) (b := 4) (K := 1024) (N := 1024) (M := 512) bitsLt_bf16_f32 rfl (V (Proc.devRef .tc main_v893)) (V (Proc.devRef .tc main_v17)) _ _ _ _ _).trans ?_
    refine (congrArg₂ (Host.dotGeneral (F := Ideal) (φ₁ := .f32) (φ₂ := .f32) (Products.rows3 128 4 1024 1024) none) (hx.trans hx'.symm) (hw.trans hw'.symm)).trans ?_
    exact (Rf.prod1_res _).symm
  have hr : Agree postB6 (after Ker.out1 (past1 (after Ker.in1 V))) (after Rf.prod1 (after Rf.spare1 V')) :=
    ((((h.left Ker.in1_writes (by decide +kernel)).update (by decide +kernel)).left Ker.out1_writes (by decide +kernel)).right
      Rf.spare1_writes (by decide +kernel)).right Rf.prod1_writes (by decide +kernel)
  exact (Agree.cons hp hr).mono (sub_of (by decide +kernel))

end Second

/-! ## The query projection -/

section Third

open Cert.KernelIdeal Cert.KernelIdeal.Gen

/-- The weight as call 2 takes it: padded with columns, and rounded. -/
abbrev wide2 (w : FVec Ideal S1024x2048 .f32) : FVec Ideal S1024x2048 .bf16 :=
  truncf (F := Ideal) .bf16 (pad S1024x2048 ![0, 0] ![0, 0] ![0, 0] w (sitofp (F := Ideal) .f32 (constantI S_ 32 0#32)) pads_S1024x2048_S1024x2048_000_000 h_S_) bitsLt_bf16_f32

/-- What the kernel's third call leaves, in terms of the reference's own rows and weight. -/
def Product2 (V : VK) (V' : VR) : Prop :=
  (V (Proc.devRef .tc main_v924) : FVec Ideal S512x2048 .f32)
    = mm2 (F := Ideal) (V' (Proc.devRef .tc Cert.ReferenceIdeal.main_v932)) (wide2 (V' (Proc.devRef .tc Cert.ReferenceIdeal.main_v19)))

/-- What the loop carries: the kernel all rows' products, the reference the rows and the weight. -/
def Carried (V : VK) (V' : VR) : Prop :=
  V (Proc.devRef .tc main_v928_1) = Host.dotGeneral (F := Ideal) (φ₁ := .f32) (φ₂ := .f32) (Products.rows3 2 256 1024 2048) none
    (V' (Proc.devRef .tc Cert.ReferenceIdeal.main_v935_0)) (V' (Proc.devRef .tc Cert.ReferenceIdeal.main_v935_1))

theorem third (h : Agree postC V V') :
    Agree preD0 (past2 (after Ker.in2 V)) (after Rf.rows2 (after Rf.spare2 V')) ∧ Product2 (past2 (after Ker.in2 V)) (after Rf.rows2 (after Rf.spare2 V')) := by
  have hx : (V (Proc.devRef .tc main_v921) : FVec Ideal S512x1024 .f32) = V' (Proc.devRef .tc Cert.ReferenceIdeal.main_v925) :=
    @eq_of_heq (FVec Ideal S512x1024 .f32) _ _ (h (main_v921, Cert.ReferenceIdeal.main_v925) (mem_of (by decide +kernel)))
  have hw : (V (Proc.devRef .tc main_v19) : FVec Ideal S1024x2048 .f32) = V' (Proc.devRef .tc Cert.ReferenceIdeal.main_v19) :=
    @eq_of_heq (FVec Ideal S1024x2048 .f32) _ _ (h (main_v19, Cert.ReferenceIdeal.main_v19) (mem_of (by decide +kernel)))
  have hx' : after Rf.spare2 V' (Proc.devRef .tc Cert.ReferenceIdeal.main_v925) = V' (Proc.devRef .tc Cert.ReferenceIdeal.main_v925) :=
    after_of_writes_sub _ V' Rf.spare2_writes (by decide)
  have hw' : after Rf.rows2 (after Rf.spare2 V') (Proc.devRef .tc Cert.ReferenceIdeal.main_v19) = V' (Proc.devRef .tc Cert.ReferenceIdeal.main_v19) :=
    (Rf.rows2_weight _).trans (after_of_writes_sub _ V' Rf.spare2_writes (by decide))
  have hX : (V (Proc.devRef .tc main_v921) : FVec Ideal S512x1024 .f32)
      = after Rf.rows2 (after Rf.spare2 V') (Proc.devRef .tc Cert.ReferenceIdeal.main_v932) := by
    refine (hx.trans hx'.symm).trans ((Products.pad_none (K := 512) (N := 1024) _ _ _ _).symm.trans (Rf.rows2_res _).symm)
  have hk : (past2 (after Ker.in2 V) (Proc.devRef .tc main_v921) : FVec Ideal S512x1024 .f32) = V (Proc.devRef .tc main_v921) :=
    (past2_ne _ _ (by decide)).trans (Ker.in2_rows V)
  have hp : Same (past2 (after Ker.in2 V)) (after Rf.rows2 (after Rf.spare2 V')) (main_v921, Cert.ReferenceIdeal.main_v932) :=
    @heq_of_eq (FVec Ideal S512x1024 .f32) _ _ (hk.trans hX)
  have hr : Agree postC (past2 (after Ker.in2 V)) (after Rf.rows2 (after Rf.spare2 V')) :=
    (((h.left Ker.in2_writes (by decide +kernel)).update (by decide +kernel)).right
      Rf.spare2_writes (by decide +kernel)).right Rf.rows2_writes (by decide +kernel)
  refine ⟨(Agree.cons hp hr).mono (sub_of (by decide +kernel)), ?_⟩
  unfold Product2
  refine (Function.update_self (Proc.devRef (τ := τ) .tc main_v924) _ _).trans ?_
  exact congr (congrArg (mm2 (F := Ideal)) ((Ker.in2_rows V).trans hX)) ((Ker.in2_weight V).trans (congrArg wide2 (hw.trans hw'.symm)))

/-- Into the loop. -/
theorem enter (h : Agree preD0 V V') (hq : Product2 V V') :
    Agree preE0 (after Cert.KernelIdeal.Gen.hostOps3 V) (after Cert.ReferenceIdeal.Gen.hostOps0_46 V')
      ∧ Carried (after Cert.KernelIdeal.Gen.hostOps3 V) (after Cert.ReferenceIdeal.Gen.hostOps0_46 V') := by
  constructor
  · rw [Cuts.ker_D, Cuts.ref_D]
    refine carryB6.2.2.2.1 _ _ (((carryB6.2.2.1 _ _ ((carryB6.2.1 _ _ h).left Ker.out2_writes (by decide +kernel))).left
      Ker.car2_writes (by decide +kernel)).right Rf.car2_writes (by decide +kernel))
  · refine (Ker.loop_res V).trans ((congrArg (fun y : FVec Ideal S512x2048 .f32 => shapeCast S2x256x2048 y shapeCasts_S512x2048_S2x256x2048) hq).trans ?_)
    refine (Products.query (a := 2) (b := 256) (K := 1024) (N := 2048) (M := 512) bitsLt_bf16_f32 rfl
      (V' (Proc.devRef .tc Cert.ReferenceIdeal.main_v932)) (V' (Proc.devRef .tc Cert.ReferenceIdeal.main_v19)) _
      Cert.ReferenceIdeal.Gen.shapeCasts_S512x1024_S2x256x1024 _ _ _).trans ?_
    exact congrArg₂ (Host.dotGeneral (F := Ideal) (φ₁ := .f32) (φ₂ := .f32) (Products.rows3 2 256 1024 2048) none) (Rf.loop_rows V').symm (Rf.loop_weight V').symm

end Third

end Cert.Proof.Joins

end
-- ==== Proof.Trip.lean ====
/-
  THE LOOP: what the two programs agree on at the head of a trip they agree on at the head of the next. The kernel cuts a block of rows
  out of the whole product; the reference multiplies that block of rows.
-/
module

public import proofs.«01_k».proof.Proof.Joins
public import proofs.«01_k».proof.Proof.RefRun
public import proofs.«01_k».proof.Proof.Run

@[expose] public section

noncomputable section

namespace Cert.Proof.Trip

open Idealize.ShloMosaic Idealize.ShloMosaic.TcCoe Cert.Proof.Lockstep Cert.Proof.Pairs Cert.Proof.Seams Cert.Proof.Joins
open Idealize.ShloMosaic.StableHlo (after afterL afterL_cons afterL_nil after_of_writes_sub)

variable {V : VK} {V' : VR}

/-- The buffers of the product and of its rows and weight, which no trip writes. -/
theorem carried_of (hq : Carried V V') {U : VK} {U' : VR}
    (h : U (Proc.devRef .tc Cert.KernelIdeal.main_v928_1) = V (Proc.devRef .tc Cert.KernelIdeal.main_v928_1))
    (h0 : U' (Proc.devRef .tc Cert.ReferenceIdeal.main_v935_0) = V' (Proc.devRef .tc Cert.ReferenceIdeal.main_v935_0))
    (h1 : U' (Proc.devRef .tc Cert.ReferenceIdeal.main_v935_1) = V' (Proc.devRef .tc Cert.ReferenceIdeal.main_v935_1)) : Carried U U' := by
  unfold Carried at hq ⊢
  rw [h, h0, h1]
  exact hq

theorem carried_left (hq : Carried V V') {W : List (Ref Cert.KernelIdeal.sig .tc)} {ops : List (HloOp Cert.KernelIdeal.τ Cert.KernelIdeal.sig (Elt Ideal))}
    (hW : ops.Forall fun op => op.writes ⊆ (W.map (Proc.devRef (τ := Cert.KernelIdeal.τ) .tc)).toFinset)
    (hd : Cert.KernelIdeal.main_v928_1 ∉ W) : Carried (after ops V) V' :=
  carried_of hq (after_of_writes_sub ops V hW hd) rfl rfl

theorem carried_right (hq : Carried V V') {W : List (Ref Cert.ReferenceIdeal.sig .tc)} {ops : List (HloOp Cert.ReferenceIdeal.τ Cert.ReferenceIdeal.sig (Elt Ideal))}
    (hW : ops.Forall fun op => op.writes ⊆ (W.map (Proc.devRef (τ := Cert.ReferenceIdeal.τ) .tc)).toFinset)
    (h0 : Cert.ReferenceIdeal.main_v935_0 ∉ W) (h1 : Cert.ReferenceIdeal.main_v935_1 ∉ W) : Carried V (after ops V') :=
  carried_of hq rfl (after_of_writes_sub ops V' hW h0) (after_of_writes_sub ops V' hW h1)

section Body

open Cert.KernelIdeal Cert.KernelIdeal.Gen Cert.Proof.Region

/-- The product of a trip. -/
theorem block (h : Agree preE0 V V') (hq : Carried V V') :
    Agree preE1 (after while0Ops0_1 (after kerE0 V)) (after Rf.prod2 (after refE0 V')) := by
  have hE : Agree postE0 (after kerE0 V) (after refE0 V') := carryE.1 _ _ h
  have hQ : Carried (after kerE0 V) (after refE0 V') :=
    carried_right (carried_left hq while0Ops0_writes (by decide)) Cert.ReferenceIdeal.Value.while0Ops0_writes (by decide) (by decide)
  have hc : (V (Proc.devRef .tc main_v928_5) : IVec S_ 32) = V' (Proc.devRef .tc Cert.ReferenceIdeal.main_v935_5) :=
    @eq_of_heq (IVec S_ 32) _ _ (h (main_v928_5, Cert.ReferenceIdeal.main_v935_5) (mem_of (by decide +kernel)))
  have hc' : (after kerE0 V (Proc.devRef .tc main_v928_5) : IVec S_ 32) = V' (Proc.devRef .tc Cert.ReferenceIdeal.main_v935_5) :=
    (after_of_writes_sub kerE0 V while0Ops0_writes (by decide)).trans hc
  have hx : after refE0 V' (Proc.devRef .tc Cert.ReferenceIdeal.main_v935_0) = V' (Proc.devRef .tc Cert.ReferenceIdeal.main_v935_0) :=
    after_of_writes_sub refE0 V' Cert.ReferenceIdeal.Value.while0Ops0_writes (by decide)
  have hQ' : (after kerE0 V (Proc.devRef .tc main_v928_1) : FVec Ideal S2x256x2048 .f32)
      = Host.dotGeneral (F := Ideal) (φ₁ := .f32) (φ₂ := .f32) (Products.rows3 2 256 1024 2048) none
        (V' (Proc.devRef .tc Cert.ReferenceIdeal.main_v935_0)) (after refE0 V' (Proc.devRef .tc Cert.ReferenceIdeal.main_v935_1)) := by
    unfold Carried at hQ
    rw [hx] at hQ
    exact hQ
  have hp : Same (after while0Ops0_1 (after kerE0 V)) (after Rf.prod2 (after refE0 V')) (main_while0b_v939, Cert.ReferenceIdeal.main_while0b_v946) := by
    refine @heq_of_eq (FVec Ideal S256x2048 .f32) _ _ ((Ker.slice_res _).trans ?_)
    refine (Products.block_prod (a := 2) (b := 256) (K := 1024) (N := 2048) (by decide) _ _ _ hQ' (Ker.start (after kerE0 V)) (Rf.start V')
      (congrArg (fun w : IVec S_ 32 => (w (Shape.Idx.first h_S_)).toInt) hc') rfl rfl rfl rfl _ _
      Cert.ReferenceIdeal.Gen.sliceFits_S2x256x1024_S1x256x1024 Cert.ReferenceIdeal.Gen.shapeCasts_S1x256x1024_S256x1024).trans ?_
    refine Eq.trans ?_ (Rf.prod2_res _).symm
    exact congrArg (fun x : FVec Ideal Cert.ReferenceIdeal.S256x1024 .f32 => Host.dotGeneral (F := Ideal) (φ₁ := .f32) (φ₂ := .f32)
      (DotDims.plain 256 1024 2048) none x (after refE0 V' (Proc.devRef .tc Cert.ReferenceIdeal.main_v935_1))) (Rf.slice_res V').symm
  have hr : Agree postE0 (after while0Ops0_1 (after kerE0 V)) (after Rf.prod2 (after refE0 V')) :=
    (hE.left while0Ops0_1_writes (by decide +kernel)).right Rf.prod2_writes (by decide +kernel)
  exact (Agree.cons hp hr).mono (sub_of (by decide +kernel))

/-- One trip round. -/
theorem trip (h : Agree preE0 V V') (hq : Carried V V') :
    Agree preE0 (afterL itemsL (after condK V)) (afterL Cert.ReferenceIdeal.Value.bodyI (after Cert.ReferenceIdeal.Value.condOps V'))
      ∧ Carried (afterL itemsL (after condK V)) (afterL Cert.ReferenceIdeal.Value.bodyI (after Cert.ReferenceIdeal.Value.condOps V')) := by
  have h' : Agree preE0 (after condK V) (after Cert.ReferenceIdeal.Value.condOps V') :=
    (h.left condK_writes (by decide +kernel)).right Cert.ReferenceIdeal.Value.condOps_writes (by decide +kernel)
  have q0 : Carried (after condK V) (after Cert.ReferenceIdeal.Value.condOps V') :=
    carried_right (carried_left hq condK_writes (by decide)) Cert.ReferenceIdeal.Value.condOps_writes (by decide) (by decide)
  constructor
  · rw [Cuts.ker_E, Cuts.ref_E]
    exact carryE.2 _ _ (block h' q0)
  · have k := carried_left (carried_left (carried_left (carried_left (carried_left (carried_left (carried_left q0
      while0Ops0_writes (by decide)) while0Ops0_1_writes (by decide)) while0Ops0_2_writes (by decide)) while0Ops0_3_writes (by decide))
      while0Ops0_4_writes (by decide)) while0Ops0_5_writes (by decide)) while0Ops0_6_writes (by decide)
    exact carried_right (carried_right (carried_right (carried_right (carried_right (carried_right k
      Cert.ReferenceIdeal.Value.while0Ops0_writes (by decide) (by decide)) Cert.ReferenceIdeal.Value.while0Ops0_1_writes (by decide) (by decide))
      Cert.ReferenceIdeal.Value.while0Ops0_2_writes (by decide) (by decide)) Cert.ReferenceIdeal.Value.while0Ops0_3_writes (by decide) (by decide))
      Cert.ReferenceIdeal.Value.while0Ops0_4_writes (by decide) (by decide)) Cert.ReferenceIdeal.Value.while0Ops0_5_writes (by decide) (by decide)

/-- From the launch to the loop. -/
theorem entry (h : Agree preA V V') :
    Agree preE0 (afterL itemsD (past2 (afterL itemsC (past1 (afterL itemsB (past0 (afterL itemsA V))))))) (afterL Cert.ReferenceIdeal.Value.preI V')
      ∧ Carried (afterL itemsD (past2 (afterL itemsC (past1 (afterL itemsB (past0 (afterL itemsA V))))))) (afterL Cert.ReferenceIdeal.Value.preI V') := by
  rw [Cuts.ref_pre, Cuts.ker_A, Cuts.ker_B, Cuts.ker_C, afterL_cons, afterL_nil]
  have h0 := first (carryA.1 _ _ h)
  have h1 := second (carryB6.1 _ _ (carryB5 _ _ (carryB4 _ _ (carryB3 _ _ (carryB2 _ _ (carryB1 _ _ h0))))))
  have h2 := third (carryA.2 _ _ h1)
  exact enter h2.1 h2.2

/-- The results. -/
theorem exit (h : Agree preE0 V V') :
    Agree postF (afterL itemsE (after condK V)) (afterL Cert.ReferenceIdeal.Value.postI (after Cert.ReferenceIdeal.Value.condOps V')) := by
  have h' : Agree preE0 (after condK V) (after Cert.ReferenceIdeal.Value.condOps V') :=
    (h.left condK_writes (by decide +kernel)).right Cert.ReferenceIdeal.Value.condOps_writes (by decide +kernel)
  exact carryB6.2.2.2.2 _ _ (h'.mono (sub_of (by decide +kernel)))

end Body

end Cert.Proof.Trip

end
-- ==== Proof.Join.lean ====
/-
  THE TWO PROGRAMS END ALIKE: from memories that agree on the arguments, over the extended reals, the kernel's five results are the
  reference's.
-/
module

public import proofs.«01_k».proof.Proof.Trip
public import proofs.«01_k».proof.Proof.Frames
public import proofs.«01_k».proof.Defs

@[expose] public section

noncomputable section

namespace Cert.Proof.Join

open Idealize.ShloMosaic Idealize.ShloMosaic.TcCoe Idealize.SL.Sem Cert.Proof.Lockstep Cert.Proof.Pairs Cert.Proof.Joins Cert.Proof.Region Cert.Proof.RefRun
  Cert.Proof.Frames
open Idealize.ShloMosaic.StableHlo (afterL launchContents atTrip entryContents devRef_mem_ucRefs)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- At the head of every trip the two agree, the kernel's product in step with the reference's rows and weight. -/
theorem trips (c : Dev Cert.KernelIdeal.nD) (h : Agree preA (W0 m c) (launchContents m' c)) : ∀ k,
    Agree preE0 (atTrip condK itemsL (WD m) k c)
        (atTrip Cert.ReferenceIdeal.Value.condOps Cert.ReferenceIdeal.Value.bodyI (entryContents Cert.ReferenceIdeal.Value.preI m') k c)
      ∧ Carried (atTrip condK itemsL (WD m) k c)
        (atTrip Cert.ReferenceIdeal.Value.condOps Cert.ReferenceIdeal.Value.bodyI (entryContents Cert.ReferenceIdeal.Value.preI m') k c)
  | 0 => Trip.entry h
  | k + 1 => Trip.trip (trips c h k).1 (trips c h k).2

theorem ends (c : Dev Cert.KernelIdeal.nD) (h : Agree preA (W0 m c) (launchContents m' c)) : Agree postF (WF m c) (RF m' c) :=
  Trip.exit (trips m m' c h 2).1

theorem agree_nil {V : VK} {V' : VR} : Agree [] V V' := fun _ h => absurd h List.not_mem_nil

theorem algebraic : @Cert.algebraic_KernelIdeal_ReferenceIdeal Cert.KernelIdeal.Gen.facts Cert.ReferenceIdeal.Gen.facts := by
  intro m g m' g' _ hin
  have h0 : ∀ c : Dev Cert.KernelIdeal.nD, Agree preA (W0 m c) (launchContents m' c) := fun c => by
    obtain ⟨a0, a1, a2, a3, a4, a5, a6, a7, a8, a9, a10, a11, a12, a13, a14, a15, a16, a17, a18, a19, a20, a21, a22, a23, a24, a25, a26, a27, a28, a29, a30⟩ := hin c
    exact
      (Agree.cons (heq_of_eq a0.symm)
      (Agree.cons (heq_of_eq a1.symm)
      (Agree.cons (heq_of_eq a2.symm)
      (Agree.cons (heq_of_eq a3.symm)
      (Agree.cons (heq_of_eq a4.symm)
      (Agree.cons (heq_of_eq a5.symm)
      (Agree.cons (heq_of_eq a6.symm)
      (Agree.cons (heq_of_eq a7.symm)
      (Agree.cons (heq_of_eq a8.symm)
      (Agree.cons (heq_of_eq a9.symm)
      (Agree.cons (heq_of_eq a10.symm)
      (Agree.cons (heq_of_eq a11.symm)
      (Agree.cons (heq_of_eq a12.symm)
      (Agree.cons (heq_of_eq a13.symm)
      (Agree.cons (heq_of_eq a14.symm)
      (Agree.cons (heq_of_eq a15.symm)
      (Agree.cons (heq_of_eq a16.symm)
      (Agree.cons (heq_of_eq a17.symm)
      (Agree.cons (heq_of_eq a18.symm)
      (Agree.cons (heq_of_eq a19.symm)
      (Agree.cons (heq_of_eq a20.symm)
      (Agree.cons (heq_of_eq a21.symm)
      (Agree.cons (heq_of_eq a22.symm)
      (Agree.cons (heq_of_eq a23.symm)
      (Agree.cons (heq_of_eq a24.symm)
      (Agree.cons (heq_of_eq a25.symm)
      (Agree.cons (heq_of_eq a26.symm)
      (Agree.cons (heq_of_eq a27.symm)
      (Agree.cons (heq_of_eq a28.symm)
      (Agree.cons (heq_of_eq a29.symm)
      (Agree.cons (heq_of_eq a30.symm)
      agree_nil)))))))))))))))))))))))))))))))
  have hF : ∀ c : Dev Cert.KernelIdeal.nD, Agree postF (WF m c) (RF m' c) := fun c => ends m m' c (h0 c)
  refine ⟨fun c => WF m c (Proc.devRef .tc Cert.KernelIdeal.main_v933), fun c => WF m c (Proc.devRef .tc Cert.KernelIdeal.main_v934),
    fun c => WF m c (Proc.devRef .tc Cert.KernelIdeal.main_v935), fun c => WF m c (Proc.devRef .tc Cert.KernelIdeal.main_v936),
    fun c => WF m c (Proc.devRef .tc Cert.KernelIdeal.main_v937), θ_run_mono (run_main m g) fun r h c => ?_, θ_run_mono (run_ref m' g') fun r h c => ?_⟩
  · have R : ∀ b : Ref Cert.KernelIdeal.sig .tc, (Proc.devRef (τ := Cert.KernelIdeal.τ) .tc b).isScoped = false →
        r.2.mem ((c.tc : Thread Cert.KernelIdeal.nD Cert.KernelIdeal.τ).loc b) = WF m c (Proc.devRef .tc b) :=
      fun b hb => h.1 c _ (devRef_mem_ucRefs b hb)
    have H : ∀ a ∈ Cert.KernelIdeal.Gen.Cond.argRefs, r.2.mem ((c.tc : Thread Cert.KernelIdeal.nD Cert.KernelIdeal.τ).loc a) = m ((c.tc : Thread Cert.KernelIdeal.nD Cert.KernelIdeal.τ).loc a) :=
      fun a ha => (R a (args_ne a ha).2.2.2).trans (WF_arg m c a ha)
    refine ⟨R _ (by decide), R _ (by decide), R _ (by decide), R _ (by decide), R _ (by decide), ?_⟩
    repeat' apply And.intro
    all_goals exact H _ (by decide)
  · have R : ∀ b : Ref Cert.ReferenceIdeal.sig .tc, (Proc.devRef (τ := Cert.ReferenceIdeal.τ) .tc b).isScoped = false →
        r.2.mem ((c.tc : Thread Cert.ReferenceIdeal.nD Cert.ReferenceIdeal.τ).loc b) = RF m' c (Proc.devRef .tc b) :=
      fun b hb => h.1 c _ (devRef_mem_ucRefs b hb)
    have H : ∀ a ∈ RefRun.argRefs, r.2.mem ((c.tc : Thread Cert.ReferenceIdeal.nD Cert.ReferenceIdeal.τ).loc a) = m' ((c.tc : Thread Cert.ReferenceIdeal.nD Cert.ReferenceIdeal.τ).loc a) :=
      fun a ha => (R a (args_unscoped a ha)).trans (RF_arg m' c a ha)
    refine ⟨(R _ (by decide)).trans (eq_of_heq (hF c (Cert.KernelIdeal.main_v933, Cert.ReferenceIdeal.main_v940) (mem_of (by decide +kernel)))).symm,
      (R _ (by decide)).trans (eq_of_heq (hF c (Cert.KernelIdeal.main_v934, Cert.ReferenceIdeal.main_v941) (mem_of (by decide +kernel)))).symm,
      (R _ (by decide)).trans (eq_of_heq (hF c (Cert.KernelIdeal.main_v935, Cert.ReferenceIdeal.main_v942) (mem_of (by decide +kernel)))).symm,
      (R _ (by decide)).trans (eq_of_heq (hF c (Cert.KernelIdeal.main_v936, Cert.ReferenceIdeal.main_v943) (mem_of (by decide +kernel)))).symm,
      (R _ (by decide)).trans (eq_of_heq (hF c (Cert.KernelIdeal.main_v937, Cert.ReferenceIdeal.main_v944) (mem_of (by decide +kernel)))).symm, ?_⟩
    repeat' apply And.intro
    all_goals exact H _ (by decide)

end Cert.Proof.Join

end
-- ==== Proof.Flat2.lean ====
/-
  THE INPUT PROJECTION, call by call: each of the 64 grid points multiplies its 512 rows by the whole weight, and the blocks of rows
  tile the result; so the array after the call is one product of all the rows (`final`).
-/
module

public import proofs.«01_k».proof.Proof.Gen.Kernel2Ideal.Frame
public import proofs.«01_k».proof.Proof.Products

@[expose] public section

noncomputable section

namespace Cert.Proof.Flat2

open Cert.Kernel2Ideal Cert.Kernel2Ideal.Gen
open Idealize.ShloMosaic Idealize.ShloMosaic.TcCoe Idealize.ShloMosaic.ValueIdx Idealize.SL.Sem
open Idealize.ShloMosaic.Pipeline (Dat)
open scoped BigOperators

/-- The product of all the rows: rounded to the narrow format, times the weight, from zero. -/
def G (x : Vec Ideal S32768x1024 .f32) (w : Vec Ideal S1024x2432 .bf16) : Vec Ideal S32768x2432 .f32 :=
  matmul (F := Ideal) (φ₁ := .bf16) (φ₂ := .bf16) (DotDims.plain 32768 1024 2432) none (truncf .bf16 x bitsLt_bf16_f32) w (constant ⟨2, ![32768, 2432]⟩ .f32 0x00000000#32)

theorem hz : (![0, 0] : Fin 2 → Nat) = fun _ => 0 := funext fun a => by fin_cases a <;> rfl

/-- What the body leaves in the result's buffer: the product of the block of rows and the weight. -/
theorem out_eq (x0 : Vec Ideal S512x1024 .f32) (x1 : Vec Ideal S1024x2432 .bf16) :
    out0_2 x0 x1 = matmul (F := Ideal) (φ₁ := .bf16) (φ₂ := .bf16) (DotDims.plain 512 1024 2432) none (truncf .bf16 x0 bitsLt_bf16_f32) x1 (constant ⟨2, ![512, 2432]⟩ .f32 0x00000000#32) := by
  unfold out0_2
  rw [View.canon_unit_zero hz]
  unfold k0_pay1
  simp only [View.ld_unit_zero (S := S512x1024) hz, View.ld_unit_zero (S := S1024x2432) hz, shapeCast_self]
  rfl

/-- The rows' and the result's blocks move with the grid point; the weight's stays. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `r` of block `t` among all the rows. -/
def row (t : Fin cfg0.N) (r : Fin 512) : Fin 32768 := ⟨t.val * 512 + r.val, by
  have h : t.val < 64 := t.isLt
  have := r.isLt
  omega⟩

theorem emb0 (t : Fin cfg0.N) (r : Fin 512) (k : Fin 1024) :
    ((cfg0.win 0).blk t).view.emb (ix2 r k : S512x1024.Idx) = (ix2 (row t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (k : Fin 1024) (n : Fin 2432) :
    ((cfg0.win 1).blk t).view.emb (ix2 k n : S1024x2432.Idx) = (ix2 k n : S1024x2432.Idx) := by
  obtain ⟨e0, e1⟩ := idx1 t
  funext a; apply Fin.ext
  match a with
  | ⟨0, _⟩ => show win0_1.index t (0 : Fin 2) * 1024 + 1 * k.val = k.val; omega
  | ⟨1, _⟩ => show win0_1.index t (1 : Fin 2) * 2432 + 1 * n.val = n.val; omega

theorem emb2 (t : Fin cfg0.N) (r : Fin 512) (n : Fin 2432) :
    ((cfg0.win 2).blk t).view.emb (ix2 r n : S512x2432.Idx) = (ix2 (row t r) n : S32768x2432.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 2432 + 1 * n.val = n.val; omega

variable (m : (ℓ : Loc nD τ sig) → Buf (Elt Ideal) ℓ) (ρ : Dev nD → PrngReg)

/-- The rows of block `t`, and the weight as block `t` finds it. -/
theorem iblk0_apply (c : Dev nD) (t : Fin cfg0.N) (r : Fin 512) (k : Fin 1024) :
    (iblk m c 0 t : Vec Ideal S512x1024 .f32) (ix2 r k) = (V m c main_v36 : Vec Ideal S32768x1024 .f32) (ix2 (row t r) k) := by
  show (V m c main_v36 : Vec Ideal S32768x1024 .f32) (((cfg0.win 0).blk t).view.emb (ix2 r k : S512x1024.Idx)) = _
  rw [emb0]

theorem iblk1_apply (c : Dev nD) (t : Fin cfg0.N) (k : Fin 1024) (n : Fin 2432) :
    (iblk m c 1 t : Vec Ideal S1024x2432 .bf16) (ix2 k n) = (V m c main_v38 : Vec Ideal S1024x2432 .bf16) (ix2 k n) := by
  show (V m c main_v38 : Vec Ideal S1024x2432 .bf16) (((cfg0.win 1).blk t).view.emb (ix2 k n : S1024x2432.Idx)) = _
  rw [emb1]

/-- A block's product at a place is the whole product at that place. -/
theorem block_eq (c : Dev nD) (t : Fin cfg0.N) (r : Fin 512) (n : Fin 2432) :
    out0_2 (iblk m c 0 t) (iblk m c 1 t) (ix2 r n) = G (V m c main_v36) (V m c main_v38) (ix2 (row t r) n) := by
  rw [out_eq]
  unfold G
  refine (Products.flat_apply (M := 512) bitsLt_bf16_f32 (iblk m c 0 t) (iblk m c 1 t) r n).trans
    (Eq.trans ?_ (Products.flat_apply (M := 32768) bitsLt_bf16_f32 (V m c main_v36) (V m c main_v38) (row t r) n).symm)
  refine Finset.sum_congr rfl fun k _ => ?_
  exact congrArg₂ (fun (a b : EReal) => a * b) (iblk0_apply m c t r k) (iblk1_apply m c t k n)

/-- What point `t` writes back is its block of the product of all the rows. -/
theorem flushed_eq (c : Dev nD) (t : Fin cfg0.N) :
    (dats m 0 c).flushed 2 t = ((cfg0.win 2).blk t).view.read (Elt Ideal) (G (V m c main_v36) (V m c main_v38)) := by
  show (cfg0.win 2).cut (grid0.coords t) ((dats m 0 c).after 2 t) = _
  rw [after0_2]
  funext j
  obtain ⟨r, n, rfl⟩ : ∃ (r : Fin 512) (n : Fin 2432), j = (ix2 r n : S512x2432.Idx) := ⟨j 0, j 1, eq_ix2 j⟩
  show out0_2 (iblk m c 0 t) (iblk m c 1 t) (ix2 r n) = G (V m c main_v36) (V m c main_v38) (((cfg0.win 2).blk t).view.emb (ix2 r n : S512x2432.Idx))
  rw [emb2]
  exact block_eq m c t r n

/-- Every place of the result is in some point's block. -/
theorem covered (i : S32768x2432.Idx) :
    ∃ t : Fin cfg0.N, (cfg0.win 2).flush t = true ∧ i ∈ ((cfg0.win 2).blk t).view.set := by
  obtain ⟨u, n, rfl⟩ : ∃ (u : Fin 32768) (n : Fin 2432), i = (ix2 u n : S32768x2432.Idx) := ⟨i 0, i 1, eq_ix2 i⟩
  have hu := u.isLt
  have ht : u.val / 512 < cfg0.N := by show u.val / 512 < 64; omega
  refine ⟨⟨u.val / 512, ht⟩, flush0_2 _, ?_⟩
  have h := ((cfg0.win 2).blk ⟨u.val / 512, ht⟩).view.emb_mem_set (ix2 (⟨u.val % 512, Nat.mod_lt _ (by omega)⟩ : Fin 512) n : S512x2432.Idx)
  rw [emb2] at h
  have e : row ⟨u.val / 512, ht⟩ ⟨u.val % 512, Nat.mod_lt _ (by omega)⟩ = u := Fin.ext (by
    show u.val / 512 * 512 + u.val % 512 = u.val; omega)
  rw [e] at h
  exact h

/-- THE RESULT ARRAY after the call: the product of all the rows and the weight, as the call finds them. -/
theorem final (c : Dev nD) : (dats m 0 c).arrAt 2 cfg0.N = G (V m c main_v36) (V m c main_v38) :=
  (dats m 0 c).arrAt_eq_of_cover 2 (G (V m c main_v36) (V m c main_v38)) (fun t _ => flushed_eq m c t) covered

end Cert.Proof.Flat2

end
-- ==== Proof.Parts2.lean ====
/-
  THE REFERENCE'S FIRST PART, IN PIECES: the hidden rows that the input projection multiplies (`hidden`), and the four states
  as functions of the projected rows (`cmpOf`, `selOf`, `winOf`, `convOf`). The reference's results are these of its
  product, by their definitions.
-/
module

public import proofs.«01_k».proof.Proof.Gen.Reference2Ideal.Run

@[expose] public section

set_option maxRecDepth 8192

noncomputable section

namespace Cert.Proof.Parts2

open Cert.Reference2Ideal Cert.Reference2Ideal.Gen Cert.Reference2Ideal.Value Idealize.ShloMosaic Idealize.ShloMosaic.TcCoe

variable {F : FTy → Type} [FloatOps F]

/-- The rows the input projection multiplies: the normalized rows, scaled and shifted by the conditioning. -/
def hidden (x : Vec F S8x4096x1024 .f32) (cc : Vec F S8x1024 .f32) (wa : Vec F S1x1024x6144 .f32) (ba : Vec F S1x6144 .f32)
    (n1 : Vec F S1x1024 .f32) : Vec F S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ n1 shapeCasts_S1x1024_S1024)))) (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 (addf (Host.dotGeneral dot_S8x1024_S1024x6144_S8x6144_1_0_0_1_n_n none (mulf cc (Host.divf (broadcastInDim S8x1024 ![] bcast_S_S8x1024 (constant S_ .f32 0x3F800000#32)) (addf (broadcastInDim S8x1024 ![] bcast_S_S8x1024 (constant S_ .f32 0x3F800000#32)) (Host.exp (Host.negf cc))))) (shapeCast _ wa shapeCasts_S1x1024x6144_S1024x6144)) (broadcastInDim S8x6144 ![0, 1] bcast_S1x6144_S8x6144_0_1 (broadcastInDim S1x6144 ![1] bcast_S6144_S1x6144_1 (shapeCast _ ba shapeCasts_S1x6144_S6144))))) slices_S8x1x6144_S8x1x1024_0_0_1024)))) (broadcastInDim S8x4096x1024 ![0, 1, 2] bcast_S8x1x1024_S8x4096x1024_0_1_2 (extractStridedSlice S8x1x1024 ![0, 0, 0] (broadcastInDim S8x1x6144 ![0, 2] bcast_S8x6144_S8x1x6144_0_2 (addf (Host.dotGeneral dot_S8x1024_S1024x6144_S8x6144_1_0_0_1_n_n none (mulf cc (Host.divf (broadcastInDim S8x1024 ![] bcast_S_S8x1024 (constant S_ .f32 0x3F800000#32)) (addf (broadcastInDim S8x1024 ![] bcast_S_S8x1024 (constant S_ .f32 0x3F800000#32)) (Host.exp (Host.negf cc))))) (shapeCast _ wa shapeCasts_S1x1024x6144_S1024x6144)) (broadcastInDim S8x6144 ![0, 1] bcast_S1x6144_S8x6144_0_1 (broadcastInDim S1x6144 ![1] bcast_S6144_S1x6144_1 (shapeCast _ ba shapeCasts_S1x6144_S6144))))) slices_S8x1x6144_S8x1x1024_0_0_0))

/-- The compressed branch's state, from the projected rows `z`. -/
def cmpOf (z : Vec F S8x4096x2328 .f32) : Vec F S1x8x4096x2x2x64 .f32 :=
  broadcastInDim S1x8x4096x2x2x64 ![1, 2, 3, 4, 5] bcast_S8x4096x2x2x64_S1x8x4096x2x2x64_1_2_3_4_5 (concatenate S8x4096x2x2x64 2 [⟨S8x4096x1x2x64, (broadcastInDim S8x4096x1x2x64 ![0, 1, 3, 4] bcast_S8x4096x2x64_S8x4096x1x2x64_0_1_3_4 (shapeCast _ (extractStridedSlice S8x4096x128 ![0, 0, 512] z slices_S8x4096x2328_S8x4096x128_0_0_512) shapeCasts_S8x4096x128_S8x4096x2x64))⟩, ⟨S8x4096x1x2x64, (broadcastInDim S8x4096x1x2x64 ![0, 1, 3, 4] bcast_S8x4096x2x64_S8x4096x1x2x64_0_1_3_4 (shapeCast _ (extractStridedSlice S8x4096x128 ![0, 0, 640] z slices_S8x4096x2328_S8x4096x128_0_0_640) shapeCasts_S8x4096x128_S8x4096x2x64))⟩] concatenates_S8x4096x1x2x64_S8x4096x1x2x64_S8x4096x2x2x64_d2)

/-- The selected branch's state, from the projected rows and the key norms. -/
def selOf (z : Vec F S8x4096x2328 .f32) (kn : Vec F S3x64 .f32) : Vec F S1x8x4096x2x2x64 .f32 :=
  broadcastInDim S1x8x4096x2x2x64 ![1, 2, 3, 4, 5] bcast_S8x4096x2x2x64_S1x8x4096x2x2x64_1_2_3_4_5 (concatenate S8x4096x2x2x64 2 [⟨S8x4096x1x2x64, (broadcastInDim S8x4096x1x2x64 ![0, 1, 3, 4] bcast_S8x4096x2x64_S8x4096x1x2x64_0_1_3_4 (mulf (mulf (shapeCast _ (extractStridedSlice S8x4096x128 ![0, 0, 768] z slices_S8x4096x2328_S8x4096x128_0_0_768) shapeCasts_S8x4096x128_S8x4096x2x64) (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf (shapeCast _ (extractStridedSlice S8x4096x128 ![0, 0, 768] z slices_S8x4096x2328_S8x4096x128_0_0_768) shapeCasts_S8x4096x128_S8x4096x2x64) (shapeCast _ (extractStridedSlice S8x4096x128 ![0, 0, 768] z slices_S8x4096x2328_S8x4096x128_0_0_768) shapeCasts_S8x4096x128_S8x4096x2x64)) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 (shapeCast _ (extractStridedSlice S1x64 ![1, 0] kn slices_S3x64_S1x64_1_0) shapeCasts_S1x64_S64)))))⟩, ⟨S8x4096x1x2x64, (broadcastInDim S8x4096x1x2x64 ![0, 1, 3, 4] bcast_S8x4096x2x64_S8x4096x1x2x64_0_1_3_4 (shapeCast _ (extractStridedSlice S8x4096x128 ![0, 0, 896] z slices_S8x4096x2328_S8x4096x128_0_0_896) shapeCasts_S8x4096x128_S8x4096x2x64))⟩] concatenates_S8x4096x1x2x64_S8x4096x1x2x64_S8x4096x2x2x64_d2)

/-- The window branch's state, from the projected rows and the key norms. -/
def winOf (z : Vec F S8x4096x2328 .f32) (kn : Vec F S3x64 .f32) : Vec F S1x8x512x2x2x64 .f32 :=
  broadcastInDim S1x8x512x2x2x64 ![1, 2, 3, 4, 5] bcast_S8x512x2x2x64_S1x8x512x2x2x64_1_2_3_4_5 (extractStridedSlice S8x512x2x2x64 ![0, 3584, 0, 0, 0] (concatenate S8x4096x2x2x64 2 [⟨S8x4096x1x2x64, (broadcastInDim S8x4096x1x2x64 ![0, 1, 3, 4] bcast_S8x4096x2x64_S8x4096x1x2x64_0_1_3_4 (mulf (mulf (shapeCast _ (extractStridedSlice S8x4096x128 ![0, 0, 1024] z slices_S8x4096x2328_S8x4096x128_0_0_1024) shapeCasts_S8x4096x128_S8x4096x2x64) (broadcastInDim S8x4096x2x64 ![0, 1, 2, 3] bcast_S8x4096x2x1_S8x4096x2x64_0_1_2_3 (Host.rsqrt (addf (Host.divf (broadcastInDim S8x4096x2x1 ![0, 1, 2] bcast_S8x4096x2_S8x4096x2x1_0_1_2 (Host.reduceAdd (mulf (shapeCast _ (extractStridedSlice S8x4096x128 ![0, 0, 1024] z slices_S8x4096x2328_S8x4096x128_0_0_1024) shapeCasts_S8x4096x128_S8x4096x2x64) (shapeCast _ (extractStridedSlice S8x4096x128 ![0, 0, 1024] z slices_S8x4096x2328_S8x4096x128_0_0_1024) shapeCasts_S8x4096x128_S8x4096x2x64)) (constant S_ .f32 0x00000000#32) reducesTo_S8x4096x2x64_S8x4096x2_d3 h_S_)) (broadcastInDim S8x4096x2x1 ![] bcast_S_S8x4096x2x1 (constant S_ .f32 0x42800000#32))) (broadcastInDim S8x4096x2x1 ![] bcast_S_S8x4096x2x1 (constant S_ .f32 0x358637BD#32)))))) (broadcastInDim S8x4096x2x64 ![0, 1, 2, 3] bcast_S1x1x1x64_S8x4096x2x64_0_1_2_3 (broadcastInDim S1x1x1x64 ![3] bcast_S64_S1x1x1x64_3 (shapeCast _ (extractStridedSlice S1x64 ![2, 0] kn slices_S3x64_S1x64_2_0) shapeCasts_S1x64_S64)))))⟩, ⟨S8x4096x1x2x64, (broadcastInDim S8x4096x1x2x64 ![0, 1, 3, 4] bcast_S8x4096x2x64_S8x4096x1x2x64_0_1_3_4 (shapeCast _ (extractStridedSlice S8x4096x128 ![0, 0, 1152] z slices_S8x4096x2328_S8x4096x128_0_0_1152) shapeCasts_S8x4096x128_S8x4096x2x64))⟩] concatenates_S8x4096x1x2x64_S8x4096x1x2x64_S8x4096x2x2x64_d2) slices_S8x4096x2x2x64_S8x512x2x2x64_0_3584_0_0_0)

/-- The convolution's state, from the projected rows. -/
def convOf (z : Vec F S8x4096x2328 .f32) : Vec F S1x8x30x512 .f32 :=
  broadcastInDim S1x8x30x512 ![1, 2, 3] bcast_S8x30x512_S1x8x30x512_1_2_3 (extractStridedSlice S8x30x512 ![0, 4096, 0] (concatenate S8x4126x512 1 [⟨S8x30x512, (broadcastInDim S8x30x512 ![] bcast_S_S8x30x512 (constant S_ .f32 0x00000000#32))⟩, ⟨S8x4096x512, (mulf (extractStridedSlice S8x4096x512 ![0, 0, 0] (extractStridedSlice S8x4096x1024 ![0, 0, 1304] z slices_S8x4096x2328_S8x4096x1024_0_0_1304) slices_S8x4096x1024_S8x4096x512_0_0_0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (extractStridedSlice S8x4096x512 ![0, 0, 512] (extractStridedSlice S8x4096x1024 ![0, 0, 1304] z slices_S8x4096x2328_S8x4096x1024_0_0_1304) slices_S8x4096x1024_S8x4096x512_0_0_512))))))⟩] concatenates_S8x30x512_S8x4096x512_S8x4126x512_d1) slices_S8x4126x512_S8x30x512_0_4096_0)

/-- The reference's product of the hidden rows and the weight. -/
def product (m : (ℓ : Loc nD τ sig) → Buf (Elt F) ℓ) (c : Dev nD) : Vec F S8x4096x2328 .f32 :=
  Host.dotGeneral dot_S8x4096x1024_S1024x2328_S8x4096x2328_2_0_01_1_n_n none
    (hidden (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)))
    (shapeCast _ (m ((c.tc : Thread nD τ).loc main_arg5)) shapeCasts_S1x1024x2328_S1024x2328)

/-- The reference's key norms. -/
def norms (m : (ℓ : Loc nD τ sig) → Buf (Elt F) ℓ) (c : Dev nD) : Vec F S3x64 .f32 :=
  shapeCast _ (m ((c.tc : Thread nD τ).loc main_arg6)) shapeCasts_S1x3x64_S3x64

theorem res_cmpOf (m : (ℓ : Loc nD τ sig) → Buf (Elt F) ℓ) (c : Dev nD) :
    res_main_v111 m c = cmpOf (product m c) := rfl

theorem res_selOf (m : (ℓ : Loc nD τ sig) → Buf (Elt F) ℓ) (c : Dev nD) :
    res_main_v112 m c = selOf (product m c) (norms m c) := rfl

theorem res_winOf (m : (ℓ : Loc nD τ sig) → Buf (Elt F) ℓ) (c : Dev nD) :
    res_main_v113 m c = winOf (product m c) (norms m c) := rfl

theorem res_convOf (m : (ℓ : Loc nD τ sig) → Buf (Elt F) ℓ) (c : Dev nD) :
    res_main_v114 m c = convOf (product m c) := rfl

end Cert.Proof.Parts2

end
-- ==== Proof.Tail2.lean ====
/-
  THE KERNEL'S LINES BEFORE AND AFTER THE INPUT PROJECTION, as functions of what they read: before it the hidden rows are
  laid flat and the weight padded (`rows`, `weight`), after it the product is cut back, laid out and split into the four
  states.
-/
module

public import proofs.«01_k».proof.Proof.Gen.Kernel2Ideal.Frame
public import proofs.«01_k».proof.Proof.Parts2

@[expose] public section

set_option maxRecDepth 8192

noncomputable section

namespace Cert.Proof.Tail2

open Cert.Kernel2Ideal Cert.Kernel2Ideal.Gen Idealize.ShloMosaic Idealize.ShloMosaic.TcCoe Idealize.ShloMosaic.StableHlo

variable {F : FTy → Type} [FloatOps F]

/-- The product cut back to the weight's own columns and laid out again. -/
def laid (y : Vec F S32768x2432 .f32) : Vec F S8x4096x2328 .f32 :=
  shapeCast S8x4096x2328 (extractStridedSlice S32768x2328 ![0, 0] y slices_S32768x2432_S32768x2328_0_0) shapeCasts_S32768x2328_S8x4096x2328

set_option maxHeartbeats 8000000 in
theorem after_cmpOf (W : Valuation τ sig (Elt F)) :
    after hostOps1 W (Proc.devRef .tc main_v109) = Parts2.cmpOf (laid (W (Proc.devRef .tc main_v39))) := by
  after_results_simp
  rfl

set_option maxHeartbeats 8000000 in
theorem after_selOf (W : Valuation τ sig (Elt F)) :
    after hostOps1 W (Proc.devRef .tc main_v110) = Parts2.selOf (laid (W (Proc.devRef .tc main_v39))) (W (Proc.devRef .tc main_v4)) := by
  after_results_simp
  rfl

set_option maxHeartbeats 8000000 in
theorem after_winOf (W : Valuation τ sig (Elt F)) :
    after hostOps1 W (Proc.devRef .tc main_v111) = Parts2.winOf (laid (W (Proc.devRef .tc main_v39))) (W (Proc.devRef .tc main_v4)) := by
  after_results_simp
  rfl

set_option maxHeartbeats 8000000 in
theorem after_convOf (W : Valuation τ sig (Elt F)) :
    after hostOps1 W (Proc.devRef .tc main_v112) = Parts2.convOf (laid (W (Proc.devRef .tc main_v39))) := by
  after_results_simp
  rfl

variable (m : (ℓ : Loc nD τ sig) → Buf (Elt F) ℓ)

set_option maxHeartbeats 8000000 in
/-- The rows the call multiplies: the hidden rows laid flat. -/
theorem rows (c : Dev nD) : V m c main_v36 = shapeCast S32768x1024
    (Parts2.hidden (m ((c : Thread nD τ).loc main_arg0)) (m ((c : Thread nD τ).loc main_arg1)) (m ((c : Thread nD τ).loc main_arg2))
      (m ((c : Thread nD τ).loc main_arg3)) (m ((c : Thread nD τ).loc main_arg4))) shapeCasts_S8x4096x1024_S32768x1024 := by
  show after (List.flatten [hostOps0, hostOps0_1, hostOps0_2, hostOps0_3, hostOps0_4]) (fun b => m (c, b)) (Proc.devRef .tc main_v36) = _
  simp only [List.flatten_cons, List.flatten_nil, List.append_nil, List.cons_append, List.nil_append, TRef.binary, TRef.nullary, TRef.unary, TRef.toBuf, TRef.ofBuf, cast_eq]
  after_results_simp
  rfl

set_option maxHeartbeats 8000000 in
/-- The weight the call multiplies by: the projection's, columns of zeros added, rounded. -/
theorem weight (c : Dev nD) : V m c main_v38 = (truncf .bf16 (pad S1024x2432 ![0, 0] ![0, 104] ![0, 0]
    (shapeCast S1024x2328 (m ((c : Thread nD τ).loc main_arg5) : Vec F S1x1024x2328 .f32) shapeCasts_S1x1024x2328_S1024x2328 : Vec F S1024x2328 .f32)
    (sitofp .f32 (constantI S_ 32 0#32)) pads_S1024x2328_S1024x2432_000_01040 h_S_) bitsLt_bf16_f32 : Vec F S1024x2432 .bf16) := by
  show after (List.flatten [hostOps0, hostOps0_1, hostOps0_2, hostOps0_3, hostOps0_4]) (fun b => m (c, b)) (Proc.devRef .tc main_v38) = _
  simp only [List.flatten_cons, List.flatten_nil, List.append_nil, List.cons_append, List.nil_append, TRef.binary, TRef.nullary, TRef.unary, TRef.toBuf, TRef.ofBuf, cast_eq]
  after_results_simp
  rfl

set_option maxHeartbeats 8000000 in
/-- The key norms after the lines before the call. -/
theorem norms (c : Dev nD) : V m c main_v4
    = shapeCast S3x64 (m ((c : Thread nD τ).loc main_arg6) : Vec F S1x3x64 .f32) shapeCasts_S1x3x64_S3x64 := by
  show after (List.flatten [hostOps0, hostOps0_1, hostOps0_2, hostOps0_3, hostOps0_4]) (fun b => m (c, b)) (Proc.devRef .tc main_v4) = _
  simp only [List.flatten_cons, List.flatten_nil, List.append_nil, List.cons_append, List.nil_append, TRef.binary, TRef.nullary, TRef.unary, TRef.toBuf, TRef.ofBuf, cast_eq]
  after_results_simp
  rfl

end Cert.Proof.Tail2

end
-- ==== Proof.Call2.lean ====
/-
  THE INPUT PROJECTION AND THE FOUR STATES: the product the call leaves, cut back and laid out, is the reference's product
  of the hidden rows; the states are the same functions of it.
-/
module

public import proofs.«01_k».proof.Defs
public import proofs.«01_k».proof.Proof.Flat2
public import proofs.«01_k».proof.Proof.Tail2

@[expose] public section

set_option maxRecDepth 8192

noncomputable section

namespace Cert.Proof.Call2

open Idealize.ShloMosaic Idealize.ShloMosaic.TcCoe Idealize.ShloMosaic.ValueIdx Idealize.SL.Sem

open Cert.Kernel2Ideal Cert.Kernel2Ideal.Gen Idealize.ShloMosaic.StableHlo

variable (m : (ℓ : Loc nD τ sig) → Buf (Elt Ideal) ℓ)

/-- The contents after the call, which the lines after it start from. -/
abbrev Wc (c : Dev nD) : Valuation τ sig (Elt Ideal) :=
  Pipeline.withArrays spec0 c (V0 m c) fun w => (dats m 0 c).arrAt w cfg0.N

/-- The product, cut back and laid out, as the call leaves it. -/
theorem laid_eq (c : Dev nD) : Tail2.laid (F := Ideal) (Wc m c (Proc.devRef .tc main_v39))
    = Host.dotGeneral (F := Ideal) (φ₁ := .f32) (φ₂ := .f32) (Products.rows3 8 4096 1024 2328) none
        (Parts2.hidden (m ((c : Thread nD τ).loc main_arg0)) (m ((c : Thread nD τ).loc main_arg1)) (m ((c : Thread nD τ).loc main_arg2))
          (m ((c : Thread nD τ).loc main_arg3)) (m ((c : Thread nD τ).loc main_arg4)))
        (shapeCast S1024x2328 (m ((c : Thread nD τ).loc main_arg5) : Vec Ideal S1x1024x2328 .f32) shapeCasts_S1x1024x2328_S1024x2328 : Vec Ideal S1024x2328 .f32) := by
  have hW : Wc m c (Proc.devRef .tc main_v39) = (dats m 0 c).arrAt 2 cfg0.N :=
    Pipeline.withArrays_arr spec0 (fun a b => (by decide : ∀ a b : Fin 3, Pipeline.arrRef spec0 a = Pipeline.arrRef spec0 b → a = b) a b) c (V0 m c) (fun w => (dats m 0 c).arrAt w cfg0.N) 2
  rw [hW, Flat2.final, Tail2.rows, Tail2.weight]
  exact Products.in_proj bitsLt_bf16_f32 rfl (by decide) _ _ _ _ _ _ _ _

/-- The key norms, which the call does not touch. -/
theorem norms_eq (c : Dev nD) : Wc m c (Proc.devRef .tc main_v4)
    = shapeCast S3x64 (m ((c : Thread nD τ).loc main_arg6) : Vec Ideal S1x3x64 .f32) shapeCasts_S1x3x64_S3x64 :=
  (Pipeline.withArrays_of_ne spec0 c (V0 m c) _ main_v4 (by exact (by decide : ∀ w, Pipeline.arrRef spec0 w ≠ main_v4))).trans (Tail2.norms m c)

/-- A result of the run, from the lines after the call. -/
theorem ends (r : PUnit × MemSt nD τ sig (Elt Ideal))
    (h : Pipeline.FramePost cfgs (dats m) 0 (Pipeline.afterTail₀ cfgs (dats m) 0 (V0 m) [hostOps1]) r) (c : Dev nD) (b : Ref sig .tc)
    (hb : b ∈ Pipeline.restRefs sig spec0) :
    r.2.mem ((c : Thread nD τ).loc b) = after hostOps1 (Wc m c) (Proc.devRef .tc b) :=
  ((h c).2 b hb).trans (by
    unfold Pipeline.afterTail₀
    rw [List.flatten_cons, List.flatten_nil, List.append_nil])

end Cert.Proof.Call2

end
-- ==== Proof.Join2.lean ====
/-
  THE FOUR STATES: both programs' states are the same functions of one product and of the key norms.
-/
module

public import proofs.«01_k».proof.Defs
public import proofs.«01_k».proof.Proof.Call2
public import proofs.«01_k».proof.Proof.Gen.Reference2Ideal.Run

@[expose] public section

set_option maxRecDepth 8192

noncomputable section

namespace Cert.Proof.Join2

open Cert.Proof.Call2 Idealize.ShloMosaic Idealize.ShloMosaic.TcCoe Idealize.ShloMosaic.ValueIdx Idealize.SL.Sem

open Cert.Kernel2Ideal Cert.Kernel2Ideal.Gen Idealize.ShloMosaic.StableHlo

variable (m : (ℓ : Loc nD τ sig) → Buf (Elt Ideal) ℓ)

variable (m' : (ℓ : Loc Cert.Reference2Ideal.nD Cert.Reference2Ideal.τ Cert.Reference2Ideal.sig) → Buf (Elt Ideal) ℓ)

/-- The two programs' arguments agree on a core. -/
abbrev ArgsAgree (c : Dev nD) : Prop :=
  Eq (α := Vec Ideal S8x4096x1024 .f32) (m' ((c.tc : Thread Cert.Reference2Ideal.nD Cert.Reference2Ideal.τ).loc Cert.Reference2Ideal.main_arg0)) (m ((c.tc : Thread nD τ).loc main_arg0))
    ∧ Eq (α := Vec Ideal S8x1024 .f32) (m' ((c.tc : Thread Cert.Reference2Ideal.nD Cert.Reference2Ideal.τ).loc Cert.Reference2Ideal.main_arg1)) (m ((c.tc : Thread nD τ).loc main_arg1))
    ∧ Eq (α := Vec Ideal S1x1024x6144 .f32) (m' ((c.tc : Thread Cert.Reference2Ideal.nD Cert.Reference2Ideal.τ).loc Cert.Reference2Ideal.main_arg2)) (m ((c.tc : Thread nD τ).loc main_arg2))
    ∧ Eq (α := Vec Ideal S1x6144 .f32) (m' ((c.tc : Thread Cert.Reference2Ideal.nD Cert.Reference2Ideal.τ).loc Cert.Reference2Ideal.main_arg3)) (m ((c.tc : Thread nD τ).loc main_arg3))
    ∧ Eq (α := Vec Ideal S1x1024 .f32) (m' ((c.tc : Thread Cert.Reference2Ideal.nD Cert.Reference2Ideal.τ).loc Cert.Reference2Ideal.main_arg4)) (m ((c.tc : Thread nD τ).loc main_arg4))
    ∧ Eq (α := Vec Ideal S1x1024x2328 .f32) (m' ((c.tc : Thread Cert.Reference2Ideal.nD Cert.Reference2Ideal.τ).loc Cert.Reference2Ideal.main_arg5)) (m ((c.tc : Thread nD τ).loc main_arg5))
    ∧ Eq (α := Vec Ideal S1x3x64 .f32) (m' ((c.tc : Thread Cert.Reference2Ideal.nD Cert.Reference2Ideal.τ).loc Cert.Reference2Ideal.main_arg6)) (m ((c.tc : Thread nD τ).loc main_arg6))

/-- The reference's product, from equal arguments, in the kernel's words. -/
theorem same {x x' : FVec Ideal ⟨3, ![8, 4096, 1024]⟩ .f32} {w w' : FVec Ideal ⟨2, ![1024, 2328]⟩ .f32} (hx : x' = x) (hw : w' = w) :
    Host.dotGeneral (F := Ideal) Cert.Reference2Ideal.dot_S8x4096x1024_S1024x2328_S8x4096x2328_2_0_01_1_n_n none x' w'
      = Host.dotGeneral (F := Ideal) (Products.rows3 8 4096 1024 2328) none x w := by
  subst hx hw
  rfl

theorem hidden_same {x x' : Vec Ideal S8x4096x1024 .f32} {cc cc' : Vec Ideal S8x1024 .f32} {wa wa' : Vec Ideal S1x1024x6144 .f32}
    {ba ba' : Vec Ideal S1x6144 .f32} {n n' : Vec Ideal S1x1024 .f32}
    (h0 : x' = x) (h1 : cc' = cc) (h2 : wa' = wa) (h3 : ba' = ba) (h4 : n' = n) :
    Parts2.hidden (F := Ideal) x' cc' wa' ba' n' = Parts2.hidden x cc wa ba n := by
  rw [h0, h1, h2, h3, h4]

theorem product_eq (c : Dev nD) (ha : ArgsAgree m m' c) :
    Parts2.product m' c = Tail2.laid (F := Ideal) (Wc m c (Proc.devRef .tc main_v39)) := by
  obtain ⟨a0, a1, a2, a3, a4, a5, -⟩ := ha
  refine Eq.trans ?_ (laid_eq m c).symm
  exact same (hidden_same a0 a1 a2 a3 a4) (congrArg (fun w : Vec Ideal S1x1024x2328 .f32 => (shapeCast S1024x2328 w shapeCasts_S1x1024x2328_S1024x2328 : Vec Ideal S1024x2328 .f32)) a5)

theorem norms_same (c : Dev nD) (ha : ArgsAgree m m' c) : Parts2.norms m' c = Wc m c (Proc.devRef .tc main_v4) := by
  obtain ⟨-, -, -, -, -, -, a6⟩ := ha
  refine Eq.trans ?_ (norms_eq m c).symm
  exact congrArg (fun w : Vec Ideal S1x3x64 .f32 => (shapeCast S3x64 w shapeCasts_S1x3x64_S3x64 : Vec Ideal S3x64 .f32)) a6

/-- THE CLAIM: from memories agreeing on the arguments both programs run, end with equal states and leave the arguments. -/
theorem algebraic : @Cert.algebraic_Kernel2Ideal_Reference2Ideal Cert.Kernel2Ideal.Gen.facts Cert.Reference2Ideal.Gen.facts := by
  intro m g m' g' _ ha
  refine ⟨fun c => Parts2.cmpOf (Tail2.laid (Wc m c (Proc.devRef .tc main_v39))),
    fun c => Parts2.selOf (Tail2.laid (Wc m c (Proc.devRef .tc main_v39))) (Wc m c (Proc.devRef .tc main_v4)),
    fun c => Parts2.winOf (Tail2.laid (Wc m c (Proc.devRef .tc main_v39))) (Wc m c (Proc.devRef .tc main_v4)),
    fun c => Parts2.convOf (Tail2.laid (Wc m c (Proc.devRef .tc main_v39))),
    θ_run_mono (θ_run_and (run_main m g) (unchanged m g)) fun r h c =>
      ⟨(ends m r h.1 c main_v109 (Pipeline.mem_restRefs_of main_v109 (by decide) (by decide))).trans (Tail2.after_cmpOf _),
       (ends m r h.1 c main_v110 (Pipeline.mem_restRefs_of main_v110 (by decide) (by decide))).trans (Tail2.after_selOf _),
       (ends m r h.1 c main_v111 (Pipeline.mem_restRefs_of main_v111 (by decide) (by decide))).trans (Tail2.after_winOf _),
       (ends m r h.1 c main_v112 (Pipeline.mem_restRefs_of main_v112 (by decide) (by decide))).trans (Tail2.after_convOf _), h.2 c⟩,
    θ_run_mono (Cert.Reference2Ideal.Value.run m' g') fun r h c => ?_⟩
  obtain ⟨h0, h1, h2, h3, hargs⟩ := h c
  have hp := product_eq m m' c (ha c)
  have hn := norms_same m m' c (ha c)
  refine ⟨h0.trans ?_, h1.trans ?_, h2.trans ?_, h3.trans ?_, hargs⟩
  · rw [Parts2.res_cmpOf, hp]
  · rw [Parts2.res_selOf, hp, hn]
  · rw [Parts2.res_winOf, hp, hn]
  · rw [Parts2.res_convOf, hp]

end Cert.Proof.Join2

end
-- ==== Proof.Flat3.lean ====
/-
  THE OUTPUT PROJECTION, call by call: each of the 64 grid points multiplies its 512 rows by the whole weight, and the blocks of rows
  tile the result; so the array after the call is one product of all the rows (`final`).
-/
module

public import proofs.«01_k».proof.Proof.Gen.Kernel3Ideal.Value
public import proofs.«01_k».proof.Proof.Products

@[expose] public section

noncomputable section

namespace Cert.Proof.Flat3

open Cert.Kernel3Ideal Cert.Kernel3Ideal.Gen
open Idealize.ShloMosaic Idealize.ShloMosaic.TcCoe Idealize.ShloMosaic.ValueIdx Idealize.SL.Sem
open Idealize.ShloMosaic.Pipeline (Dat)
open scoped BigOperators

/-- The product of all the rows: rounded to the narrow format, times the weight, from zero. -/
def G (x : Vec Ideal S32768x1024 .f32) (w : Vec Ideal S1024x1024 .bf16) : Vec Ideal S32768x1024 .f32 :=
  matmul (F := Ideal) (φ₁ := .bf16) (φ₂ := .bf16) (DotDims.plain 32768 1024 1024) none (truncf .bf16 x bitsLt_bf16_f32) w (constant ⟨2, ![32768, 1024]⟩ .f32 0x00000000#32)

theorem hz : (![0, 0] : Fin 2 → Nat) = fun _ => 0 := funext fun a => by fin_cases a <;> rfl

/-- What the body leaves in the result's buffer: the product of the block of rows and the weight. -/
theorem out_eq (x0 : Vec Ideal S512x1024 .f32) (x1 : Vec Ideal S1024x1024 .bf16) :
    out0_2 x0 x1 = matmul (F := Ideal) (φ₁ := .bf16) (φ₂ := .bf16) (DotDims.plain 512 1024 1024) none (truncf .bf16 x0 bitsLt_bf16_f32) x1 (constant ⟨2, ![512, 1024]⟩ .f32 0x00000000#32) := by
  unfold out0_2
  rw [View.canon_unit_zero hz]
  unfold k0_pay1
  simp only [View.ld_unit_zero (S := S512x1024) hz, View.ld_unit_zero (S := S1024x1024) hz, shapeCast_self]
  rfl

/-- The rows' and the result's blocks move with the grid point; the weight's stays. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `r` of block `t` among all the rows. -/
def row (t : Fin cfg0.N) (r : Fin 512) : Fin 32768 := ⟨t.val * 512 + r.val, by
  have h : t.val < 64 := t.isLt
  have := r.isLt
  omega⟩

theorem emb0 (t : Fin cfg0.N) (r : Fin 512) (k : Fin 1024) :
    ((cfg0.win 0).blk t).view.emb (ix2 r k : S512x1024.Idx) = (ix2 (row t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (k : Fin 1024) (n : Fin 1024) :
    ((cfg0.win 1).blk t).view.emb (ix2 k n : S1024x1024.Idx) = (ix2 k n : S1024x1024.Idx) := by
  obtain ⟨e0, e1⟩ := idx1 t
  funext a; apply Fin.ext
  match a with
  | ⟨0, _⟩ => show win0_1.index t (0 : Fin 2) * 1024 + 1 * k.val = k.val; omega
  | ⟨1, _⟩ => show win0_1.index t (1 : Fin 2) * 1024 + 1 * n.val = n.val; omega

theorem emb2 (t : Fin cfg0.N) (r : Fin 512) (n : Fin 1024) :
    ((cfg0.win 2).blk t).view.emb (ix2 r n : S512x1024.Idx) = (ix2 (row t r) n : S32768x1024.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 1024 + 1 * n.val = n.val; omega

variable (m : (ℓ : Loc nD τ sig) → Buf (Elt Ideal) ℓ) (ρ : Dev nD → PrngReg)

/-- The rows of block `t`, and the weight as block `t` finds it. -/
theorem iblk0_apply (c : Dev nD) (t : Fin cfg0.N) (r : Fin 512) (k : Fin 1024) :
    (iblk m c 0 t : Vec Ideal S512x1024 .f32) (ix2 r k) = (V m c main_v0 : Vec Ideal S32768x1024 .f32) (ix2 (row t r) k) := by
  show (V m c main_v0 : Vec Ideal S32768x1024 .f32) (((cfg0.win 0).blk t).view.emb (ix2 r k : S512x1024.Idx)) = _
  rw [emb0]

theorem iblk1_apply (c : Dev nD) (t : Fin cfg0.N) (k : Fin 1024) (n : Fin 1024) :
    (iblk m c 1 t : Vec Ideal S1024x1024 .bf16) (ix2 k n) = (V m c main_v3 : Vec Ideal S1024x1024 .bf16) (ix2 k n) := by
  show (V m c main_v3 : Vec Ideal S1024x1024 .bf16) (((cfg0.win 1).blk t).view.emb (ix2 k n : S1024x1024.Idx)) = _
  rw [emb1]

/-- A block's product at a place is the whole product at that place. -/
theorem block_eq (c : Dev nD) (t : Fin cfg0.N) (r : Fin 512) (n : Fin 1024) :
    out0_2 (iblk m c 0 t) (iblk m c 1 t) (ix2 r n) = G (V m c main_v0) (V m c main_v3) (ix2 (row t r) n) := by
  rw [out_eq]
  unfold G
  refine (Products.flat_apply (M := 512) bitsLt_bf16_f32 (iblk m c 0 t) (iblk m c 1 t) r n).trans
    (Eq.trans ?_ (Products.flat_apply (M := 32768) bitsLt_bf16_f32 (V m c main_v0) (V m c main_v3) (row t r) n).symm)
  refine Finset.sum_congr rfl fun k _ => ?_
  exact congrArg₂ (fun (a b : EReal) => a * b) (iblk0_apply m c t r k) (iblk1_apply m c t k n)

/-- What point `t` writes back is its block of the product of all the rows. -/
theorem flushed_eq (c : Dev nD) (t : Fin cfg0.N) :
    (dats m 0 c).flushed 2 t = ((cfg0.win 2).blk t).view.read (Elt Ideal) (G (V m c main_v0) (V m c main_v3)) := by
  show (cfg0.win 2).cut (grid0.coords t) ((dats m 0 c).after 2 t) = _
  rw [after0_2]
  funext j
  obtain ⟨r, n, rfl⟩ : ∃ (r : Fin 512) (n : Fin 1024), j = (ix2 r n : S512x1024.Idx) := ⟨j 0, j 1, eq_ix2 j⟩
  show out0_2 (iblk m c 0 t) (iblk m c 1 t) (ix2 r n) = G (V m c main_v0) (V m c main_v3) (((cfg0.win 2).blk t).view.emb (ix2 r n : S512x1024.Idx))
  rw [emb2]
  exact block_eq m c t r n

/-- Every place of the result is in some point's block. -/
theorem covered (i : S32768x1024.Idx) :
    ∃ t : Fin cfg0.N, (cfg0.win 2).flush t = true ∧ i ∈ ((cfg0.win 2).blk t).view.set := by
  obtain ⟨u, n, rfl⟩ : ∃ (u : Fin 32768) (n : Fin 1024), i = (ix2 u n : S32768x1024.Idx) := ⟨i 0, i 1, eq_ix2 i⟩
  have hu := u.isLt
  have ht : u.val / 512 < cfg0.N := by show u.val / 512 < 64; omega
  refine ⟨⟨u.val / 512, ht⟩, flush0_2 _, ?_⟩
  have h := ((cfg0.win 2).blk ⟨u.val / 512, ht⟩).view.emb_mem_set (ix2 (⟨u.val % 512, Nat.mod_lt _ (by omega)⟩ : Fin 512) n : S512x1024.Idx)
  rw [emb2] at h
  have e : row ⟨u.val / 512, ht⟩ ⟨u.val % 512, Nat.mod_lt _ (by omega)⟩ = u := Fin.ext (by
    show u.val / 512 * 512 + u.val % 512 = u.val; omega)
  rw [e] at h
  exact h

/-- THE RESULT ARRAY after the call: the product of all the rows and the weight, as the call finds them. -/
theorem final (c : Dev nD) : (dats m 0 c).arrAt 2 cfg0.N = G (V m c main_v0) (V m c main_v3) :=
  (dats m 0 c).arrAt_eq_of_cover 2 (G (V m c main_v0) (V m c main_v3)) (fun t _ => flushed_eq m c t) covered

end Cert.Proof.Flat3

end
-- ==== Proof.Call3.lean ====
/-
  THE OUTPUT PROJECTION: the call's array is the reference's product, so the two programs end with equal results.
-/
module

public import proofs.«01_k».proof.Defs
public import proofs.«01_k».proof.Proof.Flat3
public import proofs.«01_k».proof.Proof.Gen.Reference3Ideal.Run

@[expose] public section

set_option maxRecDepth 8192

noncomputable section

namespace Cert.Proof.Call3

open Idealize.ShloMosaic Idealize.ShloMosaic.TcCoe Idealize.ShloMosaic.ValueIdx Idealize.SL.Sem

section Kernel

open Cert.Kernel3Ideal Cert.Kernel3Ideal.Gen Idealize.ShloMosaic.StableHlo

variable (m : (ℓ : Loc nD τ sig) → Buf (Elt Ideal) ℓ)

/-- The rows the call multiplies: the argument's, laid flat. -/
theorem rows (c : Dev nD) : V m c main_v0
    = shapeCast S32768x1024 (m ((c : Thread nD τ).loc main_arg0) : Vec Ideal S8x4096x1024 .f32) shapeCasts_S8x4096x1024_S32768x1024 := by
  show after (List.flatten [hostOps0, hostOps0_1, hostOps0_2]) (fun b => m (c, b)) (Proc.devRef .tc main_v0) = _
  simp only [List.flatten_cons, List.flatten_nil, List.append_nil, List.cons_append, List.nil_append, TRef.binary, TRef.nullary, TRef.unary, TRef.toBuf, TRef.ofBuf, cast_eq]
  after_results_simp
  rfl

/-- The weight the call multiplies by: the argument's, rounded; no column is added to it. -/
theorem weight (c : Dev nD) : V m c main_v3 = (truncf (F := Ideal) .bf16 (pad S1024x1024 ![0, 0] ![0, 0] ![0, 0]
    (shapeCast S1024x1024 (m ((c : Thread nD τ).loc main_arg1) : Vec Ideal S1x1024x1024 .f32) shapeCasts_S1x1024x1024_S1024x1024 : Vec Ideal S1024x1024 .f32)
    (sitofp .f32 (constantI S_ 32 0#32)) pads_S1024x1024_S1024x1024_000_000 h_S_) bitsLt_bf16_f32 : Vec Ideal S1024x1024 .bf16) := by
  show after (List.flatten [hostOps0, hostOps0_1, hostOps0_2]) (fun b => m (c, b)) (Proc.devRef .tc main_v3) = _
  simp only [List.flatten_cons, List.flatten_nil, List.append_nil, List.cons_append, List.nil_append, TRef.binary, TRef.nullary, TRef.unary, TRef.toBuf, TRef.ofBuf, cast_eq]
  after_results_simp
  rfl

/-- The array after the call, from the two arguments. -/
theorem result (c : Dev nD) : (dats m 0 c).arrAt 2 cfg0.N = Flat3.G
    (shapeCast S32768x1024 (m ((c : Thread nD τ).loc main_arg0) : Vec Ideal S8x4096x1024 .f32) shapeCasts_S8x4096x1024_S32768x1024)
    (truncf (F := Ideal) .bf16 (pad S1024x1024 ![0, 0] ![0, 0] ![0, 0]
      (shapeCast S1024x1024 (m ((c : Thread nD τ).loc main_arg1) : Vec Ideal S1x1024x1024 .f32) shapeCasts_S1x1024x1024_S1024x1024 : Vec Ideal S1024x1024 .f32)
      (sitofp .f32 (constantI S_ 32 0#32)) pads_S1024x1024_S1024x1024_000_000 h_S_) bitsLt_bf16_f32) :=
  (Flat3.final m c).trans (congrArg₂ Flat3.G (rows m c) (weight m c))

end Kernel

/-- One product of all the rows, as the kernel and as the reference write it. -/
theorem same (hb : FTy.bf16.bits < FTy.f32.bits) (x : FVec Ideal ⟨3, ![8, 4096, 1024]⟩ .f32) (w : FVec Ideal ⟨2, ![1024, 1024]⟩ .f32) (z : FVec Ideal ⟨0, ![]⟩ .f32)
    (hx : (⟨3, ![8, 4096, 1024]⟩ : Shape).ShapeCasts ⟨2, ![32768, 1024]⟩)
    (h : (⟨2, ![1024, 1024]⟩ : Shape).Pads ![0, 0] ![0, 0] ![0, 0] ⟨2, ![1024, 1024]⟩) (hu : 0 < (⟨0, ![]⟩ : Shape).numel)
    (ho : (⟨3, ![8, 4096, 1024]⟩ : Shape).ShapeCasts ⟨2, ![32768, 1024]⟩) :
    shapeCast ⟨2, ![32768, 1024]⟩ (Host.dotGeneral (F := Ideal) (Products.rows3 8 4096 1024 1024) none x w) ho
      = Flat3.G (shapeCast ⟨2, ![32768, 1024]⟩ x hx) (truncf (F := Ideal) .bf16 (pad ⟨2, ![1024, 1024]⟩ ![0, 0] ![0, 0] ![0, 0] w z h hu) hb) := by
  rw [← Products.out_proj hb rfl x w z hx h hu ho.symm, shapeCast_shapeCast]
  rfl

/-- THE CLAIM: from memories agreeing on the arguments both programs run, end with equal results and leave the arguments. -/
theorem algebraic : @Cert.algebraic_Kernel3Ideal_Reference3Ideal Cert.Kernel3Ideal.Gen.facts Cert.Reference3Ideal.Gen.facts := by
  intro m g m' g' _ ha
  refine ⟨fun c => (Cert.Kernel3Ideal.Gen.dats m 0 c).arrAt 2 Cert.Kernel3Ideal.cfg0.N, θ_run_mono (Cert.Kernel3Ideal.Value.run_blocks m g) fun r h c => h c,
    θ_run_mono (Cert.Reference3Ideal.Value.run m' g') fun r h c => ⟨(h c).1.trans ?_, (h c).2⟩⟩
  refine Eq.trans ?_ (result m c).symm
  obtain ⟨a0, a1⟩ := ha c
  rw [a0, a1]
  exact same Cert.Kernel3Ideal.Gen.bitsLt_bf16_f32 _ _ _ _ _ _ _

end Cert.Proof.Call3

end
-- ==== Proof.Flat4.lean ====
/-
  THE QUERY PRODUCT, call by call: each of the 64 grid points multiplies its 512 rows by the whole weight, and the blocks of rows
  tile the result; so the array after the call is one product of all the rows (`final`).
-/
module

public import proofs.«01_k».proof.Proof.Gen.Kernel4Ideal.Value
public import proofs.«01_k».proof.Proof.Products

@[expose] public section

noncomputable section

namespace Cert.Proof.Flat4

open Cert.Kernel4Ideal Cert.Kernel4Ideal.Gen
open Idealize.ShloMosaic Idealize.ShloMosaic.TcCoe Idealize.ShloMosaic.ValueIdx Idealize.SL.Sem
open Idealize.ShloMosaic.Pipeline (Dat)
open scoped BigOperators

/-- The product of all the rows: rounded to the narrow format, times the weight, from zero. -/
def G (x : Vec Ideal S32768x1024 .f32) (w : Vec Ideal S1024x2048 .bf16) : Vec Ideal S32768x2048 .f32 :=
  matmul (F := Ideal) (φ₁ := .bf16) (φ₂ := .bf16) (DotDims.plain 32768 1024 2048) none (truncf .bf16 x bitsLt_bf16_f32) w (constant ⟨2, ![32768, 2048]⟩ .f32 0x00000000#32)

theorem hz : (![0, 0] : Fin 2 → Nat) = fun _ => 0 := funext fun a => by fin_cases a <;> rfl

/-- What the body leaves in the result's buffer: the product of the block of rows and the weight. -/
theorem out_eq (x0 : Vec Ideal S512x1024 .f32) (x1 : Vec Ideal S1024x2048 .bf16) :
    out0_2 x0 x1 = matmul (F := Ideal) (φ₁ := .bf16) (φ₂ := .bf16) (DotDims.plain 512 1024 2048) none (truncf .bf16 x0 bitsLt_bf16_f32) x1 (constant ⟨2, ![512, 2048]⟩ .f32 0x00000000#32) := by
  unfold out0_2
  rw [View.canon_unit_zero hz]
  unfold k0_pay1
  simp only [View.ld_unit_zero (S := S512x1024) hz, View.ld_unit_zero (S := S1024x2048) hz, shapeCast_self]
  rfl

/-- The rows' and the result's blocks move with the grid point; the weight's stays. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row `r` of block `t` among all the rows. -/
def row (t : Fin cfg0.N) (r : Fin 512) : Fin 32768 := ⟨t.val * 512 + r.val, by
  have h : t.val < 64 := t.isLt
  have := r.isLt
  omega⟩

theorem emb0 (t : Fin cfg0.N) (r : Fin 512) (k : Fin 1024) :
    ((cfg0.win 0).blk t).view.emb (ix2 r k : S512x1024.Idx) = (ix2 (row t r) k : S32768x1024.Idx) := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (k : Fin 1024) (n : Fin 2048) :
    ((cfg0.win 1).blk t).view.emb (ix2 k n : S1024x2048.Idx) = (ix2 k n : S1024x2048.Idx) := by
  obtain ⟨e0, e1⟩ := idx1 t
  funext a; apply Fin.ext
  match a with
  | ⟨0, _⟩ => show win0_1.index t (0 : Fin 2) * 1024 + 1 * k.val = k.val; omega
  | ⟨1, _⟩ => show win0_1.index t (1 : Fin 2) * 2048 + 1 * n.val = n.val; omega

theorem emb2 (t : Fin cfg0.N) (r : Fin 512) (n : Fin 2048) :
    ((cfg0.win 2).blk t).view.emb (ix2 r n : S512x2048.Idx) = (ix2 (row t r) n : S32768x2048.Idx) := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 2048 + 1 * n.val = n.val; omega

variable (m : (ℓ : Loc nD τ sig) → Buf (Elt Ideal) ℓ) (ρ : Dev nD → PrngReg)

/-- The rows of block `t`, and the weight as block `t` finds it. -/
theorem iblk0_apply (c : Dev nD) (t : Fin cfg0.N) (r : Fin 512) (k : Fin 1024) :
    (iblk m c 0 t : Vec Ideal S512x1024 .f32) (ix2 r k) = (V m c main_v0 : Vec Ideal S32768x1024 .f32) (ix2 (row t r) k) := by
  show (V m c main_v0 : Vec Ideal S32768x1024 .f32) (((cfg0.win 0).blk t).view.emb (ix2 r k : S512x1024.Idx)) = _
  rw [emb0]

theorem iblk1_apply (c : Dev nD) (t : Fin cfg0.N) (k : Fin 1024) (n : Fin 2048) :
    (iblk m c 1 t : Vec Ideal S1024x2048 .bf16) (ix2 k n) = (V m c main_v3 : Vec Ideal S1024x2048 .bf16) (ix2 k n) := by
  show (V m c main_v3 : Vec Ideal S1024x2048 .bf16) (((cfg0.win 1).blk t).view.emb (ix2 k n : S1024x2048.Idx)) = _
  rw [emb1]

/-- A block's product at a place is the whole product at that place. -/
theorem block_eq (c : Dev nD) (t : Fin cfg0.N) (r : Fin 512) (n : Fin 2048) :
    out0_2 (iblk m c 0 t) (iblk m c 1 t) (ix2 r n) = G (V m c main_v0) (V m c main_v3) (ix2 (row t r) n) := by
  rw [out_eq]
  unfold G
  refine (Products.flat_apply (M := 512) bitsLt_bf16_f32 (iblk m c 0 t) (iblk m c 1 t) r n).trans
    (Eq.trans ?_ (Products.flat_apply (M := 32768) bitsLt_bf16_f32 (V m c main_v0) (V m c main_v3) (row t r) n).symm)
  refine Finset.sum_congr rfl fun k _ => ?_
  exact congrArg₂ (fun (a b : EReal) => a * b) (iblk0_apply m c t r k) (iblk1_apply m c t k n)

/-- What point `t` writes back is its block of the product of all the rows. -/
theorem flushed_eq (c : Dev nD) (t : Fin cfg0.N) :
    (dats m 0 c).flushed 2 t = ((cfg0.win 2).blk t).view.read (Elt Ideal) (G (V m c main_v0) (V m c main_v3)) := by
  show (cfg0.win 2).cut (grid0.coords t) ((dats m 0 c).after 2 t) = _
  rw [after0_2]
  funext j
  obtain ⟨r, n, rfl⟩ : ∃ (r : Fin 512) (n : Fin 2048), j = (ix2 r n : S512x2048.Idx) := ⟨j 0, j 1, eq_ix2 j⟩
  show out0_2 (iblk m c 0 t) (iblk m c 1 t) (ix2 r n) = G (V m c main_v0) (V m c main_v3) (((cfg0.win 2).blk t).view.emb (ix2 r n : S512x2048.Idx))
  rw [emb2]
  exact block_eq m c t r n

/-- Every place of the result is in some point's block. -/
theorem covered (i : S32768x2048.Idx) :
    ∃ t : Fin cfg0.N, (cfg0.win 2).flush t = true ∧ i ∈ ((cfg0.win 2).blk t).view.set := by
  obtain ⟨u, n, rfl⟩ : ∃ (u : Fin 32768) (n : Fin 2048), i = (ix2 u n : S32768x2048.Idx) := ⟨i 0, i 1, eq_ix2 i⟩
  have hu := u.isLt
  have ht : u.val / 512 < cfg0.N := by show u.val / 512 < 64; omega
  refine ⟨⟨u.val / 512, ht⟩, flush0_2 _, ?_⟩
  have h := ((cfg0.win 2).blk ⟨u.val / 512, ht⟩).view.emb_mem_set (ix2 (⟨u.val % 512, Nat.mod_lt _ (by omega)⟩ : Fin 512) n : S512x2048.Idx)
  rw [emb2] at h
  have e : row ⟨u.val / 512, ht⟩ ⟨u.val % 512, Nat.mod_lt _ (by omega)⟩ = u := Fin.ext (by
    show u.val / 512 * 512 + u.val % 512 = u.val; omega)
  rw [e] at h
  exact h

/-- THE RESULT ARRAY after the call: the product of all the rows and the weight, as the call finds them. -/
theorem final (c : Dev nD) : (dats m 0 c).arrAt 2 cfg0.N = G (V m c main_v0) (V m c main_v3) :=
  (dats m 0 c).arrAt_eq_of_cover 2 (G (V m c main_v0) (V m c main_v3)) (fun t _ => flushed_eq m c t) covered

end Cert.Proof.Flat4

end
-- ==== Proof.Call4.lean ====
/-
  THE QUERY PRODUCT: the call's array is the reference's product, so the two programs end with equal results.
-/
module

public import proofs.«01_k».proof.Defs
public import proofs.«01_k».proof.Proof.Flat4
public import proofs.«01_k».proof.Proof.Gen.Reference4Ideal.Run

@[expose] public section

set_option maxRecDepth 8192

noncomputable section

namespace Cert.Proof.Call4

open Idealize.ShloMosaic Idealize.ShloMosaic.TcCoe Idealize.ShloMosaic.ValueIdx Idealize.SL.Sem

section Kernel

open Cert.Kernel4Ideal Cert.Kernel4Ideal.Gen Idealize.ShloMosaic.StableHlo

variable (m : (ℓ : Loc nD τ sig) → Buf (Elt Ideal) ℓ)

/-- The rows the call multiplies: the argument's, laid flat. -/
theorem rows (c : Dev nD) : V m c main_v0
    = shapeCast S32768x1024 (m ((c : Thread nD τ).loc main_arg0) : Vec Ideal S8x4096x1024 .f32) shapeCasts_S8x4096x1024_S32768x1024 := by
  show after (List.flatten [hostOps0, hostOps0_1, hostOps0_2]) (fun b => m (c, b)) (Proc.devRef .tc main_v0) = _
  simp only [List.flatten_cons, List.flatten_nil, List.append_nil, List.cons_append, List.nil_append, TRef.binary, TRef.nullary, TRef.unary, TRef.toBuf, TRef.ofBuf, cast_eq]
  after_results_simp
  rfl

/-- The weight the call multiplies by: the argument's, rounded; no column is added to it. -/
theorem weight (c : Dev nD) : V m c main_v3 = (truncf (F := Ideal) .bf16 (pad S1024x2048 ![0, 0] ![0, 0] ![0, 0]
    (shapeCast S1024x2048 (m ((c : Thread nD τ).loc main_arg1) : Vec Ideal S1x1024x2048 .f32) shapeCasts_S1x1024x2048_S1024x2048 : Vec Ideal S1024x2048 .f32)
    (sitofp .f32 (constantI S_ 32 0#32)) pads_S1024x2048_S1024x2048_000_000 h_S_) bitsLt_bf16_f32 : Vec Ideal S1024x2048 .bf16) := by
  show after (List.flatten [hostOps0, hostOps0_1, hostOps0_2]) (fun b => m (c, b)) (Proc.devRef .tc main_v3) = _
  simp only [List.flatten_cons, List.flatten_nil, List.append_nil, List.cons_append, List.nil_append, TRef.binary, TRef.nullary, TRef.unary, TRef.toBuf, TRef.ofBuf, cast_eq]
  after_results_simp
  rfl

/-- The array after the call, from the two arguments. -/
theorem result (c : Dev nD) : (dats m 0 c).arrAt 2 cfg0.N = Flat4.G
    (shapeCast S32768x1024 (m ((c : Thread nD τ).loc main_arg0) : Vec Ideal S8x4096x1024 .f32) shapeCasts_S8x4096x1024_S32768x1024)
    (truncf (F := Ideal) .bf16 (pad S1024x2048 ![0, 0] ![0, 0] ![0, 0]
      (shapeCast S1024x2048 (m ((c : Thread nD τ).loc main_arg1) : Vec Ideal S1x1024x2048 .f32) shapeCasts_S1x1024x2048_S1024x2048 : Vec Ideal S1024x2048 .f32)
      (sitofp .f32 (constantI S_ 32 0#32)) pads_S1024x2048_S1024x2048_000_000 h_S_) bitsLt_bf16_f32) :=
  (Flat4.final m c).trans (congrArg₂ Flat4.G (rows m c) (weight m c))

end Kernel

/-- One product of all the rows, as the kernel and as the reference write it. -/
theorem same (hb : FTy.bf16.bits < FTy.f32.bits) (x : FVec Ideal ⟨3, ![8, 4096, 1024]⟩ .f32) (w : FVec Ideal ⟨2, ![1024, 2048]⟩ .f32) (z : FVec Ideal ⟨0, ![]⟩ .f32)
    (hx : (⟨3, ![8, 4096, 1024]⟩ : Shape).ShapeCasts ⟨2, ![32768, 1024]⟩)
    (h : (⟨2, ![1024, 2048]⟩ : Shape).Pads ![0, 0] ![0, 0] ![0, 0] ⟨2, ![1024, 2048]⟩) (hu : 0 < (⟨0, ![]⟩ : Shape).numel)
    :
    Host.dotGeneral (F := Ideal) (DotDims.plain 32768 1024 2048) none (shapeCast ⟨2, ![32768, 1024]⟩ x hx : FVec Ideal ⟨2, ![32768, 1024]⟩ .f32) w
      = Flat4.G (shapeCast ⟨2, ![32768, 1024]⟩ x hx) (truncf (F := Ideal) .bf16 (pad ⟨2, ![1024, 2048]⟩ ![0, 0] ![0, 0] ![0, 0] w z h hu) hb) := by
  funext i
  obtain ⟨r, n, rfl⟩ : ∃ (r : Fin 32768) (n : Fin 2048), i = ix2 r n := ⟨i 0, i 1, eq_ix2 i⟩
  rw [Products.plain_apply]
  unfold Flat4.G
  refine Eq.trans ?_ (Products.flat_apply (M := 32768) hb (shapeCast ⟨2, ![32768, 1024]⟩ x hx) _ r n).symm
  rw [Products.pad_none w z h hu]
  rfl

/-- THE CLAIM: from memories agreeing on the arguments both programs run, end with equal results and leave the arguments. -/
theorem algebraic : @Cert.algebraic_Kernel4Ideal_Reference4Ideal Cert.Kernel4Ideal.Gen.facts Cert.Reference4Ideal.Gen.facts := by
  intro m g m' g' _ ha
  refine ⟨fun c => (Cert.Kernel4Ideal.Gen.dats m 0 c).arrAt 2 Cert.Kernel4Ideal.cfg0.N, θ_run_mono (Cert.Kernel4Ideal.Value.run_blocks m g) fun r h c => h c,
    θ_run_mono (Cert.Reference4Ideal.Value.run m' g') fun r h c => ⟨(h c).1.trans ?_, (h c).2⟩⟩
  refine Eq.trans ?_ (result m c).symm
  obtain ⟨a0, a1⟩ := ha c
  rw [a0, a1]
  exact same Cert.Kernel4Ideal.Gen.bitsLt_bf16_f32 _ _ _ _ _ _

end Cert.Proof.Call4

end
-- ==== Proof.RefFrames.lean ====
/-
  THE FRAMES OF THE THREE REFERENCES WITHOUT CALLS: each runs to its end and leaves its arguments; none has a semaphore.
-/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import Idealize.ShloMosaic.Lib.Quiescent
public import Idealize.ShloMosaic.Lib.StableHlo.RunHlo

@[expose] public section

noncomputable section

namespace Cert.Proof.RefFrames

open Idealize.ShloMosaic Idealize.ShloMosaic.TcCoe Idealize.ShloMosaic.StableHlo Idealize.SL.Sem

theorem quiescent_two : @Cert.quiescent_Reference2Ideal Cert.Reference2Ideal.Gen.facts := fun m g _ =>
  θ_run_mono (Cert.Reference2Ideal.Value.run m g) fun r h => ⟨fun c => (h c).2.2.2.2, sem_eq_zero_of_no_sems (by decide) r.2⟩

theorem quiescent_three : @Cert.quiescent_Reference3Ideal Cert.Reference3Ideal.Gen.facts := fun m g _ =>
  θ_run_mono (Cert.Reference3Ideal.Value.run m g) fun r h => ⟨fun c => (h c).2, sem_eq_zero_of_no_sems (by decide) r.2⟩

theorem quiescent_four : @Cert.quiescent_Reference4Ideal Cert.Reference4Ideal.Gen.facts := fun m g _ =>
  θ_run_mono (Cert.Reference4Ideal.Value.run m g) fun r h => ⟨fun c => (h c).2, sem_eq_zero_of_no_sems (by decide) r.2⟩

end Cert.Proof.RefFrames

end
-- ==== Proof.lean ====
/-
  THE CERTIFICATE: the sample batch's kernel runs and leaves its arguments as they were, so does its reference, and over the extended reals
  the kernel's five results are the reference's. The same of the prompt batch's three calls: the input projection with the four states, the
  output projection, the query product.
-/
module

public import proofs.«01_k».proof.Defs
public import proofs.«01_k».proof.Proof.Frames
public import proofs.«01_k».proof.Proof.Join
public import proofs.«01_k».proof.Proof.Join2
public import proofs.«01_k».proof.Proof.Call3
public import proofs.«01_k».proof.Proof.Call4
public import proofs.«01_k».proof.Proof.RefFrames
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run

@[expose] public section

noncomputable section

namespace Cert.Proof

theorem claim : Cert.Claim :=
  ⟨Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Frames.quiescent_kernel, Frames.quiescent_reference,
    fun m ρ _ => Cert.Kernel2.Gen.frame m ρ, fun m ρ _ => Cert.Kernel2Ideal.Gen.frame m ρ, RefFrames.quiescent_two,
    fun m ρ _ => Cert.Kernel3.Gen.frame m ρ, fun m ρ _ => Cert.Kernel3Ideal.Gen.frame m ρ, RefFrames.quiescent_three,
    fun m ρ _ => Cert.Kernel4.Gen.frame m ρ, fun m ρ _ => Cert.Kernel4Ideal.Gen.frame m ρ, RefFrames.quiescent_four,
    Join.algebraic, trivial, Join2.algebraic, trivial, Call3.algebraic, trivial, Call4.algebraic⟩

end Cert.Proof

end
